-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_FouOut (m : (ℓ : Loc Cert.FouOut.nD Cert.FouOut.τ Cert.FouOut.sig) → Buf (Elt Bits) ℓ) : Prop :=
  True

def Pre_FouOutIdeal (m : (ℓ : Loc Cert.FouOutIdeal.nD Cert.FouOutIdeal.τ Cert.FouOutIdeal.sig) → Buf (Elt Ideal) ℓ) : Prop :=
  True

def Pre_FouOutRefIdeal (m : (ℓ : Loc Cert.FouOutRefIdeal.nD Cert.FouOutRefIdeal.τ Cert.FouOutRefIdeal.sig) → Buf (Elt Ideal) ℓ) : Prop :=
  True

def Pre_SwaOut (m : (ℓ : Loc Cert.SwaOut.nD Cert.SwaOut.τ Cert.SwaOut.sig) → Buf (Elt Bits) ℓ) : Prop :=
  True

def Pre_SwaOutIdeal (m : (ℓ : Loc Cert.SwaOutIdeal.nD Cert.SwaOutIdeal.τ Cert.SwaOutIdeal.sig) → Buf (Elt Ideal) ℓ) : Prop :=
  True

def Pre_SwaOutRefIdeal (m : (ℓ : Loc Cert.SwaOutRefIdeal.nD Cert.SwaOutRefIdeal.τ Cert.SwaOutRefIdeal.sig) → Buf (Elt Ideal) ℓ) : Prop :=
  True

def Pre_SwaAtt (m : (ℓ : Loc Cert.SwaAtt.nD Cert.SwaAtt.τ Cert.SwaAtt.sig) → Buf (Elt Bits) ℓ) : Prop :=
  True

def Pre_SwaAttIdeal (m : (ℓ : Loc Cert.SwaAttIdeal.nD Cert.SwaAttIdeal.τ Cert.SwaAttIdeal.sig) → Buf (Elt Ideal) ℓ) : Prop :=
  True

def Pre_SwaAttIdeal_swa_finite [hPre_swa_finite : Cert.Pre_swa_finite.Facts] (m : (ℓ : Loc Cert.SwaAttIdeal.nD Cert.SwaAttIdeal.τ Cert.SwaAttIdeal.sig) → Buf (Elt Ideal) ℓ) : Prop :=
  ∀ c : Dev Cert.SwaAttIdeal.nD,
    (Cert.Pre_swa_finite.fn (F := Ideal) (m ((c.tc : Thread Cert.SwaAttIdeal.nD Cert.SwaAttIdeal.τ).loc Cert.SwaAttIdeal.main_arg0)) (m ((c.tc : Thread Cert.SwaAttIdeal.nD Cert.SwaAttIdeal.τ).loc Cert.SwaAttIdeal.main_arg1)) (m ((c.tc : Thread Cert.SwaAttIdeal.nD Cert.SwaAttIdeal.τ).loc Cert.SwaAttIdeal.main_arg2)) (m ((c.tc : Thread Cert.SwaAttIdeal.nD Cert.SwaAttIdeal.τ).loc Cert.SwaAttIdeal.main_arg3))) = (fun _ => 1#1)

def Pre_SwaAttRefIdeal (m : (ℓ : Loc Cert.SwaAttRefIdeal.nD Cert.SwaAttRefIdeal.τ Cert.SwaAttRefIdeal.sig) → Buf (Elt Ideal) ℓ) : Prop :=
  True

def Pre_SwaAttRefIdeal_swa_finite [hPre_swa_finite : Cert.Pre_swa_finite.Facts] (m : (ℓ : Loc Cert.SwaAttRefIdeal.nD Cert.SwaAttRefIdeal.τ Cert.SwaAttRefIdeal.sig) → Buf (Elt Ideal) ℓ) : Prop :=
  ∀ c : Dev Cert.SwaAttRefIdeal.nD,
    (Cert.Pre_swa_finite.fn (F := Ideal) (m ((c.tc : Thread Cert.SwaAttRefIdeal.nD Cert.SwaAttRefIdeal.τ).loc Cert.SwaAttRefIdeal.main_arg0)) (m ((c.tc : Thread Cert.SwaAttRefIdeal.nD Cert.SwaAttRefIdeal.τ).loc Cert.SwaAttRefIdeal.main_arg1)) (m ((c.tc : Thread Cert.SwaAttRefIdeal.nD Cert.SwaAttRefIdeal.τ).loc Cert.SwaAttRefIdeal.main_arg2)) (m ((c.tc : Thread Cert.SwaAttRefIdeal.nD Cert.SwaAttRefIdeal.τ).loc Cert.SwaAttRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3)
      ∧ r.2.mem ((c.tc : Thread Cert.ProjInRefIdeal.nD Cert.ProjInRefIdeal.τ).loc Cert.ProjInRefIdeal.main_arg4) = m ((c.tc : Thread Cert.ProjInRefIdeal.nD Cert.ProjInRefIdeal.τ).loc Cert.ProjInRefIdeal.main_arg4)
      ∧ r.2.mem ((c.tc : Thread Cert.ProjInRefIdeal.nD Cert.ProjInRefIdeal.τ).loc Cert.ProjInRefIdeal.main_arg5) = m ((c.tc : Thread Cert.ProjInRefIdeal.nD Cert.ProjInRefIdeal.τ).loc Cert.ProjInRefIdeal.main_arg5))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3)
      ∧ r.2.mem ((c.tc : Thread Cert.ProjOutRefIdeal.nD Cert.ProjOutRefIdeal.τ).loc Cert.ProjOutRefIdeal.main_arg4) = m ((c.tc : Thread Cert.ProjOutRefIdeal.nD Cert.ProjOutRefIdeal.τ).loc Cert.ProjOutRefIdeal.main_arg4)
      ∧ r.2.mem ((c.tc : Thread Cert.ProjOutRefIdeal.nD Cert.ProjOutRefIdeal.τ).loc Cert.ProjOutRefIdeal.main_arg5) = m ((c.tc : Thread Cert.ProjOutRefIdeal.nD Cert.ProjOutRefIdeal.τ).loc Cert.ProjOutRefIdeal.main_arg5))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1)
      ∧ r.2.mem ((c.tc : Thread Cert.SwaIn.nD Cert.SwaIn.τ).loc Cert.SwaIn.main_arg2) = m ((c.tc : Thread Cert.SwaIn.nD Cert.SwaIn.τ).loc Cert.SwaIn.main_arg2)
      ∧ r.2.mem ((c.tc : Thread Cert.SwaIn.nD Cert.SwaIn.τ).loc Cert.SwaIn.main_arg3) = m ((c.tc : Thread Cert.SwaIn.nD Cert.SwaIn.τ).loc Cert.SwaIn.main_arg3)
      ∧ r.2.mem ((c.tc : Thread Cert.SwaIn.nD Cert.SwaIn.τ).loc Cert.SwaIn.main_arg4) = m ((c.tc : Thread Cert.SwaIn.nD Cert.SwaIn.τ).loc Cert.SwaIn.main_arg4)
      ∧ r.2.mem ((c.tc : Thread Cert.SwaIn.nD Cert.SwaIn.τ).loc Cert.SwaIn.main_arg5) = m ((c.tc : Thread Cert.SwaIn.nD Cert.SwaIn.τ).loc Cert.SwaIn.main_arg5))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
      ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2)
      ∧ r.2.mem ((c.tc : Thread Cert.SwaInIdeal.nD Cert.SwaInIdeal.τ).loc Cert.SwaInIdeal.main_arg3) = m ((c.tc : Thread Cert.SwaInIdeal.nD Cert.SwaInIdeal.τ).loc Cert.SwaInIdeal.main_arg3)
      ∧ r.2.mem ((c.tc : Thread Cert.SwaInIdeal.nD Cert.SwaInIdeal.τ).loc Cert.SwaInIdeal.main_arg4) = m ((c.tc : Thread Cert.SwaInIdeal.nD Cert.SwaInIdeal.τ).loc Cert.SwaInIdeal.main_arg4)
      ∧ r.2.mem ((c.tc : Thread Cert.SwaInIdeal.nD Cert.SwaInIdeal.τ).loc Cert.SwaInIdeal.main_arg5) = m ((c.tc : Thread Cert.SwaInIdeal.nD Cert.SwaInIdeal.τ).loc Cert.SwaInIdeal.main_arg5))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
      ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2)
      ∧ r.2.mem ((c.tc : Thread Cert.SwaInRefIdeal.nD Cert.SwaInRefIdeal.τ).loc Cert.SwaInRefIdeal.main_arg3) = m ((c.tc : Thread Cert.SwaInRefIdeal.nD Cert.SwaInRefIdeal.τ).loc Cert.SwaInRefIdeal.main_arg3)
      ∧ r.2.mem ((c.tc : Thread Cert.SwaInRefIdeal.nD Cert.SwaInRefIdeal.τ).loc Cert.SwaInRefIdeal.main_arg4) = m ((c.tc : Thread Cert.SwaInRefIdeal.nD Cert.SwaInRefIdeal.τ).loc Cert.SwaInRefIdeal.main_arg4)
      ∧ r.2.mem ((c.tc : Thread Cert.SwaInRefIdeal.nD Cert.SwaInRefIdeal.τ).loc Cert.SwaInRefIdeal.main_arg5) = m ((c.tc : Thread Cert.SwaInRefIdeal.nD Cert.SwaInRefIdeal.τ).loc Cert.SwaInRefIdeal.main_arg5))
      ∧ r.2.sem = fun _ => 0)

def quiescent_FouOut [hFouOut : Cert.FouOut.Facts] : Prop :=
  ∀ (m : (ℓ : Loc Cert.FouOut.nD Cert.FouOut.τ Cert.FouOut.sig) → Buf (Elt Bits) ℓ) (g : Dev Cert.FouOut.nD → PrngReg), Pre_FouOut m →
    θ_run (Cert.FouOut.defs (F := Bits)) (onTc (τ := Cert.FouOut.τ) (Cert.FouOut.main (F := Bits))) ⟨m, fun _ => 0, g⟩ (fun r => (∀ c : Dev Cert.FouOut.nD,
      r.2.mem ((c.tc : Thread Cert.FouOut.nD Cert.FouOut.τ).loc Cert.FouOut.main_arg0) = m ((c.tc : Thread Cert.FouOut.nD Cert.FouOut.τ).loc Cert.FouOut.main_arg0)
      ∧ r.2.mem ((c.tc : Thread Cert.FouOut.nD Cert.FouOut.τ).loc Cert.FouOut.main_arg1) = m ((c.tc : Thread Cert.FouOut.nD Cert.FouOut.τ).loc Cert.FouOut.main_arg1)
      ∧ r.2.mem ((c.tc : Thread Cert.FouOut.nD Cert.FouOut.τ).loc Cert.FouOut.main_arg2) = m ((c.tc : Thread Cert.FouOut.nD Cert.FouOut.τ).loc Cert.FouOut.main_arg2)
      ∧ r.2.mem ((c.tc : Thread Cert.FouOut.nD Cert.FouOut.τ).loc Cert.FouOut.main_arg3) = m ((c.tc : Thread Cert.FouOut.nD Cert.FouOut.τ).loc Cert.FouOut.main_arg3)
      ∧ r.2.mem ((c.tc : Thread Cert.FouOut.nD Cert.FouOut.τ).loc Cert.FouOut.main_arg4) = m ((c.tc : Thread Cert.FouOut.nD Cert.FouOut.τ).loc Cert.FouOut.main_arg4))
      ∧ r.2.sem = fun _ => 0)

def quiescent_FouOutIdeal [hFouOutIdeal : Cert.FouOutIdeal.Facts] : Prop :=
  ∀ (m : (ℓ : Loc Cert.FouOutIdeal.nD Cert.FouOutIdeal.τ Cert.FouOutIdeal.sig) → Buf (Elt Ideal) ℓ) (g : Dev Cert.FouOutIdeal.nD → PrngReg), Pre_FouOutIdeal m →
    θ_run (Cert.FouOutIdeal.defs (F := Ideal)) (onTc (τ := Cert.FouOutIdeal.τ) (Cert.FouOutIdeal.main (F := Ideal))) ⟨m, fun _ => 0, g⟩ (fun r => (∀ c : Dev Cert.FouOutIdeal.nD,
      r.2.mem ((c.tc : Thread Cert.FouOutIdeal.nD Cert.FouOutIdeal.τ).loc Cert.FouOutIdeal.main_arg0) = m ((c.tc : Thread Cert.FouOutIdeal.nD Cert.FouOutIdeal.τ).loc Cert.FouOutIdeal.main_arg0)
      ∧ r.2.mem ((c.tc : Thread Cert.FouOutIdeal.nD Cert.FouOutIdeal.τ).loc Cert.FouOutIdeal.main_arg1) = m ((c.tc : Thread Cert.FouOutIdeal.nD Cert.FouOutIdeal.τ).loc Cert.FouOutIdeal.main_arg1)
      ∧ r.2.mem ((c.tc : Thread Cert.FouOutIdeal.nD Cert.FouOutIdeal.τ).loc Cert.FouOutIdeal.main_arg2) = m ((c.tc : Thread Cert.FouOutIdeal.nD Cert.FouOutIdeal.τ).loc Cert.FouOutIdeal.main_arg2)
      ∧ r.2.mem ((c.tc : Thread Cert.FouOutIdeal.nD Cert.FouOutIdeal.τ).loc Cert.FouOutIdeal.main_arg3) = m ((c.tc : Thread Cert.FouOutIdeal.nD Cert.FouOutIdeal.τ).loc Cert.FouOutIdeal.main_arg3)
      ∧ r.2.mem ((c.tc : Thread Cert.FouOutIdeal.nD Cert.FouOutIdeal.τ).loc Cert.FouOutIdeal.main_arg4) = m ((c.tc : Thread Cert.FouOutIdeal.nD Cert.FouOutIdeal.τ).loc Cert.FouOutIdeal.main_arg4))
      ∧ r.2.sem = fun _ => 0)

def quiescent_FouOutRefIdeal [hFouOutRefIdeal : Cert.FouOutRefIdeal.Facts] : Prop :=
  ∀ (m : (ℓ : Loc Cert.FouOutRefIdeal.nD Cert.FouOutRefIdeal.τ Cert.FouOutRefIdeal.sig) → Buf (Elt Ideal) ℓ) (g : Dev Cert.FouOutRefIdeal.nD → PrngReg), Pre_FouOutRefIdeal m →
    θ_run (Cert.FouOutRefIdeal.defs (F := Ideal)) (onTc (τ := Cert.FouOutRefIdeal.τ) (Cert.FouOutRefIdeal.main (F := Ideal))) ⟨m, fun _ => 0, g⟩ (fun r => (∀ c : Dev Cert.FouOutRefIdeal.nD,
      r.2.mem ((c.tc : Thread Cert.FouOutRefIdeal.nD Cert.FouOutRefIdeal.τ).loc Cert.FouOutRefIdeal.main_arg0) = m ((c.tc : Thread Cert.FouOutRefIdeal.nD Cert.FouOutRefIdeal.τ).loc Cert.FouOutRefIdeal.main_arg0)
      ∧ r.2.mem ((c.tc : Thread Cert.FouOutRefIdeal.nD Cert.FouOutRefIdeal.τ).loc Cert.FouOutRefIdeal.main_arg1) = m ((c.tc : Thread Cert.FouOutRefIdeal.nD Cert.FouOutRefIdeal.τ).loc Cert.FouOutRefIdeal.main_arg1)
      ∧ r.2.mem ((c.tc : Thread Cert.FouOutRefIdeal.nD Cert.FouOutRefIdeal.τ).loc Cert.FouOutRefIdeal.main_arg2) = m ((c.tc : Thread Cert.FouOutRefIdeal.nD Cert.FouOutRefIdeal.τ).loc Cert.FouOutRefIdeal.main_arg2)
      ∧ r.2.mem ((c.tc : Thread Cert.FouOutRefIdeal.nD Cert.FouOutRefIdeal.τ).loc Cert.FouOutRefIdeal.main_arg3) = m ((c.tc : Thread Cert.FouOutRefIdeal.nD Cert.FouOutRefIdeal.τ).loc Cert.FouOutRefIdeal.main_arg3)
      ∧ r.2.mem ((c.tc : Thread Cert.FouOutRefIdeal.nD Cert.FouOutRefIdeal.τ).loc Cert.FouOutRefIdeal.main_arg4) = m ((c.tc : Thread Cert.FouOutRefIdeal.nD Cert.FouOutRefIdeal.τ).loc Cert.FouOutRefIdeal.main_arg4))
      ∧ r.2.sem = fun _ => 0)

def quiescent_SwaOut [hSwaOut : Cert.SwaOut.Facts] : Prop :=
  ∀ (m : (ℓ : Loc Cert.SwaOut.nD Cert.SwaOut.τ Cert.SwaOut.sig) → Buf (Elt Bits) ℓ) (g : Dev Cert.SwaOut.nD → PrngReg), Pre_SwaOut m →
    θ_run (Cert.SwaOut.defs (F := Bits)) (onTc (τ := Cert.SwaOut.τ) (Cert.SwaOut.main (F := Bits))) ⟨m, fun _ => 0, g⟩ (fun r => (∀ c : Dev Cert.SwaOut.nD,
      r.2.mem ((c.tc : Thread Cert.SwaOut.nD Cert.SwaOut.τ).loc Cert.SwaOut.main_arg0) = m ((c.tc : Thread Cert.SwaOut.nD Cert.SwaOut.τ).loc Cert.SwaOut.main_arg0)
      ∧ r.2.mem ((c.tc : Thread Cert.SwaOut.nD Cert.SwaOut.τ).loc Cert.SwaOut.main_arg1) = m ((c.tc : Thread Cert.SwaOut.nD Cert.SwaOut.τ).loc Cert.SwaOut.main_arg1)
      ∧ r.2.mem ((c.tc : Thread Cert.SwaOut.nD Cert.SwaOut.τ).loc Cert.SwaOut.main_arg2) = m ((c.tc : Thread Cert.SwaOut.nD Cert.SwaOut.τ).loc Cert.SwaOut.main_arg2)
      ∧ r.2.mem ((c.tc : Thread Cert.SwaOut.nD Cert.SwaOut.τ).loc Cert.SwaOut.main_arg3) = m ((c.tc : Thread Cert.SwaOut.nD Cert.SwaOut.τ).loc Cert.SwaOut.main_arg3)
      ∧ r.2.mem ((c.tc : Thread Cert.SwaOut.nD Cert.SwaOut.τ).loc Cert.SwaOut.main_arg4) = m ((c.tc : Thread Cert.SwaOut.nD Cert.SwaOut.τ).loc Cert.SwaOut.main_arg4))
      ∧ r.2.sem = fun _ => 0)

def quiescent_SwaOutIdeal [hSwaOutIdeal : Cert.SwaOutIdeal.Facts] : Prop :=
  ∀ (m : (ℓ : Loc Cert.SwaOutIdeal.nD Cert.SwaOutIdeal.τ Cert.SwaOutIdeal.sig) → Buf (Elt Ideal) ℓ) (g : Dev Cert.SwaOutIdeal.nD → PrngReg), Pre_SwaOutIdeal m →
    θ_run (Cert.SwaOutIdeal.defs (F := Ideal)) (onTc (τ := Cert.SwaOutIdeal.τ) (Cert.SwaOutIdeal.main (F := Ideal))) ⟨m, fun _ => 0, g⟩ (fun r => (∀ c : Dev Cert.SwaOutIdeal.nD,
      r.2.mem ((c.tc : Thread Cert.SwaOutIdeal.nD Cert.SwaOutIdeal.τ).loc Cert.SwaOutIdeal.main_arg0) = m ((c.tc : Thread Cert.SwaOutIdeal.nD Cert.SwaOutIdeal.τ).loc Cert.SwaOutIdeal.main_arg0)
      ∧ r.2.mem ((c.tc : Thread Cert.SwaOutIdeal.nD Cert.SwaOutIdeal.τ).loc Cert.SwaOutIdeal.main_arg1) = m ((c.tc : Thread Cert.SwaOutIdeal.nD Cert.SwaOutIdeal.τ).loc Cert.SwaOutIdeal.main_arg1)
      ∧ r.2.mem ((c.tc : Thread Cert.SwaOutIdeal.nD Cert.SwaOutIdeal.τ).loc Cert.SwaOutIdeal.main_arg2) = m ((c.tc : Thread Cert.SwaOutIdeal.nD Cert.SwaOutIdeal.τ).loc Cert.SwaOutIdeal.main_arg2)
      ∧ r.2.mem ((c.tc : Thread Cert.SwaOutIdeal.nD Cert.SwaOutIdeal.τ).loc Cert.SwaOutIdeal.main_arg3) = m ((c.tc : Thread Cert.SwaOutIdeal.nD Cert.SwaOutIdeal.τ).loc Cert.SwaOutIdeal.main_arg3)
      ∧ r.2.mem ((c.tc : Thread Cert.SwaOutIdeal.nD Cert.SwaOutIdeal.τ).loc Cert.SwaOutIdeal.main_arg4) = m ((c.tc : Thread Cert.SwaOutIdeal.nD Cert.SwaOutIdeal.τ).loc Cert.SwaOutIdeal.main_arg4))
      ∧ r.2.sem = fun _ => 0)

def quiescent_SwaOutRefIdeal [hSwaOutRefIdeal : Cert.SwaOutRefIdeal.Facts] : Prop :=
  ∀ (m : (ℓ : Loc Cert.SwaOutRefIdeal.nD Cert.SwaOutRefIdeal.τ Cert.SwaOutRefIdeal.sig) → Buf (Elt Ideal) ℓ) (g : Dev Cert.SwaOutRefIdeal.nD → PrngReg), Pre_SwaOutRefIdeal m →
    θ_run (Cert.SwaOutRefIdeal.defs (F := Ideal)) (onTc (τ := Cert.SwaOutRefIdeal.τ) (Cert.SwaOutRefIdeal.main (F := Ideal))) ⟨m, fun _ => 0, g⟩ (fun r => (∀ c : Dev Cert.SwaOutRefIdeal.nD,
      r.2.mem ((c.tc : Thread Cert.SwaOutRefIdeal.nD Cert.SwaOutRefIdeal.τ).loc Cert.SwaOutRefIdeal.main_arg0) = m ((c.tc : Thread Cert.SwaOutRefIdeal.nD Cert.SwaOutRefIdeal.τ).loc Cert.SwaOutRefIdeal.main_arg0)
      ∧ r.2.mem ((c.tc : Thread Cert.SwaOutRefIdeal.nD Cert.SwaOutRefIdeal.τ).loc Cert.SwaOutRefIdeal.main_arg1) = m ((c.tc : Thread Cert.SwaOutRefIdeal.nD Cert.SwaOutRefIdeal.τ).loc Cert.SwaOutRefIdeal.main_arg1)
      ∧ r.2.mem ((c.tc : Thread Cert.SwaOutRefIdeal.nD Cert.SwaOutRefIdeal.τ).loc Cert.SwaOutRefIdeal.main_arg2) = m ((c.tc : Thread Cert.SwaOutRefIdeal.nD Cert.SwaOutRefIdeal.τ).loc Cert.SwaOutRefIdeal.main_arg2)
      ∧ r.2.mem ((c.tc : Thread Cert.SwaOutRefIdeal.nD Cert.SwaOutRefIdeal.τ).loc Cert.SwaOutRefIdeal.main_arg3) = m ((c.tc : Thread Cert.SwaOutRefIdeal.nD Cert.SwaOutRefIdeal.τ).loc Cert.SwaOutRefIdeal.main_arg3)
      ∧ r.2.mem ((c.tc : Thread Cert.SwaOutRefIdeal.nD Cert.SwaOutRefIdeal.τ).loc Cert.SwaOutRefIdeal.main_arg4) = m ((c.tc : Thread Cert.SwaOutRefIdeal.nD Cert.SwaOutRefIdeal.τ).loc Cert.SwaOutRefIdeal.main_arg4))
      ∧ r.2.sem = fun _ => 0)

def quiescent_SwaAtt [hSwaAtt : Cert.SwaAtt.Facts] : Prop :=
  ∀ (m : (ℓ : Loc Cert.SwaAtt.nD Cert.SwaAtt.τ Cert.SwaAtt.sig) → Buf (Elt Bits) ℓ) (g : Dev Cert.SwaAtt.nD → PrngReg), Pre_SwaAtt m →
    θ_run (Cert.SwaAtt.defs (F := Bits)) (onTc (τ := Cert.SwaAtt.τ) (Cert.SwaAtt.main (F := Bits))) ⟨m, fun _ => 0, g⟩ (fun r => (∀ c : Dev Cert.SwaAtt.nD,
      r.2.mem ((c.tc : Thread Cert.SwaAtt.nD Cert.SwaAtt.τ).loc Cert.SwaAtt.main_arg0) = m ((c.tc : Thread Cert.SwaAtt.nD Cert.SwaAtt.τ).loc Cert.SwaAtt.main_arg0)
      ∧ r.2.mem ((c.tc : Thread Cert.SwaAtt.nD Cert.SwaAtt.τ).loc Cert.SwaAtt.main_arg1) = m ((c.tc : Thread Cert.SwaAtt.nD Cert.SwaAtt.τ).loc Cert.SwaAtt.main_arg1)
      ∧ r.2.mem ((c.tc : Thread Cert.SwaAtt.nD Cert.SwaAtt.τ).loc Cert.SwaAtt.main_arg2) = m ((c.tc : Thread Cert.SwaAtt.nD Cert.SwaAtt.τ).loc Cert.SwaAtt.main_arg2)
      ∧ r.2.mem ((c.tc : Thread Cert.SwaAtt.nD Cert.SwaAtt.τ).loc Cert.SwaAtt.main_arg3) = m ((c.tc : Thread Cert.SwaAtt.nD Cert.SwaAtt.τ).loc Cert.SwaAtt.main_arg3))
      ∧ r.2.sem = fun _ => 0)

def quiescent_SwaAttIdeal [hSwaAttIdeal : Cert.SwaAttIdeal.Facts] : Prop :=
  ∀ (m : (ℓ : Loc Cert.SwaAttIdeal.nD Cert.SwaAttIdeal.τ Cert.SwaAttIdeal.sig) → Buf (Elt Ideal) ℓ) (g : Dev Cert.SwaAttIdeal.nD → PrngReg), Pre_SwaAttIdeal m →
    θ_run (Cert.SwaAttIdeal.defs (F := Ideal)) (onTc (τ := Cert.SwaAttIdeal.τ) (Cert.SwaAttIdeal.main (F := Ideal))) ⟨m, fun _ => 0, g⟩ (fun r => (∀ c : Dev Cert.SwaAttIdeal.nD,
      r.2.mem ((c.tc : Thread Cert.SwaAttIdeal.nD Cert.SwaAttIdeal.τ).loc Cert.SwaAttIdeal.main_arg0) = m ((c.tc : Thread Cert.SwaAttIdeal.nD Cert.SwaAttIdeal.τ).loc Cert.SwaAttIdeal.main_arg0)
      ∧ r.2.mem ((c.tc : Thread Cert.SwaAttIdeal.nD Cert.SwaAttIdeal.τ).loc Cert.SwaAttIdeal.main_arg1) = m ((c.tc : Thread Cert.SwaAttIdeal.nD Cert.SwaAttIdeal.τ).loc Cert.SwaAttIdeal.main_arg1)
      ∧ r.2.mem ((c.tc : Thread Cert.SwaAttIdeal.nD Cert.SwaAttIdeal.τ).loc Cert.SwaAttIdeal.main_arg2) = m ((c.tc : Thread Cert.SwaAttIdeal.nD Cert.SwaAttIdeal.τ).loc Cert.SwaAttIdeal.main_arg2)
      ∧ r.2.mem ((c.tc : Thread Cert.SwaAttIdeal.nD Cert.SwaAttIdeal.τ).loc Cert.SwaAttIdeal.main_arg3) = m ((c.tc : Thread Cert.SwaAttIdeal.nD Cert.SwaAttIdeal.τ).loc Cert.SwaAttIdeal.main_arg3))
      ∧ r.2.sem = fun _ => 0)

def quiescent_SwaAttIdeal_pre_swa_finite [hSwaAttIdeal : Cert.SwaAttIdeal.Facts] [hPre_swa_finite : Cert.Pre_swa_finite.Facts] : Prop :=
  ∀ (m : (ℓ : Loc Cert.SwaAttIdeal.nD Cert.SwaAttIdeal.τ Cert.SwaAttIdeal.sig) → Buf (Elt Ideal) ℓ) (g : Dev Cert.SwaAttIdeal.nD → PrngReg), Pre_SwaAttIdeal_swa_finite m →
    θ_run (Cert.SwaAttIdeal.defs (F := Ideal)) (onTc (τ := Cert.SwaAttIdeal.τ) (Cert.SwaAttIdeal.main (F := Ideal))) ⟨m, fun _ => 0, g⟩ (fun r => (∀ c : Dev Cert.SwaAttIdeal.nD,
      r.2.mem ((c.tc : Thread Cert.SwaAttIdeal.nD Cert.SwaAttIdeal.τ).loc Cert.SwaAttIdeal.main_arg0) = m ((c.tc : Thread Cert.SwaAttIdeal.nD Cert.SwaAttIdeal.τ).loc Cert.SwaAttIdeal.main_arg0)
      ∧ r.2.mem ((c.tc : Thread Cert.SwaAttIdeal.nD Cert.SwaAttIdeal.τ).loc Cert.SwaAttIdeal.main_arg1) = m ((c.tc : Thread Cert.SwaAttIdeal.nD Cert.SwaAttIdeal.τ).loc Cert.SwaAttIdeal.main_arg1)
      ∧ r.2.mem ((c.tc : Thread Cert.SwaAttIdeal.nD Cert.SwaAttIdeal.τ).loc Cert.SwaAttIdeal.main_arg2) = m ((c.tc : Thread Cert.SwaAttIdeal.nD Cert.SwaAttIdeal.τ).loc Cert.SwaAttIdeal.main_arg2)
      ∧ r.2.mem ((c.tc : Thread Cert.SwaAttIdeal.nD Cert.SwaAttIdeal.τ).loc Cert.SwaAttIdeal.main_arg3) = m ((c.tc : Thread Cert.SwaAttIdeal.nD Cert.SwaAttIdeal.τ).loc Cert.SwaAttIdeal.main_arg3))
      ∧ r.2.sem = fun _ => 0)

def quiescent_SwaAttRefIdeal [hSwaAttRefIdeal : Cert.SwaAttRefIdeal.Facts] : Prop :=
  ∀ (m : (ℓ : Loc Cert.SwaAttRefIdeal.nD Cert.SwaAttRefIdeal.τ Cert.SwaAttRefIdeal.sig) → Buf (Elt Ideal) ℓ) (g : Dev Cert.SwaAttRefIdeal.nD → PrngReg), Pre_SwaAttRefIdeal m →
    θ_run (Cert.SwaAttRefIdeal.defs (F := Ideal)) (onTc (τ := Cert.SwaAttRefIdeal.τ) (Cert.SwaAttRefIdeal.main (F := Ideal))) ⟨m, fun _ => 0, g⟩ (fun r => (∀ c : Dev Cert.SwaAttRefIdeal.nD,
      r.2.mem ((c.tc : Thread Cert.SwaAttRefIdeal.nD Cert.SwaAttRefIdeal.τ).loc Cert.SwaAttRefIdeal.main_arg0) = m ((c.tc : Thread Cert.SwaAttRefIdeal.nD Cert.SwaAttRefIdeal.τ).loc Cert.SwaAttRefIdeal.main_arg0)
      ∧ r.2.mem ((c.tc : Thread Cert.SwaAttRefIdeal.nD Cert.SwaAttRefIdeal.τ).loc Cert.SwaAttRefIdeal.main_arg1) = m ((c.tc : Thread Cert.SwaAttRefIdeal.nD Cert.SwaAttRefIdeal.τ).loc Cert.SwaAttRefIdeal.main_arg1)
      ∧ r.2.mem ((c.tc : Thread Cert.SwaAttRefIdeal.nD Cert.SwaAttRefIdeal.τ).loc Cert.SwaAttRefIdeal.main_arg2) = m ((c.tc : Thread Cert.SwaAttRefIdeal.nD Cert.SwaAttRefIdeal.τ).loc Cert.SwaAttRefIdeal.main_arg2)
      ∧ r.2.mem ((c.tc : Thread Cert.SwaAttRefIdeal.nD Cert.SwaAttRefIdeal.τ).loc Cert.SwaAttRefIdeal.main_arg3) = m ((c.tc : Thread Cert.SwaAttRefIdeal.nD Cert.SwaAttRefIdeal.τ).loc Cert.SwaAttRefIdeal.main_arg3))
      ∧ r.2.sem = fun _ => 0)

def quiescent_SwaAttRefIdeal_pre_swa_finite [hSwaAttRefIdeal : Cert.SwaAttRefIdeal.Facts] [hPre_swa_finite : Cert.Pre_swa_finite.Facts] : Prop :=
  ∀ (m : (ℓ : Loc Cert.SwaAttRefIdeal.nD Cert.SwaAttRefIdeal.τ Cert.SwaAttRefIdeal.sig) → Buf (Elt Ideal) ℓ) (g : Dev Cert.SwaAttRefIdeal.nD → PrngReg), Pre_SwaAttRefIdeal_swa_finite m →
    θ_run (Cert.SwaAttRefIdeal.defs (F := Ideal)) (onTc (τ := Cert.SwaAttRefIdeal.τ) (Cert.SwaAttRefIdeal.main (F := Ideal))) ⟨m, fun _ => 0, g⟩ (fun r => (∀ c : Dev Cert.SwaAttRefIdeal.nD,
      r.2.mem ((c.tc : Thread Cert.SwaAttRefIdeal.nD Cert.SwaAttRefIdeal.τ).loc Cert.SwaAttRefIdeal.main_arg0) = m ((c.tc : Thread Cert.SwaAttRefIdeal.nD Cert.SwaAttRefIdeal.τ).loc Cert.SwaAttRefIdeal.main_arg0)
      ∧ r.2.mem ((c.tc : Thread Cert.SwaAttRefIdeal.nD Cert.SwaAttRefIdeal.τ).loc Cert.SwaAttRefIdeal.main_arg1) = m ((c.tc : Thread Cert.SwaAttRefIdeal.nD Cert.SwaAttRefIdeal.τ).loc Cert.SwaAttRefIdeal.main_arg1)
      ∧ r.2.mem ((c.tc : Thread Cert.SwaAttRefIdeal.nD Cert.SwaAttRefIdeal.τ).loc Cert.SwaAttRefIdeal.main_arg2) = m ((c.tc : Thread Cert.SwaAttRefIdeal.nD Cert.SwaAttRefIdeal.τ).loc Cert.SwaAttRefIdeal.main_arg2)
      ∧ r.2.mem ((c.tc : Thread Cert.SwaAttRefIdeal.nD Cert.SwaAttRefIdeal.τ).loc Cert.SwaAttRefIdeal.main_arg3) = m ((c.tc : Thread Cert.SwaAttRefIdeal.nD Cert.SwaAttRefIdeal.τ).loc Cert.SwaAttRefIdeal.main_arg3))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_ProjIn_ProjInIdeal : Prop :=
  IdealRules.named_const.Statement Cert.ProjInIdeal.κ "q_scale" .f32 0x3E38AA3B#32 (((1 / 8) * (Real.log 2)⁻¹ : ℝ) : EReal)

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)
      ∧ m' ((c.tc : Thread Cert.ProjInRefIdeal.nD Cert.ProjInRefIdeal.τ).loc Cert.ProjInRefIdeal.main_arg4) = m ((c.tc : Thread Cert.ProjInIdeal.nD Cert.ProjInIdeal.τ).loc Cert.ProjInIdeal.main_arg4)
      ∧ m' ((c.tc : Thread Cert.ProjInRefIdeal.nD Cert.ProjInRefIdeal.τ).loc Cert.ProjInRefIdeal.main_arg5) = m ((c.tc : Thread Cert.ProjInIdeal.nD Cert.ProjInIdeal.τ).loc Cert.ProjInIdeal.main_arg5)) →
    ∃ (v0 : (c : Dev Cert.ProjInIdeal.nD) → Buf (Elt Ideal) ((c.tc : Thread Cert.ProjInIdeal.nD Cert.ProjInIdeal.τ).loc Cert.ProjInIdeal.main_v64_0)) (v1 : (c : Dev Cert.ProjInIdeal.nD) → Buf (Elt Ideal) ((c.tc : Thread Cert.ProjInIdeal.nD Cert.ProjInIdeal.τ).loc Cert.ProjInIdeal.main_v64_1)) (v2 : (c : Dev Cert.ProjInIdeal.nD) → Buf (Elt Ideal) ((c.tc : Thread Cert.ProjInIdeal.nD Cert.ProjInIdeal.τ).loc Cert.ProjInIdeal.main_v64_2)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v64_0) = v0 c
          ∧ r.2.mem ((c.tc : Thread Cert.ProjInIdeal.nD Cert.ProjInIdeal.τ).loc Cert.ProjInIdeal.main_v64_1) = v1 c
          ∧ r.2.mem ((c.tc : Thread Cert.ProjInIdeal.nD Cert.ProjInIdeal.τ).loc Cert.ProjInIdeal.main_v64_2) = v2 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v201) = v0 c
          ∧ r.2.mem ((c.tc : Thread Cert.ProjInRefIdeal.nD Cert.ProjInRefIdeal.τ).loc Cert.ProjInRefIdeal.main_v205) = v1 c
          ∧ r.2.mem ((c.tc : Thread Cert.ProjInRefIdeal.nD Cert.ProjInRefIdeal.τ).loc Cert.ProjInRefIdeal.main_v206) = v2 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3)
          ∧ r.2.mem ((c.tc : Thread Cert.ProjInRefIdeal.nD Cert.ProjInRefIdeal.τ).loc Cert.ProjInRefIdeal.main_arg4) = m' ((c.tc : Thread Cert.ProjInRefIdeal.nD Cert.ProjInRefIdeal.τ).loc Cert.ProjInRefIdeal.main_arg4)
          ∧ r.2.mem ((c.tc : Thread Cert.ProjInRefIdeal.nD Cert.ProjInRefIdeal.τ).loc Cert.ProjInRefIdeal.main_arg5) = m' ((c.tc : Thread Cert.ProjInRefIdeal.nD Cert.ProjInRefIdeal.τ).loc Cert.ProjInRefIdeal.main_arg5))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)
      ∧ m' ((c.tc : Thread Cert.ProjOutRefIdeal.nD Cert.ProjOutRefIdeal.τ).loc Cert.ProjOutRefIdeal.main_arg4) = m ((c.tc : Thread Cert.ProjOutIdeal.nD Cert.ProjOutIdeal.τ).loc Cert.ProjOutIdeal.main_arg4)
      ∧ m' ((c.tc : Thread Cert.ProjOutRefIdeal.nD Cert.ProjOutRefIdeal.τ).loc Cert.ProjOutRefIdeal.main_arg5) = m ((c.tc : Thread Cert.ProjOutIdeal.nD Cert.ProjOutIdeal.τ).loc Cert.ProjOutIdeal.main_arg5)) →
    ∃ (v0 : (c : Dev Cert.ProjOutIdeal.nD) → Buf (Elt Ideal) ((c.tc : Thread Cert.ProjOutIdeal.nD Cert.ProjOutIdeal.τ).loc Cert.ProjOutIdeal.main_v2_0)) (v1 : (c : Dev Cert.ProjOutIdeal.nD) → Buf (Elt Ideal) ((c.tc : Thread Cert.ProjOutIdeal.nD Cert.ProjOutIdeal.τ).loc Cert.ProjOutIdeal.main_v2_1)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v2_0) = v0 c
          ∧ r.2.mem ((c.tc : Thread Cert.ProjOutIdeal.nD Cert.ProjOutIdeal.τ).loc Cert.ProjOutIdeal.main_v2_1) = v1 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v71) = v0 c
          ∧ r.2.mem ((c.tc : Thread Cert.ProjOutRefIdeal.nD Cert.ProjOutRefIdeal.τ).loc Cert.ProjOutRefIdeal.main_v72) = v1 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3)
          ∧ r.2.mem ((c.tc : Thread Cert.ProjOutRefIdeal.nD Cert.ProjOutRefIdeal.τ).loc Cert.ProjOutRefIdeal.main_arg4) = m' ((c.tc : Thread Cert.ProjOutRefIdeal.nD Cert.ProjOutRefIdeal.τ).loc Cert.ProjOutRefIdeal.main_arg4)
          ∧ r.2.mem ((c.tc : Thread Cert.ProjOutRefIdeal.nD Cert.ProjOutRefIdeal.τ).loc Cert.ProjOutRefIdeal.main_arg5) = m' ((c.tc : Thread Cert.ProjOutRefIdeal.nD Cert.ProjOutRefIdeal.τ).loc Cert.ProjOutRefIdeal.main_arg5))

def preserves_SwaIn_SwaInIdeal : Prop :=
  IdealRules.named_const.Statement Cert.SwaInIdeal.κ "q_scale" .f32 0x3E38AA3B#32 (((1 / 8) * (Real.log 2)⁻¹ : ℝ) : EReal)

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)
      ∧ m' ((c.tc : Thread Cert.SwaInRefIdeal.nD Cert.SwaInRefIdeal.τ).loc Cert.SwaInRefIdeal.main_arg3) = m ((c.tc : Thread Cert.SwaInIdeal.nD Cert.SwaInIdeal.τ).loc Cert.SwaInIdeal.main_arg3)
      ∧ m' ((c.tc : Thread Cert.SwaInRefIdeal.nD Cert.SwaInRefIdeal.τ).loc Cert.SwaInRefIdeal.main_arg4) = m ((c.tc : Thread Cert.SwaInIdeal.nD Cert.SwaInIdeal.τ).loc Cert.SwaInIdeal.main_arg4)
      ∧ m' ((c.tc : Thread Cert.SwaInRefIdeal.nD Cert.SwaInRefIdeal.τ).loc Cert.SwaInRefIdeal.main_arg5) = m ((c.tc : Thread Cert.SwaInIdeal.nD Cert.SwaInIdeal.τ).loc Cert.SwaInIdeal.main_arg5)) →
    ∃ (v0 : (c : Dev Cert.SwaInIdeal.nD) → Buf (Elt Ideal) ((c.tc : Thread Cert.SwaInIdeal.nD Cert.SwaInIdeal.τ).loc Cert.SwaInIdeal.main_v77_0)) (v1 : (c : Dev Cert.SwaInIdeal.nD) → Buf (Elt Ideal) ((c.tc : Thread Cert.SwaInIdeal.nD Cert.SwaInIdeal.τ).loc Cert.SwaInIdeal.main_v77_1)) (v2 : (c : Dev Cert.SwaInIdeal.nD) → Buf (Elt Ideal) ((c.tc : Thread Cert.SwaInIdeal.nD Cert.SwaInIdeal.τ).loc Cert.SwaInIdeal.main_v77_2)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v77_0) = v0 c
          ∧ r.2.mem ((c.tc : Thread Cert.SwaInIdeal.nD Cert.SwaInIdeal.τ).loc Cert.SwaInIdeal.main_v77_1) = v1 c
          ∧ r.2.mem ((c.tc : Thread Cert.SwaInIdeal.nD Cert.SwaInIdeal.τ).loc Cert.SwaInIdeal.main_v77_2) = v2 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
          ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2)
          ∧ r.2.mem ((c.tc : Thread Cert.SwaInIdeal.nD Cert.SwaInIdeal.τ).loc Cert.SwaInIdeal.main_arg3) = m ((c.tc : Thread Cert.SwaInIdeal.nD Cert.SwaInIdeal.τ).loc Cert.SwaInIdeal.main_arg3)
          ∧ r.2.mem ((c.tc : Thread Cert.SwaInIdeal.nD Cert.SwaInIdeal.τ).loc Cert.SwaInIdeal.main_arg4) = m ((c.tc : Thread Cert.SwaInIdeal.nD Cert.SwaInIdeal.τ).loc Cert.SwaInIdeal.main_arg4)
          ∧ r.2.mem ((c.tc : Thread Cert.SwaInIdeal.nD Cert.SwaInIdeal.τ).loc Cert.SwaInIdeal.main_arg5) = m ((c.tc : Thread Cert.SwaInIdeal.nD Cert.SwaInIdeal.τ).loc Cert.SwaInIdeal.main_arg5))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v198) = v0 c
          ∧ r.2.mem ((c.tc : Thread Cert.SwaInRefIdeal.nD Cert.SwaInRefIdeal.τ).loc Cert.SwaInRefIdeal.main_v206) = v1 c
          ∧ r.2.mem ((c.tc : Thread Cert.SwaInRefIdeal.nD Cert.SwaInRefIdeal.τ).loc Cert.SwaInRefIdeal.main_v214) = v2 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1)
          ∧ r.2.mem ((c.tc : Thread Cert.SwaInRefIdeal.nD Cert.SwaInRefIdeal.τ).loc Cert.SwaInRefIdeal.main_arg2) = m' ((c.tc : Thread Cert.SwaInRefIdeal.nD Cert.SwaInRefIdeal.τ).loc Cert.SwaInRefIdeal.main_arg2)
          ∧ r.2.mem ((c.tc : Thread Cert.SwaInRefIdeal.nD Cert.SwaInRefIdeal.τ).loc Cert.SwaInRefIdeal.main_arg3) = m' ((c.tc : Thread Cert.SwaInRefIdeal.nD Cert.SwaInRefIdeal.τ).loc Cert.SwaInRefIdeal.main_arg3)
          ∧ r.2.mem ((c.tc : Thread Cert.SwaInRefIdeal.nD Cert.SwaInRefIdeal.τ).loc Cert.SwaInRefIdeal.main_arg4) = m' ((c.tc : Thread Cert.SwaInRefIdeal.nD Cert.SwaInRefIdeal.τ).loc Cert.SwaInRefIdeal.main_arg4)
          ∧ r.2.mem ((c.tc : Thread Cert.SwaInRefIdeal.nD Cert.SwaInRefIdeal.τ).loc Cert.SwaInRefIdeal.main_arg5) = m' ((c.tc : Thread Cert.SwaInRefIdeal.nD Cert.SwaInRefIdeal.τ).loc Cert.SwaInRefIdeal.main_arg5))

def preserves_FouOut_FouOutIdeal : Prop :=
  True

def algebraic_FouOutIdeal_FouOutRefIdeal [hFouOutIdeal : Cert.FouOutIdeal.Facts] [hFouOutRefIdeal : Cert.FouOutRefIdeal.Facts] : Prop :=
  ∀ (m : (ℓ : Loc Cert.FouOutIdeal.nD Cert.FouOutIdeal.τ Cert.FouOutIdeal.sig) → Buf (Elt Ideal) ℓ) (g : Dev Cert.FouOutIdeal.nD → PrngReg)
    (m' : (ℓ : Loc Cert.FouOutRefIdeal.nD Cert.FouOutRefIdeal.τ Cert.FouOutRefIdeal.sig) → Buf (Elt Ideal) ℓ) (g' : Dev Cert.FouOutRefIdeal.nD → PrngReg), Pre_FouOutIdeal m →
    (∀ c : Dev Cert.FouOutIdeal.nD,
      m' ((c.tc : Thread Cert.FouOutRefIdeal.nD Cert.FouOutRefIdeal.τ).loc Cert.FouOutRefIdeal.main_arg0) = m ((c.tc : Thread Cert.FouOutIdeal.nD Cert.FouOutIdeal.τ).loc Cert.FouOutIdeal.main_arg0)
      ∧ m' ((c.tc : Thread Cert.FouOutRefIdeal.nD Cert.FouOutRefIdeal.τ).loc Cert.FouOutRefIdeal.main_arg1) = m ((c.tc : Thread Cert.FouOutIdeal.nD Cert.FouOutIdeal.τ).loc Cert.FouOutIdeal.main_arg1)
      ∧ m' ((c.tc : Thread Cert.FouOutRefIdeal.nD Cert.FouOutRefIdeal.τ).loc Cert.FouOutRefIdeal.main_arg2) = m ((c.tc : Thread Cert.FouOutIdeal.nD Cert.FouOutIdeal.τ).loc Cert.FouOutIdeal.main_arg2)
      ∧ m' ((c.tc : Thread Cert.FouOutRefIdeal.nD Cert.FouOutRefIdeal.τ).loc Cert.FouOutRefIdeal.main_arg3) = m ((c.tc : Thread Cert.FouOutIdeal.nD Cert.FouOutIdeal.τ).loc Cert.FouOutIdeal.main_arg3)
      ∧ m' ((c.tc : Thread Cert.FouOutRefIdeal.nD Cert.FouOutRefIdeal.τ).loc Cert.FouOutRefIdeal.main_arg4) = m ((c.tc : Thread Cert.FouOutIdeal.nD Cert.FouOutIdeal.τ).loc Cert.FouOutIdeal.main_arg4)) →
    ∃ (v0 : (c : Dev Cert.FouOutIdeal.nD) → Buf (Elt Ideal) ((c.tc : Thread Cert.FouOutIdeal.nD Cert.FouOutIdeal.τ).loc Cert.FouOutIdeal.main_v2_0)) (v1 : (c : Dev Cert.FouOutIdeal.nD) → Buf (Elt Ideal) ((c.tc : Thread Cert.FouOutIdeal.nD Cert.FouOutIdeal.τ).loc Cert.FouOutIdeal.main_v2_1)),
      θ_run (Cert.FouOutIdeal.defs (F := Ideal)) (onTc (τ := Cert.FouOutIdeal.τ) (Cert.FouOutIdeal.main (F := Ideal))) ⟨m, fun _ => 0, g⟩ (fun r => ∀ c : Dev Cert.FouOutIdeal.nD,
          r.2.mem ((c.tc : Thread Cert.FouOutIdeal.nD Cert.FouOutIdeal.τ).loc Cert.FouOutIdeal.main_v2_0) = v0 c
          ∧ r.2.mem ((c.tc : Thread Cert.FouOutIdeal.nD Cert.FouOutIdeal.τ).loc Cert.FouOutIdeal.main_v2_1) = v1 c
          ∧ r.2.mem ((c.tc : Thread Cert.FouOutIdeal.nD Cert.FouOutIdeal.τ).loc Cert.FouOutIdeal.main_arg0) = m ((c.tc : Thread Cert.FouOutIdeal.nD Cert.FouOutIdeal.τ).loc Cert.FouOutIdeal.main_arg0)
          ∧ r.2.mem ((c.tc : Thread Cert.FouOutIdeal.nD Cert.FouOutIdeal.τ).loc Cert.FouOutIdeal.main_arg1) = m ((c.tc : Thread Cert.FouOutIdeal.nD Cert.FouOutIdeal.τ).loc Cert.FouOutIdeal.main_arg1)
          ∧ r.2.mem ((c.tc : Thread Cert.FouOutIdeal.nD Cert.FouOutIdeal.τ).loc Cert.FouOutIdeal.main_arg2) = m ((c.tc : Thread Cert.FouOutIdeal.nD Cert.FouOutIdeal.τ).loc Cert.FouOutIdeal.main_arg2)
          ∧ r.2.mem ((c.tc : Thread Cert.FouOutIdeal.nD Cert.FouOutIdeal.τ).loc Cert.FouOutIdeal.main_arg3) = m ((c.tc : Thread Cert.FouOutIdeal.nD Cert.FouOutIdeal.τ).loc Cert.FouOutIdeal.main_arg3)
          ∧ r.2.mem ((c.tc : Thread Cert.FouOutIdeal.nD Cert.FouOutIdeal.τ).loc Cert.FouOutIdeal.main_arg4) = m ((c.tc : Thread Cert.FouOutIdeal.nD Cert.FouOutIdeal.τ).loc Cert.FouOutIdeal.main_arg4))
      ∧ θ_run (Cert.FouOutRefIdeal.defs (F := Ideal)) (onTc (τ := Cert.FouOutRefIdeal.τ) (Cert.FouOutRefIdeal.main (F := Ideal))) ⟨m', fun _ => 0, g'⟩ (fun r => ∀ c : Dev Cert.FouOutRefIdeal.nD,
          r.2.mem ((c.tc : Thread Cert.FouOutRefIdeal.nD Cert.FouOutRefIdeal.τ).loc Cert.FouOutRefIdeal.main_v73) = v0 c
          ∧ r.2.mem ((c.tc : Thread Cert.FouOutRefIdeal.nD Cert.FouOutRefIdeal.τ).loc Cert.FouOutRefIdeal.main_v74) = v1 c
          ∧ r.2.mem ((c.tc : Thread Cert.FouOutRefIdeal.nD Cert.FouOutRefIdeal.τ).loc Cert.FouOutRefIdeal.main_arg0) = m' ((c.tc : Thread Cert.FouOutRefIdeal.nD Cert.FouOutRefIdeal.τ).loc Cert.FouOutRefIdeal.main_arg0)
          ∧ r.2.mem ((c.tc : Thread Cert.FouOutRefIdeal.nD Cert.FouOutRefIdeal.τ).loc Cert.FouOutRefIdeal.main_arg1) = m' ((c.tc : Thread Cert.FouOutRefIdeal.nD Cert.FouOutRefIdeal.τ).loc Cert.FouOutRefIdeal.main_arg1)
          ∧ r.2.mem ((c.tc : Thread Cert.FouOutRefIdeal.nD Cert.FouOutRefIdeal.τ).loc Cert.FouOutRefIdeal.main_arg2) = m' ((c.tc : Thread Cert.FouOutRefIdeal.nD Cert.FouOutRefIdeal.τ).loc Cert.FouOutRefIdeal.main_arg2)
          ∧ r.2.mem ((c.tc : Thread Cert.FouOutRefIdeal.nD Cert.FouOutRefIdeal.τ).loc Cert.FouOutRefIdeal.main_arg3) = m' ((c.tc : Thread Cert.FouOutRefIdeal.nD Cert.FouOutRefIdeal.τ).loc Cert.FouOutRefIdeal.main_arg3)
          ∧ r.2.mem ((c.tc : Thread Cert.FouOutRefIdeal.nD Cert.FouOutRefIdeal.τ).loc Cert.FouOutRefIdeal.main_arg4) = m' ((c.tc : Thread Cert.FouOutRefIdeal.nD Cert.FouOutRefIdeal.τ).loc Cert.FouOutRefIdeal.main_arg4))

def preserves_SwaOut_SwaOutIdeal : Prop :=
  True

def algebraic_SwaOutIdeal_SwaOutRefIdeal [hSwaOutIdeal : Cert.SwaOutIdeal.Facts] [hSwaOutRefIdeal : Cert.SwaOutRefIdeal.Facts] : Prop :=
  ∀ (m : (ℓ : Loc Cert.SwaOutIdeal.nD Cert.SwaOutIdeal.τ Cert.SwaOutIdeal.sig) → Buf (Elt Ideal) ℓ) (g : Dev Cert.SwaOutIdeal.nD → PrngReg)
    (m' : (ℓ : Loc Cert.SwaOutRefIdeal.nD Cert.SwaOutRefIdeal.τ Cert.SwaOutRefIdeal.sig) → Buf (Elt Ideal) ℓ) (g' : Dev Cert.SwaOutRefIdeal.nD → PrngReg), Pre_SwaOutIdeal m →
    (∀ c : Dev Cert.SwaOutIdeal.nD,
      m' ((c.tc : Thread Cert.SwaOutRefIdeal.nD Cert.SwaOutRefIdeal.τ).loc Cert.SwaOutRefIdeal.main_arg0) = m ((c.tc : Thread Cert.SwaOutIdeal.nD Cert.SwaOutIdeal.τ).loc Cert.SwaOutIdeal.main_arg0)
      ∧ m' ((c.tc : Thread Cert.SwaOutRefIdeal.nD Cert.SwaOutRefIdeal.τ).loc Cert.SwaOutRefIdeal.main_arg1) = m ((c.tc : Thread Cert.SwaOutIdeal.nD Cert.SwaOutIdeal.τ).loc Cert.SwaOutIdeal.main_arg1)
      ∧ m' ((c.tc : Thread Cert.SwaOutRefIdeal.nD Cert.SwaOutRefIdeal.τ).loc Cert.SwaOutRefIdeal.main_arg2) = m ((c.tc : Thread Cert.SwaOutIdeal.nD Cert.SwaOutIdeal.τ).loc Cert.SwaOutIdeal.main_arg2)
      ∧ m' ((c.tc : Thread Cert.SwaOutRefIdeal.nD Cert.SwaOutRefIdeal.τ).loc Cert.SwaOutRefIdeal.main_arg3) = m ((c.tc : Thread Cert.SwaOutIdeal.nD Cert.SwaOutIdeal.τ).loc Cert.SwaOutIdeal.main_arg3)
      ∧ m' ((c.tc : Thread Cert.SwaOutRefIdeal.nD Cert.SwaOutRefIdeal.τ).loc Cert.SwaOutRefIdeal.main_arg4) = m ((c.tc : Thread Cert.SwaOutIdeal.nD Cert.SwaOutIdeal.τ).loc Cert.SwaOutIdeal.main_arg4)) →
    ∃ (v0 : (c : Dev Cert.SwaOutIdeal.nD) → Buf (Elt Ideal) ((c.tc : Thread Cert.SwaOutIdeal.nD Cert.SwaOutIdeal.τ).loc Cert.SwaOutIdeal.main_v6_0)) (v1 : (c : Dev Cert.SwaOutIdeal.nD) → Buf (Elt Ideal) ((c.tc : Thread Cert.SwaOutIdeal.nD Cert.SwaOutIdeal.τ).loc Cert.SwaOutIdeal.main_v6_1)),
      θ_run (Cert.SwaOutIdeal.defs (F := Ideal)) (onTc (τ := Cert.SwaOutIdeal.τ) (Cert.SwaOutIdeal.main (F := Ideal))) ⟨m, fun _ => 0, g⟩ (fun r => ∀ c : Dev Cert.SwaOutIdeal.nD,
          r.2.mem ((c.tc : Thread Cert.SwaOutIdeal.nD Cert.SwaOutIdeal.τ).loc Cert.SwaOutIdeal.main_v6_0) = v0 c
          ∧ r.2.mem ((c.tc : Thread Cert.SwaOutIdeal.nD Cert.SwaOutIdeal.τ).loc Cert.SwaOutIdeal.main_v6_1) = v1 c
          ∧ r.2.mem ((c.tc : Thread Cert.SwaOutIdeal.nD Cert.SwaOutIdeal.τ).loc Cert.SwaOutIdeal.main_arg0) = m ((c.tc : Thread Cert.SwaOutIdeal.nD Cert.SwaOutIdeal.τ).loc Cert.SwaOutIdeal.main_arg0)
          ∧ r.2.mem ((c.tc : Thread Cert.SwaOutIdeal.nD Cert.SwaOutIdeal.τ).loc Cert.SwaOutIdeal.main_arg1) = m ((c.tc : Thread Cert.SwaOutIdeal.nD Cert.SwaOutIdeal.τ).loc Cert.SwaOutIdeal.main_arg1)
          ∧ r.2.mem ((c.tc : Thread Cert.SwaOutIdeal.nD Cert.SwaOutIdeal.τ).loc Cert.SwaOutIdeal.main_arg2) = m ((c.tc : Thread Cert.SwaOutIdeal.nD Cert.SwaOutIdeal.τ).loc Cert.SwaOutIdeal.main_arg2)
          ∧ r.2.mem ((c.tc : Thread Cert.SwaOutIdeal.nD Cert.SwaOutIdeal.τ).loc Cert.SwaOutIdeal.main_arg3) = m ((c.tc : Thread Cert.SwaOutIdeal.nD Cert.SwaOutIdeal.τ).loc Cert.SwaOutIdeal.main_arg3)
          ∧ r.2.mem ((c.tc : Thread Cert.SwaOutIdeal.nD Cert.SwaOutIdeal.τ).loc Cert.SwaOutIdeal.main_arg4) = m ((c.tc : Thread Cert.SwaOutIdeal.nD Cert.SwaOutIdeal.τ).loc Cert.SwaOutIdeal.main_arg4))
      ∧ θ_run (Cert.SwaOutRefIdeal.defs (F := Ideal)) (onTc (τ := Cert.SwaOutRefIdeal.τ) (Cert.SwaOutRefIdeal.main (F := Ideal))) ⟨m', fun _ => 0, g'⟩ (fun r => ∀ c : Dev Cert.SwaOutRefIdeal.nD,
          r.2.mem ((c.tc : Thread Cert.SwaOutRefIdeal.nD Cert.SwaOutRefIdeal.τ).loc Cert.SwaOutRefIdeal.main_v76) = v0 c
          ∧ r.2.mem ((c.tc : Thread Cert.SwaOutRefIdeal.nD Cert.SwaOutRefIdeal.τ).loc Cert.SwaOutRefIdeal.main_v77) = v1 c
          ∧ r.2.mem ((c.tc : Thread Cert.SwaOutRefIdeal.nD Cert.SwaOutRefIdeal.τ).loc Cert.SwaOutRefIdeal.main_arg0) = m' ((c.tc : Thread Cert.SwaOutRefIdeal.nD Cert.SwaOutRefIdeal.τ).loc Cert.SwaOutRefIdeal.main_arg0)
          ∧ r.2.mem ((c.tc : Thread Cert.SwaOutRefIdeal.nD Cert.SwaOutRefIdeal.τ).loc Cert.SwaOutRefIdeal.main_arg1) = m' ((c.tc : Thread Cert.SwaOutRefIdeal.nD Cert.SwaOutRefIdeal.τ).loc Cert.SwaOutRefIdeal.main_arg1)
          ∧ r.2.mem ((c.tc : Thread Cert.SwaOutRefIdeal.nD Cert.SwaOutRefIdeal.τ).loc Cert.SwaOutRefIdeal.main_arg2) = m' ((c.tc : Thread Cert.SwaOutRefIdeal.nD Cert.SwaOutRefIdeal.τ).loc Cert.SwaOutRefIdeal.main_arg2)
          ∧ r.2.mem ((c.tc : Thread Cert.SwaOutRefIdeal.nD Cert.SwaOutRefIdeal.τ).loc Cert.SwaOutRefIdeal.main_arg3) = m' ((c.tc : Thread Cert.SwaOutRefIdeal.nD Cert.SwaOutRefIdeal.τ).loc Cert.SwaOutRefIdeal.main_arg3)
          ∧ r.2.mem ((c.tc : Thread Cert.SwaOutRefIdeal.nD Cert.SwaOutRefIdeal.τ).loc Cert.SwaOutRefIdeal.main_arg4) = m' ((c.tc : Thread Cert.SwaOutRefIdeal.nD Cert.SwaOutRefIdeal.τ).loc Cert.SwaOutRefIdeal.main_arg4))

def preserves_SwaAtt_SwaAttIdeal : Prop :=
  IdealRules.named_const.Statement Cert.SwaAttIdeal.κ "mask" .f32 0xF149F2CA#32 ⊥
  ∧ IdealRules.named_const.Statement Cert.SwaAttIdeal.κ "q_scale" .f32 0x3E38AA3B#32 (((1 / 8) * (Real.log 2)⁻¹ : ℝ) : EReal)
  ∧ IdealRules.named_const.Statement Cert.SwaAttIdeal.κ "log2_e" .f32 0x3FB8AA3B#32 (((Real.log 2)⁻¹ : ℝ) : EReal)

def algebraic_SwaAttIdeal_SwaAttRefIdeal_pre_swa_finite [hSwaAttIdeal : Cert.SwaAttIdeal.Facts] [hSwaAttRefIdeal : Cert.SwaAttRefIdeal.Facts] [hPre_swa_finite : Cert.Pre_swa_finite.Facts] : Prop :=
  ∀ (m : (ℓ : Loc Cert.SwaAttIdeal.nD Cert.SwaAttIdeal.τ Cert.SwaAttIdeal.sig) → Buf (Elt Ideal) ℓ) (g : Dev Cert.SwaAttIdeal.nD → PrngReg)
    (m' : (ℓ : Loc Cert.SwaAttRefIdeal.nD Cert.SwaAttRefIdeal.τ Cert.SwaAttRefIdeal.sig) → Buf (Elt Ideal) ℓ) (g' : Dev Cert.SwaAttRefIdeal.nD → PrngReg), Pre_SwaAttIdeal_swa_finite m →
    (∀ c : Dev Cert.SwaAttIdeal.nD,
      m' ((c.tc : Thread Cert.SwaAttRefIdeal.nD Cert.SwaAttRefIdeal.τ).loc Cert.SwaAttRefIdeal.main_arg0) = m ((c.tc : Thread Cert.SwaAttIdeal.nD Cert.SwaAttIdeal.τ).loc Cert.SwaAttIdeal.main_arg0)
      ∧ m' ((c.tc : Thread Cert.SwaAttRefIdeal.nD Cert.SwaAttRefIdeal.τ).loc Cert.SwaAttRefIdeal.main_arg1) = m ((c.tc : Thread Cert.SwaAttIdeal.nD Cert.SwaAttIdeal.τ).loc Cert.SwaAttIdeal.main_arg1)
      ∧ m' ((c.tc : Thread Cert.SwaAttRefIdeal.nD Cert.SwaAttRefIdeal.τ).loc Cert.SwaAttRefIdeal.main_arg2) = m ((c.tc : Thread Cert.SwaAttIdeal.nD Cert.SwaAttIdeal.τ).loc Cert.SwaAttIdeal.main_arg2)
      ∧ m' ((c.tc : Thread Cert.SwaAttRefIdeal.nD Cert.SwaAttRefIdeal.τ).loc Cert.SwaAttRefIdeal.main_arg3) = m ((c.tc : Thread Cert.SwaAttIdeal.nD Cert.SwaAttIdeal.τ).loc Cert.SwaAttIdeal.main_arg3)) →
    ∃ (v0 : (c : Dev Cert.SwaAttIdeal.nD) → Buf (Elt Ideal) ((c.tc : Thread Cert.SwaAttIdeal.nD Cert.SwaAttIdeal.τ).loc Cert.SwaAttIdeal.main_v0)),
      θ_run (Cert.SwaAttIdeal.defs (F := Ideal)) (onTc (τ := Cert.SwaAttIdeal.τ) (Cert.SwaAttIdeal.main (F := Ideal))) ⟨m, fun _ => 0, g⟩ (fun r => ∀ c : Dev Cert.SwaAttIdeal.nD,
          r.2.mem ((c.tc : Thread Cert.SwaAttIdeal.nD Cert.SwaAttIdeal.τ).loc Cert.SwaAttIdeal.main_v0) = v0 c
          ∧ r.2.mem ((c.tc : Thread Cert.SwaAttIdeal.nD Cert.SwaAttIdeal.τ).loc Cert.SwaAttIdeal.main_arg0) = m ((c.tc : Thread Cert.SwaAttIdeal.nD Cert.SwaAttIdeal.τ).loc Cert.SwaAttIdeal.main_arg0)
          ∧ r.2.mem ((c.tc : Thread Cert.SwaAttIdeal.nD Cert.SwaAttIdeal.τ).loc Cert.SwaAttIdeal.main_arg1) = m ((c.tc : Thread Cert.SwaAttIdeal.nD Cert.SwaAttIdeal.τ).loc Cert.SwaAttIdeal.main_arg1)
          ∧ r.2.mem ((c.tc : Thread Cert.SwaAttIdeal.nD Cert.SwaAttIdeal.τ).loc Cert.SwaAttIdeal.main_arg2) = m ((c.tc : Thread Cert.SwaAttIdeal.nD Cert.SwaAttIdeal.τ).loc Cert.SwaAttIdeal.main_arg2)
          ∧ r.2.mem ((c.tc : Thread Cert.SwaAttIdeal.nD Cert.SwaAttIdeal.τ).loc Cert.SwaAttIdeal.main_arg3) = m ((c.tc : Thread Cert.SwaAttIdeal.nD Cert.SwaAttIdeal.τ).loc Cert.SwaAttIdeal.main_arg3))
      ∧ θ_run (Cert.SwaAttRefIdeal.defs (F := Ideal)) (onTc (τ := Cert.SwaAttRefIdeal.τ) (Cert.SwaAttRefIdeal.main (F := Ideal))) ⟨m', fun _ => 0, g'⟩ (fun r => ∀ c : Dev Cert.SwaAttRefIdeal.nD,
          r.2.mem ((c.tc : Thread Cert.SwaAttRefIdeal.nD Cert.SwaAttRefIdeal.τ).loc Cert.SwaAttRefIdeal.main_v81) = v0 c
          ∧ r.2.mem ((c.tc : Thread Cert.SwaAttRefIdeal.nD Cert.SwaAttRefIdeal.τ).loc Cert.SwaAttRefIdeal.main_arg0) = m' ((c.tc : Thread Cert.SwaAttRefIdeal.nD Cert.SwaAttRefIdeal.τ).loc Cert.SwaAttRefIdeal.main_arg0)
          ∧ r.2.mem ((c.tc : Thread Cert.SwaAttRefIdeal.nD Cert.SwaAttRefIdeal.τ).loc Cert.SwaAttRefIdeal.main_arg1) = m' ((c.tc : Thread Cert.SwaAttRefIdeal.nD Cert.SwaAttRefIdeal.τ).loc Cert.SwaAttRefIdeal.main_arg1)
          ∧ r.2.mem ((c.tc : Thread Cert.SwaAttRefIdeal.nD Cert.SwaAttRefIdeal.τ).loc Cert.SwaAttRefIdeal.main_arg2) = m' ((c.tc : Thread Cert.SwaAttRefIdeal.nD Cert.SwaAttRefIdeal.τ).loc Cert.SwaAttRefIdeal.main_arg2)
          ∧ r.2.mem ((c.tc : Thread Cert.SwaAttRefIdeal.nD Cert.SwaAttRefIdeal.τ).loc Cert.SwaAttRefIdeal.main_arg3) = m' ((c.tc : Thread Cert.SwaAttRefIdeal.nD Cert.SwaAttRefIdeal.τ).loc Cert.SwaAttRefIdeal.main_arg3))

def Claim : Prop :=
  ∃ (hKernel : Cert.Kernel.Facts) (hKernelIdeal : Cert.KernelIdeal.Facts) (hReferenceIdeal : Cert.ReferenceIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hSwaIn : Cert.SwaIn.Facts) (hSwaInIdeal : Cert.SwaInIdeal.Facts) (hSwaInRefIdeal : Cert.SwaInRefIdeal.Facts) (hFouOut : Cert.FouOut.Facts) (hFouOutIdeal : Cert.FouOutIdeal.Facts) (hFouOutRefIdeal : Cert.FouOutRefIdeal.Facts) (hSwaOut : Cert.SwaOut.Facts) (hSwaOutIdeal : Cert.SwaOutIdeal.Facts) (hSwaOutRefIdeal : Cert.SwaOutRefIdeal.Facts) (hSwaAtt : Cert.SwaAtt.Facts) (hSwaAttIdeal : Cert.SwaAttIdeal.Facts) (hSwaAttRefIdeal : Cert.SwaAttRefIdeal.Facts) (hPre_finite : Cert.Pre_finite.Facts) (hPre_swa_finite : Cert.Pre_swa_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_FouOut (hFouOut := hFouOut)
    ∧ quiescent_FouOutIdeal (hFouOutIdeal := hFouOutIdeal)
    ∧ quiescent_FouOutRefIdeal (hFouOutRefIdeal := hFouOutRefIdeal)
    ∧ quiescent_SwaOut (hSwaOut := hSwaOut)
    ∧ quiescent_SwaOutIdeal (hSwaOutIdeal := hSwaOutIdeal)
    ∧ quiescent_SwaOutRefIdeal (hSwaOutRefIdeal := hSwaOutRefIdeal)
    ∧ quiescent_SwaAtt (hSwaAtt := hSwaAtt)
    ∧ quiescent_SwaAttIdeal (hSwaAttIdeal := hSwaAttIdeal)
    ∧ quiescent_SwaAttIdeal_pre_swa_finite (hSwaAttIdeal := hSwaAttIdeal) (hPre_swa_finite := hPre_swa_finite)
    ∧ quiescent_SwaAttRefIdeal (hSwaAttRefIdeal := hSwaAttRefIdeal)
    ∧ quiescent_SwaAttRefIdeal_pre_swa_finite (hSwaAttRefIdeal := hSwaAttRefIdeal) (hPre_swa_finite := hPre_swa_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_SwaIn_SwaInIdeal
    ∧ algebraic_SwaInIdeal_SwaInRefIdeal (hSwaInIdeal := hSwaInIdeal) (hSwaInRefIdeal := hSwaInRefIdeal)
    ∧ preserves_FouOut_FouOutIdeal
    ∧ algebraic_FouOutIdeal_FouOutRefIdeal (hFouOutIdeal := hFouOutIdeal) (hFouOutRefIdeal := hFouOutRefIdeal)
    ∧ preserves_SwaOut_SwaOutIdeal
    ∧ algebraic_SwaOutIdeal_SwaOutRefIdeal (hSwaOutIdeal := hSwaOutIdeal) (hSwaOutRefIdeal := hSwaOutRefIdeal)
    ∧ preserves_SwaAtt_SwaAttIdeal
    ∧ algebraic_SwaAttIdeal_SwaAttRefIdeal_pre_swa_finite (hSwaAttIdeal := hSwaAttIdeal) (hSwaAttRefIdeal := hSwaAttRefIdeal) (hPre_swa_finite := hPre_swa_finite)
-- ==== Pre_finite.lean ====
abbrev S34816x1024 : Shape := ⟨2, ![34816, 1024]⟩
abbrev S64 : Shape := ⟨1, ![64]⟩
abbrev S128 : Shape := ⟨1, ![128]⟩
abbrev S_ : Shape := ⟨0, ![]⟩

class Facts : Prop where
  bcast_S_S34816x1024 : S_.BroadcastsInDim S34816x1024 (![] : Fin 0 → Fin S34816x1024.rank)
  reducesTo_S34816x1024_S_d0_1 : S34816x1024.ReducesTo [0, 1] S_
  h_S_ : 0 < S_.numel
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S34816x1024 .f32) (main_arg1 : FVec F S34816x1024 .f32) (main_arg2 : FVec F S34816x1024 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S34816x1024 .f32 := Host.absf main_arg0
  let main_cst : FVec F S_ .f32 := constant S_ .f32 0x7F800000#32
  let main_v1 : FVec F S34816x1024 .f32 := broadcastInDim S34816x1024 ![] bcast_S_S34816x1024 main_cst
  let main_v2 : IVec S34816x1024 1 := cmpf .olt main_v0 main_v1
  let main_c : IVec S_ 1 := constantI S_ 1 1#1
  let main_v3 : IVec S_ 1 := (fun x v => Host.reduce IntOp.andi x v reducesTo_S34816x1024_S_d0_1 h_S_) main_v2 main_c
  let main_v4 : FVec F S34816x1024 .f32 := Host.absf main_arg1
  let main_cst_0 : FVec F S_ .f32 := constant S_ .f32 0x7F800000#32
  let main_v5 : FVec F S34816x1024 .f32 := broadcastInDim S34816x1024 ![] bcast_S_S34816x1024 main_cst_0
  let main_v6 : IVec S34816x1024 1 := cmpf .olt main_v4 main_v5
  let main_c_1 : IVec S_ 1 := constantI S_ 1 1#1
  let main_v7 : IVec S_ 1 := (fun x v => Host.reduce IntOp.andi x v reducesTo_S34816x1024_S_d0_1 h_S_) main_v6 main_c_1
  let main_v8 : IVec S_ 1 := andi main_v3 main_v7
  let main_v9 : FVec F S34816x1024 .f32 := Host.absf main_arg2
  let main_cst_2 : FVec F S_ .f32 := constant S_ .f32 0x7F800000#32
  let main_v10 : FVec F S34816x1024 .f32 := broadcastInDim S34816x1024 ![] bcast_S_S34816x1024 main_cst_2
  let main_v11 : IVec S34816x1024 1 := cmpf .olt main_v9 main_v10
  let main_c_3 : IVec S_ 1 := constantI S_ 1 1#1
  let main_v12 : IVec S_ 1 := (fun x v => Host.reduce IntOp.andi x v reducesTo_S34816x1024_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Pre_swa_finite.lean ====
abbrev S34816x2048 : Shape := ⟨2, ![34816, 2048]⟩
abbrev S34816x512 : Shape := ⟨2, ![34816, 512]⟩
abbrev S16 : Shape := ⟨1, ![16]⟩
abbrev S_ : Shape := ⟨0, ![]⟩

class Facts : Prop where
  bcast_S_S34816x2048 : S_.BroadcastsInDim S34816x2048 (![] : Fin 0 → Fin S34816x2048.rank)
  reducesTo_S34816x2048_S_d0_1 : S34816x2048.ReducesTo [0, 1] S_
  h_S_ : 0 < S_.numel
  bitsLt_bf16_f32 : FTy.bits .bf16 < FTy.bits .f32
  bcast_S_S34816x512 : S_.BroadcastsInDim S34816x512 (![] : Fin 0 → Fin S34816x512.rank)
  reducesTo_S34816x512_S_d0_1 : S34816x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v15 : IVec S_ 1) (main_v16 : FVec F S16 .f32) (main_cst_4 : FVec F S_ .f32) : IVec S_ 1 :=
  let main_v17 : FVec F S16 .f32 := broadcastInDim S16 ![] bcast_S_S16 main_cst_4
  let main_v18 : IVec S16 1 := cmpf .olt main_v16 main_v17
  let main_c_5 : IVec S_ 1 := constantI S_ 1 1#1
  let main_v19 : IVec S_ 1 := (fun x v => Host.reduce IntOp.andi x v reducesTo_S16_S_d0 h_S_) main_v18 main_c_5
  let main_v20 : IVec S_ 1 := andi main_v15 main_v19
  main_v20

def fn {F : FTy → Type} [FloatOps F] (main_arg0 : FVec F S34816x2048 .f32) (main_arg1 : FVec F S34816x512 .bf16) (main_arg2 : FVec F S34816x512 .bf16) (main_arg3 : FVec F S16 .f32) : IVec S_ 1 :=
  let main_v0 : FVec F S34816x2048 .f32 := Host.absf main_arg0
  let main_cst : FVec F S_ .f32 := constant S_ .f32 0x7F800000#32
  let main_v1 : FVec F S34816x2048 .f32 := broadcastInDim S34816x2048 ![] bcast_S_S34816x2048 main_cst
  let main_v2 : IVec S34816x2048 1 := cmpf .olt main_v0 main_v1
  let main_c : IVec S_ 1 := constantI S_ 1 1#1
  let main_v3 : IVec S_ 1 := (fun x v => Host.reduce IntOp.andi x v reducesTo_S34816x2048_S_d0_1 h_S_) main_v2 main_c
  let main_v4 : FVec F S34816x512 .f32 := (extf .f32 · bitsLt_bf16_f32) main_arg1
  let main_v5 : FVec F S34816x512 .f32 := Host.absf main_v4
  let main_cst_0 : FVec F S_ .f32 := constant S_ .f32 0x7F800000#32
  let main_v6 : FVec F S34816x512 .f32 := broadcastInDim S34816x512 ![] bcast_S_S34816x512 main_cst_0
  let main_v7 : IVec S34816x512 1 := cmpf .olt main_v5 main_v6
  let main_c_1 : IVec S_ 1 := constantI S_ 1 1#1
  let main_v8 : IVec S_ 1 := (fun x v => Host.reduce IntOp.andi x v reducesTo_S34816x512_S_d0_1 h_S_) main_v7 main_c_1
  let main_v9 : IVec S_ 1 := andi main_v3 main_v8
  let main_v10 : FVec F S34816x512 .f32 := (extf .f32 · bitsLt_bf16_f32) main_arg2
  let main_v11 : FVec F S34816x512 .f32 := Host.absf main_v10
  let main_cst_2 : FVec F S_ .f32 := constant S_ .f32 0x7F800000#32
  let main_v12 : FVec F S34816x512 .f32 := broadcastInDim S34816x512 ![] bcast_S_S34816x512 main_cst_2
  let main_v13 : IVec S34816x512 1 := cmpf .olt main_v11 main_v12
  let main_c_3 : IVec S_ 1 := constantI S_ 1 1#1
  let main_v14 : IVec S_ 1 := (fun x v => Host.reduce IntOp.andi x v reducesTo_S34816x512_S_d0_1 h_S_) main_v13 main_c_3
  let main_v15 : IVec S_ 1 := andi main_v9 main_v14
  let main_v16 : FVec F S16 .f32 := Host.absf main_arg3
  let main_cst_4 : FVec F S_ .f32 := constant S_ .f32 0x7F800000#32
  fn_part1 (F := F) main_v15 main_v16 main_cst_4
-- ==== Kernel.lean ====
abbrev S34816x1024 : Shape := ⟨2, ![34816, 1024]⟩
abbrev S64 : Shape := ⟨1, ![64]⟩
abbrev S128 : Shape := ⟨1, ![128]⟩
abbrev S34816x8x128 : Shape := ⟨3, ![34816, 8, 128]⟩
abbrev S_ : Shape := ⟨0, ![]⟩
abbrev S34816x8x256 : Shape := ⟨3, ![34816, 8, 256]⟩
abbrev S34816x2048 : Shape := ⟨2, ![34816, 2048]⟩
abbrev S1x64 : Shape := ⟨2, ![1, 64]⟩
abbrev S4x64 : Shape := ⟨2, ![4, 64]⟩
abbrev S1x128 : Shape := ⟨2, ![1, 128]⟩
abbrev S32768x1024 : Shape := ⟨2, ![32768, 1024]⟩
abbrev S256x256 : Shape := ⟨2, ![256, 256]⟩
abbrev S4096x256 : Shape := ⟨2, ![4096, 256]⟩
abbrev S4096x512 : Shape := ⟨2, ![4096, 512]⟩
abbrev S256x512 : Shape := ⟨2, ![256, 512]⟩
abbrev S4x256x4352 : Shape := ⟨3, ![4, 256, 4352]⟩
abbrev S4x256x1 : Shape := ⟨3, ![4, 256, 1]⟩
abbrev S256x128 : Shape := ⟨2, ![256, 128]⟩
abbrev S1024x128 : Shape := ⟨2, ![1024, 128]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1x256x256 : Shape := ⟨3, ![1, 256, 256]⟩
abbrev S1x256x1 : Shape := ⟨3, ![1, 256, 1]⟩
abbrev S1 : Shape := ⟨1, ![1]⟩
abbrev S1x1 : Shape := ⟨2, ![1, 1]⟩
abbrev S1024x256 : Shape := ⟨2, ![1024, 256]⟩

abbrev nBuf : Space → Nat
  | .hbm => 22
  | .vmem => 16
  | .smem => 0
  | _ => 0

abbrev bufTy : (tb : Table) → Fin (tcTables nBuf tb) → BufTy
  | .hbm, ⟨0, _⟩ => ⟨S34816x1024, .f32⟩
  | .hbm, ⟨1, _⟩ => ⟨S34816x1024, .f32⟩
  | .hbm, ⟨2, _⟩ => ⟨S34816x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S34816x1024, .bf16⟩
  | .hbm, ⟨9, _⟩ => ⟨S34816x8x128, .f32⟩
  | .hbm, ⟨10, _⟩ => ⟨S_, .f32⟩
  | .hbm, ⟨11, _⟩ => ⟨S34816x8x128, .f32⟩
  | .hbm, ⟨12, _⟩ => ⟨S34816x8x256, .f32⟩
  | .hbm, ⟨13, _⟩ => ⟨S34816x2048, .f32⟩
  | .hbm, ⟨14, _⟩ => ⟨S34816x2048, .bf16⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S4x64, .f32⟩
  | .hbm, ⟨20, _⟩ => ⟨S1x128, .f32⟩
  | .hbm, ⟨21, _⟩ => ⟨S32768x1024, .bf16⟩
  | .local _ .vmem, ⟨0, _⟩ => ⟨S4x64, .f32⟩
  | .local _ .vmem, ⟨1, _⟩ => ⟨S256x256, .f32⟩
  | .local _ .vmem, ⟨2, _⟩ => ⟨S256x256, .f32⟩
  | .local _ .vmem, ⟨3, _⟩ => ⟨S4096x256, .bf16⟩
  | .local _ .vmem, ⟨4, _⟩ => ⟨S4096x256, .bf16⟩
  | .local _ .vmem, ⟨5, _⟩ => ⟨S256x256, .bf16⟩
  | .local _ .vmem, ⟨6, _⟩ => ⟨S256x256, .bf16⟩
  | .local _ .vmem, ⟨7, _⟩ => ⟨S4096x512, .bf16⟩
  | .local _ .vmem, ⟨8, _⟩ => ⟨S4096x512, .bf16⟩
  | .local _ .vmem, ⟨9, _⟩ => ⟨S256x512, .bf16⟩
  | .local _ .vmem, ⟨10, _⟩ => ⟨S256x512, .bf16⟩
  | .local _ .vmem, ⟨11, _⟩ => ⟨S1x128, .f32⟩
  | .local _ .vmem, ⟨12, _⟩ => ⟨S256x256, .bf16⟩
  | .local _ .vmem, ⟨13, _⟩ => ⟨S256x256, .bf16⟩
  | .local _ .vmem, ⟨14, _⟩ => ⟨S4x256x4352, .f32⟩
  | .local _ .vmem, ⟨15, _⟩ => ⟨S4x256x1, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg0 : BitVec 32 := BitVec.ofNat 32 (i 0).val
  let c8_i32 : BitVec 32 := 8#32
  let v0 : BitVec 1 := Scalar.cmpi .slt arg0 c8_i32
  let v3 : BitVec 32 := Scalar.extui v0
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S34816x1024 : Shape := ⟨2, ![34816, 1024]⟩
abbrev S64 : Shape := ⟨1, ![64]⟩
abbrev S128 : Shape := ⟨1, ![128]⟩
abbrev S_ : Shape := ⟨0, ![]⟩
abbrev S32768x1024 : Shape := ⟨2, ![32768, 1024]⟩
abbrev S8x4096x8x2x64 : Shape := ⟨5, ![8, 4096, 8, 2, 64]⟩
abbrev S2048x1024 : Shape := ⟨2, ![2048, 1024]⟩
abbrev S8x256x8x2x64 : Shape := ⟨5, ![8, 256, 8, 2, 64]⟩
abbrev S8x4352x8x2x64 : Shape := ⟨5, ![8, 4352, 8, 2, 64]⟩
abbrev S8x4096x8x128 : Shape := ⟨4, ![8, 4096, 8, 128]⟩
abbrev S8x256x8x128 : Shape := ⟨4, ![8, 256, 8, 128]⟩
abbrev S8x4352x8x128 : Shape := ⟨4, ![8, 4352, 8, 128]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S34816x1024, .f32⟩
  | .hbm, ⟨2, _⟩ => ⟨S34816x1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32768x1024, .f32⟩
  | .hbm, ⟨20, _⟩ => ⟨S8x4096x8x2x64, .f32⟩
  | .hbm, ⟨21, _⟩ => ⟨S32768x1024, .f32⟩
  | .hbm, ⟨22, _⟩ => ⟨S8x4096x8x2x64, .f32⟩
  | .hbm, ⟨23, _⟩ => ⟨S2048x1024, .f32⟩
  | .hbm, ⟨24, _⟩ => ⟨S8x256x8x2x64, .f32⟩
  | .hbm, ⟨25, _⟩ => ⟨S8x4352x8x2x64, .f32⟩
  | .hbm, ⟨26, _⟩ => ⟨S32768x1024, .f32⟩
  | .hbm, ⟨27, _⟩ => ⟨S8x4096x8x128, .f32⟩
  | .hbm, ⟨28, _⟩ => ⟨S2048x1024, .f32⟩
  | .hbm, ⟨29, _⟩ => ⟨S8x256x8x128, .f32⟩
  | .hbm, ⟨30, _⟩ => ⟨S8x4352x8x128, .f32⟩
  | .hbm, ⟨31, _⟩ => ⟨S8x8x2x4096x4352, .f32⟩
  | .hbm, ⟨32, _⟩ => ⟨S_, .f32⟩
  | .hbm, ⟨33, _⟩ => ⟨S8x8x2x4096x4352, .f32⟩
  | .hbm, ⟨34, _⟩ => ⟨S8x8x2x4096x4352, .f32⟩
  | .hbm, ⟨35, _⟩ => ⟨S_, .f32⟩
  | .hbm, ⟨36, _⟩ => ⟨S8x8x2x4096, .f32⟩
  | .hbm, ⟨37, _⟩ => ⟨S_, .f32⟩
  | .hbm, ⟨38, _⟩ => ⟨S8x8x2x4096, .f32⟩
  | .hbm, ⟨39, _⟩ => ⟨S8x8x2x4096, .f32⟩
  | .hbm, ⟨40, _⟩ => ⟨S8x8x2x4096x1, .f32⟩
  | .hbm, ⟨41, _⟩ => ⟨S8x8x2x4096x4352, .f32⟩
  | .hbm, ⟨42, _⟩ => ⟨S8x8x2x4096x4352, .f32⟩
  | .hbm, ⟨43, _⟩ => ⟨S8x8x2x4096x4352, .f32⟩
  | .hbm, ⟨44, _⟩ => ⟨S_, .f32⟩
  | .hbm, ⟨45, _⟩ => ⟨S8x8x2x4096, .f32⟩
  | .hbm, ⟨46, _⟩ => ⟨S8x8x2x4096x1, .f32⟩
  | .hbm, ⟨47, _⟩ => ⟨S8x8x2x4096x4352, .f32⟩
  | .hbm, ⟨48, _⟩ => ⟨S8x8x2x4096x4352, .f32⟩
  | .hbm, ⟨49, _⟩ => ⟨S8x8x1x4096x4352, .f32⟩
  | .hbm, ⟨50, _⟩ => ⟨S8x8x4096x4352, .f32⟩
  | .hbm, ⟨51, _⟩ => ⟨S8x8x1x4096x4352, .f32⟩
  | .hbm, ⟨52, _⟩ => ⟨S8x8x4096x4352, .f32⟩
  | .hbm, ⟨53, _⟩ => ⟨S8x8x4096x4352, .f32⟩
  | .hbm, ⟨54, _⟩ => ⟨S8x8x4096x4352, .f32⟩
  | .hbm, ⟨55, _⟩ => ⟨S8x8x4096x4352, .f32⟩
  | .hbm, ⟨56, _⟩ => ⟨S8x8x128x4096, .f32⟩
  | .hbm, ⟨57, _⟩ => ⟨S8x4096x8x128, .f32⟩
  | .hbm, ⟨58, _⟩ => ⟨S8x4096x8x128, .f32⟩
  | .hbm, ⟨59, _⟩ => ⟨S_, .f32⟩
  | .hbm, ⟨60, _⟩ => ⟨S8x4096x8, .f32⟩
  | .hbm, ⟨61, _⟩ => ⟨S8x4096x8x1, .f32⟩
  | .hbm, ⟨62, _⟩ => ⟨S_, .f32⟩
  | .hbm, ⟨63, _⟩ => ⟨S8x4096x8x1, .f32⟩
  | .hbm, ⟨64, _⟩ => ⟨S8x4096x8x1, .f32⟩
  | .hbm, ⟨65, _⟩ => ⟨S_, .f32⟩
  | .hbm, ⟨66, _⟩ => ⟨S8x4096x8x1, .f32⟩
  | .hbm, ⟨67, _⟩ => ⟨S8x4096x8x1, .f32⟩
  | .hbm, ⟨68, _⟩ => ⟨S8x4096x8x1, .f32⟩
  | .hbm, ⟨69, _⟩ => ⟨S8x4096x8x128, .f32⟩
  | .hbm, ⟨70, _⟩ => ⟨S8x4096x8x128, .f32⟩
  | .hbm, ⟨71, _⟩ => ⟨S1x1x1x128, .f32⟩
  | .hbm, ⟨72, _⟩ => ⟨S8x4096x8x128, .f32⟩
  | .hbm, ⟨73, _⟩ => ⟨S8x4096x8x128, .f32⟩
  | .hbm, ⟨74, _⟩ => ⟨S_, .f32⟩
  | .hbm, ⟨75, _⟩ => ⟨S8x4096x8x128, .f32⟩
  | .hbm, ⟨76, _⟩ => ⟨S8x4096x8x128, .f32⟩
  | .hbm, ⟨77, _⟩ => ⟨S32768x1024, .f32⟩
  | .hbm, ⟨78, _⟩ => ⟨S32768x1024, .bf16⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== ProjIn.lean ====
abbrev S34816x1024 : Shape := ⟨2, ![34816, 1024]⟩
abbrev S16x1x6144 : Shape := ⟨3, ![16, 1, 6144]⟩
abbrev S1024 : Shape := ⟨1, ![1024]⟩
abbrev S1024x3072 : Shape := ⟨2, ![1024, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S512x128 : Shape := ⟨2, ![512, 128]⟩
abbrev S4608x128 : Shape := ⟨2, ![4608, 128]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S128x1 : Shape := ⟨2, ![128, 1]⟩
abbrev S128x128 : Shape := ⟨2, ![128, 128]⟩
abbrev S34816x2048 : Shape := ⟨2, ![34816, 2048]⟩
abbrev S512x1024 : Shape := ⟨2, ![512, 1024]⟩
abbrev S1x1x6144 : Shape := ⟨3, ![1, 1, 6144]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩
abbrev S1x1x1024 : Shape := ⟨3, ![1, 1, 1024]⟩
abbrev S1024x256 : Shape := ⟨2, ![1024, 256]⟩
abbrev S512x256 : Shape := ⟨2, ![512, 256]⟩

abbrev nBuf : Space → Nat
  | .hbm => 82
  | .vmem => 19
  | .smem => 0
  | _ => 0

abbrev bufTy : (tb : Table) → Fin (tcTables nBuf tb) → BufTy
  | .hbm, ⟨0, _⟩ => ⟨S34816x1024, .f32⟩
  | .hbm, ⟨1, _⟩ => ⟨S16x1x6144, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S4096, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S4096, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x1, .f32⟩
  | .hbm, ⟨27, _⟩ => ⟨S1x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x64, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x64, .f32⟩
  | .hbm, ⟨41, _⟩ => ⟨S1x4096x1x64, .f32⟩
  | .hbm, ⟨42, _⟩ => ⟨S1x4096x2x64, .f32⟩
  | .hbm, ⟨43, _⟩ => ⟨S4096x128, .f32⟩
  | .hbm, ⟨44, _⟩ => ⟨S_, .f32⟩
  | .hbm, ⟨45, _⟩ => ⟨S512x128, .f32⟩
  | .hbm, ⟨46, _⟩ => ⟨S4608x128, .f32⟩
  | .hbm, ⟨47, _⟩ => ⟨S1x4096x1x64, .f32⟩
  | .hbm, ⟨48, _⟩ => ⟨S1x4096x2x64, .f32⟩
  | .hbm, ⟨49, _⟩ => ⟨S4096x128, .f32⟩
  | .hbm, ⟨50, _⟩ => ⟨S_, .f32⟩
  | .hbm, ⟨51, _⟩ => ⟨S512x128, .f32⟩
  | .hbm, ⟨52, _⟩ => ⟨S4608x128, .f32⟩
  | .hbm, ⟨53, _⟩ => ⟨S1x64, .f32⟩
  | .hbm, ⟨54, _⟩ => ⟨S2x64, .f32⟩
  | .hbm, ⟨55, _⟩ => ⟨S128, .f32⟩
  | .hbm, ⟨56, _⟩ => ⟨S1x64, .f32⟩
  | .hbm, ⟨57, _⟩ => ⟨S2x64, .f32⟩
  | .hbm, ⟨58, _⟩ => ⟨S128, .f32⟩
  | .hbm, ⟨59, _⟩ => ⟨S1x128, .f32⟩
  | .hbm, ⟨60, _⟩ => ⟨S1x128, .f32⟩
  | .hbm, ⟨61, _⟩ => ⟨S2x128, .f32⟩
  | .hbm, ⟨62, _⟩ => ⟨S1024x3072, .bf16⟩
  | .hbm, ⟨63, _⟩ => ⟨S1x1024, .f32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S128x1, .i1⟩
  | .hbm, ⟨69, _⟩ => ⟨S1x128, .i1⟩
  | .hbm, ⟨70, _⟩ => ⟨S128x128, .i1⟩
  | .hbm, ⟨71, _⟩ => ⟨S128x128, .i1⟩
  | .hbm, ⟨72, _⟩ => ⟨S128x128, .i1⟩
  | .hbm, ⟨73, _⟩ => ⟨S_, .f32⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x128, .bf16⟩
  | .hbm, ⟨79, _⟩ => ⟨S34816x1024, .bf16⟩
  | .hbm, ⟨80, _⟩ => ⟨S34816x1024, .bf16⟩
  | .hbm, ⟨81, _⟩ => ⟨S34816x2048, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3072, .bf16⟩
  | .local _ .vmem, ⟨6, _⟩ => ⟨S128x128, .bf16⟩
  | .local _ .vmem, ⟨7, _⟩ => ⟨S2x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S512x3072, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_c : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_3 : Ref sig .tc := ⟨.hbm, 73, rfl⟩
abbrev main_cst_4 : Ref sig .tc := ⟨.hbm, 74, rfl⟩
abbrev main_call0_v0 : Ref sig .tc := ⟨.hbm, 75, rfl⟩
abbrev main_call0_v1 : Ref sig .tc := ⟨.hbm, 76, rfl⟩
abbrev main_v62 : Ref sig .tc := ⟨.hbm, 77, rfl⟩
abbrev main_v63 : Ref sig .tc := ⟨.hbm, 78, rfl⟩
abbrev main_v64_0 : Ref sig .tc := ⟨.hbm, 79, rfl⟩
abbrev main_v64_1 : Ref sig .tc := ⟨.hbm, 80, rfl⟩
abbrev main_v64_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![68], ![false]⟩

def k0_cond2 (i : grid0.Coords) : BitVec 1 :=
  let arg0 : BitVec 32 := BitVec.ofNat 32 (i 0).val
  let c68_i32 : BitVec 32 := 68#32
  let v0 : BitVec 1 := Scalar.cmpi .slt arg0 c68_i32
  let v3 : BitVec 32 := Scalar.extui v0
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.select v0 v17 c8_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjInIdeal.lean ====
variable {F : FTy → Type} [FloatOps F] [Named F]
def κ : String → Option EReal := fun
  | "q_scale" => some (((1 / 8) * (Real.log 2)⁻¹ : ℝ) : EReal)
  | _ => none
-- ==== ProjInRefIdeal.lean ====
abbrev S34816x1024 : Shape := ⟨2, ![34816, 1024]⟩
abbrev S16x1x6144 : Shape := ⟨3, ![16, 1, 6144]⟩
abbrev S1024 : Shape := ⟨1, ![1024]⟩
abbrev S1024x3072 : Shape := ⟨2, ![1024, 3072]⟩
abbrev S64 : Shape := ⟨1, ![64]⟩
abbrev S8x1x1024 : Shape := ⟨3, ![8, 1, 1024]⟩
abbrev S1x1x1024 : Shape := ⟨3, ![1, 1, 1024]⟩
abbrev S32768x1024 : Shape := ⟨2, ![32768, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S2048x1024 : Shape := ⟨2, ![2048, 1024]⟩
abbrev S8x256x1024 : Shape := ⟨3, ![8, 256, 1024]⟩
abbrev S8x256 : Shape := ⟨2, ![8, 256]⟩
abbrev S8x256x1 : Shape := ⟨3, ![8, 256, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S8x4096x3072 : Shape := ⟨3, ![8, 4096, 3072]⟩
abbrev S8x4096x8x2x64 : Shape := ⟨5, ![8, 4096, 8, 2, 64]⟩
abbrev S8x4096x8x2 : Shape := ⟨4, ![8, 4096, 8, 2]⟩
abbrev S8x4096x8x2x1 : Shape := ⟨5, ![8, 4096, 8, 2, 1]⟩
abbrev S1x1x1x1x64 : Shape := ⟨5, ![1, 1, 1, 1, 64]⟩
abbrev S8x4096x8x128 : Shape := ⟨4, ![8, 4096, 8, 128]⟩
abbrev S8x4096x16x2x2x16 : Shape := ⟨6, ![8, 4096, 16, 2, 2, 16]⟩
abbrev S8x4096x16x2x1x16 : Shape := ⟨6, ![8, 4096, 16, 2, 1, 16]⟩
abbrev S8x4096x16x2x16 : Shape := ⟨5, ![8, 4096, 16, 2, 16]⟩
abbrev S1x4096x1x2x16 : Shape := ⟨5, ![1, 4096, 1, 2, 16]⟩
abbrev S8x256x3072 : Shape := ⟨3, ![8, 256, 3072]⟩
abbrev S8x256x8x2x64 : Shape := ⟨5, ![8, 256, 8, 2, 64]⟩
abbrev S8x256x8x2 : Shape := ⟨4, ![8, 256, 8, 2]⟩
abbrev S8x256x8x2x1 : Shape := ⟨5, ![8, 256, 8, 2, 1]⟩
abbrev S8x256x8x128 : Shape := ⟨4, ![8, 256, 8, 128]⟩
abbrev S34816x8x128 : Shape := ⟨3, ![34816, 8, 128]⟩
abbrev S34816x8x256 : Shape := ⟨3, ![34816, 8, 256]⟩
abbrev S34816x2048 : Shape := ⟨2, ![34816, 2048]⟩

abbrev nBuf : Space → Nat
  | .hbm => 238
  | .vmem => 0
  | .smem => 0
  | _ => 0

abbrev hbmTy0_0 (i : Nat) : BufTy := match i % 128 with
  | 0 => ⟨S34816x1024, .f32⟩
  | 1 => ⟨S16x1x6144, .f32⟩
  | 2 => ⟨S1024, .f32⟩
  | 3 => ⟨S1024x3072, .f32⟩
  | 4 => ⟨S64, .f32⟩
  | 5 => ⟨S64, .f32⟩
  | 6 => ⟨S8x1x1024, .f32⟩
  | 7 => ⟨S8x1x1024, .f32⟩
  | 8 => ⟨S1x1x1024, .f32⟩
  | 9 => ⟨S1024, .f32⟩
  | 10 => ⟨S1x1x1024, .f32⟩
  | 11 => ⟨S1024, .f32⟩
  | 12 => ⟨S32768x1024, .f32⟩
  | 13 => ⟨S8x4096x1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S_, .f32⟩
  | 31 => ⟨S8x1x1024, .f32⟩
  | 32 => ⟨S8x1x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S2048x1024, .f32⟩
  | 38 => ⟨S8x256x1024, .f32⟩
  | 39 => ⟨S8x256x1024, .f32⟩
  | 40 => ⟨S_, .f32⟩
  | 41 => ⟨S8x256, .f32⟩
  | 42 => ⟨S8x256x1, .f32⟩
  | 43 => ⟨S_, .f32⟩
  | 44 => ⟨S8x256x1, .f32⟩
  | 45 => ⟨S8x256x1, .f32⟩
  | 46 => ⟨S_, .f32⟩
  | 47 => ⟨S8x256x1, .f32⟩
  | 48 => ⟨S8x256x1, .f32⟩
  | 49 => ⟨S8x256x1, .f32⟩
  | 50 => ⟨S8x256x1024, .f32⟩
  | 51 => ⟨S8x256x1024, .f32⟩
  | 52 => ⟨S1x1x1024, .f32⟩
  | 53 => ⟨S8x256x1024, .f32⟩
  | 54 => ⟨S8x256x1024, .f32⟩
  | 55 => ⟨S_, .f32⟩
  | 56 => ⟨S1024, .f32⟩
  | 57 => ⟨S1024, .f32⟩
  | 58 => ⟨S1x1x1024, .f32⟩
  | 59 => ⟨S8x256x1024, .f32⟩
  | 60 => ⟨S8x256x1024, .f32⟩
  | 61 => ⟨S1x1x1024, .f32⟩
  | 62 => ⟨S8x256x1024, .f32⟩
  | 63 => ⟨S8x256x1024, .f32⟩
  | 64 => ⟨S64, .f32⟩
  | 65 => ⟨S64x64, .f32⟩
  | 66 => ⟨S4096, .f32⟩
  | 67 => ⟨S64, .f32⟩
  | 68 => ⟨S1x64, .f32⟩
  | 69 => ⟨S64x64, .f32⟩
  | 70 => ⟨S4096, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S4096x1, .f32⟩
  | 80 => ⟨S1x16, .f32⟩
  | 81 => ⟨S4096x16, .f32⟩
  | 82 => ⟨S4096x16, .f32⟩
  | 83 => ⟨S4096x16, .f32⟩
  | 84 => ⟨S4096x1, .f32⟩
  | 85 => ⟨S1x16, .f32⟩
  | 86 => ⟨S4096x16, .f32⟩
  | 87 => ⟨S4096x16, .f32⟩
  | 88 => ⟨S4096x16, .f32⟩
  | 89 => ⟨S4096x1x16, .f32⟩
  | 90 => ⟨S4096x1x16, .f32⟩
  | 91 => ⟨S4096x2x16, .f32⟩
  | 92 => ⟨S4096x2x16, .f32⟩
  | 93 => ⟨S4096x2x16, .f32⟩
  | 94 => ⟨S8x4096x3072, .f32⟩
  | 95 => ⟨S8x4096x1024, .f32⟩
  | 96 => ⟨S8x4096x1024, .f32⟩
  | 97 => ⟨S8x4096x1024, .f32⟩
  | 98 => ⟨S8x4096x8x2x64, .f32⟩
  | 99 => ⟨S8x4096x8x2x64, .f32⟩
  | 100 => ⟨S_, .f32⟩
  | 101 => ⟨S8x4096x8x2, .f32⟩
  | 102 => ⟨S8x4096x8x2x1, .f32⟩
  | 103 => ⟨S_, .f32⟩
  | 104 => ⟨S8x4096x8x2x1, .f32⟩
  | 105 => ⟨S8x4096x8x2x1, .f32⟩
  | 106 => ⟨S_, .f32⟩
  | 107 => ⟨S8x4096x8x2x1, .f32⟩
  | 108 => ⟨S8x4096x8x2x1, .f32⟩
  | 109 => ⟨S8x4096x8x2x1, .f32⟩
  | 110 => ⟨S8x4096x8x2x64, .f32⟩
  | 111 => ⟨S8x4096x8x2x64, .f32⟩
  | 112 => ⟨S1x1x1x1x64, .f32⟩
  | 113 => ⟨S8x4096x8x2x64, .f32⟩
  | 114 => ⟨S8x4096x8x2x64, .f32⟩
  | 115 => ⟨S8x4096x8x2x64, .f32⟩
  | 116 => ⟨S8x4096x8x2x64, .f32⟩
  | 117 => ⟨S_, .f32⟩
  | 118 => ⟨S8x4096x8x2, .f32⟩
  | 119 => ⟨S8x4096x8x2x1, .f32⟩
  | 120 => ⟨S_, .f32⟩
  | 121 => ⟨S8x4096x8x2x1, .f32⟩
  | 122 => ⟨S8x4096x8x2x1, .f32⟩
  | 123 => ⟨S_, .f32⟩
  | 124 => ⟨S8x4096x8x2x1, .f32⟩
  | 125 => ⟨S8x4096x8x2x1, .f32⟩
  | 126 => ⟨S8x4096x8x2x1, .f32⟩
  | 127 => ⟨S8x4096x8x2x64, .f32⟩
  | _ => ⟨S34816x1024, .f32⟩

abbrev hbmTy0_1 (i : Nat) : BufTy := match i % 128 with
  | 0 => ⟨S8x4096x8x2x64, .f32⟩
  | 1 => ⟨S1x1x1x1x64, .f32⟩
  | 2 => ⟨S8x4096x8x2x64, .f32⟩
  | 3 => ⟨S8x4096x8x2x64, .f32⟩
  | 4 => ⟨S8x4096x8x128, .f32⟩
  | 5 => ⟨S8x4096x16x2x2x16, .f32⟩
  | 6 => ⟨S8x4096x16x2x1x16, .f32⟩
  | 7 => ⟨S8x4096x16x2x16, .f32⟩
  | 8 => ⟨S8x4096x16x2x1x16, .f32⟩
  | 9 => ⟨S8x4096x16x2x16, .f32⟩
  | 10 => ⟨S1x4096x1x2x16, .f32⟩
  | 11 => ⟨S1x4096x1x2x16, .f32⟩
  | 12 => ⟨S8x4096x16x2x16, .f32⟩
  | 13 => ⟨S8x4096x16x2x16, .f32⟩
  | 14 => ⟨S8x4096x16x2x16, .f32⟩
  | 15 => ⟨S8x4096x16x2x16, .f32⟩
  | 16 => ⟨S8x4096x16x2x16, .f32⟩
  | 17 => ⟨S8x4096x16x2x16, .f32⟩
  | 18 => ⟨S8x4096x16x2x16, .f32⟩
  | 19 => ⟨S8x4096x16x2x16, .f32⟩
  | 20 => ⟨S8x4096x16x2x16, .f32⟩
  | 21 => ⟨S8x4096x16x2x16, .f32⟩
  | 22 => ⟨S8x4096x16x2x1x16, .f32⟩
  | 23 => ⟨S8x4096x16x2x1x16, .f32⟩
  | 24 => ⟨S8x4096x16x2x2x16, .f32⟩
  | 25 => ⟨S8x4096x8x2x64, .f32⟩
  | 26 => ⟨S8x4096x16x2x2x16, .f32⟩
  | 27 => ⟨S8x4096x16x2x1x16, .f32⟩
  | 28 => ⟨S8x4096x16x2x16, .f32⟩
  | 29 => ⟨S8x4096x16x2x1x16, .f32⟩
  | 30 => ⟨S8x4096x16x2x16, .f32⟩
  | 31 => ⟨S1x4096x1x2x16, .f32⟩
  | 32 => ⟨S1x4096x1x2x16, .f32⟩
  | 33 => ⟨S8x4096x16x2x16, .f32⟩
  | 34 => ⟨S8x4096x16x2x16, .f32⟩
  | 35 => ⟨S8x4096x16x2x16, .f32⟩
  | 36 => ⟨S8x4096x16x2x16, .f32⟩
  | 37 => ⟨S8x4096x16x2x16, .f32⟩
  | 38 => ⟨S8x4096x16x2x16, .f32⟩
  | 39 => ⟨S8x4096x16x2x16, .f32⟩
  | 40 => ⟨S8x4096x16x2x16, .f32⟩
  | 41 => ⟨S8x4096x16x2x16, .f32⟩
  | 42 => ⟨S8x4096x16x2x16, .f32⟩
  | 43 => ⟨S8x4096x16x2x1x16, .f32⟩
  | 44 => ⟨S8x4096x16x2x1x16, .f32⟩
  | 45 => ⟨S8x4096x16x2x2x16, .f32⟩
  | 46 => ⟨S8x4096x8x2x64, .f32⟩
  | 47 => ⟨S8x256x3072, .f32⟩
  | 48 => ⟨S8x256x1024, .f32⟩
  | 49 => ⟨S8x256x1024, .f32⟩
  | 50 => ⟨S8x256x1024, .f32⟩
  | 51 => ⟨S8x256x8x2x64, .f32⟩
  | 52 => ⟨S8x256x8x2x64, .f32⟩
  | 53 => ⟨S_, .f32⟩
  | 54 => ⟨S8x256x8x2, .f32⟩
  | 55 => ⟨S8x256x8x2x1, .f32⟩
  | 56 => ⟨S_, .f32⟩
  | 57 => ⟨S8x256x8x2x1, .f32⟩
  | 58 => ⟨S8x256x8x2x1, .f32⟩
  | 59 => ⟨S_, .f32⟩
  | 60 => ⟨S8x256x8x2x1, .f32⟩
  | 61 => ⟨S8x256x8x2x1, .f32⟩
  | 62 => ⟨S8x256x8x2x1, .f32⟩
  | 63 => ⟨S8x256x8x2x64, .f32⟩
  | 64 => ⟨S8x256x8x2x64, .f32⟩
  | 65 => ⟨S1x1x1x1x64, .f32⟩
  | 66 => ⟨S8x256x8x2x64, .f32⟩
  | 67 => ⟨S8x256x8x2x64, .f32⟩
  | 68 => ⟨S8x256x8x2x64, .f32⟩
  | 69 => ⟨S8x256x8x2x64, .f32⟩
  | 70 => ⟨S_, .f32⟩
  | 71 => ⟨S8x256x8x2, .f32⟩
  | 72 => ⟨S8x256x8x2x1, .f32⟩
  | 73 => ⟨S_, .f32⟩
  | 74 => ⟨S8x256x8x2x1, .f32⟩
  | 75 => ⟨S8x256x8x2x1, .f32⟩
  | 76 => ⟨S_, .f32⟩
  | 77 => ⟨S8x256x8x2x1, .f32⟩
  | 78 => ⟨S8x256x8x2x1, .f32⟩
  | 79 => ⟨S8x256x8x2x1, .f32⟩
  | 80 => ⟨S8x256x8x2x64, .f32⟩
  | 81 => ⟨S8x256x8x2x64, .f32⟩
  | 82 => ⟨S1x1x1x1x64, .f32⟩
  | 83 => ⟨S8x256x8x2x64, .f32⟩
  | 84 => ⟨S8x256x8x2x64, .f32⟩
  | 85 => ⟨S8x256x8x128, .f32⟩
  | 86 => ⟨S32768x1024, .f32⟩
  | 87 => ⟨S2048x1024, .f32⟩
  | 88 => ⟨S34816x1024, .f32⟩
  | 89 => ⟨S_, .f32⟩
  | 90 => ⟨S34816x1024, .f32⟩
  | 91 => ⟨S34816x1024, .f32⟩
  | 92 => ⟨S_, .f32⟩
  | 93 => ⟨S_, .f32⟩
  | 94 => ⟨S34816x1024, .f32⟩
  | 95 => ⟨S34816x1024, .f32⟩
  | 96 => ⟨S32768x1024, .f32⟩
  | 97 => ⟨S2048x1024, .f32⟩
  | 98 => ⟨S34816x1024, .f32⟩
  | 99 => ⟨S34816x8x128, .f32⟩
  | 100 => ⟨S_, .f32⟩
  | 101 => ⟨S34816x8x128, .f32⟩
  | 102 => ⟨S34816x8x256, .f32⟩
  | 103 => ⟨S34816x2048, .f32⟩
  | 104 => ⟨S34816x1024, .bf16⟩
  | 105 => ⟨S32768x1024, .f32⟩
  | 106 => ⟨S2048x1024, .f32⟩
  | 107 => ⟨S34816x1024, .f32⟩
  | 108 => ⟨S34816x1024, .bf16⟩
  | 109 => ⟨S34816x2048, .bf16⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_9 : Ref sig .tc := ⟨.hbm, 100, rfl⟩
abbrev main_v84 : Ref sig .tc := ⟨.hbm, 101, rfl⟩
abbrev main_v85 : Ref sig .tc := ⟨.hbm, 102, rfl⟩
abbrev main_cst_10 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_12 : Ref sig .tc := ⟨.hbm, 117, rfl⟩
abbrev main_v98 : Ref sig .tc := ⟨.hbm, 118, rfl⟩
abbrev main_v99 : Ref sig .tc := ⟨.hbm, 119, rfl⟩
abbrev main_cst_13 : Ref sig .tc := ⟨.hbm, 120, rfl⟩
abbrev main_v100 : Ref sig .tc := ⟨.hbm, 121, rfl⟩
abbrev main_v101 : Ref sig .tc := ⟨.hbm, 122, rfl⟩
abbrev main_cst_14 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_cst_15 : Ref sig .tc := ⟨.hbm, 181, rfl⟩
abbrev main_v159 : Ref sig .tc := ⟨.hbm, 182, rfl⟩
abbrev main_v160 : Ref sig .tc := ⟨.hbm, 183, rfl⟩
abbrev main_cst_16 : Ref sig .tc := ⟨.hbm, 184, rfl⟩
abbrev main_v161 : Ref sig .tc := ⟨.hbm, 185, rfl⟩
abbrev main_v162 : Ref sig .tc := ⟨.hbm, 186, rfl⟩
abbrev main_cst_17 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_cst_18 : Ref sig .tc := ⟨.hbm, 198, rfl⟩
abbrev main_v173 : Ref sig .tc := ⟨.hbm, 199, rfl⟩
abbrev main_v174 : Ref sig .tc := ⟨.hbm, 200, rfl⟩
abbrev main_cst_19 : Ref sig .tc := ⟨.hbm, 201, rfl⟩
abbrev main_v175 : Ref sig .tc := ⟨.hbm, 202, rfl⟩
abbrev main_v176 : Ref sig .tc := ⟨.hbm, 203, rfl⟩
abbrev main_cst_20 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_cst_21 : Ref sig .tc := ⟨.hbm, 217, rfl⟩
abbrev main_v189 : Ref sig .tc := ⟨.hbm, 218, rfl⟩
abbrev main_v190 : Ref sig .tc := ⟨.hbm, 219, rfl⟩
abbrev main_cst_22 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_cst_23 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩

abbrev nD : Nat := 1
abbrev τ : Topo := Topo.v7x

variable {F : FTy → Type} [FloatOps F]
-- ==== ProjOut.lean ====
abbrev S32768x1024 : Shape := ⟨2, ![32768, 1024]⟩
abbrev S2048x1024 : Shape := ⟨2, ![2048, 1024]⟩
abbrev S1024x1024 : Shape := ⟨2, ![1024, 1024]⟩
abbrev S34816x1024 : Shape := ⟨2, ![34816, 1024]⟩
abbrev S16x1x6144 : Shape := ⟨3, ![16, 1, 6144]⟩
abbrev S1024 : Shape := ⟨1, ![1024]⟩
abbrev S1x1024 : Shape := ⟨2, ![1, 1024]⟩
abbrev S278528x128 : Shape := ⟨2, ![278528, 128]⟩
abbrev S256x1024 : Shape := ⟨2, ![256, 1024]⟩
abbrev S1x1x6144 : Shape := ⟨3, ![1, 1, 6144]⟩
abbrev S2048x128 : Shape := ⟨2, ![2048, 128]⟩
abbrev S1x1x1024 : Shape := ⟨3, ![1, 1, 1024]⟩
abbrev S256 : Shape := ⟨1, ![256]⟩
abbrev S256x1 : Shape := ⟨2, ![256, 1]⟩
abbrev S256x128 : Shape := ⟨2, ![256, 128]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S2048x1024, .bf16⟩
  | .hbm, ⟨2, _⟩ => ⟨S1024x1024, .f32⟩
  | .hbm, ⟨3, _⟩ => ⟨S34816x1024, .f32⟩
  | .hbm, ⟨4, _⟩ => ⟨S16x1x6144, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S34816x1024, .f32⟩
  | .hbm, ⟨9, _⟩ => ⟨S278528x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S1x1x6144, .f32⟩
  | .local _ .vmem, ⟨8, _⟩ => ⟨S1x1x6144, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S2048x128, .f32⟩
  | .local _ .vmem, ⟨13, _⟩ => ⟨S2048x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![136], ![false]⟩

def k0_cond1 (i : grid0.Coords) : BitVec 1 :=
  let arg0 : BitVec 32 := BitVec.ofNat 32 (i 0).val
  let c128_i32 : BitVec 32 := 128#32
  let v0 : BitVec 1 := Scalar.cmpi .slt arg0 c128_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c128_i32_0 : BitVec 32 := 128#32
  let v3 : BitVec 1 := Scalar.cmpi .sge arg0 c128_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.maxsi arg0 c128_i32
  let c128_i32_0 : BitVec 32 := 128#32
  let v1 : BitVec 32 := Scalar.subi v0 c128_i32_0
  let c0_i32 : BitVec 32 := 0#32
  let v2 : BitVec 32 := Scalar.addi v1 c0_i32
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjOutRefIdeal.lean ====
abbrev S32768x1024 : Shape := ⟨2, ![32768, 1024]⟩
abbrev S2048x1024 : Shape := ⟨2, ![2048, 1024]⟩
abbrev S1024x1024 : Shape := ⟨2, ![1024, 1024]⟩
abbrev S34816x1024 : Shape := ⟨2, ![34816, 1024]⟩
abbrev S16x1x6144 : Shape := ⟨3, ![16, 1, 6144]⟩
abbrev S1024 : Shape := ⟨1, ![1024]⟩
abbrev S8x1x1024 : Shape := ⟨3, ![8, 1, 1024]⟩
abbrev S1x1x1024 : Shape := ⟨3, ![1, 1, 1024]⟩
abbrev S8x4096x1024 : Shape := ⟨3, ![8, 4096, 1024]⟩
abbrev S8x256x1024 : Shape := ⟨3, ![8, 256, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S278528x128 : Shape := ⟨2, ![278528, 128]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S2048x1024, .bf16⟩
  | .hbm, ⟨2, _⟩ => ⟨S1024x1024, .f32⟩
  | .hbm, ⟨3, _⟩ => ⟨S34816x1024, .f32⟩
  | .hbm, ⟨4, _⟩ => ⟨S16x1x6144, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1x1x1024, .f32⟩
  | .hbm, ⟨10, _⟩ => ⟨S1024, .f32⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S32768x1024, .f32⟩
  | .hbm, ⟨16, _⟩ => ⟨S8x4096x1024, .f32⟩
  | .hbm, ⟨17, _⟩ => ⟨S8x4096x1024, .f32⟩
  | .hbm, ⟨18, _⟩ => ⟨S2048x1024, .f32⟩
  | .hbm, ⟨19, _⟩ => ⟨S8x256x1024, .f32⟩
  | .hbm, ⟨20, _⟩ => ⟨S8x256x1024, .f32⟩
  | .hbm, ⟨21, _⟩ => ⟨S32768x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S2048x1024, .f32⟩
  | .hbm, ⟨27, _⟩ => ⟨S8x256x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S8x256x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x1x1024, .f32⟩
  | .hbm, ⟨50, _⟩ => ⟨S8x1x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x256x1024, .f32⟩
  | .hbm, ⟨56, _⟩ => ⟨S_, .f32⟩
  | .hbm, ⟨57, _⟩ => ⟨S8x256, .f32⟩
  | .hbm, ⟨58, _⟩ => ⟨S8x256x1, .f32⟩
  | .hbm, ⟨59, _⟩ => ⟨S_, .f32⟩
  | .hbm, ⟨60, _⟩ => ⟨S8x256x1, .f32⟩
  | .hbm, ⟨61, _⟩ => ⟨S8x256x1, .f32⟩
  | .hbm, ⟨62, _⟩ => ⟨S_, .f32⟩
  | .hbm, ⟨63, _⟩ => ⟨S8x256x1, .f32⟩
  | .hbm, ⟨64, _⟩ => ⟨S8x256x1, .f32⟩
  | .hbm, ⟨65, _⟩ => ⟨S8x256x1, .f32⟩
  | .hbm, ⟨66, _⟩ => ⟨S8x256x1024, .f32⟩
  | .hbm, ⟨67, _⟩ => ⟨S8x256x1024, .f32⟩
  | .hbm, ⟨68, _⟩ => ⟨S1x1x1024, .f32⟩
  | .hbm, ⟨69, _⟩ => ⟨S8x256x1024, .f32⟩
  | .hbm, ⟨70, _⟩ => ⟨S8x256x1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1x1x1024, .f32⟩
  | .hbm, ⟨75, _⟩ => ⟨S8x256x1024, .f32⟩
  | .hbm, ⟨76, _⟩ => ⟨S8x256x1024, .f32⟩
  | .hbm, ⟨77, _⟩ => ⟨S1x1x1024, .f32⟩
  | .hbm, ⟨78, _⟩ => ⟨S8x256x1024, .f32⟩
  | .hbm, ⟨79, _⟩ => ⟨S8x256x1024, .f32⟩
  | .hbm, ⟨80, _⟩ => ⟨S32768x1024, .f32⟩
  | .hbm, ⟨81, _⟩ => ⟨S2048x1024, .f32⟩
  | .hbm, ⟨82, _⟩ => ⟨S34816x1024, .f32⟩
  | .hbm, ⟨83, _⟩ => ⟨S32768x1024, .f32⟩
  | .hbm, ⟨84, _⟩ => ⟨S2048x1024, .f32⟩
  | .hbm, ⟨85, _⟩ => ⟨S34816x1024, .f32⟩
  | .hbm, ⟨86, _⟩ => ⟨S278528x128, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩

abbrev nD : Nat := 1
abbrev τ : Topo := Topo.v7x

variable {F : FTy → Type} [FloatOps F]
-- ==== SwaIn.lean ====
abbrev S34816x1024 : Shape := ⟨2, ![34816, 1024]⟩
abbrev S16x1x6144 : Shape := ⟨3, ![16, 1, 6144]⟩
abbrev S1024 : Shape := ⟨1, ![1024]⟩
abbrev S1024x1536 : Shape := ⟨2, ![1024, 1536]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S512x128 : Shape := ⟨2, ![512, 128]⟩
abbrev S4608x128 : Shape := ⟨2, ![4608, 128]⟩
abbrev S1024x1024 : Shape := ⟨2, ![1024, 1024]⟩
abbrev S1024x16x64 : Shape := ⟨3, ![1024, 16, 64]⟩
abbrev S1024x16x128 : Shape := ⟨3, ![1024, 16, 128]⟩
abbrev S1024x2048 : Shape := ⟨2, ![1024, 2048]⟩
abbrev S1024x256 : Shape := ⟨2, ![1024, 256]⟩
abbrev S1024x4x64 : Shape := ⟨3, ![1024, 4, 64]⟩
abbrev S1024x4x128 : Shape := ⟨3, ![1024, 4, 128]⟩
abbrev S1024x512 : Shape := ⟨2, ![1024, 512]⟩
abbrev S1024x3072 : Shape := ⟨2, ![1024, 3072]⟩
abbrev S128 : Shape := ⟨1, ![128]⟩
abbrev S1x128 : Shape := ⟨2, ![1, 128]⟩
abbrev S2x128 : Shape := ⟨2, ![2, 128]⟩
abbrev S1x1024 : Shape := ⟨2, ![1, 1024]⟩
abbrev S128x1 : Shape := ⟨2, ![128, 1]⟩
abbrev S128x128 : Shape := ⟨2, ![128, 128]⟩
abbrev S34816x2048 : Shape := ⟨2, ![34816, 2048]⟩
abbrev S34816x512 : Shape := ⟨2, ![34816, 512]⟩
abbrev S512x1024 : Shape := ⟨2, ![512, 1024]⟩
abbrev S1x1x6144 : Shape := ⟨3, ![1, 1, 6144]⟩
abbrev S512x2048 : Shape := ⟨2, ![512, 2048]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩
abbrev S1x1x1024 : Shape := ⟨3, ![1, 1, 1024]⟩
abbrev S512x256 : Shape := ⟨2, ![512, 256]⟩

abbrev nBuf : Space → Nat
  | .hbm => 99
  | .vmem => 19
  | .smem => 0
  | _ => 0

abbrev bufTy : (tb : Table) → Fin (tcTables nBuf tb) → BufTy
  | .hbm, ⟨0, _⟩ => ⟨S34816x1024, .f32⟩
  | .hbm, ⟨1, _⟩ => ⟨S16x1x6144, .f32⟩
  | .hbm, ⟨2, _⟩ => ⟨S1024, .f32⟩
  | .hbm, ⟨3, _⟩ => ⟨S1024x1536, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S4096, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S4096, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x1, .f32⟩
  | .hbm, ⟨27, _⟩ => ⟨S1x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x64, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x64, .f32⟩
  | .hbm, ⟨41, _⟩ => ⟨S1x4096x1x64, .f32⟩
  | .hbm, ⟨42, _⟩ => ⟨S1x4096x2x64, .f32⟩
  | .hbm, ⟨43, _⟩ => ⟨S4096x128, .f32⟩
  | .hbm, ⟨44, _⟩ => ⟨S_, .f32⟩
  | .hbm, ⟨45, _⟩ => ⟨S512x128, .f32⟩
  | .hbm, ⟨46, _⟩ => ⟨S4608x128, .f32⟩
  | .hbm, ⟨47, _⟩ => ⟨S1x4096x1x64, .f32⟩
  | .hbm, ⟨48, _⟩ => ⟨S1x4096x2x64, .f32⟩
  | .hbm, ⟨49, _⟩ => ⟨S4096x128, .f32⟩
  | .hbm, ⟨50, _⟩ => ⟨S_, .f32⟩
  | .hbm, ⟨51, _⟩ => ⟨S512x128, .f32⟩
  | .hbm, ⟨52, _⟩ => ⟨S4608x128, .f32⟩
  | .hbm, ⟨53, _⟩ => ⟨S1024x1024, .f32⟩
  | .hbm, ⟨54, _⟩ => ⟨S1024x16x64, .f32⟩
  | .hbm, ⟨55, _⟩ => ⟨S_, .f32⟩
  | .hbm, ⟨56, _⟩ => ⟨S1024x16x64, .f32⟩
  | .hbm, ⟨57, _⟩ => ⟨S1024x16x128, .f32⟩
  | .hbm, ⟨58, _⟩ => ⟨S1024x2048, .f32⟩
  | .hbm, ⟨59, _⟩ => ⟨S1024x256, .f32⟩
  | .hbm, ⟨60, _⟩ => ⟨S1024x4x64, .f32⟩
  | .hbm, ⟨61, _⟩ => ⟨S_, .f32⟩
  | .hbm, ⟨62, _⟩ => ⟨S1024x4x64, .f32⟩
  | .hbm, ⟨63, _⟩ => ⟨S1024x4x128, .f32⟩
  | .hbm, ⟨64, _⟩ => ⟨S1024x512, .f32⟩
  | .hbm, ⟨65, _⟩ => ⟨S1024x256, .f32⟩
  | .hbm, ⟨66, _⟩ => ⟨S1024x4x64, .f32⟩
  | .hbm, ⟨67, _⟩ => ⟨S_, .f32⟩
  | .hbm, ⟨68, _⟩ => ⟨S1024x4x64, .f32⟩
  | .hbm, ⟨69, _⟩ => ⟨S1024x4x128, .f32⟩
  | .hbm, ⟨70, _⟩ => ⟨S1024x512, .f32⟩
  | .hbm, ⟨71, _⟩ => ⟨S1024x3072, .f32⟩
  | .hbm, ⟨72, _⟩ => ⟨S1024x3072, .bf16⟩
  | .hbm, ⟨73, _⟩ => ⟨S_, .f32⟩
  | .hbm, ⟨74, _⟩ => ⟨S64, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S1x128, .f32⟩
  | .hbm, ⟨79, _⟩ => ⟨S2x128, .f32⟩
  | .hbm, ⟨80, _⟩ => ⟨S1x1024, .f32⟩
  | .hbm, ⟨81, _⟩ => ⟨S128, .i32⟩
  | .hbm, ⟨82, _⟩ => ⟨S_, .i32⟩
  | .hbm, ⟨83, _⟩ => ⟨S128, .i32⟩
  | .hbm, ⟨84, _⟩ => ⟨S128, .i1⟩
  | .hbm, ⟨85, _⟩ => ⟨S128x1, .i1⟩
  | .hbm, ⟨86, _⟩ => ⟨S1x128, .i1⟩
  | .hbm, ⟨87, _⟩ => ⟨S128x128, .i1⟩
  | .hbm, ⟨88, _⟩ => ⟨S128x128, .i1⟩
  | .hbm, ⟨89, _⟩ => ⟨S128x128, .i1⟩
  | .hbm, ⟨90, _⟩ => ⟨S_, .f32⟩
  | .hbm, ⟨91, _⟩ => ⟨S_, .f32⟩
  | .hbm, ⟨92, _⟩ => ⟨S128x128, .f32⟩
  | .hbm, ⟨93, _⟩ => ⟨S128x128, .f32⟩
  | .hbm, ⟨94, _⟩ => ⟨S128x128, .f32⟩
  | .hbm, ⟨95, _⟩ => ⟨S128x128, .bf16⟩
  | .hbm, ⟨96, _⟩ => ⟨S34816x2048, .bf16⟩
  | .hbm, ⟨97, _⟩ => ⟨S34816x512, .bf16⟩
  | .hbm, ⟨98, _⟩ => ⟨S34816x512, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3072, .bf16⟩
  | .local _ .vmem, ⟨6, _⟩ => ⟨S128x128, .bf16⟩
  | .local _ .vmem, ⟨7, _⟩ => ⟨S2x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x3072, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_cst_8 : Ref sig .tc := ⟨.hbm, 91, rfl⟩
abbrev main_call0_v0 : Ref sig .tc := ⟨.hbm, 92, rfl⟩
abbrev main_call0_v1 : Ref sig .tc := ⟨.hbm, 93, rfl⟩
abbrev main_v75 : Ref sig .tc := ⟨.hbm, 94, rfl⟩
abbrev main_v76 : Ref sig .tc := ⟨.hbm, 95, rfl⟩
abbrev main_v77_0 : Ref sig .tc := ⟨.hbm, 96, rfl⟩
abbrev main_v77_1 : Ref sig .tc := ⟨.hbm, 97, rfl⟩
abbrev main_v77_2 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![68], ![false]⟩

def k0_cond2 (i : grid0.Coords) : BitVec 1 :=
  let arg0 : BitVec 32 := BitVec.ofNat 32 (i 0).val
  let c68_i32 : BitVec 32 := 68#32
  let v0 : BitVec 1 := Scalar.cmpi .slt arg0 c68_i32
  let v3 : BitVec 32 := Scalar.extui v0
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.select v0 v17 c8_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SwaInIdeal.lean ====
variable {F : FTy → Type} [FloatOps F] [Named F]
def κ : String → Option EReal := fun
  | "q_scale" => some (((1 / 8) * (Real.log 2)⁻¹ : ℝ) : EReal)
  | _ => none
-- ==== SwaInRefIdeal.lean ====
abbrev S34816x1024 : Shape := ⟨2, ![34816, 1024]⟩
abbrev S16x1x6144 : Shape := ⟨3, ![16, 1, 6144]⟩
abbrev S1024 : Shape := ⟨1, ![1024]⟩
abbrev S1024x1536 : Shape := ⟨2, ![1024, 1536]⟩
abbrev S64 : Shape := ⟨1, ![64]⟩
abbrev S8x1x1024 : Shape := ⟨3, ![8, 1, 1024]⟩
abbrev S1x1x1024 : Shape := ⟨3, ![1, 1, 1024]⟩
abbrev S32768x1024 : Shape := ⟨2, ![32768, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S2048x1024 : Shape := ⟨2, ![2048, 1024]⟩
abbrev S8x256x1024 : Shape := ⟨3, ![8, 256, 1024]⟩
abbrev S8x256 : Shape := ⟨2, ![8, 256]⟩
abbrev S8x256x1 : Shape := ⟨3, ![8, 256, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S8x4096x1536 : Shape := ⟨3, ![8, 4096, 1536]⟩
abbrev S8x4096x4x4x64 : Shape := ⟨5, ![8, 4096, 4, 4, 64]⟩
abbrev S8x4096x256 : Shape := ⟨3, ![8, 4096, 256]⟩
abbrev S8x4096x4x64 : Shape := ⟨4, ![8, 4096, 4, 64]⟩
abbrev S8x4096x4x4 : Shape := ⟨4, ![8, 4096, 4, 4]⟩
abbrev S8x4096x4x4x1 : Shape := ⟨5, ![8, 4096, 4, 4, 1]⟩
abbrev S1x1x1x1x64 : Shape := ⟨5, ![1, 1, 1, 1, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096x16x2x2x16 : Shape := ⟨6, ![8, 4096, 16, 2, 2, 16]⟩
abbrev S8x4096x16x2x1x16 : Shape := ⟨6, ![8, 4096, 16, 2, 1, 16]⟩
abbrev S8x4096x16x2x16 : Shape := ⟨5, ![8, 4096, 16, 2, 16]⟩
abbrev S1x4096x1x2x16 : Shape := ⟨5, ![1, 4096, 1, 2, 16]⟩
abbrev S8x4096x4x2x2x16 : Shape := ⟨6, ![8, 4096, 4, 2, 2, 16]⟩
abbrev S8x4096x4x2x1x16 : Shape := ⟨6, ![8, 4096, 4, 2, 1, 16]⟩
abbrev S8x4096x4x2x16 : Shape := ⟨5, ![8, 4096, 4, 2, 16]⟩
abbrev S8x256x1536 : Shape := ⟨3, ![8, 256, 1536]⟩
abbrev S8x256x4x4x64 : Shape := ⟨5, ![8, 256, 4, 4, 64]⟩
abbrev S8x256x256 : Shape := ⟨3, ![8, 256, 256]⟩
abbrev S8x256x4x64 : Shape := ⟨4, ![8, 256, 4, 64]⟩
abbrev S8x256x4x4 : Shape := ⟨4, ![8, 256, 4, 4]⟩
abbrev S8x256x4x4x1 : Shape := ⟨5, ![8, 256, 4, 4, 1]⟩
abbrev S8x256x4 : Shape := ⟨3, ![8, 256, 4]⟩
abbrev S8x256x4x1 : Shape := ⟨4, ![8, 256, 4, 1]⟩
abbrev S34816x16x64 : Shape := ⟨3, ![34816, 16, 64]⟩
abbrev S34816x16x128 : Shape := ⟨3, ![34816, 16, 128]⟩
abbrev S34816x2048 : Shape := ⟨2, ![34816, 2048]⟩
abbrev S32768x256 : Shape := ⟨2, ![32768, 256]⟩
abbrev S2048x256 : Shape := ⟨2, ![2048, 256]⟩
abbrev S34816x256 : Shape := ⟨2, ![34816, 256]⟩
abbrev S34816x4x64 : Shape := ⟨3, ![34816, 4, 64]⟩
abbrev S34816x4x128 : Shape := ⟨3, ![34816, 4, 128]⟩
abbrev S34816x512 : Shape := ⟨2, ![34816, 512]⟩

abbrev nBuf : Space → Nat
  | .hbm => 248
  | .vmem => 0
  | .smem => 0
  | _ => 0

abbrev hbmTy0_0 (i : Nat) : BufTy := match i % 128 with
  | 0 => ⟨S34816x1024, .f32⟩
  | 1 => ⟨S16x1x6144, .f32⟩
  | 2 => ⟨S1024, .f32⟩
  | 3 => ⟨S1024x1536, .f32⟩
  | 4 => ⟨S64, .f32⟩
  | 5 => ⟨S64, .f32⟩
  | 6 => ⟨S8x1x1024, .f32⟩
  | 7 => ⟨S8x1x1024, .f32⟩
  | 8 => ⟨S1x1x1024, .f32⟩
  | 9 => ⟨S1024, .f32⟩
  | 10 => ⟨S1x1x1024, .f32⟩
  | 11 => ⟨S1024, .f32⟩
  | 12 => ⟨S32768x1024, .f32⟩
  | 13 => ⟨S8x4096x1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S_, .f32⟩
  | 31 => ⟨S8x1x1024, .f32⟩
  | 32 => ⟨S8x1x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S2048x1024, .f32⟩
  | 38 => ⟨S8x256x1024, .f32⟩
  | 39 => ⟨S8x256x1024, .f32⟩
  | 40 => ⟨S_, .f32⟩
  | 41 => ⟨S8x256, .f32⟩
  | 42 => ⟨S8x256x1, .f32⟩
  | 43 => ⟨S_, .f32⟩
  | 44 => ⟨S8x256x1, .f32⟩
  | 45 => ⟨S8x256x1, .f32⟩
  | 46 => ⟨S_, .f32⟩
  | 47 => ⟨S8x256x1, .f32⟩
  | 48 => ⟨S8x256x1, .f32⟩
  | 49 => ⟨S8x256x1, .f32⟩
  | 50 => ⟨S8x256x1024, .f32⟩
  | 51 => ⟨S8x256x1024, .f32⟩
  | 52 => ⟨S1x1x1024, .f32⟩
  | 53 => ⟨S8x256x1024, .f32⟩
  | 54 => ⟨S8x256x1024, .f32⟩
  | 55 => ⟨S_, .f32⟩
  | 56 => ⟨S1024, .f32⟩
  | 57 => ⟨S1024, .f32⟩
  | 58 => ⟨S1x1x1024, .f32⟩
  | 59 => ⟨S8x256x1024, .f32⟩
  | 60 => ⟨S8x256x1024, .f32⟩
  | 61 => ⟨S1x1x1024, .f32⟩
  | 62 => ⟨S8x256x1024, .f32⟩
  | 63 => ⟨S8x256x1024, .f32⟩
  | 64 => ⟨S64, .f32⟩
  | 65 => ⟨S64x64, .f32⟩
  | 66 => ⟨S4096, .f32⟩
  | 67 => ⟨S64, .f32⟩
  | 68 => ⟨S1x64, .f32⟩
  | 69 => ⟨S64x64, .f32⟩
  | 70 => ⟨S4096, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S4096x1, .f32⟩
  | 80 => ⟨S1x16, .f32⟩
  | 81 => ⟨S4096x16, .f32⟩
  | 82 => ⟨S4096x16, .f32⟩
  | 83 => ⟨S4096x16, .f32⟩
  | 84 => ⟨S4096x1, .f32⟩
  | 85 => ⟨S1x16, .f32⟩
  | 86 => ⟨S4096x16, .f32⟩
  | 87 => ⟨S4096x16, .f32⟩
  | 88 => ⟨S4096x16, .f32⟩
  | 89 => ⟨S4096x1x16, .f32⟩
  | 90 => ⟨S4096x1x16, .f32⟩
  | 91 => ⟨S4096x2x16, .f32⟩
  | 92 => ⟨S4096x2x16, .f32⟩
  | 93 => ⟨S4096x2x16, .f32⟩
  | 94 => ⟨S8x4096x1536, .f32⟩
  | 95 => ⟨S8x4096x1024, .f32⟩
  | 96 => ⟨S8x4096x4x4x64, .f32⟩
  | 97 => ⟨S8x4096x256, .f32⟩
  | 98 => ⟨S8x4096x4x64, .f32⟩
  | 99 => ⟨S8x4096x256, .f32⟩
  | 100 => ⟨S8x4096x4x64, .f32⟩
  | 101 => ⟨S8x4096x4x4x64, .f32⟩
  | 102 => ⟨S_, .f32⟩
  | 103 => ⟨S8x4096x4x4, .f32⟩
  | 104 => ⟨S8x4096x4x4x1, .f32⟩
  | 105 => ⟨S_, .f32⟩
  | 106 => ⟨S8x4096x4x4x1, .f32⟩
  | 107 => ⟨S8x4096x4x4x1, .f32⟩
  | 108 => ⟨S_, .f32⟩
  | 109 => ⟨S8x4096x4x4x1, .f32⟩
  | 110 => ⟨S8x4096x4x4x1, .f32⟩
  | 111 => ⟨S8x4096x4x4x1, .f32⟩
  | 112 => ⟨S8x4096x4x4x64, .f32⟩
  | 113 => ⟨S8x4096x4x4x64, .f32⟩
  | 114 => ⟨S1x1x1x1x64, .f32⟩
  | 115 => ⟨S8x4096x4x4x64, .f32⟩
  | 116 => ⟨S8x4096x4x4x64, .f32⟩
  | 117 => ⟨S8x4096x4x64, .f32⟩
  | 118 => ⟨S_, .f32⟩
  | 119 => ⟨S8x4096x4, .f32⟩
  | 120 => ⟨S8x4096x4x1, .f32⟩
  | 121 => ⟨S_, .f32⟩
  | 122 => ⟨S8x4096x4x1, .f32⟩
  | 123 => ⟨S8x4096x4x1, .f32⟩
  | 124 => ⟨S_, .f32⟩
  | 125 => ⟨S8x4096x4x1, .f32⟩
  | 126 => ⟨S8x4096x4x1, .f32⟩
  | 127 => ⟨S8x4096x4x1, .f32⟩
  | _ => ⟨S34816x1024, .f32⟩

abbrev hbmTy0_1 (i : Nat) : BufTy := match i % 128 with
  | 0 => ⟨S8x4096x4x64, .f32⟩
  | 1 => ⟨S8x4096x4x64, .f32⟩
  | 2 => ⟨S1x1x1x64, .f32⟩
  | 3 => ⟨S8x4096x4x64, .f32⟩
  | 4 => ⟨S8x4096x4x64, .f32⟩
  | 5 => ⟨S8x4096x16x2x2x16, .f32⟩
  | 6 => ⟨S8x4096x16x2x1x16, .f32⟩
  | 7 => ⟨S8x4096x16x2x16, .f32⟩
  | 8 => ⟨S8x4096x16x2x1x16, .f32⟩
  | 9 => ⟨S8x4096x16x2x16, .f32⟩
  | 10 => ⟨S1x4096x1x2x16, .f32⟩
  | 11 => ⟨S1x4096x1x2x16, .f32⟩
  | 12 => ⟨S8x4096x16x2x16, .f32⟩
  | 13 => ⟨S8x4096x16x2x16, .f32⟩
  | 14 => ⟨S8x4096x16x2x16, .f32⟩
  | 15 => ⟨S8x4096x16x2x16, .f32⟩
  | 16 => ⟨S8x4096x16x2x16, .f32⟩
  | 17 => ⟨S8x4096x16x2x16, .f32⟩
  | 18 => ⟨S8x4096x16x2x16, .f32⟩
  | 19 => ⟨S8x4096x16x2x16, .f32⟩
  | 20 => ⟨S8x4096x16x2x16, .f32⟩
  | 21 => ⟨S8x4096x16x2x16, .f32⟩
  | 22 => ⟨S8x4096x16x2x1x16, .f32⟩
  | 23 => ⟨S8x4096x16x2x1x16, .f32⟩
  | 24 => ⟨S8x4096x16x2x2x16, .f32⟩
  | 25 => ⟨S8x4096x4x4x64, .f32⟩
  | 26 => ⟨S8x4096x4x2x2x16, .f32⟩
  | 27 => ⟨S8x4096x4x2x1x16, .f32⟩
  | 28 => ⟨S8x4096x4x2x16, .f32⟩
  | 29 => ⟨S8x4096x4x2x1x16, .f32⟩
  | 30 => ⟨S8x4096x4x2x16, .f32⟩
  | 31 => ⟨S1x4096x1x2x16, .f32⟩
  | 32 => ⟨S1x4096x1x2x16, .f32⟩
  | 33 => ⟨S8x4096x4x2x16, .f32⟩
  | 34 => ⟨S8x4096x4x2x16, .f32⟩
  | 35 => ⟨S8x4096x4x2x16, .f32⟩
  | 36 => ⟨S8x4096x4x2x16, .f32⟩
  | 37 => ⟨S8x4096x4x2x16, .f32⟩
  | 38 => ⟨S8x4096x4x2x16, .f32⟩
  | 39 => ⟨S8x4096x4x2x16, .f32⟩
  | 40 => ⟨S8x4096x4x2x16, .f32⟩
  | 41 => ⟨S8x4096x4x2x16, .f32⟩
  | 42 => ⟨S8x4096x4x2x16, .f32⟩
  | 43 => ⟨S8x4096x4x2x1x16, .f32⟩
  | 44 => ⟨S8x4096x4x2x1x16, .f32⟩
  | 45 => ⟨S8x4096x4x2x2x16, .f32⟩
  | 46 => ⟨S8x4096x4x64, .f32⟩
  | 47 => ⟨S8x256x1536, .f32⟩
  | 48 => ⟨S8x256x1024, .f32⟩
  | 49 => ⟨S8x256x4x4x64, .f32⟩
  | 50 => ⟨S8x256x256, .f32⟩
  | 51 => ⟨S8x256x4x64, .f32⟩
  | 52 => ⟨S8x256x256, .f32⟩
  | 53 => ⟨S8x256x4x64, .f32⟩
  | 54 => ⟨S8x256x4x4x64, .f32⟩
  | 55 => ⟨S_, .f32⟩
  | 56 => ⟨S8x256x4x4, .f32⟩
  | 57 => ⟨S8x256x4x4x1, .f32⟩
  | 58 => ⟨S_, .f32⟩
  | 59 => ⟨S8x256x4x4x1, .f32⟩
  | 60 => ⟨S8x256x4x4x1, .f32⟩
  | 61 => ⟨S_, .f32⟩
  | 62 => ⟨S8x256x4x4x1, .f32⟩
  | 63 => ⟨S8x256x4x4x1, .f32⟩
  | 64 => ⟨S8x256x4x4x1, .f32⟩
  | 65 => ⟨S8x256x4x4x64, .f32⟩
  | 66 => ⟨S8x256x4x4x64, .f32⟩
  | 67 => ⟨S1x1x1x1x64, .f32⟩
  | 68 => ⟨S8x256x4x4x64, .f32⟩
  | 69 => ⟨S8x256x4x4x64, .f32⟩
  | 70 => ⟨S8x256x4x64, .f32⟩
  | 71 => ⟨S_, .f32⟩
  | 72 => ⟨S8x256x4, .f32⟩
  | 73 => ⟨S8x256x4x1, .f32⟩
  | 74 => ⟨S_, .f32⟩
  | 75 => ⟨S8x256x4x1, .f32⟩
  | 76 => ⟨S8x256x4x1, .f32⟩
  | 77 => ⟨S_, .f32⟩
  | 78 => ⟨S8x256x4x1, .f32⟩
  | 79 => ⟨S8x256x4x1, .f32⟩
  | 80 => ⟨S8x256x4x1, .f32⟩
  | 81 => ⟨S8x256x4x64, .f32⟩
  | 82 => ⟨S8x256x4x64, .f32⟩
  | 83 => ⟨S1x1x1x64, .f32⟩
  | 84 => ⟨S8x256x4x64, .f32⟩
  | 85 => ⟨S8x256x4x64, .f32⟩
  | 86 => ⟨S32768x1024, .f32⟩
  | 87 => ⟨S2048x1024, .f32⟩
  | 88 => ⟨S34816x1024, .f32⟩
  | 89 => ⟨S_, .f32⟩
  | 90 => ⟨S34816x1024, .f32⟩
  | 91 => ⟨S34816x1024, .f32⟩
  | 92 => ⟨S_, .f32⟩
  | 93 => ⟨S_, .f32⟩
  | 94 => ⟨S34816x1024, .f32⟩
  | 95 => ⟨S34816x1024, .f32⟩
  | 96 => ⟨S34816x16x64, .f32⟩
  | 97 => ⟨S_, .f32⟩
  | 98 => ⟨S34816x16x64, .f32⟩
  | 99 => ⟨S34816x16x128, .f32⟩
  | 100 => ⟨S34816x2048, .f32⟩
  | 101 => ⟨S34816x2048, .bf16⟩
  | 102 => ⟨S32768x256, .f32⟩
  | 103 => ⟨S2048x256, .f32⟩
  | 104 => ⟨S34816x256, .f32⟩
  | 105 => ⟨S34816x4x64, .f32⟩
  | 106 => ⟨S_, .f32⟩
  | 107 => ⟨S34816x4x64, .f32⟩
  | 108 => ⟨S34816x4x128, .f32⟩
  | 109 => ⟨S34816x512, .f32⟩
  | 110 => ⟨S34816x512, .bf16⟩
  | 111 => ⟨S32768x256, .f32⟩
  | 112 => ⟨S2048x256, .f32⟩
  | 113 => ⟨S34816x256, .f32⟩
  | 114 => ⟨S34816x4x64, .f32⟩
  | 115 => ⟨S_, .f32⟩
  | 116 => ⟨S34816x4x64, .f32⟩
  | 117 => ⟨S34816x4x128, .f32⟩
  | 118 => ⟨S34816x512, .f32⟩
  | 119 => ⟨S34816x512, .bf16⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_9 : Ref sig .tc := ⟨.hbm, 102, rfl⟩
abbrev main_v86 : Ref sig .tc := ⟨.hbm, 103, rfl⟩
abbrev main_v87 : Ref sig .tc := ⟨.hbm, 104, rfl⟩
abbrev main_cst_10 : Ref sig .tc := ⟨.hbm, 105, rfl⟩
abbrev main_v88 : Ref sig .tc := ⟨.hbm, 106, rfl⟩
abbrev main_v89 : Ref sig .tc := ⟨.hbm, 107, rfl⟩
abbrev main_cst_11 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_12 : Ref sig .tc := ⟨.hbm, 118, rfl⟩
abbrev main_v99 : Ref sig .tc := ⟨.hbm, 119, rfl⟩
abbrev main_v100 : Ref sig .tc := ⟨.hbm, 120, rfl⟩
abbrev main_cst_13 : Ref sig .tc := ⟨.hbm, 121, rfl⟩
abbrev main_v101 : Ref sig .tc := ⟨.hbm, 122, rfl⟩
abbrev main_v102 : Ref sig .tc := ⟨.hbm, 123, rfl⟩
abbrev main_cst_14 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_cst_15 : Ref sig .tc := ⟨.hbm, 183, rfl⟩
abbrev main_v161 : Ref sig .tc := ⟨.hbm, 184, rfl⟩
abbrev main_v162 : Ref sig .tc := ⟨.hbm, 185, rfl⟩
abbrev main_cst_16 : Ref sig .tc := ⟨.hbm, 186, rfl⟩
abbrev main_v163 : Ref sig .tc := ⟨.hbm, 187, rfl⟩
abbrev main_v164 : Ref sig .tc := ⟨.hbm, 188, rfl⟩
abbrev main_cst_17 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_cst_18 : Ref sig .tc := ⟨.hbm, 199, rfl⟩
abbrev main_v174 : Ref sig .tc := ⟨.hbm, 200, rfl⟩
abbrev main_v175 : Ref sig .tc := ⟨.hbm, 201, rfl⟩
abbrev main_cst_19 : Ref sig .tc := ⟨.hbm, 202, rfl⟩
abbrev main_v176 : Ref sig .tc := ⟨.hbm, 203, rfl⟩
abbrev main_v177 : Ref sig .tc := ⟨.hbm, 204, rfl⟩
abbrev main_cst_20 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_cst_21 : Ref sig .tc := ⟨.hbm, 217, rfl⟩
abbrev main_v189 : Ref sig .tc := ⟨.hbm, 218, rfl⟩
abbrev main_v190 : Ref sig .tc := ⟨.hbm, 219, rfl⟩
abbrev main_cst_22 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_cst_23 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_cst_24 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_cst_25 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩

abbrev nD : Nat := 1
abbrev τ : Topo := Topo.v7x

variable {F : FTy → Type} [FloatOps F]
-- ==== FouOut.lean ====
abbrev S34816x1024 : Shape := ⟨2, ![34816, 1024]⟩
abbrev S1024x1024 : Shape := ⟨2, ![1024, 1024]⟩
abbrev S16x1x6144 : Shape := ⟨3, ![16, 1, 6144]⟩
abbrev S1024 : Shape := ⟨1, ![1024]⟩
abbrev S1x1024 : Shape := ⟨2, ![1, 1024]⟩
abbrev S278528x128 : Shape := ⟨2, ![278528, 128]⟩
abbrev S256x1024 : Shape := ⟨2, ![256, 1024]⟩
abbrev S1x1x6144 : Shape := ⟨3, ![1, 1, 6144]⟩
abbrev S2048x128 : Shape := ⟨2, ![2048, 128]⟩
abbrev S1x1x1024 : Shape := ⟨3, ![1, 1, 1024]⟩
abbrev S256 : Shape := ⟨1, ![256]⟩
abbrev S256x1 : Shape := ⟨2, ![256, 1]⟩
abbrev S256x128 : Shape := ⟨2, ![256, 128]⟩

abbrev nBuf : Space → Nat
  | .hbm => 9
  | .vmem => 14
  | .smem => 0
  | _ => 0

abbrev bufTy : (tb : Table) → Fin (tcTables nBuf tb) → BufTy
  | .hbm, ⟨0, _⟩ => ⟨S34816x1024, .bf16⟩
  | .hbm, ⟨1, _⟩ => ⟨S1024x1024, .f32⟩
  | .hbm, ⟨2, _⟩ => ⟨S34816x1024, .f32⟩
  | .hbm, ⟨3, _⟩ => ⟨S16x1x6144, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S34816x1024, .f32⟩
  | .hbm, ⟨8, _⟩ => ⟨S278528x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S1x1x6144, .f32⟩
  | .local _ .vmem, ⟨8, _⟩ => ⟨S1x1x6144, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S2048x128, .f32⟩
  | .local _ .vmem, ⟨13, _⟩ => ⟨S2048x128, .f32⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![136], ![false]⟩

def k0_cond1 (i : grid0.Coords) : BitVec 1 :=
  let arg0 : BitVec 32 := BitVec.ofNat 32 (i 0).val
  let c128_i32 : BitVec 32 := 128#32
  let v0 : BitVec 1 := Scalar.cmpi .slt arg0 c128_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c128_i32_0 : BitVec 32 := 128#32
  let v3 : BitVec 1 := Scalar.cmpi .sge arg0 c128_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.maxsi arg0 c128_i32
  let c128_i32_0 : BitVec 32 := 128#32
  let v1 : BitVec 32 := Scalar.subi v0 c128_i32_0
  let c128_i32_1 : BitVec 32 := 128#32
  let v2 : BitVec 32 := Scalar.addi v1 c128_i32_1
  let c0_i32 : BitVec 32 := 0#32
  let c0_i32_2 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FouOutRefIdeal.lean ====
abbrev S34816x1024 : Shape := ⟨2, ![34816, 1024]⟩
abbrev S1024x1024 : Shape := ⟨2, ![1024, 1024]⟩
abbrev S16x1x6144 : Shape := ⟨3, ![16, 1, 6144]⟩
abbrev S1024 : Shape := ⟨1, ![1024]⟩
abbrev S32768x1024 : Shape := ⟨2, ![32768, 1024]⟩
abbrev S2048x1024 : Shape := ⟨2, ![2048, 1024]⟩
abbrev S8x1x1024 : Shape := ⟨3, ![8, 1, 1024]⟩
abbrev S1x1x1024 : Shape := ⟨3, ![1, 1, 1024]⟩
abbrev S8x4096x1024 : Shape := ⟨3, ![8, 4096, 1024]⟩
abbrev S8x256x1024 : Shape := ⟨3, ![8, 256, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S278528x128 : Shape := ⟨2, ![278528, 128]⟩

abbrev nBuf : Space → Nat
  | .hbm => 88
  | .vmem => 0
  | .smem => 0
  | _ => 0

abbrev bufTy : (tb : Table) → Fin (tcTables nBuf tb) → BufTy
  | .hbm, ⟨0, _⟩ => ⟨S34816x1024, .bf16⟩
  | .hbm, ⟨1, _⟩ => ⟨S1024x1024, .f32⟩
  | .hbm, ⟨2, _⟩ => ⟨S34816x1024, .f32⟩
  | .hbm, ⟨3, _⟩ => ⟨S16x1x6144, .f32⟩
  | .hbm, ⟨4, _⟩ => ⟨S1024, .f32⟩
  | .hbm, ⟨5, _⟩ => ⟨S32768x1024, .bf16⟩
  | .hbm, ⟨6, _⟩ => ⟨S2048x1024, .bf16⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1x1x1024, .f32⟩
  | .hbm, ⟨11, _⟩ => ⟨S1024, .f32⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S32768x1024, .f32⟩
  | .hbm, ⟨17, _⟩ => ⟨S8x4096x1024, .f32⟩
  | .hbm, ⟨18, _⟩ => ⟨S8x4096x1024, .f32⟩
  | .hbm, ⟨19, _⟩ => ⟨S2048x1024, .f32⟩
  | .hbm, ⟨20, _⟩ => ⟨S8x256x1024, .f32⟩
  | .hbm, ⟨21, _⟩ => ⟨S8x256x1024, .f32⟩
  | .hbm, ⟨22, _⟩ => ⟨S32768x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S2048x1024, .f32⟩
  | .hbm, ⟨28, _⟩ => ⟨S8x256x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x256x1024, .f32⟩
  | .hbm, ⟨57, _⟩ => ⟨S_, .f32⟩
  | .hbm, ⟨58, _⟩ => ⟨S8x256, .f32⟩
  | .hbm, ⟨59, _⟩ => ⟨S8x256x1, .f32⟩
  | .hbm, ⟨60, _⟩ => ⟨S_, .f32⟩
  | .hbm, ⟨61, _⟩ => ⟨S8x256x1, .f32⟩
  | .hbm, ⟨62, _⟩ => ⟨S8x256x1, .f32⟩
  | .hbm, ⟨63, _⟩ => ⟨S_, .f32⟩
  | .hbm, ⟨64, _⟩ => ⟨S8x256x1, .f32⟩
  | .hbm, ⟨65, _⟩ => ⟨S8x256x1, .f32⟩
  | .hbm, ⟨66, _⟩ => ⟨S8x256x1, .f32⟩
  | .hbm, ⟨67, _⟩ => ⟨S8x256x1024, .f32⟩
  | .hbm, ⟨68, _⟩ => ⟨S8x256x1024, .f32⟩
  | .hbm, ⟨69, _⟩ => ⟨S1x1x1024, .f32⟩
  | .hbm, ⟨70, _⟩ => ⟨S8x256x1024, .f32⟩
  | .hbm, ⟨71, _⟩ => ⟨S8x256x1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1x1x1024, .f32⟩
  | .hbm, ⟨76, _⟩ => ⟨S8x256x1024, .f32⟩
  | .hbm, ⟨77, _⟩ => ⟨S8x256x1024, .f32⟩
  | .hbm, ⟨78, _⟩ => ⟨S1x1x1024, .f32⟩
  | .hbm, ⟨79, _⟩ => ⟨S8x256x1024, .f32⟩
  | .hbm, ⟨80, _⟩ => ⟨S8x256x1024, .f32⟩
  | .hbm, ⟨81, _⟩ => ⟨S32768x1024, .f32⟩
  | .hbm, ⟨82, _⟩ => ⟨S2048x1024, .f32⟩
  | .hbm, ⟨83, _⟩ => ⟨S34816x1024, .f32⟩
  | .hbm, ⟨84, _⟩ => ⟨S32768x1024, .f32⟩
  | .hbm, ⟨85, _⟩ => ⟨S2048x1024, .f32⟩
  | .hbm, ⟨86, _⟩ => ⟨S34816x1024, .f32⟩
  | .hbm, ⟨87, _⟩ => ⟨S278528x128, .f32⟩
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩

abbrev nD : Nat := 1
abbrev τ : Topo := Topo.v7x

variable {F : FTy → Type} [FloatOps F]
-- ==== SwaOut.lean ====
abbrev S34816x2048 : Shape := ⟨2, ![34816, 2048]⟩
abbrev S1024x1024 : Shape := ⟨2, ![1024, 1024]⟩
abbrev S34816x1024 : Shape := ⟨2, ![34816, 1024]⟩
abbrev S16x1x6144 : Shape := ⟨3, ![16, 1, 6144]⟩
abbrev S1024 : Shape := ⟨1, ![1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S1x1024 : Shape := ⟨2, ![1, 1024]⟩
abbrev S278528x128 : Shape := ⟨2, ![278528, 128]⟩
abbrev S256x2048 : Shape := ⟨2, ![256, 2048]⟩
abbrev S256x1024 : Shape := ⟨2, ![256, 1024]⟩
abbrev S1x1x6144 : Shape := ⟨3, ![1, 1, 6144]⟩
abbrev S2048x128 : Shape := ⟨2, ![2048, 128]⟩
abbrev S1x1x1024 : Shape := ⟨3, ![1, 1, 1024]⟩
abbrev S256 : Shape := ⟨1, ![256]⟩
abbrev S256x1 : Shape := ⟨2, ![256, 1]⟩
abbrev S256x128 : Shape := ⟨2, ![256, 128]⟩

abbrev nBuf : Space → Nat
  | .hbm => 14
  | .vmem => 14
  | .smem => 0
  | _ => 0

abbrev bufTy : (tb : Table) → Fin (tcTables nBuf tb) → BufTy
  | .hbm, ⟨0, _⟩ => ⟨S34816x2048, .bf16⟩
  | .hbm, ⟨1, _⟩ => ⟨S1024x1024, .f32⟩
  | .hbm, ⟨2, _⟩ => ⟨S34816x1024, .f32⟩
  | .hbm, ⟨3, _⟩ => ⟨S16x1x6144, .f32⟩
  | .hbm, ⟨4, _⟩ => ⟨S1024, .f32⟩
  | .hbm, ⟨5, _⟩ => ⟨S16x64x1024, .f32⟩
  | .hbm, ⟨6, _⟩ => ⟨S_, .f32⟩
  | .hbm, ⟨7, _⟩ => ⟨S16x64x1024, .f32⟩
  | .hbm, ⟨8, _⟩ => ⟨S16x128x1024, .f32⟩
  | .hbm, ⟨9, _⟩ => ⟨S2048x1024, .f32⟩
  | .hbm, ⟨10, _⟩ => ⟨S2048x1024, .bf16⟩
  | .hbm, ⟨11, _⟩ => ⟨S1x1024, .f32⟩
  | .hbm, ⟨12, _⟩ => ⟨S34816x1024, .f32⟩
  | .hbm, ⟨13, _⟩ => ⟨S278528x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x1024, .bf16⟩
  | .local _ .vmem, ⟨5, _⟩ => ⟨S256x1024, .f32⟩
  | .local _ .vmem, ⟨6, _⟩ => ⟨S256x1024, .f32⟩
  | .local _ .vmem, ⟨7, _⟩ => ⟨S1x1x6144, .f32⟩
  | .local _ .vmem, ⟨8, _⟩ => ⟨S1x1x6144, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S2048x128, .f32⟩
  | .local _ .vmem, ⟨13, _⟩ => ⟨S2048x128, .f32⟩
  | _, _ => ⟨S34816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![136], ![false]⟩

def k0_cond1 (i : grid0.Coords) : BitVec 1 :=
  let arg0 : BitVec 32 := BitVec.ofNat 32 (i 0).val
  let c128_i32 : BitVec 32 := 128#32
  let v0 : BitVec 1 := Scalar.cmpi .slt arg0 c128_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c128_i32_0 : BitVec 32 := 128#32
  let v3 : BitVec 1 := Scalar.cmpi .sge arg0 c128_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.maxsi arg0 c128_i32
  let c128_i32_0 : BitVec 32 := 128#32
  let v1 : BitVec 32 := Scalar.subi v0 c128_i32_0
  let c128_i32_1 : BitVec 32 := 128#32
  let v2 : BitVec 32 := Scalar.addi v1 c128_i32_1
  let c0_i32 : BitVec 32 := 0#32
  let c0_i32_2 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SwaOutRefIdeal.lean ====
abbrev S34816x2048 : Shape := ⟨2, ![34816, 2048]⟩
abbrev S1024x1024 : Shape := ⟨2, ![1024, 1024]⟩
abbrev S34816x1024 : Shape := ⟨2, ![34816, 1024]⟩
abbrev S16x1x6144 : Shape := ⟨3, ![16, 1, 6144]⟩
abbrev S1024 : Shape := ⟨1, ![1024]⟩
abbrev S34816x16x128 : Shape := ⟨3, ![34816, 16, 128]⟩
abbrev S34816x16x64 : Shape := ⟨3, ![34816, 16, 64]⟩
abbrev S32768x1024 : Shape := ⟨2, ![32768, 1024]⟩
abbrev S2048x1024 : Shape := ⟨2, ![2048, 1024]⟩
abbrev S8x1x1024 : Shape := ⟨3, ![8, 1, 1024]⟩
abbrev S1x1x1024 : Shape := ⟨3, ![1, 1, 1024]⟩
abbrev S8x4096x1024 : Shape := ⟨3, ![8, 4096, 1024]⟩
abbrev S8x256x1024 : Shape := ⟨3, ![8, 256, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S278528x128 : Shape := ⟨2, ![278528, 128]⟩

abbrev nBuf : Space → Nat
  | .hbm => 91
  | .vmem => 0
  | .smem => 0
  | _ => 0

abbrev bufTy : (tb : Table) → Fin (tcTables nBuf tb) → BufTy
  | .hbm, ⟨0, _⟩ => ⟨S34816x2048, .bf16⟩
  | .hbm, ⟨1, _⟩ => ⟨S1024x1024, .f32⟩
  | .hbm, ⟨2, _⟩ => ⟨S34816x1024, .f32⟩
  | .hbm, ⟨3, _⟩ => ⟨S16x1x6144, .f32⟩
  | .hbm, ⟨4, _⟩ => ⟨S1024, .f32⟩
  | .hbm, ⟨5, _⟩ => ⟨S34816x16x128, .bf16⟩
  | .hbm, ⟨6, _⟩ => ⟨S34816x16x64, .bf16⟩
  | .hbm, ⟨7, _⟩ => ⟨S34816x1024, .bf16⟩
  | .hbm, ⟨8, _⟩ => ⟨S32768x1024, .bf16⟩
  | .hbm, ⟨9, _⟩ => ⟨S2048x1024, .bf16⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S32768x1024, .f32⟩
  | .hbm, ⟨20, _⟩ => ⟨S8x4096x1024, .f32⟩
  | .hbm, ⟨21, _⟩ => ⟨S8x4096x1024, .f32⟩
  | .hbm, ⟨22, _⟩ => ⟨S2048x1024, .f32⟩
  | .hbm, ⟨23, _⟩ => ⟨S8x256x1024, .f32⟩
  | .hbm, ⟨24, _⟩ => ⟨S8x256x1024, .f32⟩
  | .hbm, ⟨25, _⟩ => ⟨S32768x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S2048x1024, .f32⟩
  | .hbm, ⟨31, _⟩ => ⟨S8x256x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S8x256x1024, .f32⟩
  | .hbm, ⟨36, _⟩ => ⟨S8x4096x1024, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x256x1024, .f32⟩
  | .hbm, ⟨60, _⟩ => ⟨S_, .f32⟩
  | .hbm, ⟨61, _⟩ => ⟨S8x256, .f32⟩
  | .hbm, ⟨62, _⟩ => ⟨S8x256x1, .f32⟩
  | .hbm, ⟨63, _⟩ => ⟨S_, .f32⟩
  | .hbm, ⟨64, _⟩ => ⟨S8x256x1, .f32⟩
  | .hbm, ⟨65, _⟩ => ⟨S8x256x1, .f32⟩
  | .hbm, ⟨66, _⟩ => ⟨S_, .f32⟩
  | .hbm, ⟨67, _⟩ => ⟨S8x256x1, .f32⟩
  | .hbm, ⟨68, _⟩ => ⟨S8x256x1, .f32⟩
  | .hbm, ⟨69, _⟩ => ⟨S8x256x1, .f32⟩
  | .hbm, ⟨70, _⟩ => ⟨S8x256x1024, .f32⟩
  | .hbm, ⟨71, _⟩ => ⟨S8x256x1024, .f32⟩
  | .hbm, ⟨72, _⟩ => ⟨S1x1x1024, .f32⟩
  | .hbm, ⟨73, _⟩ => ⟨S8x256x1024, .f32⟩
  | .hbm, ⟨74, _⟩ => ⟨S8x256x1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S1x1x1024, .f32⟩
  | .hbm, ⟨79, _⟩ => ⟨S8x256x1024, .f32⟩
  | .hbm, ⟨80, _⟩ => ⟨S8x256x1024, .f32⟩
  | .hbm, ⟨81, _⟩ => ⟨S1x1x1024, .f32⟩
  | .hbm, ⟨82, _⟩ => ⟨S8x256x1024, .f32⟩
  | .hbm, ⟨83, _⟩ => ⟨S8x256x1024, .f32⟩
  | .hbm, ⟨84, _⟩ => ⟨S32768x1024, .f32⟩
  | .hbm, ⟨85, _⟩ => ⟨S2048x1024, .f32⟩
  | .hbm, ⟨86, _⟩ => ⟨S34816x1024, .f32⟩
  | .hbm, ⟨87, _⟩ => ⟨S32768x1024, .f32⟩
  | .hbm, ⟨88, _⟩ => ⟨S2048x1024, .f32⟩
  | .hbm, ⟨89, _⟩ => ⟨S34816x1024, .f32⟩
  | .hbm, ⟨90, _⟩ => ⟨S278528x128, .f32⟩
  | _, _ => ⟨S34816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩

abbrev nD : Nat := 1
abbrev τ : Topo := Topo.v7x

variable {F : FTy → Type} [FloatOps F]
-- ==== SwaAtt.lean ====
abbrev S34816x2048 : Shape := ⟨2, ![34816, 2048]⟩
abbrev S34816x512 : Shape := ⟨2, ![34816, 512]⟩
abbrev S16 : Shape := ⟨1, ![16]⟩
abbrev S256x2048 : Shape := ⟨2, ![256, 2048]⟩
abbrev S4096x512 : Shape := ⟨2, ![4096, 512]⟩
abbrev S256x512 : Shape := ⟨2, ![256, 512]⟩
abbrev S512x128 : Shape := ⟨2, ![512, 128]⟩
abbrev S256x128 : Shape := ⟨2, ![256, 128]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 5
  | .vmem => 12
  | .smem => 1
  | _ => 0

abbrev bufTy : (tb : Table) → Fin (tcTables nBuf tb) → BufTy
  | .hbm, ⟨0, _⟩ => ⟨S34816x2048, .f32⟩
  | .hbm, ⟨1, _⟩ => ⟨S34816x512, .bf16⟩
  | .hbm, ⟨2, _⟩ => ⟨S34816x512, .bf16⟩
  | .hbm, ⟨3, _⟩ => ⟨S16, .f32⟩
  | .hbm, ⟨4, _⟩ => ⟨S34816x2048, .bf16⟩
  | .local _ .vmem, ⟨0, _⟩ => ⟨S256x2048, .f32⟩
  | .local _ .vmem, ⟨1, _⟩ => ⟨S256x2048, .f32⟩
  | .local _ .vmem, ⟨2, _⟩ => ⟨S4096x512, .bf16⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S4096x512, .bf16⟩
  | .local _ .vmem, ⟨7, _⟩ => ⟨S4096x512, .bf16⟩
  | .local _ .vmem, ⟨8, _⟩ => ⟨S256x512, .bf16⟩
  | .local _ .vmem, ⟨9, _⟩ => ⟨S256x512, .bf16⟩
  | .local _ .vmem, ⟨10, _⟩ => ⟨S256x2048, .bf16⟩
  | .local _ .vmem, ⟨11, _⟩ => ⟨S256x2048, .bf16⟩
  | .local _ .smem, ⟨0, _⟩ => ⟨S16, .f32⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 17], ![false, false]⟩

def k0_mult1 (i : grid0.Coords) : BitVec 32 :=
  let c3584_i32 : BitVec 32 := 3584#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c3584_i32 v2
  v3
def k0_off1 (i : grid0.Coords) : Fin 2 → Nat :=
  let c3584_i32 : BitVec 32 := 3584#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c3584_i32 v2
  let v4 : BitVec 32 := v3
  let v22 : Index := Scalar.indexCast v4
  let c0 : Index := 0#32
  ![v22.toNat, 0]
def k0_off2 (i : grid0.Coords) : Fin 2 → Nat :=
  let c3584_i32 : BitVec 32 := 3584#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c3584_i32 v2
  let v4 : BitVec 32 := v3
  let v196 : Index := Scalar.indexCast v4
  let c128_66 : Index := 128#32
  ![v196.toNat, 128]
def k0_off3 (i : grid0.Coords) : Fin 2 → Nat :=
  let c3584_i32 : BitVec 32 := 3584#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c3584_i32 v2
  let v4 : BitVec 32 := v3
  let v370 : Index := Scalar.indexCast v4
  let c256_128 : Index := 256#32
  ![v370.toNat, 256]
def k0_off4 (i : grid0.Coords) : Fin 2 → Nat :=
  let c3584_i32 : BitVec 32 := 3584#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c3584_i32 v2
  let v4 : BitVec 32 := v3
  let v544 : Index := Scalar.indexCast v4
  let c384_190 : Index := 384#32
  ![v544.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli arg0 c16_i32_0
  let v2 : BitVec 32 := Scalar.addi v1 arg1
  let c128_i32 : BitVec 32 := 128#32
  let v3 : BitVec 32 := Scalar.addi c128_i32 arg0
  let v4 : BitVec 32 := Scalar.select v0 v2 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli arg0 c16_i32_0
  let v2 : BitVec 32 := Scalar.addi v1 arg1
  let c128_i32 : BitVec 32 := 128#32
  let v3 : BitVec 32 := Scalar.addi c128_i32 arg0
  let v4 : BitVec 32 := Scalar.select v0 v2 v3
  let c0_i32 : BitVec 32 := 0#32
  let c0_i32_1 : BitVec 32 := 0#32
  ![v4.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaAttIdeal.lean ====
variable {F : FTy → Type} [FloatOps F] [Named F]
def κ : String → Option EReal := fun
  | "log2_e" => some (((Real.log 2)⁻¹ : ℝ) : EReal)
  | "mask" => some ⊥
  | "q_scale" => some (((1 / 8) * (Real.log 2)⁻¹ : ℝ) : EReal)
  | _ => none
-- ==== SwaAttRefIdeal.lean ====
abbrev S34816x2048 : Shape := ⟨2, ![34816, 2048]⟩
abbrev S34816x512 : Shape := ⟨2, ![34816, 512]⟩
abbrev S16 : Shape := ⟨1, ![16]⟩
abbrev S32768x2048 : Shape := ⟨2, ![32768, 2048]⟩
abbrev S8x4096x4x4x128 : Shape := ⟨5, ![8, 4096, 4, 4, 128]⟩
abbrev S2048x2048 : Shape := ⟨2, ![2048, 2048]⟩
abbrev S8x256x4x4x128 : Shape := ⟨5, ![8, 256, 4, 4, 128]⟩
abbrev S32768x512 : Shape := ⟨2, ![32768, 512]⟩
abbrev S8x4096x4x128 : Shape := ⟨4, ![8, 4096, 4, 128]⟩
abbrev S2048x512 : Shape := ⟨2, ![2048, 512]⟩
abbrev S8x256x4x128 : Shape := ⟨4, ![8, 256, 4, 128]⟩
abbrev S4x4 : Shape := ⟨2, ![4, 4]⟩
abbrev S1x4x4x1x1 : Shape := ⟨5, ![1, 4, 4, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4x4096x4096x4 : Shape := ⟨5, ![8, 4, 4096, 4096, 4]⟩
abbrev S8x4x4x4096x4096 : Shape := ⟨5, ![8, 4, 4, 4096, 4096]⟩
abbrev S8x4x256x4096x4 : Shape := ⟨5, ![8, 4, 256, 4096, 4]⟩
abbrev S8x4x4x4096x256 : Shape := ⟨5, ![8, 4, 4, 4096, 256]⟩
abbrev S8x4x4x4096x4352 : Shape := ⟨5, ![8, 4, 4, 4096, 4352]⟩
abbrev S8x4x4x4096x1 : Shape := ⟨5, ![8, 4, 4, 4096, 1]⟩
abbrev S8x4x4x4096x4353 : Shape := ⟨5, ![8, 4, 4, 4096, 4353]⟩
abbrev S8x4x4x4096 : Shape := ⟨4, ![8, 4, 4, 4096]⟩
abbrev S8x4x128x4x4096 : Shape := ⟨5, ![8, 4, 128, 4, 4096]⟩
abbrev S8x4x256x256x4 : Shape := ⟨5, ![8, 4, 256, 256, 4]⟩
abbrev S8x4x4x256x256 : Shape := ⟨5, ![8, 4, 4, 256, 256]⟩
abbrev S8x4x4x256x1 : Shape := ⟨5, ![8, 4, 4, 256, 1]⟩
abbrev S8x4x4x256x257 : Shape := ⟨5, ![8, 4, 4, 256, 257]⟩
abbrev S8x4x4x256 : Shape := ⟨4, ![8, 4, 4, 256]⟩
abbrev S8x4x128x4x256 : Shape := ⟨5, ![8, 4, 128, 4, 256]⟩

abbrev nBuf : Space → Nat
  | .hbm => 100
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S34816x512, .bf16⟩
  | .hbm, ⟨2, _⟩ => ⟨S34816x512, .bf16⟩
  | .hbm, ⟨3, _⟩ => ⟨S16, .f32⟩
  | .hbm, ⟨4, _⟩ => ⟨S32768x2048, .f32⟩
  | .hbm, ⟨5, _⟩ => ⟨S8x4096x4x4x128, .f32⟩
  | .hbm, ⟨6, _⟩ => ⟨S2048x2048, .f32⟩
  | .hbm, ⟨7, _⟩ => ⟨S8x256x4x4x128, .f32⟩
  | .hbm, ⟨8, _⟩ => ⟨S32768x512, .bf16⟩
  | .hbm, ⟨9, _⟩ => ⟨S32768x512, .f32⟩
  | .hbm, ⟨10, _⟩ => ⟨S8x4096x4x128, .f32⟩
  | .hbm, ⟨11, _⟩ => ⟨S32768x512, .bf16⟩
  | .hbm, ⟨12, _⟩ => ⟨S32768x512, .f32⟩
  | .hbm, ⟨13, _⟩ => ⟨S8x4096x4x128, .f32⟩
  | .hbm, ⟨14, _⟩ => ⟨S2048x512, .bf16⟩
  | .hbm, ⟨15, _⟩ => ⟨S2048x512, .f32⟩
  | .hbm, ⟨16, _⟩ => ⟨S8x256x4x128, .f32⟩
  | .hbm, ⟨17, _⟩ => ⟨S2048x512, .bf16⟩
  | .hbm, ⟨18, _⟩ => ⟨S2048x512, .f32⟩
  | .hbm, ⟨19, _⟩ => ⟨S8x256x4x128, .f32⟩
  | .hbm, ⟨20, _⟩ => ⟨S4x4, .f32⟩
  | .hbm, ⟨21, _⟩ => ⟨S1x4x4x1x1, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i1⟩
  | .hbm, ⟨32, _⟩ => ⟨S8x4x4096x4096x4, .f32⟩
  | .hbm, ⟨33, _⟩ => ⟨S8x4x4x4096x4096, .f32⟩
  | .hbm, ⟨34, _⟩ => ⟨S_, .f32⟩
  | .hbm, ⟨35, _⟩ => ⟨S8x4x4x4096x4096, .f32⟩
  | .hbm, ⟨36, _⟩ => ⟨S8x4x4x4096x4096, .f32⟩
  | .hbm, ⟨37, _⟩ => ⟨S_, .f32⟩
  | .hbm, ⟨38, _⟩ => ⟨S_, .f32⟩
  | .hbm, ⟨39, _⟩ => ⟨S8x4x4x4096x4096, .i1⟩
  | .hbm, ⟨40, _⟩ => ⟨S8x4x4x4096x4096, .f32⟩
  | .hbm, ⟨41, _⟩ => ⟨S8x4x4x4096x4096, .f32⟩
  | .hbm, ⟨42, _⟩ => ⟨S8x4x256x4096x4, .f32⟩
  | .hbm, ⟨43, _⟩ => ⟨S8x4x4x4096x256, .f32⟩
  | .hbm, ⟨44, _⟩ => ⟨S_, .f32⟩
  | .hbm, ⟨45, _⟩ => ⟨S8x4x4x4096x256, .f32⟩
  | .hbm, ⟨46, _⟩ => ⟨S8x4x4x4096x256, .f32⟩
  | .hbm, ⟨47, _⟩ => ⟨S8x4x4x4096x4352, .f32⟩
  | .hbm, ⟨48, _⟩ => ⟨S8x4x4x4096x1, .f32⟩
  | .hbm, ⟨49, _⟩ => ⟨S8x4x4x4096x4353, .f32⟩
  | .hbm, ⟨50, _⟩ => ⟨S_, .f32⟩
  | .hbm, ⟨51, _⟩ => ⟨S8x4x4x4096, .f32⟩
  | .hbm, ⟨52, _⟩ => ⟨S_, .f32⟩
  | .hbm, ⟨53, _⟩ => ⟨S8x4x4x4096, .f32⟩
  | .hbm, ⟨54, _⟩ => ⟨S8x4x4x4096, .f32⟩
  | .hbm, ⟨55, _⟩ => ⟨S8x4x4x4096x1, .f32⟩
  | .hbm, ⟨56, _⟩ => ⟨S8x4x4x4096x4353, .f32⟩
  | .hbm, ⟨57, _⟩ => ⟨S8x4x4x4096x4353, .f32⟩
  | .hbm, ⟨58, _⟩ => ⟨S8x4x4x4096x4353, .f32⟩
  | .hbm, ⟨59, _⟩ => ⟨S_, .f32⟩
  | .hbm, ⟨60, _⟩ => ⟨S8x4x4x4096, .f32⟩
  | .hbm, ⟨61, _⟩ => ⟨S8x4x4x4096x1, .f32⟩
  | .hbm, ⟨62, _⟩ => ⟨S8x4x4x4096x4353, .f32⟩
  | .hbm, ⟨63, _⟩ => ⟨S8x4x4x4096x4353, .f32⟩
  | .hbm, ⟨64, _⟩ => ⟨S8x4x4x4096x4352, .f32⟩
  | .hbm, ⟨65, _⟩ => ⟨S8x4x4x4096x4096, .f32⟩
  | .hbm, ⟨66, _⟩ => ⟨S8x4x128x4x4096, .f32⟩
  | .hbm, ⟨67, _⟩ => ⟨S8x4096x4x4x128, .f32⟩
  | .hbm, ⟨68, _⟩ => ⟨S8x4x4x4096x256, .f32⟩
  | .hbm, ⟨69, _⟩ => ⟨S8x4x128x4x4096, .f32⟩
  | .hbm, ⟨70, _⟩ => ⟨S8x4096x4x4x128, .f32⟩
  | .hbm, ⟨71, _⟩ => ⟨S8x4096x4x4x128, .f32⟩
  | .hbm, ⟨72, _⟩ => ⟨S8x4x256x256x4, .f32⟩
  | .hbm, ⟨73, _⟩ => ⟨S8x4x4x256x256, .f32⟩
  | .hbm, ⟨74, _⟩ => ⟨S_, .f32⟩
  | .hbm, ⟨75, _⟩ => ⟨S8x4x4x256x256, .f32⟩
  | .hbm, ⟨76, _⟩ => ⟨S8x4x4x256x256, .f32⟩
  | .hbm, ⟨77, _⟩ => ⟨S8x4x4x256x1, .f32⟩
  | .hbm, ⟨78, _⟩ => ⟨S8x4x4x256x257, .f32⟩
  | .hbm, ⟨79, _⟩ => ⟨S_, .f32⟩
  | .hbm, ⟨80, _⟩ => ⟨S8x4x4x256, .f32⟩
  | .hbm, ⟨81, _⟩ => ⟨S_, .f32⟩
  | .hbm, ⟨82, _⟩ => ⟨S8x4x4x256, .f32⟩
  | .hbm, ⟨83, _⟩ => ⟨S8x4x4x256, .f32⟩
  | .hbm, ⟨84, _⟩ => ⟨S8x4x4x256x1, .f32⟩
  | .hbm, ⟨85, _⟩ => ⟨S8x4x4x256x257, .f32⟩
  | .hbm, ⟨86, _⟩ => ⟨S8x4x4x256x257, .f32⟩
  | .hbm, ⟨87, _⟩ => ⟨S8x4x4x256x257, .f32⟩
  | .hbm, ⟨88, _⟩ => ⟨S_, .f32⟩
  | .hbm, ⟨89, _⟩ => ⟨S8x4x4x256, .f32⟩
  | .hbm, ⟨90, _⟩ => ⟨S8x4x4x256x1, .f32⟩
  | .hbm, ⟨91, _⟩ => ⟨S8x4x4x256x257, .f32⟩
  | .hbm, ⟨92, _⟩ => ⟨S8x4x4x256x257, .f32⟩
  | .hbm, ⟨93, _⟩ => ⟨S8x4x4x256x256, .f32⟩
  | .hbm, ⟨94, _⟩ => ⟨S8x4x128x4x256, .f32⟩
  | .hbm, ⟨95, _⟩ => ⟨S8x256x4x4x128, .f32⟩
  | .hbm, ⟨96, _⟩ => ⟨S32768x2048, .f32⟩
  | .hbm, ⟨97, _⟩ => ⟨S2048x2048, .f32⟩
  | .hbm, ⟨98, _⟩ => ⟨S34816x2048, .f32⟩
  | .hbm, ⟨99, _⟩ => ⟨S34816x2048, .bf16⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Proof.Reals.lean ====
/- The arithmetic on real numbers that the claim rests on: the weighted average that attention takes, its freedom of the
   shift that a soft maximum subtracts, and sums over the keys cut into the kernel's chunks. -/
module

public import Idealize.ShloMosaic.PureOps.Ideal
public import Mathlib.Analysis.SpecialFunctions.Pow.Real

@[expose] public section

noncomputable section

namespace Cert.Reals

open Idealize.ShloMosaic

/-- The average of `v` with weights proportional to `exp s`. -/
def avg {n : ℕ} (s v : Fin n → ℝ) : ℝ := (∑ j, Real.exp (s j) * v j) / ∑ j, Real.exp (s j)

/-- The weights' sum is positive when there is a key. -/
theorem sum_exp_pos {n : ℕ} (hn : 0 < n) (s : Fin n → ℝ) : 0 < ∑ j, Real.exp (s j) :=
  haveI : Nonempty (Fin n) := ⟨⟨0, hn⟩⟩
  Finset.sum_pos (fun _ _ => Real.exp_pos _) Finset.univ_nonempty

/-- Weights in base 2 of scores scaled by `1 / log 2`, all shifted by one number, give the same average. -/
theorem avg_two {n : ℕ} (hn : 0 < n) (s v : Fin n → ℝ) (M : ℝ) :
    (∑ j, (2 : ℝ) ^ ((Real.log 2)⁻¹ * s j - M) * v j) * (1 / ∑ j, (2 : ℝ) ^ ((Real.log 2)⁻¹ * s j - M)) = avg s v := by
  have h2 : Real.log 2 ≠ 0 := (Real.log_pos one_lt_two).ne'
  have h : ∀ j, (2 : ℝ) ^ ((Real.log 2)⁻¹ * s j - M) = (2 : ℝ) ^ (-M) * Real.exp (s j) := fun j => by
    rw [sub_eq_add_neg, Real.rpow_add two_pos, mul_comm]
    congr 1
    rw [Real.rpow_def_of_pos two_pos, ← mul_assoc, mul_inv_cancel₀ h2, one_mul]
  have hM : (2 : ℝ) ^ (-M) ≠ 0 := (Real.rpow_pos_of_pos two_pos _).ne'
  have hS := (sum_exp_pos hn s).ne'
  simp only [h, mul_assoc, ← Finset.mul_sum, avg]
  field_simp

/-- Weights in base e, all shifted by one number and divided by their sum one by one, give the same average. -/
theorem avg_exp {n : ℕ} (hn : 0 < n) (s v : Fin n → ℝ) (M : ℝ) :
    ∑ j, v j * (Real.exp (s j - M) / ∑ i, Real.exp (s i - M)) = avg s v := by
  have h : ∀ j, Real.exp (s j - M) = Real.exp (-M) * Real.exp (s j) := fun j => by
    rw [sub_eq_add_neg, Real.exp_add, mul_comm]
  have hM : Real.exp (-M) ≠ 0 := (Real.exp_pos _).ne'
  have hS := (sum_exp_pos hn s).ne'
  simp only [h, ← Finset.mul_sum, avg]
  rw [Finset.sum_div]
  refine Finset.sum_congr rfl fun j _ => ?_
  field_simp

/-- A difference of two weighted averages, the second one scaled: as one sum over the difference of the weights. -/
theorem avg_sub {n : ℕ} (v p₀ p₁ : Fin n → ℝ) (lam : ℝ) :
    ∑ j, v j * (p₀ j - lam * p₁ j) = (∑ j, v j * p₀ j) - lam * ∑ j, v j * p₁ j := by
  rw [Finset.mul_sum, ← Finset.sum_sub_distrib]
  exact Finset.sum_congr rfl fun j _ => by ring

/-- A sum over 4352 keys as the sums over four chunks of 1024 and one of 256. -/
theorem sum_chunks {M : Type} [AddCommMonoid M] (f : ℕ → M) :
    (∑ j : Fin 4352, f j) = (∑ j : Fin 1024, f j) + (∑ j : Fin 1024, f (1024 + j)) + (∑ j : Fin 1024, f (2048 + j))
      + (∑ j : Fin 1024, f (3072 + j)) + ∑ j : Fin 256, f (4096 + j) := by
  simp only [Fin.sum_univ_eq_sum_range (fun j => f j), Fin.sum_univ_eq_sum_range (fun j => f (1024 + j)),
    Fin.sum_univ_eq_sum_range (fun j => f (2048 + j)), Fin.sum_univ_eq_sum_range (fun j => f (3072 + j)),
    Fin.sum_univ_eq_sum_range (fun j => f (4096 + j))]
  rw [show 4352 = 1024 + 1024 + 1024 + 1024 + 256 from rfl, Finset.sum_range_add, Finset.sum_range_add,
    Finset.sum_range_add, Finset.sum_range_add]

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is a real number. -/
def IsReal (x : EReal) : Prop := ∃ r : ℝ, x = r

theorem IsReal.max {x y : EReal} (hx : IsReal x) (hy : IsReal y) : IsReal (max x y) := by
  rcases max_choice x y with h | h <;> rw [h] <;> assumption

/-- The maximum of reals over an inhabited finite type, started at minus infinity, is real. -/
theorem isReal_fold_max {ι : Type} (s : Finset ι) (hs : s.Nonempty) (f : ι → EReal) (hf : ∀ i, IsReal (f i)) :
    IsReal (s.fold max ⊥ f) := by
  classical
  induction hs using Finset.Nonempty.cons_induction with
  | singleton a => simpa using hf a
  | cons a s ha _ ih => rw [Finset.fold_cons]; exact (hf a).max ih

/-- An extended real whose absolute value is below infinity is real. -/
theorem isReal_of_abs_lt {x : EReal} (h : max x (-x) < ⊤) : IsReal x := by
  induction x with
  | bot => simp at h
  | top => simp at h
  | coe r => exact ⟨r, rfl⟩

end Cert.Reals

end
-- ==== Proof.Finite.lean ====
/- What the precondition says: every entry of every argument array is a real number. -/
module

public import proofs.«01_k».proof.Pre_finite
public import proofs.«01_k».proof.Proof.Gen.Pre_finite
public import proofs.«01_k».proof.Proof.Reals
public import Idealize.ShloMosaic.Lib.Pointwise
public import Idealize.ShloMosaic.Lib.ReduceAll

@[expose] public section

set_option maxRecDepth 16384

noncomputable section

namespace Cert.Finite

open Idealize.ShloMosaic Cert.Pre_finite Cert.Reals

/-- The pattern of plus infinity denotes it. -/
theorem ofBits_inf : Ideal.ofBits .f32 0x7F800000#32 = ⊤ := by
  simp [Ideal.ofBits, Ideal.ieee]

/-- The pattern of minus infinity denotes it. -/
theorem ofBits_neg_inf : Ideal.ofBits .f32 0xFF800000#32 = ⊥ := by
  simp [Ideal.ofBits, Ideal.ieee]

/-- One argument's test, `all (|x| < inf)`, that came out true: the argument's entries are real. -/
theorem isReal_of_all {s : Shape} {axes : List (Fin s.rank)} (x : FVec Ideal s .f32) (y : FVec Ideal s .f32)
    (hy : ∀ i, y i = ⊤) (h : s.ReducesTo axes S_) (hu : 0 < S_.numel)
    (e : Host.reduce IntOp.andi (cmpf .olt (Host.absf x) y) (constantI S_ 1 1#1) h hu (fun a => a.elim0) = 1#1) (i : s.Idx) :
    IsReal (x i) := by
  haveI : Subsingleton S_.Idx := ⟨fun a b => funext fun k => k.elim0⟩
  have h1 := Host.reduce_andi_all _ _ h hu _ e i
  have h2 : Ideal.cmp .olt (max (x i) (-(x i))) (y i) = 1#1 := h1
  rw [hy i] at h2
  refine isReal_of_abs_lt ?_
  by_contra hlt
  simp [Ideal.cmp, hlt] at h2

/-- Two tests' conjunction. -/
theorem and_split {x y : IVec S_ 1} {i : S_.Idx} (h : andi x y i = 1#1) : x i = 1#1 ∧ y i = 1#1 :=
  IntOp.andi_eq_one.1 h

/-- The precondition read off its printed function: every entry is real. -/
theorem of_fn (a0 a1 a2 : FVec Ideal S34816x1024 .f32) (a3 a4 a5 a6 : FVec Ideal S64 .f32) (a7 : FVec Ideal S128 .f32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h (fun a => a.elim0)
  simp only [fn, fn_part1, fn_part2] at h0
  obtain ⟨h0, e7⟩ := and_split h0
  obtain ⟨h0, e6⟩ := and_split h0
  obtain ⟨h0, e5⟩ := and_split h0
  obtain ⟨h0, e4⟩ := and_split h0
  obtain ⟨h0, e3⟩ := and_split h0
  obtain ⟨h0, e2⟩ := and_split h0
  obtain ⟨e0, e1⟩ := and_split h0
  exact ⟨isReal_of_all a0 _ (fun _ => ofBits_inf) _ _ e0, isReal_of_all a1 _ (fun _ => ofBits_inf) _ _ e1,
    isReal_of_all a2 _ (fun _ => ofBits_inf) _ _ e2, isReal_of_all a3 _ (fun _ => ofBits_inf) _ _ e3,
    isReal_of_all a4 _ (fun _ => ofBits_inf) _ _ e4, isReal_of_all a5 _ (fun _ => ofBits_inf) _ _ e5,
    isReal_of_all a6 _ (fun _ => ofBits_inf) _ _ e6, isReal_of_all a7 _ (fun _ => ofBits_inf) _ _ e7⟩

end Cert.Finite

end
-- ==== Proof.Spec.lean ====
/- The function that both programs compute, on real numbers: differential attention of the latent queries over the latent
   and context keys, with the normalisation of the result left as it is written. -/
module

public import proofs.«01_k».proof.Proof.Reals

@[expose] public section

noncomputable section

namespace Cert.Spec

open Idealize.ShloMosaic Cert.Reals

/-- The row, among the tokens of all batches, of key `j` of batch `b`: first the latent tokens, then the context's. -/
def tok (b j : ℕ) : ℕ := if j < 4096 then b * 4096 + j else 32768 + b * 256 + (j - 4096)

/-- The product of query row `r` and key row `t` over the 64 lanes from `col` on, scaled by an eighth. -/
def score (Q K : ℕ → ℕ → ℝ) (r t col : ℕ) : ℝ := (∑ d : Fin 64, Q r (col + d) * K t (col + d)) * (1 / 8)

/-- One map's attention: the average of the values of lane `vc` over batch `b`'s keys, weighted by the scores' exponentials. -/
def attn (Q K V : ℕ → ℕ → ℝ) (b r col vc : ℕ) : ℝ :=
  avg (fun j : Fin 4352 => score Q K r (tok b j) col) fun j => V (tok b j) vc

/-- The two maps' difference for query row `r`, head `h` and lane `e` of the head. -/
def diff (Q K V : ℕ → ℕ → ℝ) (lam : ℝ) (b r h e : ℕ) : ℝ :=
  attn Q K V b r (h * 128) (h * 128 + e) - lam * attn Q K V b r (h * 128 + 64) (h * 128 + e)

/-- The weight of the second map, from the four vectors' products. -/
def lam (A₀ A₁ A₂ A₃ : ℕ → ℝ) (c : ℝ) : ℝ :=
  Real.exp (∑ d : Fin 64, A₀ d * A₁ d) - Real.exp (∑ d : Fin 64, A₂ d * A₃ d) + c

/-- The head's vector `o` divided by its root mean square (plus `ε`), times the weights `g` and the factor `c`. -/
def norm (o g : ℕ → EReal) (n ε c : EReal) (e : ℕ) : EReal :=
  o e * Ideal.rsqrt (Ideal.div (∑ d : Fin 128, o d * o d) n + ε) * g e * c

end Cert.Spec

end
-- ==== Proof.Ref.lean ====
/- What the reference computes, read at an index, stage by stage. -/
module

public import proofs.«01_k».proof.Proof.Gen.ReferenceIdeal.Run
public import proofs.«01_k».proof.Proof.Spec
public import proofs.«01_k».proof.Proof.Finite
public import Idealize.ShloMosaic.Lib.Pointwise

@[expose] public section

set_option maxRecDepth 16384

noncomputable section

namespace Cert.Ref

open Idealize.ShloMosaic Idealize.ShloMosaic.TcCoe Idealize.SL.Sem
open Cert.ReferenceIdeal Cert.ReferenceIdeal.Gen Cert.Reals Cert.Spec

/-- The queries, one axis each for batch, token, head, map and lane. -/
def qb (a0 : FVec Ideal S34816x1024 .f32) : FVec Ideal S8x4096x8x2x64 .f32 :=
  shapeCast _ (extractStridedSlice S32768x1024 ![0, 0] a0 slices_S34816x1024_S32768x1024_0_0) shapeCasts_S32768x1024_S8x4096x8x2x64

/-- The keys, the latent ones and then the context's, along the token axis. -/
def kall (a1 : FVec Ideal S34816x1024 .f32) : FVec Ideal S8x4352x8x2x64 .f32 :=
  concatenate S8x4352x8x2x64 1 [⟨S8x4096x8x2x64, (shapeCast _ (extractStridedSlice S32768x1024 ![0, 0] a1 slices_S34816x1024_S32768x1024_0_0) shapeCasts_S32768x1024_S8x4096x8x2x64)⟩, ⟨S8x256x8x2x64, (shapeCast _ (extractStridedSlice S2048x1024 ![32768, 0] a1 slices_S34816x1024_S2048x1024_32768_0) shapeCasts_S2048x1024_S8x256x8x2x64)⟩] concatenates_S8x4096x8x2x64_S8x256x8x2x64_S8x4352x8x2x64_d1

/-- The values, likewise. -/
def vall (a2 : FVec Ideal S34816x1024 .f32) : FVec Ideal S8x4352x8x128 .f32 :=
  concatenate S8x4352x8x128 1 [⟨S8x4096x8x128, (shapeCast _ (extractStridedSlice S32768x1024 ![0, 0] a2 slices_S34816x1024_S32768x1024_0_0) shapeCasts_S32768x1024_S8x4096x8x128)⟩, ⟨S8x256x8x128, (shapeCast _ (extractStridedSlice S2048x1024 ![32768, 0] a2 slices_S34816x1024_S2048x1024_32768_0) shapeCasts_S2048x1024_S8x256x8x128)⟩] concatenates_S8x4096x8x128_S8x256x8x128_S8x4352x8x128_d1

/-- The scaled scores. -/
def sc (q : FVec Ideal S8x4096x8x2x64 .f32) (k : FVec Ideal S8x4352x8x2x64 .f32) : FVec Ideal S8x8x2x4096x4352 .f32 :=
  mulf (Host.dotGeneral dot_S8x4096x8x2x64_S8x4352x8x2x64_S8x8x2x4096x4352_4_4_1_1_023_023 none q k) (broadcastInDim S8x8x2x4096x4352 ![] bcast_S_S8x8x2x4096x4352 (constant S_ .f32 0x3E000000#32))

/-- Each query's largest score. -/
def mx (s : FVec Ideal S8x8x2x4096x4352 .f32) : FVec Ideal S8x8x2x4096 .f32 :=
  maximumf (broadcastInDim S8x8x2x4096 ![] bcast_S_S8x8x2x4096 (constant S_ .f32 0xFF800000#32)) (Host.reduce FloatOps.maximumf s (constant S_ .f32 0xFF800000#32) reducesTo_S8x8x2x4096x4352_S8x8x2x4096_d4 h_S_)

/-- The exponentials of the scores less the largest. -/
def es (s : FVec Ideal S8x8x2x4096x4352 .f32) : FVec Ideal S8x8x2x4096x4352 .f32 :=
  Host.exp (subf s (broadcastInDim S8x8x2x4096x4352 ![0, 1, 2, 3, 4] bcast_S8x8x2x4096x1_S8x8x2x4096x4352_0_1_2_3_4 (broadcastInDim S8x8x2x4096x1 ![0, 1, 2, 3] bcast_S8x8x2x4096_S8x8x2x4096x1_0_1_2_3 (mx s))))

/-- The attention weights of both maps, from those exponentials. -/
def pp (e : FVec Ideal S8x8x2x4096x4352 .f32) : FVec Ideal S8x8x2x4096x4352 .f32 :=
  Host.divf e (broadcastInDim S8x8x2x4096x4352 ![0, 1, 2, 3, 4] bcast_S8x8x2x4096x1_S8x8x2x4096x4352_0_1_2_3_4 (broadcastInDim S8x8x2x4096x1 ![0, 1, 2, 3] bcast_S8x8x2x4096_S8x8x2x4096x1_0_1_2_3 (Host.reduceAdd e (constant S_ .f32 0x00000000#32) reducesTo_S8x8x2x4096x4352_S8x8x2x4096_d4 h_S_)))

/-- The second map's weight. -/
def lm (a3 a4 a5 a6 : FVec Ideal S64 .f32) : FVec Ideal S_ .f32 :=
  addf (subf (Host.exp (Host.reduceAdd (mulf a3 a4) (constant S_ .f32 0x00000000#32) reducesTo_S64_S_d0 h_S_)) (Host.exp (Host.reduceAdd (mulf a5 a6) (constant S_ .f32 0x00000000#32) reducesTo_S64_S_d0 h_S_))) (constant S_ .f32 0x3E4CCCCD#32)

/-- The maps' difference applied to the values. -/
def oo (v : FVec Ideal S8x4352x8x128 .f32) (p : FVec Ideal S8x8x2x4096x4352 .f32) (l : FVec Ideal S_ .f32) : FVec Ideal S8x4096x8x128 .f32 :=
  transpose S8x4096x8x128 [0, 3, 1, 2] (Host.dotGeneral dot_S8x4352x8x128_S8x8x4096x4352_S8x8x128x4096_1_3_3_2_02_01 none v (subf (shapeCast _ (extractStridedSlice S8x8x1x4096x4352 ![0, 0, 0, 0, 0] p slices_S8x8x2x4096x4352_S8x8x1x4096x4352_0_0_0_0_0) shapeCasts_S8x8x1x4096x4352_S8x8x4096x4352) (mulf (broadcastInDim S8x8x4096x4352 ![] bcast_S_S8x8x4096x4352 l) (shapeCast _ (extractStridedSlice S8x8x1x4096x4352 ![0, 0, 1, 0, 0] p slices_S8x8x2x4096x4352_S8x8x1x4096x4352_0_0_1_0_0) shapeCasts_S8x8x1x4096x4352_S8x8x4096x4352)))) transposes_S8x8x128x4096_S8x4096x8x128_0_3_1_2

/-- The normalised result, its heads side by side. -/
def fin (o : FVec Ideal S8x4096x8x128 .f32) (a7 : FVec Ideal S128 .f32) : FVec Ideal S32768x1024 .bf16 :=
  truncf .bf16 (shapeCast _ (mulf (mulf (mulf o (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf o o) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 a7))) (broadcastInDim S8x4096x8x128 ![] bcast_S_S8x4096x8x128 (constant S_ .f32 0x3F4CCCCD#32))) shapeCasts_S8x4096x8x128_S32768x1024) bitsLt_bf16_f32

/-- The reference's composed term is the stages' composition. -/
theorem res_eq (m : (ℓ : Loc nD τ sig) → Buf (Elt Ideal) ℓ) (c : Dev nD) :
    Cert.ReferenceIdeal.Value.res_main_v59 m c
      = fin (oo (vall (m ((c.tc : Thread nD τ).loc main_arg2)))
          (pp (es (sc (qb (m ((c.tc : Thread nD τ).loc main_arg0))) (kall (m ((c.tc : Thread nD τ).loc main_arg1))))))
          (lm (m ((c.tc : Thread nD τ).loc main_arg3)) (m ((c.tc : Thread nD τ).loc main_arg4)) (m ((c.tc : Thread nD τ).loc main_arg5)) (m ((c.tc : Thread nD τ).loc main_arg6))))
        (m ((c.tc : Thread nD τ).loc main_arg7)) := by
  unfold Cert.ReferenceIdeal.Value.res_main_v59 fin oo pp es mx sc qb kall vall lm
  rfl

section
variable {q k v : FVec Ideal S34816x1024 .f32} {Q K V : ℕ → ℕ → ℝ}

/-- The queries at an index are the array's, at row `b * 4096 + i` and the lane of head, map and lane in the map. -/
theorem qb_at (hq : ∀ (r : Fin 34816) (c : Fin 1024), q (ix2 r c) = (Q r c : EReal))
    (b : Fin 8) (i : Fin 4096) (h : Fin 8) (a : Fin 2) (d : Fin 64) :
    qb q (ix5 b i h a d) = (Q (b * 4096 + i) (h * 128 + a * 64 + d) : EReal) := by
  pointwise [qb]
  exact hq _ _

/-- The keys at an index, by the row that the token has among all. -/
theorem kall_at (hk : ∀ (r : Fin 34816) (c : Fin 1024), k (ix2 r c) = (K r c : EReal))
    (b : Fin 8) (j : Fin 4352) (h : Fin 8) (a : Fin 2) (d : Fin 64) :
    kall k (ix5 b j h a d) = (K (tok b j) (h * 128 + a * 64 + d) : EReal) := by
  pointwise [kall]
  unfold tok
  split
  · exact hk _ _
  · rw [Nat.add_assoc 32768]
    exact hk _ _

/-- The values likewise. -/
theorem vall_at (hv : ∀ (r : Fin 34816) (c : Fin 1024), v (ix2 r c) = (V r c : EReal))
    (b : Fin 8) (j : Fin 4352) (h : Fin 8) (e : Fin 128) :
    vall v (ix4 b j h e) = (V (tok b j) (h * 128 + e) : EReal) := by
  pointwise [vall]
  unfold tok
  split
  · exact hv _ _
  · rw [Nat.add_assoc 32768]
    exact hv _ _
end

/-- The pattern of an eighth denotes it. -/
theorem ofBits_eighth : Ideal.ofBits .f32 0x3E000000#32 = ((1 / 8 : ℝ) : EReal) := by
  simp [Ideal.ofBits, Ideal.ieee, -EReal.coe_mul]
  norm_num

/-- The scores at an index are the scaled products of query and key. -/
theorem sc_at {q k} {Q K : ℕ → ℕ → ℝ}
    (hq : ∀ (b : Fin 8) (i : Fin 4096) (h : Fin 8) (a : Fin 2) (d : Fin 64), q (ix5 b i h a d) = (Q (b * 4096 + i) (h * 128 + a * 64 + d) : EReal))
    (hk : ∀ (b : Fin 8) (i : Fin 4352) (h : Fin 8) (a : Fin 2) (d : Fin 64), k (ix5 b i h a d) = (K (tok b i) (h * 128 + a * 64 + d) : EReal))
    (b : Fin 8) (h : Fin 8) (a : Fin 2) (i : Fin 4096) (j : Fin 4352) :
    sc q k (ix5 b h a i j) = (score Q K (b * 4096 + i) (tok b j) (h * 128 + a * 64) : EReal) := by
  pointwise [sc]
  simp only [hq, hk]
  unfold score
  rw [EReal.coe_mul, coe_sum, ← ofBits_eighth]
  simp only [EReal.coe_mul]

/-- A reduction by maximum from minus infinity, of reals: real wherever some index drops to the result's. -/
theorem reduce_max_real {s t u : Shape} {axes : List (Fin s.rank)} (x : FVec Ideal s .f32) (y : FVec Ideal u .f32)
    (h : s.ReducesTo axes t) (hu : 0 < u.numel) (hy : ∀ i, y i = (⊥ : EReal)) (hs : ∀ i, IsReal (x i)) (j : t.Idx) (i : s.Idx)
    (hi : h.drop i = j) (z : FVec Ideal t .f32) (hz : z j = (⊥ : EReal)) :
    IsReal (maximumf z (Host.reduce (FloatOps.maximumf (F := Ideal) (φ := .f32)) x y h hu) j) := by
  have e : maximumf z (Host.reduce (FloatOps.maximumf (F := Ideal) (φ := .f32)) x y h hu) j
    = max (z j) (Host.reduce (FloatOps.maximumf (F := Ideal) (φ := .f32)) x y h hu j) := rfl
  have e2 := Host.reduce_eq_fold (FloatOps.maximumf (F := Ideal) (φ := .f32)) x y h hu j
  rw [e, e2, hy, hz, max_eq_right bot_le]
  exact isReal_fold_max _ ⟨i, Finset.mem_filter.2 ⟨Finset.mem_univ _, hi⟩⟩ _ hs

/-- The first key's index drops to its query's. -/
theorem drop_ix (b : Fin 8) (h : Fin 8) (a : Fin 2) (i : Fin 4096) :
    reducesTo_S8x8x2x4096x4352_S8x8x2x4096_d4.drop (ix5 b h a i 0) = ix4 b h a i := by
  funext k
  apply Fin.ext
  rw [Shape.ReducesTo.drop_apply_val]
  fin_cases k <;> rfl

/-- The largest score is real when the scores are. -/
theorem mx_real {s : FVec Ideal S8x8x2x4096x4352 .f32} (hs : ∀ i, IsReal (s i)) (b : Fin 8) (h : Fin 8) (a : Fin 2) (i : Fin 4096) :
    IsReal (mx s (ix4 b h a i)) :=
  reduce_max_real s _ _ _ (fun _ => Finite.ofBits_neg_inf) hs _ _ (drop_ix b h a i) _ Finite.ofBits_neg_inf

/-- The exponentials at an index. -/
theorem es_at (s) (b : Fin 8) (h : Fin 8) (a : Fin 2) (i : Fin 4096)  (j : Fin 4352) :
    es s (ix5 b h a i j) = Ideal.exp (s (ix5 b h a i j) - mx s (ix4 b h a i)) := by
  pointwise [es]

/-- The weights at an index: the exponential over the keys' sum. -/
theorem pp_at (s) (b : Fin 8) (h : Fin 8) (a : Fin 2) (i : Fin 4096)  (j : Fin 4352) :
    pp s (ix5 b h a i j) = Ideal.div (s (ix5 b h a i j)) (∑ x : Fin 4352, s (ix5 b h a i x)) := by
  pointwise [pp]

/-- The second map's weight. -/
theorem lm_at {a b c d} {A₀ A₁ A₂ A₃ : ℕ → ℝ} {c0 : ℝ} (h0 : ∀ i : Fin 64, a (ix1 i) = (A₀ i : EReal))
    (h1 : ∀ i : Fin 64, b (ix1 i) = (A₁ i : EReal)) (h2 : ∀ i : Fin 64, c (ix1 i) = (A₂ i : EReal))
    (h3 : ∀ i : Fin 64, d (ix1 i) = (A₃ i : EReal)) (hc : Ideal.ofBits .f32 0x3E4CCCCD#32 = (c0 : EReal)) (i) :
    lm a b c d i = (lam A₀ A₁ A₂ A₃ c0 : EReal) := by
  pointwise [lm]
  simp only [h0, h1, h2, h3, ← EReal.coe_mul, ← coe_sum]
  unfold lam
  rw [EReal.coe_add, EReal.coe_sub, ← hc]
  rfl

/-- The difference of the maps applied to the values, at an index. -/
theorem oo_at (v p l) (b : Fin 8) (h : Fin 8) (i : Fin 4096)  (j : Fin 128) :
    oo v p l (ix4 b i h j) = ∑ x : Fin 4352, v (ix4 b x h j) * (p (ix5 b h 0 i x) - l ix0 * p (ix5 b h 1 i x)) := by
  pointwise [oo]

/-- The result at an index, from the heads' vectors `O`. -/
theorem fin_at {o g} {O : ℕ → ℕ → ℕ → EReal} {G : ℕ → EReal}
    (ho : ∀ (b : Fin 8) (i : Fin 4096) (h : Fin 8) (e : Fin 128), o (ix4 b i h e) = O (b * 4096 + i) h e)
    (hg : ∀ e : Fin 128, g (ix1 e) = G e) (r : Fin 32768) (c : Fin 1024) :
    fin o g (ix2 r c) = norm (O r (c / 128)) G (Ideal.ofBits .f32 0x43000000#32) (Ideal.ofBits .f32 0x358637BD#32)
      (Ideal.ofBits .f32 0x3F4CCCCD#32) (c % 128) := by
  pointwise [fin]
  simp only [ho, hg, Nat.div_add_mod']
  rfl

/-- Exponentials of real scores shifted by a real, each divided by their sum, are the quotient of the real exponentials. -/
theorem soft_at {n : ℕ} (hn : 0 < n) (s : Fin n → ℝ) (M : ℝ) (j : Fin n) :
    Ideal.div (Ideal.exp ((s j : EReal) - (M : EReal))) (∑ x, Ideal.exp ((s x : EReal) - (M : EReal)))
      = ((Real.exp (s j - M) / ∑ x, Real.exp (s x - M) : ℝ) : EReal) := by
  have e : ∀ x, Ideal.exp ((s x : EReal) - (M : EReal)) = (Real.exp (s x - M) : EReal) := fun x => by
    rw [← EReal.coe_sub]; rfl
  simp only [e, ← coe_sum]
  rw [Ideal.div_coe (sum_exp_pos hn fun x => s x - M).ne', ← EReal.coe_mul, one_div, div_eq_mul_inv]

section
variable {q k v : FVec Ideal S34816x1024 .f32} {a₀ a₁ a₂ a₃ : FVec Ideal S64 .f32} {g : FVec Ideal S128 .f32}
  {Q K V : ℕ → ℕ → ℝ} {A₀ A₁ A₂ A₃ : ℕ → ℝ} {G : ℕ → EReal} {c0 : ℝ}

/-- The maps' difference applied to the values is the difference of the two averages. -/
theorem oo_eq (hq : ∀ (r : Fin 34816) (c : Fin 1024), q (ix2 r c) = (Q r c : EReal))
    (hk : ∀ (r : Fin 34816) (c : Fin 1024), k (ix2 r c) = (K r c : EReal))
    (hv : ∀ (r : Fin 34816) (c : Fin 1024), v (ix2 r c) = (V r c : EReal))
    (h0 : ∀ i : Fin 64, a₀ (ix1 i) = (A₀ i : EReal)) (h1 : ∀ i : Fin 64, a₁ (ix1 i) = (A₁ i : EReal))
    (h2 : ∀ i : Fin 64, a₂ (ix1 i) = (A₂ i : EReal)) (h3 : ∀ i : Fin 64, a₃ (ix1 i) = (A₃ i : EReal))
    (hc : Ideal.ofBits .f32 0x3E4CCCCD#32 = (c0 : EReal)) (b : Fin 8) (i : Fin 4096) (h : Fin 8) (e : Fin 128) :
    oo (vall v) (pp (es (sc (qb q) (kall k)))) (lm a₀ a₁ a₂ a₃) (ix4 b i h e)
      = (diff Q K V (lam A₀ A₁ A₂ A₃ c0) b (b * 4096 + i) h e : EReal) := by
  have hs := sc_at (qb_at hq) (kall_at hk)
  have hr : ∀ i, IsReal (sc (qb q) (kall k) i) := fun i => by
    rw [eq_ix5 i]
    exact ⟨_, hs _ _ _ _ _⟩
  have hp : ∀ a : Fin 2, ∃ M : ℝ, ∀ j : Fin 4352, pp (es (sc (qb q) (kall k))) (ix5 b h a i j)
      = ((Real.exp (score Q K (b * 4096 + i) (tok b j) (h * 128 + a * 64) - M)
        / ∑ x : Fin 4352, Real.exp (score Q K (b * 4096 + i) (tok b x) (h * 128 + a * 64) - M) : ℝ) : EReal) := fun a => by
    obtain ⟨M, hM⟩ := mx_real hr b h a i
    refine ⟨M, fun j => ?_⟩
    rw [pp_at]
    simp only [es_at, hs, hM]
    exact soft_at (by norm_num) (fun x : Fin 4352 => score Q K (b * 4096 + i) (tok b x) (h * 128 + a * 64)) M j
  obtain ⟨M₀, hp₀⟩ := hp 0
  obtain ⟨M₁, hp₁⟩ := hp 1
  rw [oo_at]
  simp only [vall_at hv, hp₀, hp₁, lm_at h0 h1 h2 h3 hc, ← EReal.coe_mul, ← EReal.coe_sub, ← coe_sum]
  rw [avg_sub, avg_exp (by norm_num), avg_exp (by norm_num)]
  simp only [Fin.val_zero, Fin.val_one, zero_mul, one_mul, add_zero]
  rfl

/-- The reference's result at an index: the difference of the averages, normalised. -/
theorem res_at (hq : ∀ (r : Fin 34816) (c : Fin 1024), q (ix2 r c) = (Q r c : EReal))
    (hk : ∀ (r : Fin 34816) (c : Fin 1024), k (ix2 r c) = (K r c : EReal))
    (hv : ∀ (r : Fin 34816) (c : Fin 1024), v (ix2 r c) = (V r c : EReal))
    (h0 : ∀ i : Fin 64, a₀ (ix1 i) = (A₀ i : EReal)) (h1 : ∀ i : Fin 64, a₁ (ix1 i) = (A₁ i : EReal))
    (h2 : ∀ i : Fin 64, a₂ (ix1 i) = (A₂ i : EReal)) (h3 : ∀ i : Fin 64, a₃ (ix1 i) = (A₃ i : EReal))
    (hg : ∀ e : Fin 128, g (ix1 e) = G e)
    (hc : Ideal.ofBits .f32 0x3E4CCCCD#32 = (c0 : EReal)) (r : Fin 32768) (c : Fin 1024) :
    fin (oo (vall v) (pp (es (sc (qb q) (kall k)))) (lm a₀ a₁ a₂ a₃)) g (ix2 r c)
      = norm (fun e => (diff Q K V (lam A₀ A₁ A₂ A₃ c0) (r / 4096) r (c / 128) e : EReal)) G
        (Ideal.ofBits .f32 0x43000000#32) (Ideal.ofBits .f32 0x358637BD#32) (Ideal.ofBits .f32 0x3F4CCCCD#32) (c % 128) := by
  rw [fin_at (O := fun r h e => (diff Q K V (lam A₀ A₁ A₂ A₃ c0) (r / 4096) r h e : EReal)) (fun b i h e => ?_) hg]
  rw [oo_eq hq hk hv h0 h1 h2 h3 hc]
  have e : ((b : ℕ) * 4096 + (i : ℕ)) / 4096 = b := by omega
  simp only [e]
end

end Cert.Ref

end
-- ==== Proof.Head.lean ====
/- One head of one block of queries: the attention kernel's computation as a composition of a few array functions, and what
   each of them computes at an index. -/
module

public import proofs.«01_k».proof.Proof.Gen.KernelIdeal.Skeleton
public import proofs.«01_k».proof.Proof.Spec
public import proofs.«01_k».proof.Proof.Finite
public import Idealize.ShloMosaic.Lib.Pointwise

@[expose] public section

set_option maxRecDepth 16384

noncomputable section

namespace Cert.Head

open Idealize.ShloMosaic Idealize.ShloMosaic.TcCoe Idealize.SL.Sem
open Cert.KernelIdeal Cert.KernelIdeal.Gen Cert.Reals Cert.Spec

/-- The first map's scaled queries: the lanes from 64 on are zero. -/
def q0 (x : Vec Ideal S256x128 .f32) : FVec Ideal S256x128 .bf16 := k0_pay9 x
/-- The second map's scaled queries: the lanes below 64 are zero. -/
def q1 (x : Vec Ideal S256x128 .f32) : FVec Ideal S256x128 .bf16 := k0_pay10 x

/-- The scores against a chunk of 1024 keys. -/
def sL (q : FVec Ideal S256x128 .bf16) (k : Vec Ideal S1024x128 .bf16) : FVec Ideal S256x1024 .f32 :=
  matmul dot_S256x128_S1024x128_S256x1024_1_1_0_0_n_n none q (shapeCast S1024x128 k shapeCasts_S1024x128_S1024x128 : FVec Ideal S1024x128 .bf16) (constant S256x1024 .f32 0x00000000#32)

/-- The scores against the 256 context keys. -/
def sC (q : FVec Ideal S256x128 .bf16) (k : Vec Ideal S256x128 .bf16) : FVec Ideal S256x256 .f32 :=
  matmul dot_S256x128_S256x128_S256x256_1_1_0_0_n_n none q (shapeCast S256x128 k shapeCasts_S256x128_S256x128 : FVec Ideal S256x128 .bf16) (constant S256x256 .f32 0x00000000#32)

/-- Each row's maximum over a chunk of 1024. -/
def mL (s : FVec Ideal S256x1024 .f32) : FVec Ideal S256x1 .f32 :=
  shapeCast S256x1 (multiReduction .maximumf [1] S256 s 0xFF800000#32 reduces_S256x1024_S256 (.inl rfl) rfl) shapeCasts_S256_S256x1

/-- Each row's maximum over a chunk of 256. -/
def mC (s : FVec Ideal S256x256 .f32) : FVec Ideal S256x1 .f32 :=
  shapeCast S256x1 (multiReduction .maximumf [1] S256 s 0xFF800000#32 reduces_S256x256_S256 (.inl rfl) rfl) shapeCasts_S256_S256x1

/-- The row maximum as it is stored and loaded back. -/
def mm (s0 s1 s2 s3 : FVec Ideal S256x1024 .f32) (sc : FVec Ideal S256x256 .f32) : FVec Ideal S256x1 .f32 :=
  shapeCast S256x1 (shapeCast S1x256x1 (maximumf (maximumf (maximumf (maximumf (mL s0) (mL s1)) (mL s2)) (mL s3)) (mC sc)) shapeCasts_S256x1_S1x256x1) shapeCasts_S1x256x1_S256x1

/-- The exponentials of a chunk of 1024 stored scores applied to the chunk's values. -/
def aL (m : FVec Ideal S256x1 .f32) (s : FVec Ideal S256x1024 .f32) (v : Vec Ideal S1024x256 .bf16) : FVec Ideal S256x256 .f32 :=
  matmul dot_S256x1024_S1024x256_S256x256_1_0_0_1_n_n none
    (truncf .bf16 (exp2 (subf (shapeCast S256x1024 (shapeCast S1x256x1024 s shapeCasts_S256x1024_S1x256x1024) shapeCasts_S1x256x1024_S256x1024) (broadcastTo S256x1024 m broadcasts_S256x1_S256x1024))) bitsLt_bf16_f32)
    (shapeCast S1024x256 v shapeCasts_S1024x256_S1024x256 : FVec Ideal S1024x256 .bf16) (constant S256x256 .f32 0x00000000#32)

/-- The exponentials of the 256 stored context scores applied to the context's values. -/
def aC (m : FVec Ideal S256x1 .f32) (s : FVec Ideal S256x256 .f32) (v : Vec Ideal S256x256 .bf16) : FVec Ideal S256x256 .f32 :=
  matmul dot_S256x256_S256x256_S256x256_1_0_0_1_n_n none
    (truncf .bf16 (exp2 (subf (shapeCast S256x256 (shapeCast S1x256x256 s shapeCasts_S256x256_S1x256x256) shapeCasts_S1x256x256_S256x256) (broadcastTo S256x256 m broadcasts_S256x1_S256x256))) bitsLt_bf16_f32)
    (shapeCast S256x256 v shapeCasts_S256x256_S256x256 : FVec Ideal S256x256 .bf16) (constant S256x256 .f32 0x00000000#32)

/-- The first 128 columns divided by column 128. -/
def quot (a : FVec Ideal S256x256 .f32) : FVec Ideal S256x128 .f32 :=
  mulf (extractStridedSlice S256x128 ![0, 0] a slices_S256x256_o0_0_S256x128)
    (broadcastTo S256x128 (divf (broadcast S256x1 (Scalar.ofBits (F := Ideal) .f32 0x3F800000#32)) (extractStridedSlice S256x1 ![0, 128] a slices_S256x256_o0_128_S256x1)) broadcasts_S256x1_S256x128)

/-- One map of one head. -/
def att (s0 s1 s2 s3 : FVec Ideal S256x1024 .f32) (sc : FVec Ideal S256x256 .f32) (v0 v1 v2 v3 : Vec Ideal S1024x256 .bf16)
    (vc : Vec Ideal S256x256 .bf16) : FVec Ideal S256x128 .f32 :=
  quot (addf (addf (addf (addf (aL (mm s0 s1 s2 s3 sc) s0 v0) (aL (mm s0 s1 s2 s3 sc) s1 v1)) (aL (mm s0 s1 s2 s3 sc) s2 v2)) (aL (mm s0 s1 s2 s3 sc) s3 v3)) (aC (mm s0 s1 s2 s3 sc) sc vc))

/-- One map of one head, from the map's queries. -/
def attq (q : FVec Ideal S256x128 .bf16) (k0 k1 k2 k3 : Vec Ideal S1024x128 .bf16) (kc : Vec Ideal S256x128 .bf16)
    (v0 v1 v2 v3 : Vec Ideal S1024x256 .bf16) (vc : Vec Ideal S256x256 .bf16) : FVec Ideal S256x128 .f32 :=
  att (sL q k0) (sL q k1) (sL q k2) (sL q k3) (sC q kc) v0 v1 v2 v3 vc

/-- The second map's weight. -/
def lamk (a : Vec Ideal S4x64 .f32) : FVec Ideal S1x1 .f32 := k0_pay61 a

/-- The normalisation of the maps' difference. -/
def nrm (o : FVec Ideal S256x128 .f32) (g : Vec Ideal S1x128 .f32) : FVec Ideal S256x128 .bf16 := k0_pay6 o (mulf o o) g

/-- One head. -/
def head (a : Vec Ideal S4x64 .f32) (g : Vec Ideal S1x128 .f32) (x : Vec Ideal S256x128 .f32) (k0 k1 k2 k3 : Vec Ideal S1024x128 .bf16)
    (kc : Vec Ideal S256x128 .bf16) (v0 v1 v2 v3 : Vec Ideal S1024x256 .bf16) (vc : Vec Ideal S256x256 .bf16) : FVec Ideal S256x128 .bf16 :=
  nrm (subf (attq (q0 x) k0 k1 k2 k3 kc v0 v1 v2 v3 vc)
    (mulf (broadcastTo S256x128 (lamk a) broadcasts_S1x1_S256x128) (attq (q1 x) k0 k1 k2 k3 kc v0 v1 v2 v3 vc))) g

/-- Comparing a lane number below 128, as a word, with 64. -/
theorem lane_slt (d : Fin 128) : IntOp.cmpi .slt (BitVec.ofNat 32 d) 64#32 = if (d : ℕ) < 64 then 1#1 else 0#1 := by
  revert d; decide +kernel

/-- The same from the other side. -/
theorem lane_sge (d : Fin 128) : IntOp.cmpi .sge (BitVec.ofNat 32 d) 64#32 = if (d : ℕ) < 64 then 0#1 else 1#1 := by
  revert d; decide +kernel

/-- The named factor of the queries is an eighth of the logarithm's inverse. -/
theorem scale_eq : Named.named (F := Ideal) (φ := .f32) κ "q_scale" 0x3E38AA3B#32 = (((1 / 8) * (Real.log 2)⁻¹ : ℝ) : EReal) := rfl

/-- The lanes of map `a` of a query row, scaled; zero on the other map's lanes. -/
def lanes (a : ℕ) (X : ℕ → ℝ) (d : ℕ) : ℝ := if d / 64 = a then X d * ((1 / 8) * (Real.log 2)⁻¹) else 0

/-- The first map's scaled queries at an index. -/
theorem q0_at {x : Vec Ideal S256x128 .f32} {X : ℕ → ℝ} (r : Fin 256) (hx : ∀ d : Fin 128, x (ix2 r d) = (X d : EReal)) (d : Fin 128) :
    q0 x (ix2 r d) = (lanes 0 X d : EReal) := by
  pointwise [q0, k0_pay9, k0_pay7, k0_pay8]
  rw [lane_slt, scale_eq, hx, ← EReal.coe_mul]
  unfold lanes
  have hd := d.isLt
  by_cases h : (d : ℕ) < 64
  · rw [if_pos h, if_pos (by omega)]; rfl
  · rw [if_neg h, if_neg (by omega)]; rfl

/-- The second map's scaled queries at an index. -/
theorem q1_at {x : Vec Ideal S256x128 .f32} {X : ℕ → ℝ} (r : Fin 256) (hx : ∀ d : Fin 128, x (ix2 r d) = (X d : EReal)) (d : Fin 128) :
    q1 x (ix2 r d) = (lanes 1 X d : EReal) := by
  pointwise [q1, k0_pay10, k0_pay7, k0_pay8]
  rw [lane_sge, scale_eq, hx, ← EReal.coe_mul]
  unfold lanes
  have hd := d.isLt
  by_cases h : (d : ℕ) < 64
  · rw [if_pos h, if_neg (by omega)]; rfl
  · rw [if_neg h, if_pos (by omega)]; rfl

/-- The product of a map's lanes with a key: the product over the map's 64 lanes, scaled. -/
theorem lanes_sum (a : ℕ) (ha : a < 2) (X Y : ℕ → ℝ) :
    (∑ d : Fin 128, lanes a X d * Y d) = (Real.log 2)⁻¹ * ((∑ d : Fin 64, X (a * 64 + d) * Y (a * 64 + d)) * (1 / 8)) := by
  rw [Fin.sum_univ_eq_sum_range (fun d => lanes a X d * Y d), show 128 = 64 + 64 from rfl, Finset.sum_range_add,
    Fin.sum_univ_eq_sum_range (fun d => X (a * 64 + d) * Y (a * 64 + d)), Finset.sum_mul, Finset.mul_sum]
  have e0 : ∀ d ∈ Finset.range 64, lanes a X d * Y d = if a = 0 then X d * ((1 / 8) * (Real.log 2)⁻¹) * Y d else 0 := fun d hd => by
    have := Finset.mem_range.1 hd
    unfold lanes
    rw [show d / 64 = 0 by omega]
    by_cases h : a = 0
    · subst h; simp
    · rw [if_neg (Ne.symm h), if_neg h, zero_mul]
  have e1 : ∀ d ∈ Finset.range 64, lanes a X (64 + d) * Y (64 + d) = if a = 1 then X (64 + d) * ((1 / 8) * (Real.log 2)⁻¹) * Y (64 + d) else 0 := fun d hd => by
    have := Finset.mem_range.1 hd
    unfold lanes
    rw [show (64 + d) / 64 = 1 by omega]
    by_cases h : a = 1
    · subst h; simp
    · rw [if_neg (Ne.symm h), if_neg h, zero_mul]
  rw [Finset.sum_congr rfl e0, Finset.sum_congr rfl e1]
  interval_cases a
  · simp only [if_true, zero_ne_one, if_false, Finset.sum_const_zero, add_zero, zero_mul, zero_add]
    exact Finset.sum_congr rfl fun d _ => by ring
  · simp only [if_true, one_ne_zero, if_false, Finset.sum_const_zero, zero_add, one_mul]
    exact Finset.sum_congr rfl fun d _ => by ring

/-- A chunk's scores at an index. -/
theorem sL_at {q : FVec Ideal S256x128 .bf16} {k : Vec Ideal S1024x128 .bf16} {Z : ℕ → ℝ} {K : ℕ → ℕ → ℝ} (r : Fin 256)
    (hq : ∀ d : Fin 128, q (ix2 r d) = (Z d : EReal)) (hk : ∀ (j : Fin 1024) (d : Fin 128), k (ix2 j d) = (K j d : EReal)) (j : Fin 1024) :
    sL q k (ix2 r j) = ((∑ d : Fin 128, Z d * K j d : ℝ) : EReal) := by
  pointwise [sL]
  simp only [hq, hk, ← EReal.coe_mul, ← coe_sum]

/-- The context's scores at an index. -/
theorem sC_at {q : FVec Ideal S256x128 .bf16} {k : Vec Ideal S256x128 .bf16} {Z : ℕ → ℝ} {K : ℕ → ℕ → ℝ} (r : Fin 256)
    (hq : ∀ d : Fin 128, q (ix2 r d) = (Z d : EReal)) (hk : ∀ (j : Fin 256) (d : Fin 128), k (ix2 j d) = (K j d : EReal)) (j : Fin 256) :
    sC q k (ix2 r j) = ((∑ d : Fin 128, Z d * K j d : ℝ) : EReal) := by
  pointwise [sC]
  simp only [hq, hk, ← EReal.coe_mul, ← coe_sum]

/-- The maximum over a chunk of real scores is real. -/
theorem mL_real {s : FVec Ideal S256x1024 .f32} (r : Fin 256) (hs : ∀ j : Fin 1024, IsReal (s (ix2 r j))) : IsReal (mL s (ix2 r 0)) := by
  have e : mL s (ix2 r 0) = Finset.fold max (Ideal.ofBits FTy.f32 0xFF800000#32) (fun x : Fin 1024 => s (ix2 r x)) Finset.univ := by
    pointwise [mL]
  rw [e, Finite.ofBits_neg_inf]
  exact isReal_fold_max _ ⟨0, Finset.mem_univ _⟩ _ hs

/-- The same over the context's. -/
theorem mC_real {s : FVec Ideal S256x256 .f32} (r : Fin 256) (hs : ∀ j : Fin 256, IsReal (s (ix2 r j))) : IsReal (mC s (ix2 r 0)) := by
  have e : mC s (ix2 r 0) = Finset.fold max (Ideal.ofBits FTy.f32 0xFF800000#32) (fun x : Fin 256 => s (ix2 r x)) Finset.univ := by
    pointwise [mC]
  rw [e, Finite.ofBits_neg_inf]
  exact isReal_fold_max _ ⟨0, Finset.mem_univ _⟩ _ hs

/-- The row maximum is the chunks' largest. -/
theorem mm_at (s0 s1 s2 s3 sc) (r : Fin 256) : mm s0 s1 s2 s3 sc (ix2 r 0)
    = max (max (max (max (mL s0 (ix2 r 0)) (mL s1 (ix2 r 0))) (mL s2 (ix2 r 0))) (mL s3 (ix2 r 0))) (mC sc (ix2 r 0)) := by
  pointwise [mm]

/-- A weight in base 2. -/
theorem exp2_coe (s M : ℝ) : FloatOps.exp2 (F := Ideal) (φ := .f32) ((s : EReal) - (M : EReal)) = ((2 : ℝ) ^ (s - M) : ℝ) := by
  rw [← EReal.coe_sub]; rfl

/-- A chunk's weighted values at an index. -/
theorem aL_at {m : FVec Ideal S256x1 .f32} {s : FVec Ideal S256x1024 .f32} {v : Vec Ideal S1024x256 .bf16} {M : ℝ} {S V : ℕ → ℝ} (r : Fin 256) (e : Fin 256)
    (hm : m (ix2 r 0) = (M : EReal)) (hs : ∀ j : Fin 1024, s (ix2 r j) = (S j : EReal)) (hv : ∀ j : Fin 1024, v (ix2 j e) = (V j : EReal)) :
    aL m s v (ix2 r e) = ((∑ j : Fin 1024, (2 : ℝ) ^ (S j - M) * V j : ℝ) : EReal) := by
  pointwise [aL]
  simp only [hm, hs, hv, exp2_coe, ← EReal.coe_mul, ← coe_sum]

/-- The context's weighted values at an index. -/
theorem aC_at {m : FVec Ideal S256x1 .f32} {s : FVec Ideal S256x256 .f32} {v : Vec Ideal S256x256 .bf16} {M : ℝ} {S V : ℕ → ℝ} (r : Fin 256) (e : Fin 256)
    (hm : m (ix2 r 0) = (M : EReal)) (hs : ∀ j : Fin 256, s (ix2 r j) = (S j : EReal)) (hv : ∀ j : Fin 256, v (ix2 j e) = (V j : EReal)) :
    aC m s v (ix2 r e) = ((∑ j : Fin 256, (2 : ℝ) ^ (S j - M) * V j : ℝ) : EReal) := by
  pointwise [aC]
  simp only [hm, hs, hv, exp2_coe, ← EReal.coe_mul, ← coe_sum]

/-- The quotient at an index. -/
theorem quot_at (a) (r : Fin 256) (e : Fin 128) : quot a (ix2 r e) = a (ix2 r ⟨e, by omega⟩) * Ideal.div 1 (a (ix2 r 128)) := by
  pointwise [quot]

/-- What is known of the keys and values of one head in the blocks the body reads: the five chunks' keys are `K`'s rows, their
    values `V`'s rows, with a column of ones at 128. -/
structure Chunks (k0 k1 k2 k3 : Vec Ideal S1024x128 .bf16) (kc : Vec Ideal S256x128 .bf16) (v0 v1 v2 v3 : Vec Ideal S1024x256 .bf16)
    (vc : Vec Ideal S256x256 .bf16) (K V : ℕ → ℕ → ℝ) : Prop where
  hk0 : ∀ (j : Fin 1024) (d : Fin 128), k0 (ix2 j d) = (K j d : EReal)
  hk1 : ∀ (j : Fin 1024) (d : Fin 128), k1 (ix2 j d) = (K (1024 + j) d : EReal)
  hk2 : ∀ (j : Fin 1024) (d : Fin 128), k2 (ix2 j d) = (K (2048 + j) d : EReal)
  hk3 : ∀ (j : Fin 1024) (d : Fin 128), k3 (ix2 j d) = (K (3072 + j) d : EReal)
  hkc : ∀ (j : Fin 256) (d : Fin 128), kc (ix2 j d) = (K (4096 + j) d : EReal)
  hv0 : ∀ (j : Fin 1024) (e : Fin 256), (e : ℕ) ≤ 128 → v0 (ix2 j e) = (if (e : ℕ) < 128 then V j e else 1 : ℝ)
  hv1 : ∀ (j : Fin 1024) (e : Fin 256), (e : ℕ) ≤ 128 → v1 (ix2 j e) = (if (e : ℕ) < 128 then V (1024 + j) e else 1 : ℝ)
  hv2 : ∀ (j : Fin 1024) (e : Fin 256), (e : ℕ) ≤ 128 → v2 (ix2 j e) = (if (e : ℕ) < 128 then V (2048 + j) e else 1 : ℝ)
  hv3 : ∀ (j : Fin 1024) (e : Fin 256), (e : ℕ) ≤ 128 → v3 (ix2 j e) = (if (e : ℕ) < 128 then V (3072 + j) e else 1 : ℝ)
  hvc : ∀ (j : Fin 256) (e : Fin 256), (e : ℕ) ≤ 128 → vc (ix2 j e) = (if (e : ℕ) < 128 then V (4096 + j) e else 1 : ℝ)

section
variable {k0 k1 k2 k3 : Vec Ideal S1024x128 .bf16} {kc : Vec Ideal S256x128 .bf16} {v0 v1 v2 v3 : Vec Ideal S1024x256 .bf16}
  {vc : Vec Ideal S256x256 .bf16} {K V : ℕ → ℕ → ℝ}

/-- One map's result: the average of the values weighted by the exponentials of the scores, which the base-2 weights give. -/
theorem attq_at (H : Chunks k0 k1 k2 k3 kc v0 v1 v2 v3 vc K V) {q : FVec Ideal S256x128 .bf16} {Z : ℕ → ℝ} {s : ℕ → ℝ} (r : Fin 256)
    (hq : ∀ d : Fin 128, q (ix2 r d) = (Z d : EReal)) (hs : ∀ j, ∑ d : Fin 128, Z d * K j d = (Real.log 2)⁻¹ * s j) (e : Fin 128) :
    attq q k0 k1 k2 k3 kc v0 v1 v2 v3 vc (ix2 r e) = (avg (fun j : Fin 4352 => s j) (fun j => V j e) : EReal) := by
  have h0 := sL_at r hq H.hk0
  have h1 := sL_at (K := fun j => K (1024 + j)) r hq H.hk1
  have h2 := sL_at (K := fun j => K (2048 + j)) r hq H.hk2
  have h3 := sL_at (K := fun j => K (3072 + j)) r hq H.hk3
  have hc := sC_at (K := fun j => K (4096 + j)) r hq H.hkc
  simp only [hs] at h0 h1 h2 h3 hc
  obtain ⟨M, hM⟩ : IsReal (mm (sL q k0) (sL q k1) (sL q k2) (sL q k3) (sC q kc) (ix2 r 0)) := by
    rw [mm_at]
    exact ((((mL_real r fun j => ⟨_, h0 j⟩).max (mL_real r fun j => ⟨_, h1 j⟩)).max (mL_real r fun j => ⟨_, h2 j⟩)).max
      (mL_real r fun j => ⟨_, h3 j⟩)).max (mC_real r fun j => ⟨_, hc j⟩)
  have acc : ∀ e : Fin 256, (e : ℕ) ≤ 128 →
      addf (addf (addf (addf (aL (mm (sL q k0) (sL q k1) (sL q k2) (sL q k3) (sC q kc)) (sL q k0) v0) (aL (mm (sL q k0) (sL q k1) (sL q k2) (sL q k3) (sC q kc)) (sL q k1) v1))
        (aL (mm (sL q k0) (sL q k1) (sL q k2) (sL q k3) (sC q kc)) (sL q k2) v2)) (aL (mm (sL q k0) (sL q k1) (sL q k2) (sL q k3) (sC q kc)) (sL q k3) v3))
        (aC (mm (sL q k0) (sL q k1) (sL q k2) (sL q k3) (sC q kc)) (sC q kc) vc) (ix2 r e)
      = ((∑ j : Fin 4352, (2 : ℝ) ^ ((Real.log 2)⁻¹ * s j - M) * (if (e : ℕ) < 128 then V j e else 1) : ℝ) : EReal) := fun e he => by
    rw [addf_apply, addf_apply, addf_apply, addf_apply,
      aL_at (S := fun j => (Real.log 2)⁻¹ * s j) (V := fun j => if (e : ℕ) < 128 then V j e else 1) r e hM h0 (fun j => H.hv0 j e he),
      aL_at (S := fun j => (Real.log 2)⁻¹ * s (1024 + j)) (V := fun j => if (e : ℕ) < 128 then V (1024 + j) e else 1) r e hM h1 (fun j => H.hv1 j e he),
      aL_at (S := fun j => (Real.log 2)⁻¹ * s (2048 + j)) (V := fun j => if (e : ℕ) < 128 then V (2048 + j) e else 1) r e hM h2 (fun j => H.hv2 j e he),
      aL_at (S := fun j => (Real.log 2)⁻¹ * s (3072 + j)) (V := fun j => if (e : ℕ) < 128 then V (3072 + j) e else 1) r e hM h3 (fun j => H.hv3 j e he),
      aC_at (S := fun j => (Real.log 2)⁻¹ * s (4096 + j)) (V := fun j => if (e : ℕ) < 128 then V (4096 + j) e else 1) r e hM hc (fun j => H.hvc j e he),
      sum_chunks (fun j => (2 : ℝ) ^ ((Real.log 2)⁻¹ * s j - M) * (if (e : ℕ) < 128 then V j e else 1))]
    simp only [EReal.coe_add]
    rfl
  have hp : 0 < ∑ j : Fin 4352, (2 : ℝ) ^ ((Real.log 2)⁻¹ * s j - M) :=
    Finset.sum_pos (fun _ _ => Real.rpow_pos_of_pos two_pos _) ⟨0, Finset.mem_univ _⟩
  unfold attq att
  rw [quot_at, acc ⟨e, by omega⟩ e.isLt.le, acc 128 (by decide)]
  simp only [show ((128 : Fin 256) : ℕ) = 128 from rfl, lt_irrefl, if_false, mul_one, e.isLt, if_true]
  rw [Ideal.div_coe hp.ne', one_mul, ← EReal.coe_mul, avg_two (by norm_num) (fun j : Fin 4352 => s j) (fun j : Fin 4352 => V j e) M]

/-- The second map's weight, in the kernel. -/
theorem lamk_at {a : Vec Ideal S4x64 .f32} {A : ℕ → ℕ → ℝ} {c0 : ℝ} (ha : ∀ (i : Fin 4) (d : Fin 64), a (ix2 i d) = (A i d : EReal))
    (hc : Ideal.ofBits .f32 0x3E4CCCCD#32 = (c0 : EReal)) : lamk a (ix2 0 0) = (lam (A 0) (A 1) (A 2) (A 3) c0 : EReal) := by
  pointwise [lamk, k0_pay61]
  simp only [ha, ← EReal.coe_mul, ← coe_sum, hc]
  unfold lam
  rw [EReal.coe_add, EReal.coe_sub]
  rfl

/-- The normalisation at an index. -/
theorem nrm_at {o : FVec Ideal S256x128 .f32} {g : Vec Ideal S1x128 .f32} {O G : ℕ → EReal} (r : Fin 256) (ho : ∀ e : Fin 128, o (ix2 r e) = O e)
    (hg : ∀ e : Fin 128, g (ix2 0 e) = G e) (e : Fin 128) :
    nrm o g (ix2 r e) = norm O G (Ideal.ofBits .f32 0x43000000#32) (Ideal.ofBits .f32 0x358637BD#32) (Ideal.ofBits .f32 0x3F4CCCCD#32) e := by
  pointwise [nrm, k0_pay6]
  simp only [ho, hg]
  rfl

/-- One head's difference of averages, for the query lanes `X`, the keys `K` and the values `V` of that head. -/
def headVal (X : ℕ → ℝ) (K V : ℕ → ℕ → ℝ) (l : ℝ) (e : ℕ) : ℝ :=
  avg (fun j : Fin 4352 => (∑ d : Fin 64, X d * K j d) * (1 / 8)) (fun j => V j e)
    - l * avg (fun j : Fin 4352 => (∑ d : Fin 64, X (64 + d) * K j (64 + d)) * (1 / 8)) (fun j => V j e)

/-- One head's result at row `r` and lane `e`. -/
theorem head_at (H : Chunks k0 k1 k2 k3 kc v0 v1 v2 v3 vc K V) {a : Vec Ideal S4x64 .f32} {g : Vec Ideal S1x128 .f32} {x : Vec Ideal S256x128 .f32}
    {A : ℕ → ℕ → ℝ} {G : ℕ → EReal} {X : ℕ → ℝ} {c0 : ℝ} (r : Fin 256)
    (ha : ∀ (i : Fin 4) (d : Fin 64), a (ix2 i d) = (A i d : EReal)) (hc : Ideal.ofBits .f32 0x3E4CCCCD#32 = (c0 : EReal))
    (hg : ∀ e : Fin 128, g (ix2 0 e) = G e) (hx : ∀ d : Fin 128, x (ix2 r d) = (X d : EReal)) (e : Fin 128) :
    head a g x k0 k1 k2 k3 kc v0 v1 v2 v3 vc (ix2 r e)
      = norm (fun e => (headVal X K V (lam (A 0) (A 1) (A 2) (A 3) c0) e : EReal)) G
        (Ideal.ofBits .f32 0x43000000#32) (Ideal.ofBits .f32 0x358637BD#32) (Ideal.ofBits .f32 0x3F4CCCCD#32) e := by
  unfold head
  refine nrm_at r (fun e => ?_) hg e
  have e0 := attq_at H r (q0_at r hx) (s := fun j => (∑ d : Fin 64, X d * K j d) * (1 / 8))
    (fun j => by simpa using lanes_sum 0 (by norm_num) X (K j)) e
  have e1 := attq_at H r (q1_at r hx) (s := fun j => (∑ d : Fin 64, X (64 + d) * K j (64 + d)) * (1 / 8))
    (fun j => by simpa using lanes_sum 1 (by norm_num) X (K j)) e
  pointwise
  rw [e0, e1, lamk_at ha hc, headVal, EReal.coe_sub, EReal.coe_mul]
end

end Cert.Head

end
-- ==== Proof.Body.lean ====
/- What the kernel body leaves in its output block, at an index, from what its input blocks hold. -/
module

public import proofs.«01_k».proof.Proof.Gen.KernelIdeal.Value
public import proofs.«01_k».proof.Proof.Head
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gen

open Idealize.ShloMosaic Idealize.ShloMosaic.TcCoe Idealize.SL.Sem
open Idealize.ShloMosaic.Pipeline (Dat Cfg Window)

open Cert.Reals Cert.Spec

/-- An index of one head's part of the block, in row `r`. -/
theorem row_ix (x : S256x128.Idx) (r : Fin 256) (h : (r : ℕ) = x 0) : ∃ e : Fin 128, x = ix2 r e ∧ (x 1 : ℕ) = e :=
  ⟨x 1, by rw [show r = x 0 from Fin.ext h]; exact eq_ix2 x, rfl⟩

/-- The output block at row `r` and column `e`: head `e / 128` of the block, lane `e % 128`. -/
theorem out_at (c : Dev nD) (i : grid0.Coords) (arg3 : Memref sig .tc .vmem S4x64 .f32) (harg3 : arg3.IsWhole) (arg4 : Memref sig .tc .vmem S256x256 .f32) (harg4 : arg4.IsWhole) (arg5 : Memref sig .tc .vmem S4096x256 .bf16) (harg5 : arg5.IsWhole) (arg6 : Memref sig .tc .vmem S256x256 .bf16) (harg6 : arg6.IsWhole) (arg7 : Memref sig .tc .vmem S4096x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S256x256 .bf16) (harg10 : arg10.IsWhole) (arg11 : Memref sig .tc .vmem S4x256x4352 .f32) (harg11 : arg11.IsWhole) (arg12 : Memref sig .tc .vmem S4x256x1 .f32) (harg12 : arg12.IsWhole) (hc0 : cond0_0 i) (hc1 : cond0_1 i)
    (x0 : Vec Ideal S4x64 .f32) (x1 : Vec Ideal S256x256 .f32) (x2 : Vec Ideal S4096x256 .bf16) (x3 : Vec Ideal S256x256 .bf16) (x4 : Vec Ideal S4096x512 .bf16) (x5 : Vec Ideal S256x512 .bf16) (x6 : Vec Ideal S1x128 .f32)
    (r : Fin 256) (e : Fin 256) {A K V : ℕ → ℕ → ℝ} {X : ℕ → ℝ} {G : ℕ → EReal} {c0 : ℝ}
    (hx0 : ∀ (i : Fin 4) (d : Fin 64), x0 (ix2 i d) = (A i d : EReal)) (hc : Ideal.ofBits .f32 0x3E4CCCCD#32 = (c0 : EReal))
    (hx1 : ∀ d : Fin 256, x1 (ix2 r d) = (X d : EReal))
    (hx2 : ∀ (j : Fin 4096) (d : Fin 256), x2 (ix2 j d) = (K j d : EReal))
    (hx3 : ∀ (j : Fin 256) (d : Fin 256), x3 (ix2 j d) = (K (4096 + j) d : EReal))
    (hx4 : ∀ (j : Fin 4096) (h : Fin 2) (l : Fin 256), (l : ℕ) ≤ 128 → x4 (ix2 j ⟨h * 256 + l, by omega⟩) = (if (l : ℕ) < 128 then V j (h * 128 + l) else 1 : ℝ))
    (hx5 : ∀ (j : Fin 256) (h : Fin 2) (l : Fin 256), (l : ℕ) ≤ 128 → x5 (ix2 j ⟨h * 256 + l, by omega⟩) = (if (l : ℕ) < 128 then V (4096 + j) (h * 128 + l) else 1 : ℝ))
    (hx6 : ∀ d : Fin 128, x6 (ix2 0 d) = G d) :
    out0_A_7 (F := Ideal) c i arg3 harg3 arg4 harg4 arg5 harg5 arg6 harg6 arg7 harg7 arg8 harg8 arg9 harg9 arg10 harg10 arg11 harg11 arg12 harg12 hc0 hc1 x0 x1 x2 x3 x4 x5 x6 (ix2 r e)
      = norm (fun l => (Cert.Head.headVal (fun d => X (e / 128 * 128 + d)) (fun j d => K j (e / 128 * 128 + d)) (fun j l => V j (e / 128 * 128 + l))
          (lam (A 0) (A 1) (A 2) (A 3) c0) l : EReal)) G
        (Ideal.ofBits .f32 0x43000000#32) (Ideal.ofBits .f32 0x358637BD#32) (Ideal.ofBits .f32 0x3F4CCCCD#32) (e % 128) := by
  unfold out0_A_7
  frame_open
  simp (disch := decide) only [↓ View.readCov_skip, ↓ View.readCov_cons_toLoadRect, ↓ View.readCov_fill]
  frame_out
  canon_tiles x h
  · show Cert.Head.head x0 x6 (View.ld x1 (Rect.unit ![0, 128] ![256, 128] inb_S256x256_S256x128_0_128))
      (View.ld x2 (Rect.unit ![0, 128] ![1024, 128] inb_S4096x256_S1024x128_0_128)) (View.ld x2 (Rect.unit ![1024, 128] ![1024, 128] inb_S4096x256_S1024x128_1024_128))
      (View.ld x2 (Rect.unit ![2048, 128] ![1024, 128] inb_S4096x256_S1024x128_2048_128)) (View.ld x2 (Rect.unit ![3072, 128] ![1024, 128] inb_S4096x256_S1024x128_3072_128))
      (View.ld x3 (Rect.unit ![0, 128] ![256, 128] inb_S256x256_S256x128_0_128))
      (View.ld x4 (Rect.unit ![0, 256] ![1024, 256] inb_S4096x512_S1024x256_0_256)) (View.ld x4 (Rect.unit ![1024, 256] ![1024, 256] inb_S4096x512_S1024x256_1024_256))
      (View.ld x4 (Rect.unit ![2048, 256] ![1024, 256] inb_S4096x512_S1024x256_2048_256)) (View.ld x4 (Rect.unit ![3072, 256] ![1024, 256] inb_S4096x512_S1024x256_3072_256))
      (View.ld x5 (Rect.unit ![0, 256] ![256, 256] inb_S256x512_S256x256_0_256)) x = _
    obtain ⟨e', rfl, he⟩ := row_ix x r h0
    have he' : (e : ℕ) = 1 * 128 + e' := by
      have q := h1
      rw [he] at q
      exact q.trans (by simp)
    have hd : (e : ℕ) / 128 = 1 := by omega
    have hm : (e : ℕ) % 128 = e' := by omega
    rw [hd, hm]
    refine Cert.Head.head_at (X := fun d => X (1 * 128 + d)) (K := fun j d => K j (1 * 128 + d)) (V := fun j l => V j (1 * 128 + l))
      ⟨?_, ?_, ?_, ?_, ?_, ?_, ?_, ?_, ?_, ?_⟩ r hx0 hc hx6 ?_ e'
    · intro j d; pointwise; exact hx2 _ _
    · intro j d; pointwise; exact hx2 _ _
    · intro j d; pointwise; exact hx2 _ _
    · intro j d; pointwise; exact hx2 _ _
    · intro j d; pointwise; exact hx3 _ _
    · intro j l hl; pointwise; simpa using hx4 ⟨j, by omega⟩ 1 l hl
    · intro j l hl; pointwise; simpa using hx4 ⟨1024 + j, by omega⟩ 1 l hl
    · intro j l hl; pointwise; simpa using hx4 ⟨2048 + j, by omega⟩ 1 l hl
    · intro j l hl; pointwise; simpa using hx4 ⟨3072 + j, by omega⟩ 1 l hl
    · intro j l hl; pointwise; simpa using hx5 ⟨j, by omega⟩ 1 l hl
    · intro d; pointwise; exact hx1 _
  · show Cert.Head.head x0 x6 (View.ld x1 (Rect.unit ![0, 0] ![256, 128] inb_S256x256_S256x128_0_0))
      (View.ld x2 (Rect.unit ![0, 0] ![1024, 128] inb_S4096x256_S1024x128_0_0)) (View.ld x2 (Rect.unit ![1024, 0] ![1024, 128] inb_S4096x256_S1024x128_1024_0))
      (View.ld x2 (Rect.unit ![2048, 0] ![1024, 128] inb_S4096x256_S1024x128_2048_0)) (View.ld x2 (Rect.unit ![3072, 0] ![1024, 128] inb_S4096x256_S1024x128_3072_0))
      (View.ld x3 (Rect.unit ![0, 0] ![256, 128] inb_S256x256_S256x128_0_0))
      (View.ld x4 (Rect.unit ![0, 0] ![1024, 256] inb_S4096x512_S1024x256_0_0)) (View.ld x4 (Rect.unit ![1024, 0] ![1024, 256] inb_S4096x512_S1024x256_1024_0))
      (View.ld x4 (Rect.unit ![2048, 0] ![1024, 256] inb_S4096x512_S1024x256_2048_0)) (View.ld x4 (Rect.unit ![3072, 0] ![1024, 256] inb_S4096x512_S1024x256_3072_0))
      (View.ld x5 (Rect.unit ![0, 0] ![256, 256] inb_S256x512_S256x256_0_0)) x = _
    obtain ⟨e', rfl, he⟩ := row_ix x r h0
    have he' : (e : ℕ) = 0 * 128 + e' := by
      have q := h1
      rw [he] at q
      exact q.trans (by simp)
    have hd : (e : ℕ) / 128 = 0 := by omega
    have hm : (e : ℕ) % 128 = e' := by omega
    rw [hd, hm]
    refine Cert.Head.head_at (X := fun d => X (0 * 128 + d)) (K := fun j d => K j (0 * 128 + d)) (V := fun j l => V j (0 * 128 + l))
      ⟨?_, ?_, ?_, ?_, ?_, ?_, ?_, ?_, ?_, ?_⟩ r hx0 hc hx6 ?_ e'
    · intro j d; pointwise; exact hx2 _ _
    · intro j d; pointwise; exact hx2 _ _
    · intro j d; pointwise; exact hx2 _ _
    · intro j d; pointwise; exact hx2 _ _
    · intro j d; pointwise; exact hx3 _ _
    · intro j l hl; pointwise; simpa using hx4 ⟨j, by omega⟩ 0 l hl
    · intro j l hl; pointwise; simpa using hx4 ⟨1024 + j, by omega⟩ 0 l hl
    · intro j l hl; pointwise; simpa using hx4 ⟨2048 + j, by omega⟩ 0 l hl
    · intro j l hl; pointwise; simpa using hx4 ⟨3072 + j, by omega⟩ 0 l hl
    · intro j l hl; pointwise; simpa using hx5 ⟨j, by omega⟩ 0 l hl
    · intro d; pointwise; exact hx1 _

end Cert.KernelIdeal.Gen

end
-- ==== Proof.Blocks.lean ====
/- Where the blocks lie in the arrays, and what the output array holds after the launch. -/
module

public import proofs.«01_k».proof.Proof.Gen.KernelIdeal.Value
public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gen

open Idealize.ShloMosaic Idealize.ShloMosaic.TcCoe Idealize.SL.Sem
open Idealize.ShloMosaic.Pipeline (Dat Cfg Window)

open Cert.Reals Cert.Spec

/-- The block indices of the windows at grid point `t`. -/
theorem idx : ∀ t : Fin grid0.N,
    (win0_0.index t 0 = 0 ∧ win0_0.index t 1 = 0)
    ∧ (win0_1.index t 0 = t.val / 64 * 16 + t.val % 16 ∧ win0_1.index t 1 = t.val / 16 % 4)
    ∧ (win0_2.index t 0 = t.val / 64 ∧ win0_2.index t 1 = t.val / 16 % 4)
    ∧ (win0_3.index t 0 = 128 + t.val / 64 ∧ win0_3.index t 1 = t.val / 16 % 4)
    ∧ (win0_4.index t 0 = t.val / 64 ∧ win0_4.index t 1 = t.val / 16 % 4)
    ∧ (win0_5.index t 0 = 128 + t.val / 64 ∧ win0_5.index t 1 = t.val / 16 % 4)
    ∧ (win0_6.index t 0 = 0 ∧ win0_6.index t 1 = 0)
    ∧ (win0_7.index t 0 = t.val / 64 * 16 + t.val % 16 ∧ win0_7.index t 1 = t.val / 16 % 4) := by
  decide +kernel

/-- The grid has 512 points. -/
theorem lt512 (t : Fin cfg0.N) : (t : ℕ) < 512 := lt_of_lt_of_eq t.isLt (by decide +kernel)

variable (m : (ℓ : Loc nD τ sig) → Buf (Elt Ideal) ℓ)

/-- The rounded keys are the keys. -/
theorem V0 (c : Dev nD) (r : Fin 34816) (d : Fin 1024) : V m c main_v0 (ix2 r d) = m (c, Proc.tc.devRef main_arg1) (ix2 r d) := by
  unfold V
  entry_read
  pointwise

/-- The values with each head's block of ones beside it. -/
theorem V5 (c : Dev nD) (r : Fin 34816) (x : Fin 2048) : V m c main_v5 (ix2 r x)
    = if h : (x : ℕ) % 256 < 128 then m (c, Proc.tc.devRef main_arg2) (ix2 r ⟨x / 256 * 128 + x % 256, by omega⟩) else (1 : EReal) := by
  unfold V
  entry_read
  pointwise

/-- The norm's weights as a row. -/
theorem V11 (c : Dev nD) (d : Fin 128) : V m c main_v11 (ix2 0 d) = m (c, Proc.tc.devRef main_arg7) (ix1 d) := by
  unfold V
  entry_read
  pointwise

/-- The four vectors stacked. -/
theorem V10 (c : Dev nD) (i : Fin 4) (d : Fin 64) : V m c main_v10 (ix2 i d)
    = if (i : ℕ) < 1 then m (c, Proc.tc.devRef main_arg3) (ix1 d) else if (i : ℕ) - 1 < 1 then m (c, Proc.tc.devRef main_arg4) (ix1 d)
      else if (i : ℕ) - 1 - 1 < 1 then m (c, Proc.tc.devRef main_arg5) (ix1 d) else m (c, Proc.tc.devRef main_arg6) (ix1 d) := by
  have e : V m c main_v10 = concatenate S4x64 0 [⟨S1x64, broadcastInDim S1x64 ![1] bcast_S64_S1x64_1 (m (c, Proc.tc.devRef main_arg3))⟩,
      ⟨S1x64, broadcastInDim S1x64 ![1] bcast_S64_S1x64_1 (m (c, Proc.tc.devRef main_arg4))⟩,
      ⟨S1x64, broadcastInDim S1x64 ![1] bcast_S64_S1x64_1 (m (c, Proc.tc.devRef main_arg5))⟩,
      ⟨S1x64, broadcastInDim S1x64 ![1] bcast_S64_S1x64_1 (m (c, Proc.tc.devRef main_arg6))⟩] concatenates_S1x64_S1x64_S1x64_S1x64_S4x64_d0 := by
    unfold V
    after_results
    rfl
  rw [e]
  pointwise
  split_ifs <;> rfl

/-- The stacked vectors' block is the array. -/
theorem b0 (c : Dev nD) (t : Fin cfg0.N) (i : Fin 4) (d : Fin 64) : iblk m c 0 t (ix2 i d) = V m c main_v10 (ix2 i d) := by
  blk_simp [iblk, idx t]
  congr 1
  blk_ext [idx t]

/-- The query block at an index. -/
theorem b1 (c : Dev nD) (t : Fin cfg0.N) (i : Fin 256) (d : Fin 256) : iblk m c 1 t (ix2 i d)
    = m (c, Proc.tc.devRef main_arg0) (ix2 ⟨(t / 64 * 16 + t % 16) * 256 + i, by have := lt512 t; omega⟩ ⟨t / 16 % 4 * 256 + d, by omega⟩) := by
  rw [← V_main_arg0 m c]
  blk_simp [iblk, idx t]
  congr 1
  blk_ext [idx t]

/-- The latent keys' block at an index. -/
theorem b2 (c : Dev nD) (t : Fin cfg0.N) (j : Fin 4096) (d : Fin 256) : X0_2 m c t (ix2 j d)
    = V m c main_v0 (ix2 ⟨t / 64 * 4096 + j, by have := lt512 t; omega⟩ ⟨t / 16 % 4 * 256 + d, by omega⟩) := by
  unfold X0_2 Pipeline.Window.fill
  rw [dif_pos (moved0_2 t _)]
  blk_simp [iblk, idx t]
  congr 1
  blk_ext [idx t]

/-- The context keys' block at an index. -/
theorem b3 (c : Dev nD) (t : Fin cfg0.N) (j : Fin 256) (d : Fin 256) : iblk m c 3 t (ix2 j d)
    = V m c main_v0 (ix2 ⟨(128 + t / 64) * 256 + j, by have := lt512 t; omega⟩ ⟨t / 16 % 4 * 256 + d, by omega⟩) := by
  blk_simp [iblk, idx t]
  congr 1
  blk_ext [idx t]

/-- The latent values' block at an index. -/
theorem b4 (c : Dev nD) (t : Fin cfg0.N) (j : Fin 4096) (d : Fin 512) : X0_4 m c t (ix2 j d)
    = V m c main_v5 (ix2 ⟨t / 64 * 4096 + j, by have := lt512 t; omega⟩ ⟨t / 16 % 4 * 512 + d, by omega⟩) := by
  unfold X0_4 Pipeline.Window.fill
  rw [dif_pos (moved0_4 t _)]
  blk_simp [iblk, idx t]
  congr 1
  blk_ext [idx t]

/-- The context values' block at an index. -/
theorem b5 (c : Dev nD) (t : Fin cfg0.N) (j : Fin 256) (d : Fin 512) : iblk m c 5 t (ix2 j d)
    = V m c main_v5 (ix2 ⟨(128 + t / 64) * 256 + j, by have := lt512 t; omega⟩ ⟨t / 16 % 4 * 512 + d, by omega⟩) := by
  blk_simp [iblk, idx t]
  congr 1
  blk_ext [idx t]

/-- The norm's weights' block is the array. -/
theorem b6 (c : Dev nD) (t : Fin cfg0.N) (d : Fin 128) : iblk m c 6 t (ix2 0 d) = V m c main_v11 (ix2 0 d) := by
  blk_simp [iblk, idx t]
  congr 1
  blk_ext [idx t]

section
variable {Q K V' : ℕ → ℕ → ℝ} {A₀ A₁ A₂ A₃ : ℕ → ℝ} {G : ℕ → EReal} {c0 : ℝ} (c : Dev nD)

/-- A value entry with its ones, read at head `h` and lane `l` of its block. -/
theorem v_at (hv : ∀ (r : Fin 34816) (x : Fin 1024), m (c, Proc.tc.devRef main_arg2) (ix2 r x) = (V' r x : EReal))
    (r : Fin 34816) (a : ℕ) (ha : a < 4) (h : Fin 2) (l : Fin 256) (hl : (l : ℕ) ≤ 128) (p : a * 512 + (h * 256 + l) < 2048) :
    V m c main_v5 (ix2 r ⟨a * 512 + (h * 256 + l), p⟩) = ((if (l : ℕ) < 128 then V' r (a * 256 + (h * 128 + l)) else 1 : ℝ) : EReal) := by
  rw [V5]
  have e : (a * 512 + ((h : ℕ) * 256 + l)) % 256 = l := by omega
  have e' : (a * 512 + ((h : ℕ) * 256 + l)) / 256 * 128 + l = a * 256 + (h * 128 + l) := by omega
  simp only [e, e']
  split
  · rw [hv]
  · rfl

/-- The output block's entry is the specification's at the block's place in the array. -/
theorem block_at (hq : ∀ (r : Fin 34816) (x : Fin 1024), m (c, Proc.tc.devRef main_arg0) (ix2 r x) = (Q r x : EReal))
    (hk : ∀ (r : Fin 34816) (x : Fin 1024), m (c, Proc.tc.devRef main_arg1) (ix2 r x) = (K r x : EReal))
    (hv : ∀ (r : Fin 34816) (x : Fin 1024), m (c, Proc.tc.devRef main_arg2) (ix2 r x) = (V' r x : EReal))
    (a0 : ∀ i : Fin 64, m (c, Proc.tc.devRef main_arg3) (ix1 i) = (A₀ i : EReal))
    (a1 : ∀ i : Fin 64, m (c, Proc.tc.devRef main_arg4) (ix1 i) = (A₁ i : EReal))
    (a2 : ∀ i : Fin 64, m (c, Proc.tc.devRef main_arg5) (ix1 i) = (A₂ i : EReal))
    (a3 : ∀ i : Fin 64, m (c, Proc.tc.devRef main_arg6) (ix1 i) = (A₃ i : EReal))
    (hg : ∀ e : Fin 128, m (c, Proc.tc.devRef main_arg7) (ix1 e) = G e)
    (hc : Ideal.ofBits .f32 0x3E4CCCCD#32 = (c0 : EReal)) (t : Fin cfg0.N) (r : Fin 256) (e : Fin 256) :
    outsAt0 m c t (ix2 r e)
      = norm (fun l => (diff Q K V' (lam A₀ A₁ A₂ A₃ c0) (t / 64) ((t / 64 * 16 + t % 16) * 256 + r) (t / 16 % 4 * 2 + e / 128) l : EReal)) G
        (Ideal.ofBits .f32 0x43000000#32) (Ideal.ofBits .f32 0x358637BD#32) (Ideal.ofBits .f32 0x3F4CCCCD#32) (e % 128) := by
  have ht := lt512 t
  unfold outsAt0
  refine (out_at (A := fun i d => if i < 1 then A₀ d else if i - 1 < 1 then A₁ d else if i - 1 - 1 < 1 then A₂ d else A₃ d)
    (X := fun d => Q ((t / 64 * 16 + t % 16) * 256 + r) (t / 16 % 4 * 256 + d))
    (K := fun j d => K (tok (t / 64) j) (t / 16 % 4 * 256 + d)) (V := fun j d => V' (tok (t / 64) j) (t / 16 % 4 * 256 + d)) (G := G) (c0 := c0)
    (hx0 := fun i d => ?_) (hc := hc) (hx1 := fun d => ?_) (hx2 := fun j d => ?_) (hx3 := fun j d => ?_) (hx4 := fun j h l hl => ?_)
    (hx5 := fun j h l hl => ?_) (hx6 := fun d => ?_) ..).trans ?_
  · rw [b0, V10, a0, a1, a2, a3]
    split_ifs <;> rfl
  · rw [b1, hq]
  · rw [b2, V0, hk]
    simp only [tok, j.isLt, if_true]
  · rw [b3, V0, hk]
    have e : (128 + (t : ℕ) / 64) * 256 + j = 32768 + t / 64 * 256 + (4096 + j - 4096) := by omega
    simp only [tok, e, if_neg (show ¬ 4096 + (j : ℕ) < 4096 by omega)]
  · rw [b4, v_at m c hv _ (t / 16 % 4) (by omega) h l hl]
    simp only [tok, j.isLt, if_true]
  · rw [b5, v_at m c hv _ (t / 16 % 4) (by omega) h l hl]
    have e : (128 + (t : ℕ) / 64) * 256 + j = 32768 + t / 64 * 256 + (4096 + j - 4096) := by omega
    simp only [tok, e, if_neg (show ¬ 4096 + (j : ℕ) < 4096 by omega)]
  · rw [b6, V11, hg]
  · have e1 : ∀ x, (t : ℕ) / 16 % 4 * 256 + ((e : ℕ) / 128 * 128 + x) = (t / 16 % 4 * 2 + e / 128) * 128 + x := by omega
    simp only [Cert.Head.headVal, diff, attn, score, e1]
    rfl

/-- The output array of the launch. -/
def result (Q K V' : ℕ → ℕ → ℝ) (l0 : ℝ) (G : ℕ → EReal) : Vec Ideal S32768x1024 .bf16 := fun i =>
  norm (fun l => (diff Q K V' l0 ((i 0 : ℕ) / 4096) (i 0) ((i 1 : ℕ) / 128) l : EReal)) G
    (Ideal.ofBits .f32 0x43000000#32) (Ideal.ofBits .f32 0x358637BD#32) (Ideal.ofBits .f32 0x3F4CCCCD#32) ((i 1 : ℕ) % 128)

/-- The output array read at row `r` and column `x`. -/
theorem result_at (l0 : ℝ) (r : Fin 32768) (x : Fin 1024) : result Q K V' l0 G (ix2 r x)
    = norm (fun l => (diff Q K V' l0 ((r : ℕ) / 4096) r ((x : ℕ) / 128) l : EReal)) G
      (Ideal.ofBits .f32 0x43000000#32) (Ideal.ofBits .f32 0x358637BD#32) (Ideal.ofBits .f32 0x3F4CCCCD#32) ((x : ℕ) % 128) := rfl

/-- After the launch the output array holds the specification's values: every index lies in the block of one grid point. -/
theorem final (hq : ∀ (r : Fin 34816) (x : Fin 1024), m (c, Proc.tc.devRef main_arg0) (ix2 r x) = (Q r x : EReal))
    (hk : ∀ (r : Fin 34816) (x : Fin 1024), m (c, Proc.tc.devRef main_arg1) (ix2 r x) = (K r x : EReal))
    (hv : ∀ (r : Fin 34816) (x : Fin 1024), m (c, Proc.tc.devRef main_arg2) (ix2 r x) = (V' r x : EReal))
    (a0 : ∀ i : Fin 64, m (c, Proc.tc.devRef main_arg3) (ix1 i) = (A₀ i : EReal))
    (a1 : ∀ i : Fin 64, m (c, Proc.tc.devRef main_arg4) (ix1 i) = (A₁ i : EReal))
    (a2 : ∀ i : Fin 64, m (c, Proc.tc.devRef main_arg5) (ix1 i) = (A₂ i : EReal))
    (a3 : ∀ i : Fin 64, m (c, Proc.tc.devRef main_arg6) (ix1 i) = (A₃ i : EReal))
    (hg : ∀ e : Fin 128, m (c, Proc.tc.devRef main_arg7) (ix1 e) = G e)
    (hc : Ideal.ofBits .f32 0x3E4CCCCD#32 = (c0 : EReal)) :
    (dats m 0 c).arrAt 7 cfg0.N = result Q K V' (lam A₀ A₁ A₂ A₃ c0) G := by
  refine (dats m 0 c).arrAt_eq_of_covers 7 _ (by decide +kernel) fun t hf y => ?_
  blk_simp
  rw [after0_7]
  rw [eq_ix2 y]
  refine (block_at m c hq hk hv a0 a1 a2 a3 hg hc t (y 0) (y 1)).trans ?_
  have ht := lt512 t
  have e : (win0_7.blk t).view.emb (ix2 (y 0) (y 1)) = ix2 ⟨(t / 64 * 16 + t % 16) * 256 + (y 0 : ℕ), by idx_bounds; omega⟩
      ⟨t / 16 % 4 * 256 + (y 1 : ℕ), by idx_bounds; omega⟩ := by
    blk_ext [idx t]
  rw [e]
  have e1 : ((t / 64 * 16 + t % 16) * 256 + (y 0 : ℕ)) / 4096 = t / 64 := by idx_bounds; omega
  have e2 : (t / 16 % 4 * 256 + (y 1 : ℕ)) / 128 = t / 16 % 4 * 2 + (y 1 : ℕ) / 128 := by idx_bounds; omega
  have e3 : (t / 16 % 4 * 256 + (y 1 : ℕ)) % 128 = (y 1 : ℕ) % 128 := by idx_bounds; omega
  rw [result_at, e1, e2, e3]
end

end Cert.KernelIdeal.Gen

end
-- ==== Proof.Claims.lean ====
/- The claims about the attention call: the frames, the named constant, and the equation of kernel and reference. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import proofs.«01_k».proof.Proof.Finite
public import proofs.«01_k».proof.Proof.Ref
public import proofs.«01_k».proof.Proof.Blocks
public import Idealize.ShloMosaic.Lib.Quiescent

@[expose] public section

set_option maxRecDepth 16384

noncomputable section

namespace Cert.Claims

open Idealize.ShloMosaic Idealize.ShloMosaic.TcCoe Idealize.SL.Sem Cert.Reals

/-- A matrix of real entries as a function of two numbers. -/
theorem exists_fun2 {n k : ℕ} {S : Shape} (hS : S = ⟨2, ![n, k]⟩) (x : FVec Ideal S .f32) (h : ∀ i, IsReal (x i)) :
    ∃ Q : ℕ → ℕ → ℝ, ∀ (r : Fin n) (c : Fin k), x (hS ▸ ix2 r c) = (Q r c : EReal) := by
  subst hS
  choose f hf using h
  refine ⟨fun r c => if h : r < n ∧ c < k then f (ix2 ⟨r, h.1⟩ ⟨c, h.2⟩) else 0, fun r c => ?_⟩
  simp only [r.isLt, c.isLt, and_self, dif_pos]
  exact hf _

/-- A vector of real entries as a function of a number. -/
theorem exists_fun1 {n : ℕ} {S : Shape} (hS : S = ⟨1, ![n]⟩) (x : FVec Ideal S .f32) (h : ∀ i, IsReal (x i)) :
    ∃ A : ℕ → ℝ, ∀ i : Fin n, x (hS ▸ ix1 i) = (A i : EReal) := by
  subst hS
  choose f hf using h
  refine ⟨fun r => if h : r < n then f (ix1 ⟨r, h⟩) else 0, fun r => ?_⟩
  simp only [r.isLt, dif_pos]
  exact hf _

/-- A vector of extended reals as a function of a number. -/
theorem exists_ext1 {n : ℕ} {S : Shape} (hS : S = ⟨1, ![n]⟩) (x : FVec Ideal S .f32) :
    ∃ G : ℕ → EReal, ∀ i : Fin n, x (hS ▸ ix1 i) = G i := by
  subst hS
  refine ⟨fun r => if h : r < n then x (ix1 ⟨r, h⟩) else (0 : EReal), fun r => ?_⟩
  simp only [r.isLt, dif_pos]

/-- The initial weight of the second map is a real number. -/
theorem lam_init_real : ∃ c0 : ℝ, Ideal.ofBits .f32 0x3E4CCCCD#32 = (c0 : EReal) := by
  simp [Ideal.ofBits, Ideal.ieee]
  exact ⟨_, rfl⟩

/-- On real arguments the kernel's output array is the reference's result. -/
theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v59 m' c = (Cert.KernelIdeal.Gen.dats m 0 c).arrAt 7 Cert.KernelIdeal.cfg0.N := by
  obtain ⟨e0, e1, e2, e3, e4, e5, e6, e7⟩ := hagree
  obtain ⟨r0, r1, r2, r3, r4, r5, r6, -⟩ := Cert.Finite.of_fn _ _ _ _ _ _ _ _ (hpre c)
  obtain ⟨Q, hq⟩ := exists_fun2 rfl _ r0
  obtain ⟨K, hk⟩ := exists_fun2 rfl _ r1
  obtain ⟨V, hv⟩ := exists_fun2 rfl _ r2
  obtain ⟨A₀, a0⟩ := exists_fun1 rfl _ r3
  obtain ⟨A₁, a1⟩ := exists_fun1 rfl _ r4
  obtain ⟨A₂, a2⟩ := exists_fun1 rfl _ r5
  obtain ⟨A₃, a3⟩ := exists_fun1 rfl _ r6
  obtain ⟨c0, hc⟩ := lam_init_real
  obtain ⟨G, hg⟩ := exists_ext1 rfl (m (c, Proc.tc.devRef Cert.KernelIdeal.main_arg7) : FVec Ideal Cert.KernelIdeal.S128 .f32)
  rw [Cert.KernelIdeal.Gen.final m c hq hk hv a0 a1 a2 a3 hg hc, Cert.Ref.res_eq, e0, e1, e2, e3, e4, e5, e6, e7]
  funext i
  rw [eq_ix2 i]
  exact Cert.Ref.res_at hq hk hv a0 a1 a2 a3 hg hc (i 0) (i 1)

/-- The kernel runs without error and leaves its arguments as they were. -/
theorem frame_p : Cert.quiescent_Kernel := fun m ρ _ => Cert.Kernel.Gen.frame m ρ

/-- So does the kernel with exact arithmetic. -/
theorem frame_pi : Cert.quiescent_KernelIdeal := fun m ρ _ => Cert.KernelIdeal.Gen.frame m ρ

/-- So does it under the precondition. -/
theorem frame_pi_finite : Cert.quiescent_KernelIdeal_pre_finite := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- And the reference under the precondition. -/
theorem frame_ri_finite : Cert.quiescent_ReferenceIdeal_pre_finite := fun m ρ _ => frame_ri m ρ trivial

/-- The scale's constant is named by `log2(e) / 8`. -/
theorem preserves : Cert.preserves_Kernel_KernelIdeal :=
  IdealRules.named_const.statement Cert.KernelIdeal.κ "q_scale" .f32 0x3E38AA3B#32 (((1 / 8) * (Real.log 2)⁻¹ : ℝ) : EReal) rfl

/-- On arguments that are real numbers, kernel and reference compute the same array. -/
theorem algebraic : Cert.algebraic_KernelIdeal_ReferenceIdeal_pre_finite := by
  intro m ρ m' ρ' hpre hagree
  refine ⟨_, Cert.KernelIdeal.Value.run_blocks (F := Ideal) m ρ, ?_⟩
  exact (θ_run Cert.ReferenceIdeal.defs _ _).mono (fun _ h c => ⟨(h c).1.trans (equation m m' hpre c (hagree c)), (h c).2⟩)
    (Cert.ReferenceIdeal.Value.run (F := Ideal) m' ρ')

end Cert.Claims

end
-- ==== Proof.InSpec.lean ====
/- The function that both input projection programs compute: each token's row is normalised and modulated, multiplied with
   the fused weights, and cut into queries, keys and values; queries and keys are normalised per head and map and, for the
   latent tokens, rotated by the angles of the token's place. -/
module

public import proofs.«01_k».proof.Proof.Reals
public import Idealize.ShloMosaic.Lib.Pointwise

@[expose] public section

noncomputable section

namespace Cert.InSpec

open Idealize.ShloMosaic

/-- A row divided by its root mean square, times the weights `g`, scaled by one plus `s` and shifted by `t`. -/
def hid (x g s t : ℕ → EReal) (d : ℕ) : EReal :=
  x d * Ideal.rsqrt (Ideal.div (∑ i : Fin 1024, x i * x i) (Ideal.ofBits .f32 0x44800000#32) + Ideal.ofBits .f32 0x358637BD#32) * g d
    * (1 + s d) + t d

/-- The product of a row with column `c` of the weights. -/
def proj (h : ℕ → EReal) (w : ℕ → ℕ → EReal) (c : ℕ) : EReal := ∑ d : Fin 1024, h d * w d c

/-- The mean square over the 64 lanes around lane `c`. -/
def msq (y : ℕ → EReal) (c : ℕ) : EReal :=
  Ideal.div (∑ i : Fin 64, y (c / 64 * 64 + i) * y (c / 64 * 64 + i)) (Ideal.ofBits .f32 0x42800000#32)

/-- Every 64 lanes divided by their root mean square, times the weights `g`. -/
def hn (y g : ℕ → EReal) (c : ℕ) : EReal := y c * Ideal.rsqrt (msq y c + Ideal.ofBits .f32 0x358637BD#32) * g (c % 64)

/-- The rotation's frequency `f`. -/
def freq (f : ℕ) : EReal :=
  Ideal.pow (Ideal.ofBits .f32 0x461C4000#32) (Ideal.div (-((f : ℝ) : EReal)) (Ideal.ofBits .f32 0x41800000#32))

/-- The angle at place `p` of the 64 by 64 grid for lane `c`: the first 32 of 64 lanes turn with the row, the others with
    the column. -/
def ang (p c : ℕ) : EReal := (((if c / 32 % 2 = 0 then p / 64 else p % 64 : ℕ) : ℝ) : EReal) * freq (c % 16)

/-- The rotation at place `p`: lanes `c` and `c + 16` are a plane's two coordinates. -/
def rot (z : ℕ → EReal) (p c : ℕ) : EReal :=
  if c / 16 % 2 = 0 then z c * Ideal.cos (ang p c) - z (c + 16) * Ideal.sin (ang p c)
  else z (c - 16) * Ideal.sin (ang p c) + z c * Ideal.cos (ang p c)

/-- Rotation of the latent tokens' rows, the first 32768; the context's rows stay. -/
def rope (z : ℕ → EReal) (r c : ℕ) : EReal := if r < 32768 then rot z (r % 4096) c else z c

/-- The rotation as sines with signs and a lane exchange. -/
def krope (z C S : ℕ → EReal) (c : ℕ) : EReal := z c * C (c % 128) + (if c / 16 % 2 = 0 then z (c + 16) else z (c - 16)) * S (c % 128)

/-- The row of the modulations for token row `r`: the batch's, and one more for all context tokens. -/
def mrow (r : ℕ) : ℕ := if r < 32768 then r / 4096 else 8

section
variable (X M W : ℕ → ℕ → EReal) (G Q K : ℕ → EReal)

/-- The projected row `r`: queries, keys and values side by side. -/
def ys (r : ℕ) : ℕ → EReal := proj (hid (X r) G (fun d => M (mrow r) (1024 + d)) (M (mrow r))) W

/-- The queries before scaling. -/
def qs (r c : ℕ) : EReal := rope (hn (ys X M W G r) Q) r c

/-- The keys. -/
def ks (r c : ℕ) : EReal := rope (hn (fun c => ys X M W G r (1024 + c)) K) r c

/-- The values, each head's 128 lanes followed by 128 ones. -/
def vs (r x : ℕ) : EReal := if x % 256 < 128 then ys X M W G r (2048 + (x / 256 * 128 + x % 256)) else 1
end

/-- A square is not negative. -/
theorem sq_nonneg' (y : EReal) : 0 ≤ y * y := by
  rcases le_total 0 y with h | h
  · exact mul_nonneg h h
  · rw [← neg_mul_neg]
    exact mul_nonneg (EReal.neg_nonneg.2 h) (EReal.neg_nonneg.2 h)

/-- A common real factor that is not negative leaves a sum. -/
theorem sum_mul_real {n : ℕ} (f : Fin n → EReal) (c : ℝ) (hc : 0 ≤ c) : ∑ i, f i * (c : EReal) = (∑ i, f i) * (c : EReal) := by
  induction n with
  | zero => simp
  | succ n ih =>
    rw [Fin.sum_univ_succ, Fin.sum_univ_succ, ih, EReal.right_distrib_of_nonneg_of_ne_top (EReal.coe_nonneg.2 hc) (EReal.coe_ne_top c)]

/-- The pattern of 64 denotes it. -/
theorem ofBits_64 : Ideal.ofBits .f32 0x42800000#32 = ((64 : ℝ) : EReal) := by
  simp [Ideal.ofBits, Ideal.ieee, -EReal.coe_mul]
  norm_num

/-- The mean square of a lane's head, from the products with a matrix that holds a 64th within each head and zero elsewhere. -/
theorem msq_eq (y : ℕ → EReal) (o : ℕ) (hm : ℕ → ℕ → EReal) (j : ℕ) (hj : j < 128)
    (h : ∀ i j : ℕ, i < 128 → j < 128 → hm i j = if i / 64 = j / 64 then ((1 / 64 : ℝ) : EReal) else 0) :
    ∑ x : Fin 128, y (o * 128 + x) * y (o * 128 + x) * hm x j = msq y (o * 128 + j) := by
  have e := Fin.sum_univ_add (a := 64) (b := 64) fun x : Fin (64 + 64) => y (o * 128 + x) * y (o * 128 + x) * hm x j
  refine e.trans ?_
  unfold msq
  rw [ofBits_64, Ideal.div_coe (by norm_num), ← sum_mul_real _ _ (by norm_num)]
  have e1 : ∀ i : Fin 64, hm (Fin.castAdd 64 i) j = if j < 64 then ((1 / 64 : ℝ) : EReal) else 0 := fun i => by
    rw [h _ _ (Fin.isLt _) hj]
    have : ((Fin.castAdd 64 i : Fin (64 + 64)) : ℕ) / 64 = 0 := by simp
    rw [this]
    exact if_congr (by omega) rfl rfl
  have e2 : ∀ i : Fin 64, hm (Fin.natAdd 64 i) j = if j < 64 then 0 else ((1 / 64 : ℝ) : EReal) := fun i => by
    rw [h _ _ (Fin.isLt _) hj]
    have : ((Fin.natAdd 64 i : Fin (64 + 64)) : ℕ) / 64 = 1 := by simp
    rw [this]
    split_ifs <;> first | rfl | omega
  simp only [e1, e2]
  split_ifs with hl
  · have : (o * 128 + j) / 64 * 64 = o * 128 := by omega
    simp only [this, mul_zero, Finset.sum_const_zero, add_zero, Fin.val_castAdd]
  · have : (o * 128 + j) / 64 * 64 = o * 128 + 64 := by omega
    simp only [this, mul_zero, Finset.sum_const_zero, zero_add, Fin.val_natAdd, Nat.add_assoc]

/-- The rotation by signed sines is the rotation, for latent tokens, and changes nothing with cosines one and sines zero. -/
theorem krope_eq (z C S : ℕ → EReal) (r c : ℕ)
    (hC : C (c % 128) = if r < 32768 then Ideal.cos (ang (r % 4096) c) else 1)
    (hS : S (c % 128) = if r < 32768 then (if c / 16 % 2 = 0 then - Ideal.sin (ang (r % 4096) c) else Ideal.sin (ang (r % 4096) c)) else 0) :
    krope z C S c = rope z r c := by
  unfold krope rope rot
  rw [hC, hS]
  split_ifs
  · rw [mul_neg, sub_eq_add_neg]
  · rw [add_comm]
  · rw [mul_one, mul_zero, add_zero]
  · rw [mul_one, mul_zero, add_zero]

/-- Scaling by the eighth's and the logarithm's quotient is scaling by an eighth and dividing by the logarithm. -/
theorem scale_eq (x : EReal) : x * (((1 / 8) * (Real.log 2)⁻¹ : ℝ) : EReal)
    = Ideal.div (x * Ideal.ofBits .f32 0x3E000000#32) (Ideal.log (Ideal.ofBits .f32 0x40000000#32)) := by
  have h8 : Ideal.ofBits .f32 0x3E000000#32 = ((1 / 8 : ℝ) : EReal) := by
    simp [Ideal.ofBits, Ideal.ieee, -EReal.coe_mul]
    norm_num
  have h2 : Ideal.log (Ideal.ofBits .f32 0x40000000#32) = (Real.log 2 : EReal) := by
    have : Ideal.ofBits .f32 0x40000000#32 = ((2 : ℝ) : EReal) := by
      simp [Ideal.ofBits, Ideal.ieee, -EReal.coe_mul]
      norm_num
    rw [this]
    exact if_neg (by norm_num)
  rw [h8, h2, Ideal.div_coe (Real.log_pos (by norm_num)).ne', EReal.coe_mul, mul_assoc, one_div (Real.log 2)]

/-- A small natural number as a word, converted. -/
theorem sitofp_nat (n : ℕ) (h : n < 2 ^ 31) : FloatOps.sitofp (F := Ideal) .f32 (BitVec.ofNat 32 n) = ((n : ℝ) : EReal) := by
  show (((BitVec.ofNat 32 n).toInt : ℝ) : EReal) = _
  have e : (BitVec.ofNat 32 n).toNat = n := by simp; omega
  rw [BitVec.toInt_eq_toNat_of_lt (by rw [e]; omega), e]
  simp

end Cert.InSpec

end
-- ==== Proof.InRef.lean ====
/- What the input projection's reference computes, read at an index, stage by stage. -/
module

public import proofs.«01_k».proof.Proof.Gen.ProjInRefIdeal.Run
public import proofs.«01_k».proof.Proof.InSpec
public import Idealize.ShloMosaic.Lib.Pointwise

@[expose] public section

set_option maxRecDepth 16384

noncomputable section

namespace Cert.InRef

open Idealize.ShloMosaic Idealize.ShloMosaic.TcCoe Idealize.SL.Sem
open Cert.ProjInRefIdeal Cert.ProjInRefIdeal.Gen Cert.InSpec

/-- The latent tokens, by batch. -/
def lat (a0 : FVec Ideal S34816x1024 .f32) : FVec Ideal S8x4096x1024 .f32 :=
  shapeCast _ (extractStridedSlice S32768x1024 ![0, 0] a0 slices_S34816x1024_S32768x1024_0_0) shapeCasts_S32768x1024_S8x4096x1024

/-- The context's tokens, by batch. -/
def ctx (a0 : FVec Ideal S34816x1024 .f32) : FVec Ideal S8x256x1024 .f32 :=
  shapeCast _ (extractStridedSlice S2048x1024 ![32768, 0] a0 slices_S34816x1024_S2048x1024_32768_0) shapeCasts_S2048x1024_S8x256x1024

/-- The latent tokens, normalised, modulated and projected. -/
def plat (x : FVec Ideal S8x4096x1024 .f32) (a1 : FVec Ideal S16x1x6144 .f32) (a2 : FVec Ideal S1024 .f32) (a3 : FVec Ideal S1024x3072 .f32) : FVec Ideal S8x4096x3072 .f32 :=
  Host.dotGeneral dot_S8x4096x1024_S1024x3072_S8x4096x3072_2_0_01_1_n_n none (addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a2))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] a1 slices_S16x1x6144_S8x1x1024_0_0_1024)))) (broadcastInDim S8x4096x1024 ![0, 1, 2] bcast_S8x1x1024_S8x4096x1024_0_1_2 (extractStridedSlice S8x1x1024 ![0, 0, 0] a1 slices_S16x1x6144_S8x1x1024_0_0_0))) a3

/-- The context's tokens, likewise. -/
def pctx (x : FVec Ideal S8x256x1024 .f32) (a1 : FVec Ideal S16x1x6144 .f32) (a2 : FVec Ideal S1024 .f32) (a3 : FVec Ideal S1024x3072 .f32) : FVec Ideal S8x256x3072 .f32 :=
  Host.dotGeneral dot_S8x256x1024_S1024x3072_S8x256x3072_2_0_01_1_n_n none (addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 a2))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![8, 0, 1024] a1 slices_S16x1x6144_S1x1x1024_8_0_1024) shapeCasts_S1x1x1024_S1024))))) (broadcastInDim S8x256x1024 ![0, 1, 2] bcast_S1x1x1024_S8x256x1024_0_1_2 (broadcastInDim S1x1x1024 ![2] bcast_S1024_S1x1x1024_2 (shapeCast _ (extractStridedSlice S1x1x1024 ![8, 0, 0] a1 slices_S16x1x6144_S1x1x1024_8_0_0) shapeCasts_S1x1x1024_S1024)))) a3

/-- The part of the projection from column `o`, by head, map and lane. -/
def hlat (o : ℕ) (h : S8x4096x3072.Slices ![0, 0, o] S8x4096x1024) (y : FVec Ideal S8x4096x3072 .f32) : FVec Ideal S8x4096x8x2x64 .f32 :=
  shapeCast _ (extractStridedSlice S8x4096x1024 ![0, 0, o] y h) shapeCasts_S8x4096x1024_S8x4096x8x2x64

/-- The context's, likewise. -/
def hctx (o : ℕ) (h : S8x256x3072.Slices ![0, 0, o] S8x256x1024) (y : FVec Ideal S8x256x3072 .f32) : FVec Ideal S8x256x8x2x64 .f32 :=
  shapeCast _ (extractStridedSlice S8x256x1024 ![0, 0, o] y h) shapeCasts_S8x256x1024_S8x256x8x2x64

/-- Every map normalised, times the weights. -/
def nlat (z : FVec Ideal S8x4096x8x2x64 .f32) (g : FVec Ideal S64 .f32) : FVec Ideal S8x4096x8x2x64 .f32 :=
  mulf (mulf z (broadcastInDim S8x4096x8x2x64 ![0, 1, 2, 3, 4] bcast_S8x4096x8x2x1_S8x4096x8x2x64_0_1_2_3_4 (Host.rsqrt (addf (Host.divf (broadcastInDim S8x4096x8x2x1 ![0, 1, 2, 3] bcast_S8x4096x8x2_S8x4096x8x2x1_0_1_2_3 (Host.reduceAdd (mulf z z) (constant S_ .f32 0x00000000#32) reducesTo_S8x4096x8x2x64_S8x4096x8x2_d4 h_S_)) (broadcastInDim S8x4096x8x2x1 ![] bcast_S_S8x4096x8x2x1 (constant S_ .f32 0x42800000#32))) (broadcastInDim S8x4096x8x2x1 ![] bcast_S_S8x4096x8x2x1 (constant S_ .f32 0x358637BD#32)))))) (broadcastInDim S8x4096x8x2x64 ![0, 1, 2, 3, 4] bcast_S1x1x1x1x64_S8x4096x8x2x64_0_1_2_3_4 (broadcastInDim S1x1x1x1x64 ![4] bcast_S64_S1x1x1x1x64_4 g))

/-- The context's, likewise. -/
def nctx (z : FVec Ideal S8x256x8x2x64 .f32) (g : FVec Ideal S64 .f32) : FVec Ideal S8x256x8x2x64 .f32 :=
  mulf (mulf z (broadcastInDim S8x256x8x2x64 ![0, 1, 2, 3, 4] bcast_S8x256x8x2x1_S8x256x8x2x64_0_1_2_3_4 (Host.rsqrt (addf (Host.divf (broadcastInDim S8x256x8x2x1 ![0, 1, 2, 3] bcast_S8x256x8x2_S8x256x8x2x1_0_1_2_3 (Host.reduceAdd (mulf z z) (constant S_ .f32 0x00000000#32) reducesTo_S8x256x8x2x64_S8x256x8x2_d4 h_S_)) (broadcastInDim S8x256x8x2x1 ![] bcast_S_S8x256x8x2x1 (constant S_ .f32 0x42800000#32))) (broadcastInDim S8x256x8x2x1 ![] bcast_S_S8x256x8x2x1 (constant S_ .f32 0x358637BD#32)))))) (broadcastInDim S8x256x8x2x64 ![0, 1, 2, 3, 4] bcast_S1x1x1x1x64_S8x256x8x2x64_0_1_2_3_4 (broadcastInDim S1x1x1x1x64 ![4] bcast_S64_S1x1x1x1x64_4 g))

/-- The rotation's frequencies. -/
def invf  : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

/-- The angles at each place, by row and by column. -/
def angs  : FVec Ideal S4096x2x16 .f32 :=
  concatenate S4096x2x16 1 [⟨S4096x1x16, (broadcastInDim S4096x1x16 ![0, 2] bcast_S4096x16_S4096x1x16_0_2 (mulf (broadcastInDim S4096x16 ![0, 1] bcast_S4096x1_S4096x16_0_1 (broadcastInDim S4096x1 ![0] bcast_S4096_S4096x1_0 (shapeCast _ (broadcastInDim S64x64 ![0] bcast_S64_S64x64_0 (sitofp .f32 (iotaInDim S64 32 0))) shapeCasts_S64x64_S4096))) (broadcastInDim S4096x16 ![0, 1] bcast_S1x16_S4096x16_0_1 (broadcastInDim S1x16 ![1] bcast_S16_S1x16_1 invf))))⟩, ⟨S4096x1x16, (broadcastInDim S4096x1x16 ![0, 2] bcast_S4096x16_S4096x1x16_0_2 (mulf (broadcastInDim S4096x16 ![0, 1] bcast_S4096x1_S4096x16_0_1 (broadcastInDim S4096x1 ![0] bcast_S4096_S4096x1_0 (shapeCast _ (broadcastInDim S64x64 ![0, 1] bcast_S1x64_S64x64_0_1 (shapeCast _ (sitofp .f32 (iotaInDim S64 32 0)) shapeCasts_S64_S1x64)) shapeCasts_S64x64_S4096))) (broadcastInDim S4096x16 ![0, 1] bcast_S1x16_S4096x16_0_1 (broadcastInDim S1x16 ![1] bcast_S16_S1x16_1 invf))))⟩] concatenates_S4096x1x16_S4096x1x16_S4096x2x16_d1

/-- The first coordinates of the planes. -/
def half0 (u : FVec Ideal S8x4096x16x2x2x16 .f32) : FVec Ideal S8x4096x16x2x16 .f32 :=
  shapeCast _ (extractStridedSlice S8x4096x16x2x1x16 ![0, 0, 0, 0, 0, 0] u slices_S8x4096x16x2x2x16_S8x4096x16x2x1x16_0_0_0_0_0_0) shapeCasts_S8x4096x16x2x1x16_S8x4096x16x2x16

/-- The second coordinates of the planes. -/
def half1 (u : FVec Ideal S8x4096x16x2x2x16 .f32) : FVec Ideal S8x4096x16x2x16 .f32 :=
  shapeCast _ (extractStridedSlice S8x4096x16x2x1x16 ![0, 0, 0, 0, 1, 0] u slices_S8x4096x16x2x2x16_S8x4096x16x2x1x16_0_0_0_0_1_0) shapeCasts_S8x4096x16x2x1x16_S8x4096x16x2x16

/-- A table with axes for batch and head. -/
def wide (a : FVec Ideal S4096x2x16 .f32) : FVec Ideal S1x4096x1x2x16 .f32 :=
  broadcastInDim S1x4096x1x2x16 ![1, 3, 4] bcast_S4096x2x16_S1x4096x1x2x16_1_3_4 a

/-- The rotated maps. -/
def turn (u : FVec Ideal S8x4096x16x2x2x16 .f32) : FVec Ideal S8x4096x8x2x64 .f32 :=
  shapeCast _ (concatenate S8x4096x16x2x2x16 4 [⟨S8x4096x16x2x1x16, (broadcastInDim S8x4096x16x2x1x16 ![0, 1, 2, 3, 5] bcast_S8x4096x16x2x16_S8x4096x16x2x1x16_0_1_2_3_5 (subf (mulf (half0 u) (broadcastInDim S8x4096x16x2x16 ![0, 1, 2, 3, 4] bcast_S1x4096x1x2x16_S8x4096x16x2x16_0_1_2_3_4 (wide (Host.cos angs)))) (mulf (half1 u) (broadcastInDim S8x4096x16x2x16 ![0, 1, 2, 3, 4] bcast_S1x4096x1x2x16_S8x4096x16x2x16_0_1_2_3_4 (wide (Host.sin angs))))))⟩, ⟨S8x4096x16x2x1x16, (broadcastInDim S8x4096x16x2x1x16 ![0, 1, 2, 3, 5] bcast_S8x4096x16x2x16_S8x4096x16x2x1x16_0_1_2_3_5 (addf (mulf (half1 u) (broadcastInDim S8x4096x16x2x16 ![0, 1, 2, 3, 4] bcast_S1x4096x1x2x16_S8x4096x16x2x16_0_1_2_3_4 (wide (Host.cos angs)))) (mulf (half0 u) (broadcastInDim S8x4096x16x2x16 ![0, 1, 2, 3, 4] bcast_S1x4096x1x2x16_S8x4096x16x2x16_0_1_2_3_4 (wide (Host.sin angs))))))⟩] concatenates_S8x4096x16x2x1x16_S8x4096x16x2x1x16_S8x4096x16x2x2x16_d4) shapeCasts_S8x4096x16x2x2x16_S8x4096x8x2x64

/-- The maps by their planes. -/
def planes (z : FVec Ideal S8x4096x8x2x64 .f32) : FVec Ideal S8x4096x16x2x2x16 .f32 :=
  shapeCast _ z shapeCasts_S8x4096x8x2x64_S8x4096x16x2x2x16

/-- The latent tokens' rows and then the context's. -/
def rows (z : FVec Ideal S8x4096x8x2x64 .f32) (zc : FVec Ideal S8x256x8x2x64 .f32) : FVec Ideal S34816x1024 .f32 :=
  concatenate S34816x1024 0 [⟨S32768x1024, (shapeCast _ z shapeCasts_S8x4096x8x2x64_S32768x1024)⟩, ⟨S2048x1024, (shapeCast _ zc shapeCasts_S8x256x8x2x64_S2048x1024)⟩] concatenates_S32768x1024_S2048x1024_S34816x1024_d0

/-- The queries scaled. -/
def scaled (z : FVec Ideal S34816x1024 .f32) : FVec Ideal S34816x1024 .bf16 :=
  truncf .bf16 (Host.divf (mulf z (broadcastInDim S34816x1024 ![] bcast_S_S34816x1024 (constant S_ .f32 0x3E000000#32))) (broadcastInDim S34816x1024 ![] bcast_S_S34816x1024 (Host.log (constant S_ .f32 0x40000000#32)))) bitsLt_bf16_f32

/-- The latent tokens' values. -/
def vlat (y : FVec Ideal S8x4096x3072 .f32) : FVec Ideal S8x4096x8x128 .f32 :=
  shapeCast _ (extractStridedSlice S8x4096x1024 ![0, 0, 2048] y slices_S8x4096x3072_S8x4096x1024_0_0_2048) shapeCasts_S8x4096x1024_S8x4096x8x128

/-- The context's values. -/
def vctx (yc : FVec Ideal S8x256x3072 .f32) : FVec Ideal S8x256x8x128 .f32 :=
  shapeCast _ (extractStridedSlice S8x256x1024 ![0, 0, 2048] yc slices_S8x256x3072_S8x256x1024_0_0_2048) shapeCasts_S8x256x1024_S8x256x8x128

/-- The values' rows. -/
def vrows (z : FVec Ideal S8x4096x8x128 .f32) (zc : FVec Ideal S8x256x8x128 .f32) : FVec Ideal S34816x1024 .f32 :=
  concatenate S34816x1024 0 [⟨S32768x1024, (shapeCast _ z shapeCasts_S8x4096x8x128_S32768x1024)⟩, ⟨S2048x1024, (shapeCast _ zc shapeCasts_S8x256x8x128_S2048x1024)⟩] concatenates_S32768x1024_S2048x1024_S34816x1024_d0

/-- The values with ones beside them. -/
def vones (z : FVec Ideal S34816x1024 .f32) : FVec Ideal S34816x2048 .bf16 :=
  truncf .bf16 (shapeCast _ (concatenate S34816x8x256 2 [⟨S34816x8x128, (shapeCast _ z shapeCasts_S34816x1024_S34816x8x128)⟩, ⟨S34816x8x128, (broadcastInDim S34816x8x128 ![] bcast_S_S34816x8x128 (constant S_ .f32 0x3F800000#32))⟩] concatenates_S34816x8x128_S34816x8x128_S34816x8x256_d2) shapeCasts_S34816x8x256_S34816x2048) bitsLt_bf16_f32

/-- The latent token `i` of batch `b` is row `b * 4096 + i`. -/
theorem lat_at (a0) (b : Fin 8) (i : Fin 4096) (d : Fin 1024) :
    lat a0 (ix3 b i d) = a0 (ix2 ⟨b * 4096 + i, by omega⟩ d) := by
  pointwise [lat]

/-- The context's token `i` of batch `b` comes after all latent ones. -/
theorem ctx_at (a0) (b : Fin 8) (i : Fin 256) (d : Fin 1024) :
    ctx a0 (ix3 b i d) = a0 (ix2 ⟨32768 + (b * 256 + i), by omega⟩ d) := by
  pointwise [ctx]

section
variable {a0 : FVec Ideal S34816x1024 .f32} {a1 : FVec Ideal S16x1x6144 .f32} {a2 : FVec Ideal S1024 .f32} {a3 : FVec Ideal S1024x3072 .f32}
  {X M W : ℕ → ℕ → EReal} {G : ℕ → EReal}
  (hX : ∀ (r : Fin 34816) (d : Fin 1024), a0 (ix2 r d) = X r d)
  (hM : ∀ (i : Fin 16) (d : Fin 6144), a1 (ix3 i 0 d) = M i d)
  (hG : ∀ d : Fin 1024, a2 (ix1 d) = G d)
  (hW : ∀ (d : Fin 1024) (x : Fin 3072), a3 (ix2 d x) = W d x)

include hX hM hG hW

/-- The projection of a latent token is its row's. -/
theorem plat_at (b : Fin 8) (i : Fin 4096) (d : Fin 3072) :
    plat (lat a0) a1 a2 a3 (ix3 b i d) = ys X M W G (b * 4096 + i) d := by
  pointwise [plat]
  have e : mrow (b * 4096 + i) = b := by unfold mrow; rw [if_pos (by omega)]; omega
  unfold ys
  rw [e]
  simp only [lat_at, hX, hM, hG, hW]
  rfl

/-- The projection of a context's token is its row's. -/
theorem pctx_at (b : Fin 8) (i : Fin 256) (d : Fin 3072) :
    pctx (ctx a0) a1 a2 a3 (ix3 b i d) = ys X M W G (32768 + (b * 256 + i)) d := by
  pointwise [pctx]
  have e : mrow (32768 + (b * 256 + i)) = 8 := by unfold mrow; rw [if_neg (by omega)]
  unfold ys
  rw [e]
  simp only [ctx_at, hX, hM, hG, hW]
  rfl
end

/-- Part of the projection at an index. -/
theorem hlat_at (o h y) {Y : ℕ → EReal} (b : Fin 8) (i : Fin 4096) (hy : ∀ d : Fin 3072, y (ix3 b i d) = Y d) (h' : Fin 8) (a : Fin 2) (d : Fin 64) :
    hlat o h y (ix5 b i h' a d) = Y (o + (h' * 128 + a * 64 + d)) := by
  pointwise [hlat]
  exact hy _

/-- The context's likewise. -/
theorem hctx_at (o h y) {Y : ℕ → EReal} (b : Fin 8) (i : Fin 256) (hy : ∀ d : Fin 3072, y (ix3 b i d) = Y d) (h' : Fin 8) (a : Fin 2) (d : Fin 64) :
    hctx o h y (ix5 b i h' a d) = Y (o + (h' * 128 + a * 64 + d)) := by
  pointwise [hctx]
  exact hy _

/-- A lane's mean square, from its map's lanes. -/
theorem hn_eq {N : ℕ → EReal} (Z : ℕ → EReal) (h' : Fin 8) (a : Fin 2) (d : Fin 64) :
    Z (h' * 128 + a * 64 + d) * Ideal.rsqrt (Ideal.div (∑ x : Fin 64, Z (h' * 128 + a * 64 + x) * Z (h' * 128 + a * 64 + x))
      (Ideal.ofBits .f32 0x42800000#32) + Ideal.ofBits .f32 0x358637BD#32) * N d = hn Z N (h' * 128 + a * 64 + d) := by
  have e1 : ((h' : ℕ) * 128 + a * 64 + d) / 64 * 64 = h' * 128 + a * 64 := by omega
  have e2 : ((h' : ℕ) * 128 + a * 64 + d) % 64 = d := by omega
  unfold hn msq
  rw [e1, e2]

/-- The normalised map at an index. -/
theorem nlat_at (z g) {Z N : ℕ → EReal} (b : Fin 8) (i : Fin 4096) (hz : ∀ (h' : Fin 8) (a : Fin 2) (d : Fin 64), z (ix5 b i h' a d) = Z (h' * 128 + a * 64 + d))
    (hg : ∀ d : Fin 64, g (ix1 d) = N d) (h' : Fin 8) (a : Fin 2) (d : Fin 64) :
    nlat z g (ix5 b i h' a d) = hn Z N (h' * 128 + a * 64 + d) := by
  pointwise [nlat]
  simp only [hz, hg]
  exact hn_eq Z h' a d

/-- The context's likewise. -/
theorem nctx_at (z g) {Z N : ℕ → EReal} (b : Fin 8) (i : Fin 256) (hz : ∀ (h' : Fin 8) (a : Fin 2) (d : Fin 64), z (ix5 b i h' a d) = Z (h' * 128 + a * 64 + d))
    (hg : ∀ d : Fin 64, g (ix1 d) = N d) (h' : Fin 8) (a : Fin 2) (d : Fin 64) :
    nctx z g (ix5 b i h' a d) = hn Z N (h' * 128 + a * 64 + d) := by
  pointwise [nctx]
  simp only [hz, hg]
  exact hn_eq Z h' a d

/-- The frequencies. -/
theorem invf_at (f : Fin 16) : invf (ix1 f) = freq f := by
  pointwise [invf]
  unfold freq
  rw [sitofp_nat _ (by omega)]

/-- The angle at place `p` for a lane of a map. -/
theorem angs_at (p : Fin 4096) (c : ℕ) (a : Fin 2) (f : Fin 16) (ha : (a : ℕ) = c / 32 % 2) (hf : (f : ℕ) = c % 16) :
    angs (ix3 p a f) = ang p c := by
  pointwise [angs]
  rw [invf_at, sitofp_nat _ (by omega), sitofp_nat _ (by omega)]
  unfold ang
  rw [← ha, ← hf]
  by_cases h : (a : ℕ) = 0
  · rw [dif_pos (by omega), if_pos h]
  · rw [dif_neg (by omega), if_neg h]

/-- The rotated map at an index. -/
theorem turn_at (z) {Z : ℕ → EReal} (b : Fin 8) (i : Fin 4096)
    (hz : ∀ (h' : Fin 8) (a : Fin 2) (d : Fin 64), z (ix5 b i h' a d) = Z (h' * 128 + a * 64 + d)) (h : Fin 8) (a : Fin 2) (d : Fin 64) :
    turn (planes z) (ix5 b i h a d) = rot Z i (h * 128 + a * 64 + d) := by
  pointwise [turn, wide, half0, half1, planes]
  have ha := angs_at i ((h : ℕ) * 128 + a * 64 + d) ⟨d / 32, by omega⟩ ⟨d % 16, by omega⟩ (by dsimp only; omega) (by dsimp only; omega)
  simp only [hz, ha]
  have e1 : (h : ℕ) * 128 + (a : ℕ) * 64 + ((d : ℕ) / 32 * 32 + d % 16)
      = if (d : ℕ) / 16 % 2 < 1 then (h : ℕ) * 128 + (a : ℕ) * 64 + d else (h : ℕ) * 128 + (a : ℕ) * 64 + d - 16 := by
    split_ifs <;> omega
  have e2 : (h : ℕ) * 128 + (a : ℕ) * 64 + ((d : ℕ) / 32 * 32 + 16 + d % 16)
      = if (d : ℕ) / 16 % 2 < 1 then (h : ℕ) * 128 + (a : ℕ) * 64 + d + 16 else (h : ℕ) * 128 + (a : ℕ) * 64 + d := by
    split_ifs <;> omega
  rw [e1, e2]
  unfold rot
  have e3 : ((h : ℕ) * 128 + (a : ℕ) * 64 + d) / 16 % 2 = d / 16 % 2 := by omega
  rw [e3]
  by_cases e : (d : ℕ) / 16 % 2 < 1
  · have e' : (d : ℕ) / 16 % 2 = 0 := by omega
    simp only [if_pos e, dif_pos e, if_pos e']
  · have e' : ¬ (d : ℕ) / 16 % 2 = 0 := by omega
    simp only [if_neg e, dif_neg e, if_neg e']
    rw [add_comm]

/-- The rows at an index, from what the latent tokens and the context hold. -/
theorem rows_at (z zc) {Y : ℕ → ℕ → EReal}
    (hz : ∀ (b : Fin 8) (i : Fin 4096) (h : Fin 8) (a : Fin 2) (d : Fin 64), z (ix5 b i h a d) = Y (b * 4096 + i) (h * 128 + a * 64 + d))
    (hc : ∀ (b : Fin 8) (i : Fin 256) (h : Fin 8) (a : Fin 2) (d : Fin 64), zc (ix5 b i h a d) = Y (32768 + (b * 256 + i)) (h * 128 + a * 64 + d))
    (r : Fin 34816) (x : Fin 1024) : rows z zc (ix2 r x) = Y r x := by
  pointwise [rows]
  have e : (x : ℕ) / 128 * 128 + x / 64 % 2 * 64 + x % 64 = x := by omega
  by_cases h : (r : ℕ) < 32768
  · rw [dif_pos h, hz]
    exact congrArg₂ Y (by dsimp only; omega) e
  · rw [dif_neg h, hc]
    exact congrArg₂ Y (by dsimp only; omega) e

/-- The scaled queries at an index. -/
theorem scaled_at (z) (r : Fin 34816) (x : Fin 1024) : scaled z (ix2 r x) = z (ix2 r x) * (((1 / 8) * (Real.log 2)⁻¹ : ℝ) : EReal) := by
  rw [scale_eq]
  pointwise [scaled]

/-- The values' rows at an index. -/
theorem vrows_at (z zc) {Y : ℕ → ℕ → EReal}
    (hz : ∀ (b : Fin 8) (i : Fin 4096) (h : Fin 8) (d : Fin 128), z (ix4 b i h d) = Y (b * 4096 + i) (2048 + (h * 128 + d)))
    (hc : ∀ (b : Fin 8) (i : Fin 256) (h : Fin 8) (d : Fin 128), zc (ix4 b i h d) = Y (32768 + (b * 256 + i)) (2048 + (h * 128 + d)))
    (r : Fin 34816) (x : Fin 1024) : vrows z zc (ix2 r x) = Y r (2048 + x) := by
  pointwise [vrows]
  have e : 2048 + ((x : ℕ) / 128 * 128 + x % 128) = 2048 + x := by omega
  by_cases h : (r : ℕ) < 32768
  · rw [dif_pos h, hz]
    exact congrArg₂ Y (by dsimp only; omega) e
  · rw [dif_neg h, hc]
    exact congrArg₂ Y (by dsimp only; omega) e

/-- The values and ones at an index. -/
theorem vones_at (z) {Y : ℕ → ℕ → EReal} (hz : ∀ (r : Fin 34816) (x : Fin 1024), z (ix2 r x) = Y r (2048 + x))
    (r : Fin 34816) (x : Fin 2048) :
    vones z (ix2 r x) = if (x : ℕ) % 256 < 128 then Y r (2048 + ((x : ℕ) / 256 * 128 + (x : ℕ) % 256)) else 1 := by
  pointwise [vones]
  by_cases h : (x : ℕ) % 256 < 128
  · rw [dif_pos h, if_pos h, hz]
  · rw [dif_neg h, if_neg h]

/-- The values of the latent tokens at an index. -/
theorem vlat_at (y) {Y : ℕ → EReal} (b : Fin 8) (i : Fin 4096) (hy : ∀ d : Fin 3072, y (ix3 b i d) = Y d) (h : Fin 8) (d : Fin 128) :
    vlat y (ix4 b i h d) = Y (2048 + (h * 128 + d)) := by
  pointwise [vlat]
  exact hy _

/-- The values of the context at an index. -/
theorem vctx_at (y) {Y : ℕ → EReal} (b : Fin 8) (i : Fin 256) (hy : ∀ d : Fin 3072, y (ix3 b i d) = Y d) (h : Fin 8) (d : Fin 128) :
    vctx y (ix4 b i h d) = Y (2048 + (h * 128 + d)) := by
  pointwise [vctx]
  exact hy _

/-- The rows of one part of the projection, normalised and rotated. -/
def part (o : ℕ) (h : S8x4096x3072.Slices ![0, 0, o] S8x4096x1024) (h' : S8x256x3072.Slices ![0, 0, o] S8x256x1024)
    (a0 : FVec Ideal S34816x1024 .f32) (a1 : FVec Ideal S16x1x6144 .f32) (a2 : FVec Ideal S1024 .f32) (a3 : FVec Ideal S1024x3072 .f32)
    (g : FVec Ideal S64 .f32) : FVec Ideal S34816x1024 .f32 :=
  rows (turn (planes (nlat (hlat o h (plat (lat a0) a1 a2 a3)) g))) (nctx (hctx o h' (pctx (ctx a0) a1 a2 a3)) g)

/-- The values with their ones. -/
def values (a0 : FVec Ideal S34816x1024 .f32) (a1 : FVec Ideal S16x1x6144 .f32) (a2 : FVec Ideal S1024 .f32)
    (a3 : FVec Ideal S1024x3072 .f32) : FVec Ideal S34816x2048 .bf16 :=
  vones (vrows (vlat (plat (lat a0) a1 a2 a3)) (vctx (pctx (ctx a0) a1 a2 a3)))

section
variable {a0 : FVec Ideal S34816x1024 .f32} {a1 : FVec Ideal S16x1x6144 .f32} {a2 : FVec Ideal S1024 .f32} {a3 : FVec Ideal S1024x3072 .f32}
  {g : FVec Ideal S64 .f32} {X M W : ℕ → ℕ → EReal} {G N : ℕ → EReal}
  (hX : ∀ (r : Fin 34816) (d : Fin 1024), a0 (ix2 r d) = X r d)
  (hM : ∀ (i : Fin 16) (d : Fin 6144), a1 (ix3 i 0 d) = M i d)
  (hG : ∀ d : Fin 1024, a2 (ix1 d) = G d)
  (hW : ∀ (d : Fin 1024) (x : Fin 3072), a3 (ix2 d x) = W d x)
  (hN : ∀ d : Fin 64, g (ix1 d) = N d)

include hX hM hG hW hN in
/-- A part at an index is the specification's. -/
theorem part_at (o h h') (r : Fin 34816) (x : Fin 1024) :
    part o h h' a0 a1 a2 a3 g (ix2 r x) = rope (hn (fun c => ys X M W G r (o + c)) N) r x := by
  refine rows_at _ _ (Y := fun r => rope (hn (fun c => ys X M W G r (o + c)) N) r) (fun b i h a d => ?_) (fun b i h a d => ?_) r x
  · rw [turn_at _ b i (nlat_at _ g (Z := fun c => ys X M W G (b * 4096 + i) (o + c)) b i (hlat_at o _ _ b i (plat_at hX hM hG hW b i)) hN)]
    have e : ((b : ℕ) * 4096 + i) % 4096 = i := by omega
    unfold rope
    rw [if_pos (by omega), e]
  · rw [nctx_at _ g (Z := fun c => ys X M W G (32768 + (b * 256 + i)) (o + c)) b i (hctx_at o _ _ b i (pctx_at hX hM hG hW b i)) hN]
    unfold rope
    rw [if_neg (by omega)]

include hX hM hG hW in
/-- The values at an index are the specification's. -/
theorem values_at (r : Fin 34816) (x : Fin 2048) : values a0 a1 a2 a3 (ix2 r x) = vs X M W G r x :=
  vones_at _ (vrows_at _ _ (fun b i h d => vlat_at _ b i (plat_at hX hM hG hW b i) h d)
    (fun b i h d => vctx_at _ b i (pctx_at hX hM hG hW b i) h d)) r x
end

/-- What the reference's run leaves, by the stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v201) = scaled (part 0 slices_S8x4096x3072_S8x4096x1024_0_0_0 slices_S8x256x3072_S8x256x1024_0_0_0
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      ∧ r.2.mem ((c.tc : Thread nD τ).loc main_v205) = truncf .bf16 (part 1024 slices_S8x4096x3072_S8x4096x1024_0_0_1024 slices_S8x256x3072_S8x256x1024_0_0_1024
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5))) bitsLt_bf16_f32
      ∧ r.2.mem ((c.tc : Thread nD τ).loc main_v206) = values
        (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2⟩)
    (Cert.ProjInRefIdeal.Value.run (F := Ideal) m ρ)
  · rfl
  · rfl
  · rfl

end Cert.InRef

end
-- ==== Proof.InHead.lean ====
/- The input projection kernel's computation on one block of 512 token rows, cut into a few array functions, and what each
   of them computes at an index. -/
module

public import proofs.«01_k».proof.Proof.Gen.ProjInIdeal.Skeleton
public import proofs.«01_k».proof.Proof.InSpec
public import Idealize.ShloMosaic.Lib.Pointwise

@[expose] public section

set_option maxRecDepth 16384

noncomputable section

namespace Cert.InHead

open Idealize.ShloMosaic Idealize.ShloMosaic.TcCoe Idealize.SL.Sem
open Cert.ProjInIdeal Cert.ProjInIdeal.Gen Cert.InSpec

/-- The modulated rows. -/
def hb (x : Vec Ideal S512x1024 .f32) (g : Vec Ideal S1x1024 .f32) (s t : Vec Ideal S1x1x1024 .f32) : FVec Ideal S512x1024 .bf16 :=
  k0_pay4 x g s t

/-- The rows' products with 256 columns of the weights. -/
def prod (h : FVec Ideal S512x1024 .bf16) (w : Vec Ideal S1024x256 .bf16) : FVec Ideal S512x256 .f32 := k0_pay8 h w

/-- One head's 128 lanes normalised and rotated, for the keys. -/
def kchunk (y : Vec Ideal S512x128 .f32) (hm : Vec Ideal S128x128 .bf16) (g : Vec Ideal S1x128 .f32) (c s : Vec Ideal S512x128 .f32) :
    FVec Ideal S512x128 .bf16 := k0_pay47 k0_pay19 y hm g c s

/-- One head's 128 lanes normalised, rotated and scaled, for the queries. -/
def qchunk (y : Vec Ideal S512x128 .f32) (hm : Vec Ideal S128x128 .bf16) (g : Vec Ideal S1x128 .f32) (c s : Vec Ideal S512x128 .f32) :
    FVec Ideal S512x128 .bf16 := k0_pay20 k0_pay19 y hm g c s

/-- A modulated row at a lane. -/
theorem hb_at {x g s t} {X G A B : ℕ → EReal} (r : Fin 512) (hx : ∀ d : Fin 1024, x (ix2 r d) = X d) (hg : ∀ d : Fin 1024, g (ix2 0 d) = G d)
    (hs : ∀ d : Fin 1024, s (ix3 0 0 d) = A d) (ht : ∀ d : Fin 1024, t (ix3 0 0 d) = B d) (d : Fin 1024) :
    hb x g s t (ix2 r d) = hid X G A B d := by
  pointwise [hb, k0_pay4]
  simp only [hx, hg, hs, ht]
  rfl

/-- A row's product with a column. -/
theorem prod_at {h w} {H : ℕ → EReal} {W : ℕ → ℕ → EReal} (r : Fin 512) (o : ℕ) (hh : ∀ d : Fin 1024, h (ix2 r d) = H d)
    (hw : ∀ (d : Fin 1024) (c : Fin 256), w (ix2 d c) = W d (o + c)) (c : Fin 256) :
    prod h w (ix2 r c) = proj H W (o + c) := by
  pointwise [prod, k0_pay8]
  simp only [hh, hw]
  rfl

/-- The mask of the lanes in the first half of their plane. -/
theorem mask_at (d : Fin 128) : k0_pay19 (ix2 0 d) = if (d : ℕ) / 16 % 2 = 0 then 1#1 else 0#1 := by
  pointwise [k0_pay19]
  revert d
  decide +kernel

section
variable {y : Vec Ideal S512x128 .f32} {hm : Vec Ideal S128x128 .bf16} {g : Vec Ideal S1x128 .f32} {c s : Vec Ideal S512x128 .f32}
  {Y N C S : ℕ → EReal} (r : Fin 512) (o : ℕ)

/-- The normalised lanes. -/
theorem norm_at (hh : ∀ i j : Fin 128, hm (ix2 i j) = if (i : ℕ) / 64 = (j : ℕ) / 64 then ((1 / 64 : ℝ) : EReal) else 0) (j : Fin 128) :
    Y (o * 128 + j) * Ideal.rsqrt (∑ x : Fin 128, Y (o * 128 + x) * Y (o * 128 + x) * hm (ix2 x j) + Ideal.ofBits .f32 0x358637BD#32)
      * N (j % 64) = hn Y N (o * 128 + j) := by
  have e := msq_eq Y o (fun i j => if i / 64 = j / 64 then ((1 / 64 : ℝ) : EReal) else 0) j j.isLt fun _ _ _ _ => rfl
  have e2 : (o * 128 + (j : ℕ)) % 64 = j % 64 := by omega
  simp only [hh, e]
  unfold hn
  rw [e2]

/-- The key lanes, from what the normalised lanes are. -/
theorem kchunk_z {Z : ℕ → EReal} {U L : Fin 128 → EReal} (hy : ∀ e : Fin 128, y (ix2 r e) = U e) (hg : ∀ e : Fin 128, g (ix2 0 e) = L e)
    (hz : ∀ j : Fin 128, U j * Ideal.rsqrt (∑ x, U x * U x * hm (ix2 x j) + Ideal.ofBits .f32 0x358637BD#32) * L j = Z (o * 128 + j))
    (hc : ∀ e : Fin 128, c (ix2 r e) = C e) (hs : ∀ e : Fin 128, s (ix2 r e) = S e)
    (e : Fin 128) : kchunk y hm g c s (ix2 r e) = krope Z C S (o * 128 + e) := by
  pointwise [kchunk, k0_pay47]
  simp only [hy, hg, hz, hc, hs, mask_at]
  unfold krope
  have e1 : (o * 128 + (e : ℕ)) % 128 = e := by omega
  have e2 : (o * 128 + (e : ℕ)) / 16 % 2 = e / 16 % 2 := by omega
  rw [e1, e2]
  congr 2
  split_ifs with h
  · have : o * 128 + ((e : ℕ) + 128 - 112) % 128 = o * 128 + e + 16 := by omega
    rw [this]; rfl
  · have : o * 128 + ((e : ℕ) + 128 - 16) % 128 = o * 128 + e - 16 := by omega
    rw [this]; rfl

/-- The query lanes are key lanes times the named scale. -/
theorem qchunk_eq (i) : qchunk y hm g c s i = kchunk y hm g c s i * (((1 / 8) * (Real.log 2)⁻¹ : ℝ) : EReal) := rfl
end

end Cert.InHead

end
-- ==== Proof.InBody.lean ====
/- What the input projection kernel's body leaves in its three output blocks, at an index, from what its input blocks hold. -/
module

public import proofs.«01_k».proof.Proof.Gen.ProjInIdeal.Value
public import proofs.«01_k».proof.Proof.InHead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjInIdeal.Gen

open Idealize.ShloMosaic Idealize.ShloMosaic.TcCoe Idealize.SL.Sem
open Idealize.ShloMosaic.Pipeline (Dat Cfg Window)
open Cert.InSpec Cert.InHead

/-- The modulated rows, from the loads of the blocks. -/
def hbx (x0 : Vec Ideal S512x1024 .f32) (x1 : Vec Ideal S1x1x6144 .f32) (x2 : Vec Ideal S1x1024 .f32) : FVec Ideal S512x1024 .bf16 :=
  hb x0 x2 (View.ld x1 (Rect.unit ![0, 0, 1024] ![1, 1, 1024] inb_S1x1x6144_S1x1x1024_0_0_1024))
    (View.ld x1 (Rect.unit ![0, 0, 0] ![1, 1, 1024] inb_S1x1x6144_S1x1x1024_0_0_0))

/-- A modulated row at a lane. -/
theorem hbx_at {x0 x1 x2} {X M G : ℕ → EReal} (r : Fin 512) (hx0 : ∀ d : Fin 1024, x0 (ix2 r d) = X d)
    (hx1 : ∀ d : Fin 6144, x1 (ix3 0 0 d) = M d) (hx2 : ∀ d : Fin 1024, x2 (ix2 0 d) = G d) (d : Fin 1024) :
    hbx x0 x1 x2 (ix2 r d) = hid X G (fun d => M (1024 + d)) M d := by
  refine hb_at r hx0 hx2 (fun d => ?_) (fun d => ?_) d
  · pointwise
    exact hx1 _
  · pointwise
    exact hx1 _

/-- One piece of the scratch: 256 columns of the product. -/
def scrp (h : FVec Ideal S512x1024 .bf16) (x3 : Vec Ideal S1024x3072 .bf16) (o : ℕ)
    (i1 : ∀ a, (![0, o] : Fin 2 → ℕ) a + (![512, 256] : Fin 2 → ℕ) a ≤ S512x3072.size a)
    (i2 : ∀ a, (![0, o] : Fin 2 → ℕ) a + (![1024, 256] : Fin 2 → ℕ) a ≤ S1024x3072.size a) :
    View.Piece (Elt Ideal) S512x3072 .f32 :=
  ⟨Rect.unit (s := S512x3072) ![0, o] ![512, 256] i1, prod h (View.ld x3 (Rect.unit (s := S1024x3072) ![0, o] ![1024, 256] i2))⟩

/-- The scratch after its twelve stores. -/
def scr (x0 : Vec Ideal S512x1024 .f32) (x1 : Vec Ideal S1x1x6144 .f32) (x2 : Vec Ideal S1x1024 .f32) (x3 : Vec Ideal S1024x3072 .bf16) :
    Vec Ideal S512x3072 .f32 := View.canon (Val := Elt Ideal) [
    scrp (hbx x0 x1 x2) x3 2816 inb_S512x3072_S512x256_0_2816 inb_S1024x3072_S1024x256_0_2816,
    scrp (hbx x0 x1 x2) x3 2560 inb_S512x3072_S512x256_0_2560 inb_S1024x3072_S1024x256_0_2560,
    scrp (hbx x0 x1 x2) x3 2304 inb_S512x3072_S512x256_0_2304 inb_S1024x3072_S1024x256_0_2304,
    scrp (hbx x0 x1 x2) x3 2048 inb_S512x3072_S512x256_0_2048 inb_S1024x3072_S1024x256_0_2048,
    scrp (hbx x0 x1 x2) x3 1792 inb_S512x3072_S512x256_0_1792 inb_S1024x3072_S1024x256_0_1792,
    scrp (hbx x0 x1 x2) x3 1536 inb_S512x3072_S512x256_0_1536 inb_S1024x3072_S1024x256_0_1536,
    scrp (hbx x0 x1 x2) x3 1280 inb_S512x3072_S512x256_0_1280 inb_S1024x3072_S1024x256_0_1280,
    scrp (hbx x0 x1 x2) x3 1024 inb_S512x3072_S512x256_0_1024 inb_S1024x3072_S1024x256_0_1024,
    scrp (hbx x0 x1 x2) x3 768 inb_S512x3072_S512x256_0_768 inb_S1024x3072_S1024x256_0_768,
    scrp (hbx x0 x1 x2) x3 512 inb_S512x3072_S512x256_0_512 inb_S1024x3072_S1024x256_0_512,
    scrp (hbx x0 x1 x2) x3 256 inb_S512x3072_S512x256_0_256 inb_S1024x3072_S1024x256_0_256,
    scrp (hbx x0 x1 x2) x3 0 inb_S512x3072_S512x256_0_0 inb_S1024x3072_S1024x256_0_0]

/-- The scratch at an index. -/
theorem scr_at {x0 x1 x2 x3} {X M G : ℕ → EReal} {W : ℕ → ℕ → EReal} (r : Fin 512) (q : Fin 3072)
    (hx0 : ∀ d : Fin 1024, x0 (ix2 r d) = X d) (hx1 : ∀ d : Fin 6144, x1 (ix3 0 0 d) = M d)
    (hx2 : ∀ d : Fin 1024, x2 (ix2 0 d) = G d) (hx3 : ∀ (d : Fin 1024) (c : Fin 3072), x3 (ix2 d c) = W d c) :
    scr x0 x1 x2 x3 (ix2 r q) = proj (hid X G (fun d => M (1024 + d)) M) W q := by
  have key : ∀ (o : ℕ) (i2) (x : S512x256.Idx), (r : ℕ) = x 0 → (q : ℕ) = o + x 1 →
      prod (hbx x0 x1 x2) (View.ld x3 (Rect.unit (s := S1024x3072) ![0, o] ![1024, 256] i2)) x
        = proj (hid X G (fun d => M (1024 + d)) M) W q := by
    intro o i2 x e0 e1
    have hx : x = ix2 r (x 1) := by rw [show r = x 0 from Fin.ext e0]; exact eq_ix2 x
    rw [hx, e1]
    refine prod_at r o (hbx_at r hx0 hx1 hx2) (fun d c => ?_) _
    pointwise
    exact hx3 _ _
  unfold scr scrp
  canon_tiles x h
  all_goals first | exact key _ _ x h0 h1 | exact key 0 _ x h0 (h1.trans (Nat.zero_add _).symm)

/-- A head's key lanes computed from the scratch `Y`, for the head whose columns of the scratch begin at `q` and whose columns
    of the block begin at `o * 128`, from what the normalised lanes are. -/
theorem kpiece_z {x4 : Vec Ideal S128x128 .bf16} {x5 : Vec Ideal S2x128 .f32} {x6 x7 : Vec Ideal S512x128 .f32} {C S P : ℕ → EReal}
    (Z : ℕ → EReal) (Y : Vec Ideal S512x3072 .f32) (r : Fin 512) (e : ℕ) (a : Fin 2) (hY : ∀ q : Fin 3072, Y (ix2 r q) = P q)
    (hx6 : ∀ e : Fin 128, x6 (ix2 r e) = C e) (hx7 : ∀ e : Fin 128, x7 (ix2 r e) = S e) (o q : ℕ)
    (hz : ∀ j : Fin 128, P (q + j) * Ideal.rsqrt (∑ x : Fin 128, P (q + x) * P (q + x) * x4 (ix2 x j) + Ideal.ofBits .f32 0x358637BD#32)
      * x5 (ix2 a j) = Z (o * 128 + j)) (i1) (i2) (x : S512x128.Idx) (e0 : (r : ℕ) = x 0) (e1 : e = o * 128 + x 1) :
    kchunk (fun j => Y ((Rect.unit (s := S512x3072) ![0, q] ![512, 128] i1).idx j)) x4
      (View.ld x5 (Rect.unit (s := S2x128) ![(a : ℕ), 0] ![1, 128] i2)) x6 x7 x = krope Z C S e := by
  have hx : x = ix2 r (x 1) := by rw [show r = x 0 from Fin.ext e0]; exact eq_ix2 x
  have i3 : q + 128 ≤ 3072 := i1 1
  rw [hx, e1]
  refine kchunk_z (U := fun j => P (q + j)) (L := fun j => x5 (ix2 a j)) r o (fun l => ?_) (fun l => ?_) hz hx6 hx7 _
  · show View.ld Y (Rect.unit (s := S512x3072) ![0, q] ![512, 128] i1) (ix2 r l) = _
    pointwise
    exact hY _
  · pointwise

/-- A head's key lanes when both halves are maps, for the head whose columns of the scratch begin at `b + o * 128`. -/
theorem kpiece {x4 : Vec Ideal S128x128 .bf16} {x5 : Vec Ideal S2x128 .f32} {x6 x7 : Vec Ideal S512x128 .f32} {N C S P : ℕ → EReal}
    (Y : Vec Ideal S512x3072 .f32) (r : Fin 512) (e : ℕ) (a : Fin 2) (b : ℕ) (hY : ∀ q : Fin 3072, Y (ix2 r q) = P q)
    (hx4 : ∀ i j : Fin 128, x4 (ix2 i j) = if (i : ℕ) / 64 = (j : ℕ) / 64 then ((1 / 64 : ℝ) : EReal) else 0)
    (hx5 : ∀ e : Fin 128, x5 (ix2 a e) = N (e % 64)) (hx6 : ∀ e : Fin 128, x6 (ix2 r e) = C e) (hx7 : ∀ e : Fin 128, x7 (ix2 r e) = S e)
    (o q : ℕ) (hq : q = b + o * 128) (i1) (i2) (x : S512x128.Idx) (e0 : (r : ℕ) = x 0) (e1 : e = o * 128 + x 1) :
    kchunk (fun j => Y ((Rect.unit (s := S512x3072) ![0, q] ![512, 128] i1).idx j)) x4
      (View.ld x5 (Rect.unit (s := S2x128) ![(a : ℕ), 0] ![1, 128] i2)) x6 x7 x = krope (hn (fun c => P (b + c)) N) C S e := by
  refine kpiece_z _ Y r e a hY hx6 hx7 o q (fun j => ?_) i1 i2 x e0 e1
  refine Eq.trans ?_ (norm_at (Y := fun c => P (b + c)) o hx4 j)
  simp only [hx5, hq, Nat.add_assoc]

/-- A head's query lanes are its key lanes scaled. -/
theorem qpiece_z {x4 : Vec Ideal S128x128 .bf16} {g : Vec Ideal S1x128 .f32} {y x6 x7 : Vec Ideal S512x128 .f32} {x : S512x128.Idx} {v : EReal}
    (h : kchunk y x4 g x6 x7 x = v) : qchunk y x4 g x6 x7 x = v * (((1 / 8) * (Real.log 2)⁻¹ : ℝ) : EReal) := by
  rw [qchunk_eq, h]

/-- A head's query lanes when both halves are maps. -/
theorem qpiece {x4 : Vec Ideal S128x128 .bf16} {x5 : Vec Ideal S2x128 .f32} {x6 x7 : Vec Ideal S512x128 .f32} {N C S P : ℕ → EReal}
    (Y : Vec Ideal S512x3072 .f32) (r : Fin 512) (e : ℕ) (hY : ∀ q : Fin 3072, Y (ix2 r q) = P q)
    (hx4 : ∀ i j : Fin 128, x4 (ix2 i j) = if (i : ℕ) / 64 = (j : ℕ) / 64 then ((1 / 64 : ℝ) : EReal) else 0)
    (hx5 : ∀ e : Fin 128, x5 (ix2 0 e) = N (e % 64)) (hx6 : ∀ e : Fin 128, x6 (ix2 r e) = C e) (hx7 : ∀ e : Fin 128, x7 (ix2 r e) = S e)
    (o q : ℕ) (hq : q = o * 128) (i1) (i2) (x : S512x128.Idx) (e0 : (r : ℕ) = x 0) (e1 : e = o * 128 + x 1) :
    qchunk (fun j => Y ((Rect.unit (s := S512x3072) ![0, q] ![512, 128] i1).idx j)) x4
      (View.ld x5 (Rect.unit (s := S2x128) ![0, 0] ![1, 128] i2)) x6 x7 x
      = krope (hn P N) C S e * (((1 / 8) * (Real.log 2)⁻¹ : ℝ) : EReal) := by
  have h := kpiece Y r e 0 0 hY hx4 hx5 hx6 hx7 o q (by omega) i1 i2 x e0 e1
  simp only [Nat.zero_add] at h
  exact qpiece_z h

/-- The query block at row `r` and column `e`. -/
theorem out8_at {X M G N C S : ℕ → EReal} {W : ℕ → ℕ → EReal} (c : Dev nD) (i : grid0.Coords) (arg1 : Memref sig .tc .vmem S512x1024 .f32) (harg1 : arg1.IsWhole) (arg2 : Memref sig .tc .vmem S1x1x6144 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S128x128 .bf16) (harg5 : arg5.IsWhole) (arg6 : Memref sig .tc .vmem S2x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S512x3072 .f32) (harg12 : arg12.IsWhole) (hc0 : cond0_0 i) (hc1 : cond0_1 i)
    (x0 : Vec Ideal S512x1024 .f32) (x1 : Vec Ideal S1x1x6144 .f32) (x2 : Vec Ideal S1x1024 .f32) (x3 : Vec Ideal S1024x3072 .bf16) (x4 : Vec Ideal S128x128 .bf16) (x5 : Vec Ideal S2x128 .f32) (x6 : Vec Ideal S512x128 .f32) (x7 : Vec Ideal S512x128 .f32) (r : Fin 512) (e : Fin 1024)
    (hx0 : ∀ d : Fin 1024, x0 (ix2 r d) = X d) (hx1 : ∀ d : Fin 6144, x1 (ix3 0 0 d) = M d)
    (hx2 : ∀ d : Fin 1024, x2 (ix2 0 d) = G d) (hx3 : ∀ (d : Fin 1024) (c : Fin 3072), x3 (ix2 d c) = W d c)
    (hx4 : ∀ i j : Fin 128, x4 (ix2 i j) = if (i : ℕ) / 64 = (j : ℕ) / 64 then ((1 / 64 : ℝ) : EReal) else 0)
    (hx5 : ∀ e : Fin 128, x5 (ix2 0 e) = N (e % 64)) (hx6 : ∀ e : Fin 128, x6 (ix2 r e) = C e) (hx7 : ∀ e : Fin 128, x7 (ix2 r e) = S e) :
    out0_A_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r e)
      = krope (hn (proj (hid X G (fun d => M (1024 + d)) M) W) N) C S e * (((1 / 8) * (Real.log 2)⁻¹ : ℝ) : EReal) := by
  unfold out0_A_8
  frame_open
  frame_out
  have hY := fun q => scr_at r q hx0 hx1 hx2 hx3
  canon_tiles x h
  all_goals simp only [View.readCov_eq_canon']
  · exact qpiece (scr x0 x1 x2 x3) r e hY hx4 hx5 hx6 hx7 7 896 (by norm_num) _ _ x h0 h1
  · exact qpiece (scr x0 x1 x2 x3) r e hY hx4 hx5 hx6 hx7 6 768 (by norm_num) _ _ x h0 h1
  · exact qpiece (scr x0 x1 x2 x3) r e hY hx4 hx5 hx6 hx7 5 640 (by norm_num) _ _ x h0 h1
  · exact qpiece (scr x0 x1 x2 x3) r e hY hx4 hx5 hx6 hx7 4 512 (by norm_num) _ _ x h0 h1
  · exact qpiece (scr x0 x1 x2 x3) r e hY hx4 hx5 hx6 hx7 3 384 (by norm_num) _ _ x h0 h1
  · exact qpiece (scr x0 x1 x2 x3) r e hY hx4 hx5 hx6 hx7 2 256 (by norm_num) _ _ x h0 h1
  · exact qpiece (scr x0 x1 x2 x3) r e hY hx4 hx5 hx6 hx7 1 128 (by norm_num) _ _ x h0 h1
  · exact qpiece (scr x0 x1 x2 x3) r e hY hx4 hx5 hx6 hx7 0 0 (by norm_num) _ _ x h0 (h1.trans (Nat.zero_add _).symm)

/-- The key block at row `r` and column `e`. -/
theorem out9_at {X M G N C S : ℕ → EReal} {W : ℕ → ℕ → EReal} (c : Dev nD) (i : grid0.Coords) (arg1 : Memref sig .tc .vmem S512x1024 .f32) (harg1 : arg1.IsWhole) (arg2 : Memref sig .tc .vmem S1x1x6144 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S128x128 .bf16) (harg5 : arg5.IsWhole) (arg6 : Memref sig .tc .vmem S2x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S512x3072 .f32) (harg12 : arg12.IsWhole) (hc0 : cond0_0 i) (hc1 : cond0_1 i)
    (x0 : Vec Ideal S512x1024 .f32) (x1 : Vec Ideal S1x1x6144 .f32) (x2 : Vec Ideal S1x1024 .f32) (x3 : Vec Ideal S1024x3072 .bf16) (x4 : Vec Ideal S128x128 .bf16) (x5 : Vec Ideal S2x128 .f32) (x6 : Vec Ideal S512x128 .f32) (x7 : Vec Ideal S512x128 .f32) (r : Fin 512) (e : Fin 1024)
    (hx0 : ∀ d : Fin 1024, x0 (ix2 r d) = X d) (hx1 : ∀ d : Fin 6144, x1 (ix3 0 0 d) = M d)
    (hx2 : ∀ d : Fin 1024, x2 (ix2 0 d) = G d) (hx3 : ∀ (d : Fin 1024) (c : Fin 3072), x3 (ix2 d c) = W d c)
    (hx4 : ∀ i j : Fin 128, x4 (ix2 i j) = if (i : ℕ) / 64 = (j : ℕ) / 64 then ((1 / 64 : ℝ) : EReal) else 0)
    (hx5 : ∀ e : Fin 128, x5 (ix2 1 e) = N (e % 64)) (hx6 : ∀ e : Fin 128, x6 (ix2 r e) = C e) (hx7 : ∀ e : Fin 128, x7 (ix2 r e) = S e) :
    out0_A_9 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r e)
      = krope (hn (fun c => proj (hid X G (fun d => M (1024 + d)) M) W (1024 + c)) N) C S e := by
  unfold out0_A_9
  frame_open
  frame_out
  have hY := fun q => scr_at r q hx0 hx1 hx2 hx3
  canon_tiles x h
  all_goals simp only [View.readCov_eq_canon']
  · exact kpiece (scr x0 x1 x2 x3) r e 1 1024 hY hx4 hx5 hx6 hx7 7 1920 (by norm_num) _ _ x h0 h1
  · exact kpiece (scr x0 x1 x2 x3) r e 1 1024 hY hx4 hx5 hx6 hx7 6 1792 (by norm_num) _ _ x h0 h1
  · exact kpiece (scr x0 x1 x2 x3) r e 1 1024 hY hx4 hx5 hx6 hx7 5 1664 (by norm_num) _ _ x h0 h1
  · exact kpiece (scr x0 x1 x2 x3) r e 1 1024 hY hx4 hx5 hx6 hx7 4 1536 (by norm_num) _ _ x h0 h1
  · exact kpiece (scr x0 x1 x2 x3) r e 1 1024 hY hx4 hx5 hx6 hx7 3 1408 (by norm_num) _ _ x h0 h1
  · exact kpiece (scr x0 x1 x2 x3) r e 1 1024 hY hx4 hx5 hx6 hx7 2 1280 (by norm_num) _ _ x h0 h1
  · exact kpiece (scr x0 x1 x2 x3) r e 1 1024 hY hx4 hx5 hx6 hx7 1 1152 (by norm_num) _ _ x h0 h1
  · exact kpiece (scr x0 x1 x2 x3) r e 1 1024 hY hx4 hx5 hx6 hx7 0 1024 (by norm_num) _ _ x h0 (h1.trans (Nat.zero_add _).symm)

/-- A head's value lanes, read from the scratch `Y`. -/
theorem vpiece {P : ℕ → EReal} (Y : Vec Ideal S512x3072 .f32) (r : Fin 512) (e : Fin 2048) (hY : ∀ q : Fin 3072, Y (ix2 r q) = P q)
    (o q : ℕ) (hq : q = 2048 + o * 128) (i1) (x : S512x128.Idx) (e0 : (r : ℕ) = x 0) (e1 : (e : ℕ) = o * 256 + x 1) :
    k0_pay65 (F := Ideal) (fun j => Y ((Rect.unit (s := S512x3072) ![0, q] ![512, 128] i1).idx j)) x
      = if (e : ℕ) % 256 < 128 then P (2048 + ((e : ℕ) / 256 * 128 + (e : ℕ) % 256)) else 1 := by
  have hx : x = ix2 r (x 1) := by rw [show r = x 0 from Fin.ext e0]; exact eq_ix2 x
  have hl : (x 1 : ℕ) < 128 := (x 1).isLt
  have i3 : q + 128 ≤ 3072 := i1 1
  rw [if_pos (by omega), show 2048 + ((e : ℕ) / 256 * 128 + (e : ℕ) % 256) = q + (x 1 : ℕ) by omega, hx]
  show k0_pay65 (F := Ideal) (View.ld Y (Rect.unit (s := S512x3072) ![0, q] ![512, 128] i1)) (ix2 r (x 1)) = _
  pointwise [k0_pay65]
  exact hY _

/-- The ones beside a head's values. -/
theorem opiece {P : ℕ → EReal} (e : Fin 2048) (o q : ℕ) (hq : q = o * 256 + 128) (x : S512x128.Idx) (e1 : (e : ℕ) = q + x 1) :
    k0_pay66 (F := Ideal) x = if (e : ℕ) % 256 < 128 then P (2048 + ((e : ℕ) / 256 * 128 + (e : ℕ) % 256)) else 1 := by
  have hl : (x 1 : ℕ) < 128 := (x 1).isLt
  rw [if_neg (by omega), eq_ix2 x]
  pointwise [k0_pay66]

/-- The value block at row `r` and column `e`: each head's lanes and as many ones. -/
theorem out10_at {X M G : ℕ → EReal} {W : ℕ → ℕ → EReal} (c : Dev nD) (i : grid0.Coords) (arg1 : Memref sig .tc .vmem S512x1024 .f32) (harg1 : arg1.IsWhole) (arg2 : Memref sig .tc .vmem S1x1x6144 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S128x128 .bf16) (harg5 : arg5.IsWhole) (arg6 : Memref sig .tc .vmem S2x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S512x3072 .f32) (harg12 : arg12.IsWhole) (hc0 : cond0_0 i) (hc1 : cond0_1 i)
    (x0 : Vec Ideal S512x1024 .f32) (x1 : Vec Ideal S1x1x6144 .f32) (x2 : Vec Ideal S1x1024 .f32) (x3 : Vec Ideal S1024x3072 .bf16) (x4 : Vec Ideal S128x128 .bf16) (x5 : Vec Ideal S2x128 .f32) (x6 : Vec Ideal S512x128 .f32) (x7 : Vec Ideal S512x128 .f32) (r : Fin 512) (e : Fin 2048)
    (hx0 : ∀ d : Fin 1024, x0 (ix2 r d) = X d) (hx1 : ∀ d : Fin 6144, x1 (ix3 0 0 d) = M d)
    (hx2 : ∀ d : Fin 1024, x2 (ix2 0 d) = G d) (hx3 : ∀ (d : Fin 1024) (c : Fin 3072), x3 (ix2 d c) = W d c) :
    out0_A_10 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r e)
      = if (e : ℕ) % 256 < 128 then proj (hid X G (fun d => M (1024 + d)) M) W (2048 + ((e : ℕ) / 256 * 128 + (e : ℕ) % 256)) else 1 := by
  unfold out0_A_10
  frame_open
  frame_out
  have hY := fun q => scr_at r q hx0 hx1 hx2 hx3
  canon_tiles x h
  all_goals try simp only [View.readCov_eq_canon']
  · exact opiece e 7 1920 (by norm_num) x h1
  · exact vpiece (scr x0 x1 x2 x3) r e hY 7 2944 (by norm_num) _ x h0 h1
  · exact opiece e 6 1664 (by norm_num) x h1
  · exact vpiece (scr x0 x1 x2 x3) r e hY 6 2816 (by norm_num) _ x h0 h1
  · exact opiece e 5 1408 (by norm_num) x h1
  · exact vpiece (scr x0 x1 x2 x3) r e hY 5 2688 (by norm_num) _ x h0 h1
  · exact opiece e 4 1152 (by norm_num) x h1
  · exact vpiece (scr x0 x1 x2 x3) r e hY 4 2560 (by norm_num) _ x h0 h1
  · exact opiece e 3 896 (by norm_num) x h1
  · exact vpiece (scr x0 x1 x2 x3) r e hY 3 2432 (by norm_num) _ x h0 h1
  · exact opiece e 2 640 (by norm_num) x h1
  · exact vpiece (scr x0 x1 x2 x3) r e hY 2 2304 (by norm_num) _ x h0 h1
  · exact opiece e 1 384 (by norm_num) x h1
  · exact vpiece (scr x0 x1 x2 x3) r e hY 1 2176 (by norm_num) _ x h0 h1
  · exact opiece e 0 128 (by norm_num) x h1
  · exact vpiece (scr x0 x1 x2 x3) r e hY 0 2048 (by norm_num) _ x h0 (h1.trans (Nat.zero_add _).symm)

end Cert.ProjInIdeal.Gen

end
-- ==== Proof.InHost.lean ====
/- The arrays that the input projection's host code prepares: the rotation's tables, the norm weights, the matrix of means. -/
module

public import proofs.«01_k».proof.Proof.Gen.ProjInIdeal.Value
public import proofs.«01_k».proof.Proof.InSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjInIdeal.Gen

open Idealize.ShloMosaic Idealize.ShloMosaic.TcCoe Idealize.SL.Sem
open Idealize.ShloMosaic.Pipeline (Dat Cfg Window)
open Cert.InSpec

/-- The rotation's frequencies. -/
def invf : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Each place's coordinates multiplied with the frequencies. -/
def angs (p : FVec Ideal S4096 .f32) : FVec Ideal S4096x16 .f32 :=
  mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 invf))

/-- The angles of the places' rows. -/
def angR : FVec Ideal S4096x16 .f32 :=
  angs (shapeCast S4096 (broadcastInDim S64x64 ![0] bcast_S64_S64x64_0 (sitofp .f32 (iotaInDim S64 32 0))) shapeCasts_S64x64_S4096)

/-- The angles of the places' columns. -/
def angC : FVec Ideal S4096x16 .f32 :=
  angs (shapeCast S4096 (broadcastInDim S64x64 ![0, 1] bcast_S1x64_S64x64_0_1
    (shapeCast S1x64 (sitofp .f32 (iotaInDim S64 32 0)) shapeCasts_S64_S1x64)) shapeCasts_S64x64_S4096)

/-- Four times 16 lanes side by side, repeated for a head's two maps. -/
def lanes (a b c d : FVec Ideal S4096x16 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x16, a⟩, ⟨S4096x16, b⟩, ⟨S4096x16, c⟩, ⟨S4096x16, d⟩]
      concatenates_S4096x16_S4096x16_S4096x16_S4096x16_S4096x64_d1) shapeCasts_S4096x64_S1x4096x1x64)) shapeCasts_S1x4096x2x64_S4096x128

/-- With 512 more rows that hold one value. -/
def rows (a : FVec Ideal S4096x128 .f32) (b : BitVec 32) : FVec Ideal S4608x128 .f32 :=
  concatenate S4608x128 0 [⟨S4096x128, a⟩, ⟨S512x128, broadcastInDim S512x128 ![] bcast_S_S512x128 (constant S_ .f32 b)⟩]
    concatenates_S4096x128_S512x128_S4608x128_d0

/-- The frequencies at an index. -/
theorem invf_at (f : Fin 16) : invf (ix1 f) = freq f := by
  pointwise [invf]
  rw [sitofp_nat _ (by omega)]
  rfl

/-- The row angles at an index. -/
theorem angR_at (p : Fin 4096) (f : Fin 16) : angR (ix2 p f) = ((((p : ℕ) / 64 : ℕ) : ℝ) : EReal) * freq f := by
  pointwise [angR, angs]
  rw [invf_at, sitofp_nat _ (by omega)]

/-- The column angles at an index. -/
theorem angC_at (p : Fin 4096) (f : Fin 16) : angC (ix2 p f) = ((((p : ℕ) % 64 : ℕ) : ℝ) : EReal) * freq f := by
  pointwise [angC, angs]
  rw [invf_at, sitofp_nat _ (by omega)]

/-- The repeated lanes at an index. -/
theorem lanes_at (a b c d) (p : Fin 4096) (e : Fin 128) : lanes a b c d (ix2 p e)
    = if (e : ℕ) / 32 % 2 = 0 then (if (e : ℕ) / 16 % 2 = 0 then a (ix2 p ⟨(e : ℕ) % 16, by omega⟩) else b (ix2 p ⟨(e : ℕ) % 16, by omega⟩))
      else if (e : ℕ) / 16 % 2 = 0 then c (ix2 p ⟨(e : ℕ) % 16, by omega⟩) else d (ix2 p ⟨(e : ℕ) % 16, by omega⟩) := by
  pointwise [lanes]
  by_cases h1 : (e : ℕ) / 32 % 2 = 0 <;> by_cases h2 : (e : ℕ) / 16 % 2 = 0
  · rw [if_pos h1, if_pos h2, dif_pos (by omega)]
    exact congrArg (fun q => a (ix2 p q)) (Fin.ext (by show (e : ℕ) % 64 = (e : ℕ) % 16; omega))
  · rw [if_pos h1, if_neg h2, dif_neg (by omega), dif_pos (by omega)]
    exact congrArg (fun q => b (ix2 p q)) (Fin.ext (by show (e : ℕ) % 64 - 16 = (e : ℕ) % 16; omega))
  · rw [if_neg h1, if_pos h2, dif_neg (by omega), dif_neg (by omega), dif_pos (by omega)]
    exact congrArg (fun q => c (ix2 p q)) (Fin.ext (by show (e : ℕ) % 64 - 16 - 16 = (e : ℕ) % 16; omega))
  · rw [if_neg h1, if_neg h2, dif_neg (by omega), dif_neg (by omega), dif_neg (by omega)]
    exact congrArg (fun q => d (ix2 p q)) (Fin.ext (by show (e : ℕ) % 64 - 16 - 16 - 16 = (e : ℕ) % 16; omega))

/-- The longer arrays at an index. -/
theorem rows_at (a b) (p : Fin 4608) (e : Fin 128) : rows a b (ix2 p e)
    = if h : (p : ℕ) < 4096 then a (ix2 ⟨p, h⟩ e) else Ideal.ofBits .f32 b := by
  pointwise [rows]

variable (m : (ℓ : Loc nD τ sig) → Buf (Elt Ideal) ℓ)

/-- The cosines' array. -/
theorem V37 (c : Dev nD) : V m c main_v37 = rows (lanes (Host.cos angR) (Host.cos angR) (Host.cos angC) (Host.cos angC)) 0x3F800000#32 := by
  unfold V
  rfl

/-- The signed sines' array. -/
theorem V42 (c : Dev nD) : V m c main_v42
    = rows (lanes (Host.negf (Host.sin angR)) (Host.sin angR) (Host.negf (Host.sin angC)) (Host.sin angC)) 0x00000000#32 := by
  unfold V
  rfl

/-- The projection's norm weights as a row. -/
theorem V53 (c : Dev nD) (d : Fin 1024) : V m c main_v53 (ix2 0 d) = m (c, Proc.tc.devRef main_arg2) (ix1 d) := by
  have e : V m c main_v53 = shapeCast S1x1024 (m (c, Proc.tc.devRef main_arg2)) shapeCasts_S1024_S1x1024 := by
    unfold V
    rfl
  rw [e]
  pointwise

/-- The rounded weights are the weights. -/
theorem V52 (c : Dev nD) (d : Fin 1024) (x : Fin 3072) : V m c main_v52 (ix2 d x) = m (c, Proc.tc.devRef main_arg3) (ix2 d x) := by
  have e : V m c main_v52 = truncf (F := Ideal) .bf16 (m (c, Proc.tc.devRef main_arg3)) bitsLt_bf16_f32 := by
    unfold V
    rfl
  rw [e]
  pointwise

/-- 64 weights repeated for a head's two maps, as a row. -/
def twice (a : FVec Ideal S64 .f32) : FVec Ideal S1x128 .f32 :=
  broadcastInDim S1x128 ![1] bcast_S128_S1x128_1
    (shapeCast S128 (broadcastInDim S2x64 ![0, 1] bcast_S1x64_S2x64_0_1 (shapeCast S1x64 a shapeCasts_S64_S1x64)) shapeCasts_S2x64_S128)

/-- The two heads' norm weights, each repeated for both maps. -/
theorem V51 (c : Dev nD) (i : Fin 2) (d : Fin 128) : V m c main_v51 (ix2 i d)
    = if (i : ℕ) < 1 then m (c, Proc.tc.devRef main_arg4) (ix1 ⟨(d : ℕ) % 64, by omega⟩)
      else m (c, Proc.tc.devRef main_arg5) (ix1 ⟨(d : ℕ) % 64, by omega⟩) := by
  have e : V m c main_v51 = concatenate S2x128 0 [⟨S1x128, twice (m (c, Proc.tc.devRef main_arg4))⟩,
      ⟨S1x128, twice (m (c, Proc.tc.devRef main_arg5))⟩] concatenates_S1x128_S1x128_S2x128_d0 := by
    unfold V
    rfl
  rw [e]
  pointwise [twice]
  split_ifs <;> rfl

/-- Which lanes of 128 belong to the first map. -/
def low : IVec S128 1 := cmpi .slt (iotaInDim S128 32 0) (broadcastInDim S128 ![] bcast_S_S128 (constantI S_ 32 64#32))

/-- The matrix of the maps' means. -/
def means : FVec Ideal S128x128 .bf16 :=
  truncf .bf16 (select (cmpi .eq (broadcastInDim S128x128 ![0, 1] bcast_S128x1_S128x128_0_1 (broadcastInDim S128x1 ![0] bcast_S128_S128x1_0 low))
      (broadcastInDim S128x128 ![0, 1] bcast_S1x128_S128x128_0_1 (broadcastInDim S1x128 ![1] bcast_S128_S1x128_1 low)))
    (broadcastInDim S128x128 ![] bcast_S_S128x128 (constant S_ .f32 0x3C800000#32))
    (broadcastInDim S128x128 ![] bcast_S_S128x128 (constant S_ .f32 0x00000000#32))) bitsLt_bf16_f32

/-- The matrix that the kernel reads. -/
theorem V63 (c : Dev nD) : V m c main_v63 = means := by
  unfold V
  rfl

/-- The matrix at an index. -/
theorem means_at (i j : Fin 128) : means (ix2 i j) = if (i : ℕ) / 64 = (j : ℕ) / 64 then ((1 / 64 : ℝ) : EReal) else 0 := by
  have h : IntOp.cmpi .eq (IntOp.cmpi .slt (BitVec.ofNat 32 i) 64#32) (IntOp.cmpi .slt (BitVec.ofNat 32 j) 64#32)
      = if (i : ℕ) / 64 = (j : ℕ) / 64 then 1#1 else 0#1 := by
    revert i j
    decide +kernel
  have h64 : Ideal.ofBits .f32 0x3C800000#32 = ((1 / 64 : ℝ) : EReal) := by
    simp [Ideal.ofBits, Ideal.ieee, -EReal.coe_mul]
    norm_num
  pointwise [means, low]
  rw [h, h64]
  split_ifs <;> rfl

end Cert.ProjInIdeal.Gen

end
-- ==== Proof.InBlocks.lean ====
/- Where the input projection kernel's blocks lie in its arrays, and what the three output arrays hold after the launch. -/
module

public import proofs.«01_k».proof.Proof.Gen.ProjInIdeal.Value
public import proofs.«01_k».proof.Proof.InBody
public import proofs.«01_k».proof.Proof.InHost
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjInIdeal.Gen

open Idealize.ShloMosaic Idealize.ShloMosaic.TcCoe Idealize.SL.Sem
open Idealize.ShloMosaic.Pipeline (Dat Cfg Window)
open Cert.InSpec

variable (m : (ℓ : Loc nD τ sig) → Buf (Elt Ideal) ℓ)

/-- The block indices of the windows at grid point `t`. -/
theorem idx : ∀ t : Fin grid0.N,
    (win0_0.index t 0 = t.val ∧ win0_0.index t 1 = 0)
    ∧ (win0_1.index t 0 = (if t.val < 64 then t.val / 8 else 8) ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = (if t.val < 64 then t.val % 8 else 8) ∧ win0_6.index t 1 = 0)
    ∧ (win0_7.index t 0 = (if t.val < 64 then t.val % 8 else 8) ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0) := by
  decide +kernel

/-- The grid has 68 points. -/
theorem lt68 (t : Fin cfg0.N) : (t : ℕ) < 68 := lt_of_lt_of_eq t.isLt (by decide +kernel)

/-- The rows' block at an index. -/
theorem b0 (c : Dev nD) (t : Fin cfg0.N) (i : Fin 512) (d : Fin 1024) : iblk m c 0 t (ix2 i d)
    = m (c, Proc.tc.devRef main_arg0) (ix2 ⟨t * 512 + i, by have := lt68 t; omega⟩ d) := by
  rw [← V_main_arg0 m c]
  blk_simp [iblk, idx t]
  congr 1
  blk_ext [idx t]

/-- The modulations' block at an index. -/
theorem b1 (c : Dev nD) (t : Fin cfg0.N) (d : Fin 6144) : iblk m c 1 t (ix3 0 0 d)
    = m (c, Proc.tc.devRef main_arg1) (ix3 ⟨if (t : ℕ) < 64 then t / 8 else 8, by split_ifs <;> omega⟩ 0 d) := by
  rw [← V_main_arg1 m c]
  blk_simp [iblk, idx t]
  congr 1
  blk_ext [idx t]

/-- The norm weights' block is the array. -/
theorem b2 (c : Dev nD) (t : Fin cfg0.N) (d : Fin 1024) : iblk m c 2 t (ix2 0 d) = V m c main_v53 (ix2 0 d) := by
  blk_simp [iblk, idx t]
  congr 1
  blk_ext [idx t]

/-- The weights' block is the array. -/
theorem b3 (c : Dev nD) (t : Fin cfg0.N) (d : Fin 1024) (x : Fin 3072) : iblk m c 3 t (ix2 d x) = V m c main_v52 (ix2 d x) := by
  blk_simp [iblk, idx t]
  congr 1
  blk_ext [idx t]

/-- The means' block is the array. -/
theorem b4 (c : Dev nD) (t : Fin cfg0.N) (i j : Fin 128) : iblk m c 4 t (ix2 i j) = V m c main_v63 (ix2 i j) := by
  blk_simp [iblk, idx t]
  congr 1
  blk_ext [idx t]

/-- The heads' norm weights' block is the array. -/
theorem b5 (c : Dev nD) (t : Fin cfg0.N) (i : Fin 2) (d : Fin 128) : iblk m c 5 t (ix2 i d) = V m c main_v51 (ix2 i d) := by
  blk_simp [iblk, idx t]
  congr 1
  blk_ext [idx t]

/-- The cosines' block at an index. -/
theorem b6 (c : Dev nD) (t : Fin cfg0.N) (i : Fin 512) (d : Fin 128) : iblk m c 6 t (ix2 i d)
    = V m c main_v37 (ix2 ⟨(if (t : ℕ) < 64 then (t : ℕ) % 8 else 8) * 512 + i, by split_ifs <;> omega⟩ d) := by
  blk_simp [iblk, idx t]
  congr 1
  blk_ext [idx t]

/-- The sines' block at an index. -/
theorem b7 (c : Dev nD) (t : Fin cfg0.N) (i : Fin 512) (d : Fin 128) : iblk m c 7 t (ix2 i d)
    = V m c main_v42 (ix2 ⟨(if (t : ℕ) < 64 then (t : ℕ) % 8 else 8) * 512 + i, by split_ifs <;> omega⟩ d) := by
  blk_simp [iblk, idx t]
  congr 1
  blk_ext [idx t]

section
variable {X M W : ℕ → ℕ → EReal} {G Q K : ℕ → EReal} (c : Dev nD)
  (hX : ∀ (r : Fin 34816) (d : Fin 1024), m (c, Proc.tc.devRef main_arg0) (ix2 r d) = X r d)
  (hM : ∀ (i : Fin 16) (d : Fin 6144), m (c, Proc.tc.devRef main_arg1) (ix3 i 0 d) = M i d)
  (hG : ∀ d : Fin 1024, m (c, Proc.tc.devRef main_arg2) (ix1 d) = G d)
  (hW : ∀ (d : Fin 1024) (x : Fin 3072), m (c, Proc.tc.devRef main_arg3) (ix2 d x) = W d x)
  (hQ : ∀ d : Fin 64, m (c, Proc.tc.devRef main_arg4) (ix1 d) = Q d)
  (hK : ∀ d : Fin 64, m (c, Proc.tc.devRef main_arg5) (ix1 d) = K d)

/-- The cosine of token row `R`'s place at lane `e`, and one for the context. -/
def cosv (R e : ℕ) : EReal := if R < 32768 then Ideal.cos (ang (R % 4096) e) else 1

/-- The signed sine likewise, and zero for the context. -/
def sinv (R e : ℕ) : EReal :=
  if R < 32768 then (if e / 16 % 2 = 0 then - Ideal.sin (ang (R % 4096) e) else Ideal.sin (ang (R % 4096) e)) else 0

/-- An angle of the tables is the token's. -/
theorem ang_at (p : Fin 4096) (e : Fin 128) : (if (e : ℕ) / 32 % 2 = 0 then angR (ix2 p ⟨(e : ℕ) % 16, by omega⟩)
    else angC (ix2 p ⟨(e : ℕ) % 16, by omega⟩)) = ang p e := by
  rw [angR_at, angC_at]
  unfold ang
  split_ifs <;> rfl

/-- A row of the tables below the context's. -/
theorem rows_lo (a b) (p : Fin 4608) (q : Fin 4096) (h : (p : ℕ) = q) (e : Fin 128) : rows a b (ix2 p e) = a (ix2 q e) := by
  rw [rows_at, dif_pos (by omega)]
  exact congrArg (fun q => a (ix2 q e)) (Fin.ext h)

/-- A row of the tables of the context. -/
theorem rows_hi (a b) (p : Fin 4608) (h : ¬ (p : ℕ) < 4096) (e : Fin 128) : rows a b (ix2 p e) = Ideal.ofBits .f32 b := by
  rw [rows_at, dif_neg h]

/-- A row of the cosines' table. -/
theorem costab_at (t : ℕ) (ht : t < 68) (i : Fin 512) (e : Fin 128) (h : (if t < 64 then t % 8 else 8) * 512 + (i : ℕ) < 4608) :
    rows (lanes (Host.cos angR) (Host.cos angR) (Host.cos angC) (Host.cos angC)) 0x3F800000#32
      (ix2 ⟨(if t < 64 then t % 8 else 8) * 512 + i, h⟩ e) = cosv (t * 512 + i) e := by
  unfold cosv
  by_cases h : t < 64
  · rw [rows_lo _ _ _ ⟨(t * 512 + i : ℕ) % 4096, by omega⟩ (by simp only [if_pos h]; omega), if_pos (by omega), lanes_at,
      ← ang_at ⟨(t * 512 + i : ℕ) % 4096, by omega⟩ e]
    split_ifs <;> rfl
  · rw [rows_hi _ _ _ (by simp only [if_neg h]; omega), if_neg (by omega)]
    simp [Ideal.ofBits, Ideal.ieee]
    norm_num [← EReal.coe_mul]

/-- A row of the signed sines' table. -/
theorem sintab_at (t : ℕ) (ht : t < 68) (i : Fin 512) (e : Fin 128) (h : (if t < 64 then t % 8 else 8) * 512 + (i : ℕ) < 4608) :
    rows (lanes (Host.negf (Host.sin angR)) (Host.sin angR) (Host.negf (Host.sin angC)) (Host.sin angC)) 0x00000000#32
      (ix2 ⟨(if t < 64 then t % 8 else 8) * 512 + i, h⟩ e) = sinv (t * 512 + i) e := by
  unfold sinv
  by_cases h : t < 64
  · rw [rows_lo _ _ _ ⟨(t * 512 + i : ℕ) % 4096, by omega⟩ (by simp only [if_pos h]; omega), if_pos (by omega), lanes_at,
      ← ang_at ⟨(t * 512 + i : ℕ) % 4096, by omega⟩ e]
    split_ifs <;> rfl
  · rw [rows_hi _ _ _ (by simp only [if_neg h]; omega), if_neg (by omega)]
    simp [Ideal.ofBits, Ideal.ieee]

/-- The cosines' block at an index. -/
theorem cos_at (t : Fin cfg0.N) (i : Fin 512) (e : Fin 128) : iblk m c 6 t (ix2 i e) = cosv (t * 512 + i) e := by
  rw [b6, V37]
  exact costab_at t (lt68 t) i e _

/-- The sines' block at an index. -/
theorem sin_at (t : Fin cfg0.N) (i : Fin 512) (e : Fin 128) : iblk m c 7 t (ix2 i e) = sinv (t * 512 + i) e := by
  rw [b7, V42]
  exact sintab_at t (lt68 t) i e _

include hM in
/-- The modulations' block at an index, by the token row. -/
theorem mod_at (t : Fin cfg0.N) (i : Fin 512) (d : Fin 6144) : iblk m c 1 t (ix3 0 0 d) = M (mrow (t * 512 + i)) d := by
  have ht := lt68 t
  rw [b1, hM]
  congr 1
  unfold mrow
  dsimp only
  split_ifs <;> omega

/-- The angle repeats with the period of the lanes. -/
theorem ang_mod (p e : ℕ) : ang p (e % 128) = ang p e := by
  have e1 : e % 128 / 32 % 2 = e / 32 % 2 := by omega
  have e2 : e % 128 % 16 = e % 16 := by omega
  unfold ang
  rw [e1, e2]

/-- The tables rotate a row of one part of the projection as the specification does. -/
theorem krope_tab (z : ℕ → EReal) (R e : ℕ) : krope z (cosv R) (sinv R) e = rope z R e := by
  have e3 : e % 128 / 16 % 2 = e / 16 % 2 := by omega
  refine krope_eq _ _ _ _ _ ?_ ?_
  · unfold cosv
    rw [ang_mod]
  · unfold sinv
    rw [ang_mod, e3]

include hX hM hG hW hQ in
/-- The query block's entry is the specification's at the block's place in the array, scaled. -/
theorem q_at (t : Fin cfg0.N) (r : Fin 512) (e : Fin 1024) :
    (outsAt0 m c t).1 (ix2 r e) = qs X M W G Q (t * 512 + r) e * (((1 / 8) * (Real.log 2)⁻¹ : ℝ) : EReal) := by
  unfold outsAt0
  dsimp only
  refine (out8_at (X := X (t * 512 + r)) (M := M (mrow (t * 512 + r))) (G := G) (N := Q) (C := cosv (t * 512 + r)) (S := sinv (t * 512 + r)) (W := W)
    (hx0 := fun d => ?_) (hx1 := fun d => ?_) (hx2 := fun d => ?_) (hx3 := fun d x => ?_) (hx4 := fun i j => ?_) (hx5 := fun e => ?_)
    (hx6 := fun e => ?_) (hx7 := fun e => ?_) ..).trans ?_
  · rw [b0, hX]
  · exact mod_at m c hM t r d
  · rw [b2, V53, hG]
  · rw [b3, V52, hW]
  · rw [b4, V63, means_at]
  · rw [b5, V51, if_pos (by decide), hQ]
  · exact cos_at m c t r e
  · exact sin_at m c t r e
  · rw [krope_tab]
    rfl

include hX hM hG hW hK in
/-- The key block's entry is the specification's at the block's place in the array. -/
theorem k_at (t : Fin cfg0.N) (r : Fin 512) (e : Fin 1024) :
    (outsAt0 m c t).2.1 (ix2 r e) = ks X M W G K (t * 512 + r) e := by
  unfold outsAt0
  dsimp only
  refine (out9_at (X := X (t * 512 + r)) (M := M (mrow (t * 512 + r))) (G := G) (N := K) (C := cosv (t * 512 + r)) (S := sinv (t * 512 + r)) (W := W)
    (hx0 := fun d => ?_) (hx1 := fun d => ?_) (hx2 := fun d => ?_) (hx3 := fun d x => ?_) (hx4 := fun i j => ?_) (hx5 := fun e => ?_)
    (hx6 := fun e => ?_) (hx7 := fun e => ?_) ..).trans ?_
  · rw [b0, hX]
  · exact mod_at m c hM t r d
  · rw [b2, V53, hG]
  · rw [b3, V52, hW]
  · rw [b4, V63, means_at]
  · rw [b5, V51, if_neg (by decide), hK]
  · exact cos_at m c t r e
  · exact sin_at m c t r e
  · rw [krope_tab]
    rfl

include hX hM hG hW in
/-- The value block's entry is the specification's at the block's place in the array. -/
theorem v_at (t : Fin cfg0.N) (r : Fin 512) (e : Fin 2048) :
    (outsAt0 m c t).2.2 (ix2 r e) = vs X M W G (t * 512 + r) e := by
  unfold outsAt0
  dsimp only
  refine (out10_at (X := X (t * 512 + r)) (M := M (mrow (t * 512 + r))) (G := G) (W := W)
    (hx0 := fun d => ?_) (hx1 := fun d => ?_) (hx2 := fun d => ?_) (hx3 := fun d x => ?_) ..).trans ?_
  · rw [b0, hX]
  · exact mod_at m c hM t r d
  · rw [b2, V53, hG]
  · rw [b3, V52, hW]
  · rfl

/-- The three output arrays of the launch. -/
def resultQ (X M W : ℕ → ℕ → EReal) (G Q : ℕ → EReal) : Vec Ideal S34816x1024 .bf16 := fun i =>
  qs X M W G Q (i 0) (i 1) * (((1 / 8) * (Real.log 2)⁻¹ : ℝ) : EReal)

@[inherit_doc resultQ]
def resultK (X M W : ℕ → ℕ → EReal) (G K : ℕ → EReal) : Vec Ideal S34816x1024 .bf16 := fun i => ks X M W G K (i 0) (i 1)

@[inherit_doc resultQ]
def resultV (X M W : ℕ → ℕ → EReal) (G : ℕ → EReal) : Vec Ideal S34816x2048 .bf16 := fun i => vs X M W G (i 0) (i 1)

include hX hM hG hW hQ in
/-- After the launch the output array 8 holds the specification's values: every index lies in the block of one grid point. -/
theorem finalQ : (dats m 0 c).arrAt 8 cfg0.N = resultQ X M W G Q := by
  refine (dats m 0 c).arrAt_eq_of_covers 8 _ (by decide +kernel) fun t hf y => ?_
  blk_simp
  rw [after0_8]
  rw [eq_ix2 y]
  refine (q_at m c hX hM hG hW hQ t (y 0) (y 1)).trans ?_
  have ht := lt68 t
  have e : (win0_8.blk t).view.emb (ix2 (y 0) (y 1)) = ix2 ⟨t * 512 + (y 0 : ℕ), by idx_bounds; omega⟩
      ⟨(y 1 : ℕ), by idx_bounds; omega⟩ := by
    blk_ext [idx t]
  rw [e]
  rfl

include hX hM hG hW hK in
/-- After the launch the output array 9 holds the specification's values: every index lies in the block of one grid point. -/
theorem finalK : (dats m 0 c).arrAt 9 cfg0.N = resultK X M W G K := by
  refine (dats m 0 c).arrAt_eq_of_covers 9 _ (by decide +kernel) fun t hf y => ?_
  blk_simp
  rw [after0_9]
  rw [eq_ix2 y]
  refine (k_at m c hX hM hG hW hK t (y 0) (y 1)).trans ?_
  have ht := lt68 t
  have e : (win0_9.blk t).view.emb (ix2 (y 0) (y 1)) = ix2 ⟨t * 512 + (y 0 : ℕ), by idx_bounds; omega⟩
      ⟨(y 1 : ℕ), by idx_bounds; omega⟩ := by
    blk_ext [idx t]
  rw [e]
  rfl

include hX hM hG hW in
/-- After the launch the output array 10 holds the specification's values: every index lies in the block of one grid point. -/
theorem finalV : (dats m 0 c).arrAt 10 cfg0.N = resultV X M W G := by
  refine (dats m 0 c).arrAt_eq_of_covers 10 _ (by decide +kernel) fun t hf y => ?_
  blk_simp
  rw [after0_10]
  rw [eq_ix2 y]
  refine (v_at m c hX hM hG hW t (y 0) (y 1)).trans ?_
  have ht := lt68 t
  have e : (win0_10.blk t).view.emb (ix2 (y 0) (y 1)) = ix2 ⟨t * 512 + (y 0 : ℕ), by idx_bounds; omega⟩
      ⟨(y 1 : ℕ), by idx_bounds; omega⟩ := by
    blk_ext [idx t]
  rw [e]
  rfl

end

end Cert.ProjInIdeal.Gen

end
-- ==== Proof.InClaims.lean ====
/- The claims about the input projection: the frames, the named constant, and the equation of kernel and reference. -/
module

public import proofs.«01_k».proof.Defs
public import proofs.«01_k».proof.Proof.Gen.ProjIn.Frame
public import proofs.«01_k».proof.Proof.Gen.ProjInIdeal.Value
public import proofs.«01_k».proof.Proof.InRef
public import proofs.«01_k».proof.Proof.InBlocks
public import Idealize.ShloMosaic.Lib.Quiescent

@[expose] public section

set_option maxRecDepth 16384

noncomputable section

namespace Cert.InClaims

open Idealize.ShloMosaic Idealize.ShloMosaic.TcCoe Idealize.SL.Sem Cert.InSpec

/-- A vector as a function of a number. -/
theorem exists1 {n : ℕ} {S : Shape} (hS : S = ⟨1, ![n]⟩) (x : FVec Ideal S .f32) :
    ∃ G : ℕ → EReal, ∀ i : Fin n, x (hS ▸ ix1 i) = G i := by
  subst hS
  refine ⟨fun r => if h : r < n then x (ix1 ⟨r, h⟩) else (0 : EReal), fun r => ?_⟩
  simp only [r.isLt, dif_pos]

/-- A matrix as a function of two numbers. -/
theorem exists2 {n k : ℕ} {S : Shape} {f : FTy} (hS : S = ⟨2, ![n, k]⟩) (x : FVec Ideal S f) :
    ∃ Q : ℕ → ℕ → EReal, ∀ (r : Fin n) (c : Fin k), x (hS ▸ ix2 r c) = Q r c := by
  subst hS
  refine ⟨fun r c => if h : r < n ∧ c < k then x (ix2 ⟨r, h.1⟩ ⟨c, h.2⟩) else (0 : EReal), fun r c => ?_⟩
  simp only [r.isLt, c.isLt, and_self, dif_pos]

/-- A matrix with a unit axis between its two as a function of two numbers. -/
theorem exists3 {n k : ℕ} {S : Shape} (hS : S = ⟨3, ![n, 1, k]⟩) (x : FVec Ideal S .f32) :
    ∃ Q : ℕ → ℕ → EReal, ∀ (r : Fin n) (c : Fin k), x (hS ▸ ix3 r 0 c) = Q r c := by
  subst hS
  refine ⟨fun r c => if h : r < n ∧ c < k then x (ix3 ⟨r, h.1⟩ 0 ⟨c, h.2⟩) else (0 : EReal), fun r c => ?_⟩
  simp only [r.isLt, c.isLt, and_self, dif_pos]

/-- The kernel's three output arrays are the reference's results. -/
theorem equation (m : (ℓ : Loc Cert.ProjInIdeal.nD Cert.ProjInIdeal.τ Cert.ProjInIdeal.sig) → Buf (Elt Ideal) ℓ)
    (m' : (ℓ : Loc Cert.ProjInRefIdeal.nD Cert.ProjInRefIdeal.τ Cert.ProjInRefIdeal.sig) → Buf (Elt Ideal) ℓ) (c : Dev Cert.ProjInIdeal.nD)
    (hagree : m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)
      ∧ m' ((c.tc : Thread Cert.ProjInRefIdeal.nD Cert.ProjInRefIdeal.τ).loc Cert.ProjInRefIdeal.main_arg4) = m ((c.tc : Thread Cert.ProjInIdeal.nD Cert.ProjInIdeal.τ).loc Cert.ProjInIdeal.main_arg4)
      ∧ m' ((c.tc : Thread Cert.ProjInRefIdeal.nD Cert.ProjInRefIdeal.τ).loc Cert.ProjInRefIdeal.main_arg5) = m ((c.tc : Thread Cert.ProjInIdeal.nD Cert.ProjInIdeal.τ).loc Cert.ProjInIdeal.main_arg5)) :
    Cert.InRef.scaled (Cert.InRef.part 0 Cert.ProjInRefIdeal.Gen.slices_S8x4096x3072_S8x4096x1024_0_0_0 Cert.ProjInRefIdeal.Gen.slices_S8x256x3072_S8x256x1024_0_0_0
        (m' ((c.tc : Thread Cert.ProjInRefIdeal.nD Cert.ProjInRefIdeal.τ).loc Cert.ProjInRefIdeal.main_arg0)) (m' ((c.tc : Thread Cert.ProjInRefIdeal.nD Cert.ProjInRefIdeal.τ).loc Cert.ProjInRefIdeal.main_arg1)) (m' ((c.tc : Thread Cert.ProjInRefIdeal.nD Cert.ProjInRefIdeal.τ).loc Cert.ProjInRefIdeal.main_arg2)) (m' ((c.tc : Thread Cert.ProjInRefIdeal.nD Cert.ProjInRefIdeal.τ).loc Cert.ProjInRefIdeal.main_arg3)) (m' ((c.tc : Thread Cert.ProjInRefIdeal.nD Cert.ProjInRefIdeal.τ).loc Cert.ProjInRefIdeal.main_arg4)))
      = (Cert.ProjInIdeal.Gen.dats m 0 c).arrAt 8 Cert.ProjInIdeal.cfg0.N
    ∧ truncf .bf16 (Cert.InRef.part 1024 Cert.ProjInRefIdeal.Gen.slices_S8x4096x3072_S8x4096x1024_0_0_1024 Cert.ProjInRefIdeal.Gen.slices_S8x256x3072_S8x256x1024_0_0_1024
        (m' ((c.tc : Thread Cert.ProjInRefIdeal.nD Cert.ProjInRefIdeal.τ).loc Cert.ProjInRefIdeal.main_arg0)) (m' ((c.tc : Thread Cert.ProjInRefIdeal.nD Cert.ProjInRefIdeal.τ).loc Cert.ProjInRefIdeal.main_arg1)) (m' ((c.tc : Thread Cert.ProjInRefIdeal.nD Cert.ProjInRefIdeal.τ).loc Cert.ProjInRefIdeal.main_arg2)) (m' ((c.tc : Thread Cert.ProjInRefIdeal.nD Cert.ProjInRefIdeal.τ).loc Cert.ProjInRefIdeal.main_arg3)) (m' ((c.tc : Thread Cert.ProjInRefIdeal.nD Cert.ProjInRefIdeal.τ).loc Cert.ProjInRefIdeal.main_arg5))) Cert.ProjInRefIdeal.Gen.bitsLt_bf16_f32
      = (Cert.ProjInIdeal.Gen.dats m 0 c).arrAt 9 Cert.ProjInIdeal.cfg0.N
    ∧ Cert.InRef.values (m' ((c.tc : Thread Cert.ProjInRefIdeal.nD Cert.ProjInRefIdeal.τ).loc Cert.ProjInRefIdeal.main_arg0)) (m' ((c.tc : Thread Cert.ProjInRefIdeal.nD Cert.ProjInRefIdeal.τ).loc Cert.ProjInRefIdeal.main_arg1)) (m' ((c.tc : Thread Cert.ProjInRefIdeal.nD Cert.ProjInRefIdeal.τ).loc Cert.ProjInRefIdeal.main_arg2)) (m' ((c.tc : Thread Cert.ProjInRefIdeal.nD Cert.ProjInRefIdeal.τ).loc Cert.ProjInRefIdeal.main_arg3))
      = (Cert.ProjInIdeal.Gen.dats m 0 c).arrAt 10 Cert.ProjInIdeal.cfg0.N := by
  obtain ⟨e0, e1, e2, e3, e4, e5⟩ := hagree
  obtain ⟨X, hX⟩ := exists2 rfl (m (c, Proc.tc.devRef Cert.ProjInIdeal.main_arg0) : FVec Ideal Cert.ProjInIdeal.S34816x1024 .f32)
  obtain ⟨M, hM⟩ := exists3 rfl (m (c, Proc.tc.devRef Cert.ProjInIdeal.main_arg1) : FVec Ideal Cert.ProjInIdeal.S16x1x6144 .f32)
  obtain ⟨G, hG⟩ := exists1 rfl (m (c, Proc.tc.devRef Cert.ProjInIdeal.main_arg2) : FVec Ideal Cert.ProjInIdeal.S1024 .f32)
  obtain ⟨W, hW⟩ := exists2 rfl (m (c, Proc.tc.devRef Cert.ProjInIdeal.main_arg3) : FVec Ideal Cert.ProjInIdeal.S1024x3072 .f32)
  obtain ⟨Q, hQ⟩ := exists1 rfl (m (c, Proc.tc.devRef Cert.ProjInIdeal.main_arg4) : FVec Ideal Cert.ProjInIdeal.S64 .f32)
  obtain ⟨K, hK⟩ := exists1 rfl (m (c, Proc.tc.devRef Cert.ProjInIdeal.main_arg5) : FVec Ideal Cert.ProjInIdeal.S64 .f32)
  rw [Cert.ProjInIdeal.Gen.finalQ m c hX hM hG hW hQ, Cert.ProjInIdeal.Gen.finalK m c hX hM hG hW hK, Cert.ProjInIdeal.Gen.finalV m c hX hM hG hW,
    e0, e1, e2, e3, e4, e5]
  refine ⟨?_, ?_, ?_⟩
  · funext i
    rw [eq_ix2 i]
    refine (Cert.InRef.scaled_at _ (i 0) (i 1)).trans (congrArg (· * (((1 / 8) * (Real.log 2)⁻¹ : ℝ) : EReal)) ?_)
    refine (Cert.InRef.part_at hX hM hG hW hQ 0 _ _ (i 0) (i 1)).trans ?_
    simp only [zero_add]
    rfl
  · funext i
    rw [eq_ix2 i]
    exact Cert.InRef.part_at hX hM hG hW hK 1024 _ _ (i 0) (i 1)
  · funext i
    rw [eq_ix2 i]
    exact Cert.InRef.values_at hX hM hG hW (i 0) (i 1)

/-- The input projection runs without error and leaves its arguments as they were. -/
theorem frame_p : Cert.quiescent_ProjIn := fun m ρ _ => Cert.ProjIn.Gen.frame m ρ

/-- So does the input projection with exact arithmetic. -/
theorem frame_pi : Cert.quiescent_ProjInIdeal := fun m ρ _ => Cert.ProjInIdeal.Gen.frame m ρ

/-- So does its reference. -/
theorem frame_ri : Cert.quiescent_ProjInRefIdeal := fun m ρ _ =>
  (θ_run Cert.ProjInRefIdeal.defs _ _).mono (fun r h => ⟨fun c => (h c).2.2.2,
      Idealize.ShloMosaic.sem_eq_zero_of_no_sems (by decide) r.2⟩)
    (Cert.ProjInRefIdeal.Value.run (F := Ideal) m ρ)

/-- The scale's constant is named by `log2(e) / 8`. -/
theorem preserves : Cert.preserves_ProjIn_ProjInIdeal :=
  IdealRules.named_const.statement Cert.ProjInIdeal.κ "q_scale" .f32 0x3E38AA3B#32 (((1 / 8) * (Real.log 2)⁻¹ : ℝ) : EReal) rfl

/-- Kernel and reference compute the same three arrays, whatever the arguments. -/
theorem algebraic : Cert.algebraic_ProjInIdeal_ProjInRefIdeal := by
  intro m ρ m' ρ' _ hagree
  refine ⟨_, _, _, Cert.ProjInIdeal.Value.run_blocks (F := Ideal) m ρ, ?_⟩
  exact (θ_run Cert.ProjInRefIdeal.defs _ _).mono (fun _ h c => ⟨(h c).1.trans (equation m m' c (hagree c)).1,
      (h c).2.1.trans (equation m m' c (hagree c)).2.1, (h c).2.2.1.trans (equation m m' c (hagree c)).2.2, (h c).2.2.2⟩)
    (Cert.InRef.run m' ρ')

end Cert.InClaims

end
-- ==== Proof.OutRun.lean ====
/- What one step of the output projection's kernel leaves in its two output blocks, from the blocks that it reads. -/
module

public import proofs.«01_k».proof.Proof.Gen.ProjOutIdeal.Frame
public import proofs.«01_k».proof.Proof.Gen.ProjOutIdeal.Skeleton
public import Idealize.ShloMosaic.Lib.Pipeline.ValueKit
public import Idealize.ShloMosaic.Lib.Pointwise

@[expose] public section

set_option maxRecDepth 16384

noncomputable section

namespace Cert.ProjOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A window of the modulations' row: 1024 lanes from lane `o`. -/
def lanes (o : ℕ) (ho : ∀ a, (![0, 0, o] : Fin 3 → ℕ) a + S1x1x1024.size a ≤ S1x1x6144.size a) (md : Vec F S1x1x6144 .f32) : Vec F S1x1x1024 .f32 :=
  View.ld md (Rect.unit (s := S1x1x6144) ![0, 0, o] S1x1x1024.size ho)

/-- The tokens' rows after the projection, gated and added. -/
def stream (o : Vec F S256x1024 .bf16) (w : Vec F S1024x1024 .bf16) (x : Vec F S256x1024 .f32) (md : Vec F S1x1x6144 .f32) : Vec F S256x1024 .f32 :=
  k0_pay17 o w x (lanes 2048 inb_S1x1x6144_S1x1x1024_0_0_2048 md)

/-- Their norm, modulated. -/
def normed (o : Vec F S256x1024 .bf16) (w : Vec F S1024x1024 .bf16) (x : Vec F S256x1024 .f32) (md : Vec F S1x1x6144 .f32) (g : Vec F S1x1024 .f32) : Vec F S256x1024 .f32 :=
  k0_pay18 o w x (lanes 2048 inb_S1x1x6144_S1x1x1024_0_0_2048 md) g (lanes 4096 inb_S1x1x6144_S1x1x1024_0_0_4096 md)
    (lanes 3072 inb_S1x1x6144_S1x1x1024_0_0_3072 md)

/-- A row of 1024 lanes written as eight rows of 128. -/
def split (v : Vec F S256x1024 .f32) : Vec F S2048x128 .f32 := fun y =>
  v (ix2 ⟨(y 0 : ℕ) / 8, by have : (y 0 : ℕ) < 2048 := (y 0).isLt; omega⟩
    ⟨(y 0 : ℕ) % 8 * 128 + (y 1 : ℕ), by have : (y 1 : ℕ) < 128 := (y 1).isLt; omega⟩)

/-- One slice of 128 lanes is what its eight-strided rows of the split hold. -/
theorem slice_split (v : Vec F S256x1024 .f32) {s : ℕ} (hs : s < 8) (inb pos sl) (q : (⟨⟨![s, 0], S256x128.size, ![8, 1], inb⟩, pos⟩ : Rect S2048x128).shape.Idx) :
    extractStridedSlice S256x128 ![0, s * 128] v sl q = split v ((⟨⟨![s, 0], S256x128.size, ![8, 1], inb⟩, pos⟩ : Rect S2048x128).emb q) := by
  have h0 : (q 0 : ℕ) < 256 := (q 0).isLt
  have h1 : (q 1 : ℕ) < 128 := (q 1).isLt
  refine congrArg v (funext fun a => Fin.ext ?_)
  fin_cases a
  · show 0 + (q 0 : ℕ) = (s + 8 * (q 0 : ℕ)) / 8
    omega
  · show s * 128 + (q 1 : ℕ) = (s + 8 * (q 0 : ℕ)) % 8 * 128 + (0 + 1 * (q 1 : ℕ))
    omega

/-- A row of the split is held by the slice of its remainder modulo eight. -/
theorem mem_rows {s : ℕ} (inb pos) (y : S2048x128.Idx) (hy : (y 0 : ℕ) % 8 = s) :
    y ∈ (⟨⟨![s, 0], S256x128.size, ![8, 1], inb⟩, pos⟩ : Rect S2048x128).set := by
  have h0 : (y 0 : ℕ) < 2048 := (y 0).isLt
  have h1 : (y 1 : ℕ) < 128 := (y 1).isLt
  rw [LoadRect.mem_set]
  intro a
  fin_cases a
  · refine ⟨(y 0 : ℕ) / 8, ?_, ?_⟩
    · show (y 0 : ℕ) / 8 < 256
      omega
    · show (y 0 : ℕ) = s + 8 * ((y 0 : ℕ) / 8)
      omega
  · refine ⟨(y 1 : ℕ), h1, ?_⟩
    show (y 1 : ℕ) = 0 + 1 * (y 1 : ℕ)
    omega

/-- The rows of remainder `s` modulo eight. -/
abbrev rows (s : ℕ) (inb : ∀ a, S256x128.size a = 0 ∨ (![s, 0] : Fin 2 → ℕ) a + (![8, 1] : Fin 2 → ℕ) a * (S256x128.size a - 1) < S2048x128.size a) : Rect S2048x128 :=
  ⟨⟨![s, 0], S256x128.size, ![8, 1], inb⟩, spos_8_1⟩

/-- The eight strided writes of an array's slices leave its split. -/
theorem read_slices {sg : RefSig} {κ : Kind} {sp : Space} (v : View sg κ sp S2048x128 .f32) (f : v.ty.Contents (Elt F)) (u : Vec F S256x1024 .f32) :
    v.read (Elt F) (v.writes (Elt F) f
      [⟨rows 7 inb_S2048x128_S256x128_7_0_s_8_1, k0_pay8 u⟩, ⟨rows 6 inb_S2048x128_S256x128_6_0_s_8_1, k0_pay7 u⟩,
        ⟨rows 5 inb_S2048x128_S256x128_5_0_s_8_1, k0_pay6 u⟩, ⟨rows 4 inb_S2048x128_S256x128_4_0_s_8_1, k0_pay5 u⟩,
        ⟨rows 3 inb_S2048x128_S256x128_3_0_s_8_1, k0_pay4 u⟩, ⟨rows 2 inb_S2048x128_S256x128_2_0_s_8_1, k0_pay3 u⟩,
        ⟨rows 1 inb_S2048x128_S256x128_1_0_s_8_1, k0_pay2 u⟩, ⟨rows 0 inb_S2048x128_S256x128_0_0_s_8_1, k0_pay1 u⟩]) = split u := by
  funext y
  refine View.read_writes_apply_of_pieces v f (split u) _ ?_ y ?_
  · simp only [List.forall_mem_cons]
    exact ⟨slice_split u (by decide : 7 < 8) _ _ slices_S256x1024_o0_896_S256x128, slice_split u (by decide : 6 < 8) _ _ slices_S256x1024_o0_768_S256x128, slice_split u (by decide : 5 < 8) _ _ slices_S256x1024_o0_640_S256x128,
      slice_split u (by decide : 4 < 8) _ _ slices_S256x1024_o0_512_S256x128, slice_split u (by decide : 3 < 8) _ _ slices_S256x1024_o0_384_S256x128, slice_split u (by decide : 2 < 8) _ _ slices_S256x1024_o0_256_S256x128,
      slice_split u (by decide : 1 < 8) _ _ slices_S256x1024_o0_128_S256x128, slice_split u (by decide : 0 < 8) _ _ slices_S256x1024_o0_0_S256x128, fun p hp => absurd hp List.not_mem_nil⟩
  · have hy : (y 0 : ℕ) % 8 < 8 := Nat.mod_lt _ (by decide)
    simp only [List.exists_mem_cons_iff]
    rcases (by omega : (y 0 : ℕ) % 8 = 7 ∨ (y 0 : ℕ) % 8 = 6 ∨ (y 0 : ℕ) % 8 = 5 ∨ (y 0 : ℕ) % 8 = 4 ∨ (y 0 : ℕ) % 8 = 3 ∨ (y 0 : ℕ) % 8 = 2
      ∨ (y 0 : ℕ) % 8 = 1 ∨ (y 0 : ℕ) % 8 = 0) with h | h | h | h | h | h | h | h
    · exact .inl (mem_rows _ spos_8_1 y h)
    · exact .inr (.inl (mem_rows _ spos_8_1 y h))
    · exact .inr (.inr (.inl (mem_rows _ spos_8_1 y h)))
    · exact .inr (.inr (.inr (.inl (mem_rows _ spos_8_1 y h))))
    · exact .inr (.inr (.inr (.inr (.inl (mem_rows _ spos_8_1 y h)))))
    · exact .inr (.inr (.inr (.inr (.inr (.inl (mem_rows _ spos_8_1 y h))))))
    · exact .inr (.inr (.inr (.inr (.inr (.inr (.inl (mem_rows _ spos_8_1 y h)))))))
    · exact .inr (.inr (.inr (.inr (.inr (.inr (.inr (.inl (mem_rows _ spos_8_1 y h))))))))

/-- A load of a whole array of two axes reads it. -/
theorem load_whole {sg : RefSig} {κ : Kind} {sp : Space} {n k : ℕ} {e : EltTy} (v : View sg κ sp ⟨2, ![n, k]⟩ e) (f : v.ty.Contents (Elt F)) (inb) :
    v.readAt (Elt F) (Rect.unit (s := ⟨2, ![n, k]⟩) ![0, 0] (⟨2, ![n, k]⟩ : Shape).size inb).toLoadRect f = v.read (Elt F) f :=
  View.ld_unit_zero (funext fun a => by fin_cases a <;> rfl) inb (v.read (Elt F) f)

/-- A write of a whole array of two axes leaves it. -/
theorem write_whole {sg : RefSig} {κ : Kind} {sp : Space} {n k : ℕ} {e : EltTy} (v : View sg κ sp ⟨2, ![n, k]⟩ e) (f : v.ty.Contents (Elt F)) (inb)
    (u : (⟨2, ![n, k]⟩ : Shape).Idx → Elt F e) :
    v.read (Elt F) (v.writes (Elt F) f [⟨Rect.unit (s := ⟨2, ![n, k]⟩) ![0, 0] (⟨2, ![n, k]⟩ : Shape).size inb, u⟩]) = u := by
  have he : ∀ q : (⟨2, ![n, k]⟩ : Shape).Idx, (Rect.unit (s := ⟨2, ![n, k]⟩) ![0, 0] (⟨2, ![n, k]⟩ : Shape).size inb).emb q = q := fun q =>
    funext fun a => Fin.ext (by
      fin_cases a
      · exact (Nat.zero_add _).trans (Nat.one_mul _)
      · exact (Nat.zero_add _).trans (Nat.one_mul _))
  funext y
  refine View.read_writes_apply_of_pieces v f (u) _ ?_ y ⟨_, List.mem_cons_self, ?_⟩
  · simp only [List.forall_mem_cons]
    exact ⟨fun q => (congrArg u (he q)).symm, fun p hp => absurd hp List.not_mem_nil⟩
  · rw [LoadRect.mem_set]
    intro a
    refine ⟨y a, ?_, ?_⟩ <;> fin_cases a
    · exact (y 0).isLt
    · exact (y 1).isLt
    · exact ((Nat.zero_add _).trans (Nat.one_mul _)).symm
    · exact ((Nat.zero_add _).trans (Nat.one_mul _)).symm

/-- The condition of the first branch: the step's rows are latent tokens'. -/
abbrev isLat (i : grid0.Coords) : Prop := (Scalar.cmpi .ne (Scalar.extui (Scalar.cmpi .slt (BitVec.ofNat 32 (i 0).val) 128#32)) 0#32) = 1#1

/-- The condition of the second branch: the step's rows are context tokens'. -/
abbrev isCtx (i : grid0.Coords) : Prop := (Scalar.cmpi .ne (Scalar.extui (Scalar.cmpi .sge (BitVec.ofNat 32 (i 0).val) 128#32)) 0#32) = 1#1

/-- The first 128 steps are the latent tokens'. -/
theorem isLat_iff : ∀ t : Fin cfg0.N, isLat (grid0.coords t) ↔ t.val < 128 :=
  (by decide +kernel : ∀ t : Fin grid0.N, isLat (grid0.coords t) ↔ t.val < 128)

/-- The others are the context tokens'. -/
theorem isCtx_iff : ∀ t : Fin cfg0.N, isCtx (grid0.coords t) ↔ 128 ≤ t.val :=
  (by decide +kernel : ∀ t : Fin grid0.N, isCtx (grid0.coords t) ↔ 128 ≤ t.val)

/-- The resources that a program's run is stated over. -/
abbrev World (F : FTy → Type) [FloatOps F] : Type _ := MT nD τ sig Unit (Elt F) ℕ (UR sig nD τ) ℕ

section
variable (c : Dev nD) (i : grid0.Coords) (a1 : Memref sig .tc .vmem S256x1024 .bf16) (h1 : a1.IsWhole) (a2 : Memref sig .tc .vmem S256x1024 .bf16) (h2 : a2.IsWhole)
  (a3 : Memref sig .tc .vmem S1024x1024 .bf16) (h3 : a3.IsWhole) (a4 : Memref sig .tc .vmem S256x1024 .f32) (h4 : a4.IsWhole)
  (a5 : Memref sig .tc .vmem S1x1x6144 .f32) (h5 : a5.IsWhole) (a6 : Memref sig .tc .vmem S1x1024 .f32) (h6 : a6.IsWhole)
  (a7 : Memref sig .tc .vmem S256x1024 .f32) (h7 : a7.IsWhole) (a8 : Memref sig .tc .vmem S2048x128 .f32) (h8 : a8.IsWhole)
  (ol oc : Vec F S256x1024 .bf16) (w : Vec F S1024x1024 .bf16) (x : Vec F S256x1024 .f32) (md : Vec F S1x1x6144 .f32) (g : Vec F S1x1024 .f32)

/-- The blocks that a step reads, as the core holds them. -/
def holds : sProp (World F) :=
  iprop(owns (c : Thread nD τ) a1 fullShare ol ∗ owns (c : Thread nD τ) a2 fullShare oc ∗ owns (c : Thread nD τ) a3 fullShare w ∗ owns (c : Thread nD τ) a4 fullShare x ∗ owns (c : Thread nD τ) a5 fullShare md ∗ owns (c : Thread nD τ) a6 fullShare g)

set_option maxHeartbeats 4000000 in
/-- A step leaves the blocks that it reads. Its outputs hold the stream and the split norm of the block `o` that its branch takes. -/
theorem step (o : Vec F S256x1024 .bf16) (ho : (isLat i ∧ ¬ isCtx i ∧ o = ol) ∨ (¬ isLat i ∧ isCtx i ∧ o = oc)) (E : Set ℕ) (K : PUnit → sProp (World F)) :
    iprop(holds c a1 a2 a3 a4 a5 a6 ol oc w x md g ∗ (∃ d, owns (c : Thread nD τ) a7 fullShare d) ∗ (∃ d, owns (c : Thread nD τ) a8 fullShare d)
        ∗ (iprop(holds c a1 a2 a3 a4 a5 a6 ol oc w x md g ∗ owns (c : Thread nD τ) a7 fullShare (stream o w x md)
            ∗ owns (c : Thread nD τ) a8 fullShare (split (normed o w x md g))) -∗ K ⟨⟩))
      ⊢ wp frame (wpE (defs₀ (F := F)) Variants.none c none) E (cc0_proj_out i a1 h1 a2 h2 a3 h3 a4 h4 a5 h5 a6 h6 a7 h7 a8 h8) K := by
  simp only [cc0_proj_out_eq_skeleton]; unfold cc0_proj_out_skel
  simp only [k0_part1_eq_skeleton, k0_part2_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, Hk⟩
  rcases ho with ⟨hl, hc, rfl⟩ | ⟨hl, hc, rfl⟩
  all_goals
    sl_exec (disch := first | sl_exact hl | sl_exact hc)
    sl_step
    iapply Hk
    isplitl [H0 H1 H2 H3 H4 H5]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      iexists _; isplitr; · ipureintro; exact hf5
      iexact H5
    subst hf0 hf1 hf2 hf3 hf4 hf5
    isplitl [H6]
    · iexists _; isplitr; swap; · iexact H6
      ipureintro
      refine (write_whole a7.view _ _ _).trans ?_
      unfold stream
      rw [← load_whole a3.view _ inb_S1024x1024_S1024x1024_0_0, ← load_whole a4.view _ inb_S256x1024_S256x1024_0_0]
      first
        | rw [← load_whole a1.view _ inb_S256x1024_S256x1024_0_0]; rfl
        | rw [← load_whole a2.view _ inb_S256x1024_S256x1024_0_0]; rfl
    · iexists _; isplitr; swap; · iexact H7
      ipureintro
      refine (read_slices a8.view _ _).trans (congrArg split ?_)
      unfold normed
      rw [← load_whole a3.view _ inb_S1024x1024_S1024x1024_0_0, ← load_whole a4.view _ inb_S256x1024_S256x1024_0_0,
        ← load_whole a6.view _ inb_S1x1024_S1x1024_0_0]
      first
        | rw [← load_whole a1.view _ inb_S256x1024_S256x1024_0_0]; rfl
        | rw [← load_whole a2.view _ inb_S256x1024_S256x1024_0_0]; rfl

end

end Cert.ProjOutIdeal.Gen

end
-- ==== Proof.OutFrame.lean ====
/- The output projection's launch: it runs without error, keeps its arguments, and leaves in its two result arrays what its steps compute. -/
module

public import proofs.«01_k».proof.Proof.OutRun
public import proofs.«01_k».proof.Proof.Gen.ProjOutIdeal.Points

@[expose] public section

set_option maxRecDepth 16384

noncomputable section

namespace Cert.ProjOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The attention's block that step `t` projects: the latent one's for the first 128 steps, then the context one's. -/
def att (c : Dev nD) (t : Fin cfg0.N) : Vec F S256x1024 .bf16 :=
  if t.val < 128 then iblk m c 0 t else iblk m c 1 t

/-- What step `t` leaves in the stream's block. -/
def outX (c : Dev nD) (t : Fin cfg0.N) : Vec F S256x1024 .f32 := stream (att m c t) (iblk m c 2 t) (iblk m c 3 t) (iblk m c 4 t)

/-- What step `t` leaves in the tokens' block. -/
def outT (c : Dev nD) (t : Fin cfg0.N) : Vec F S2048x128 .f32 :=
  split (normed (att m c t) (iblk m c 2 t) (iblk m c 3 t) (iblk m c 4 t) (iblk m c 5 t))

/-- The launch's data: the arrays as it finds them, each input's block left in place, the two outputs' blocks as the steps leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outX m c t
    | ⟨7, _⟩ => outT m c t
  Φ _ := Pipeline.ΦA spec0 c
  q _ := fullShare
  owed _ := 0

/-- The data's arrays are those that the launch finds. -/
theorem A_eq (c : Dev nD) (w : Fin cfg0.W) : (dats m 0 c).A w = V m c (Pipeline.arrRef spec0 w) := by dsimp only [dats]

/-- The first output's block after step `t`. -/
theorem after0_6 (c : Dev nD) (t : Fin cfg0.N) : (dats m 0 c).after 6 t = outX m c t := by dsimp only [dats]

/-- The second output's block after step `t`. -/
theorem after0_7 (c : Dev nD) (t : Fin cfg0.N) : (dats m 0 c).after 7 t = outT m c t := by dsimp only [dats]

/-- The six inputs' blocks are in place before each step. -/
theorem before_in (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t) :=
  ⟨before0_0_of m _ (A_eq m c 0) (fun t => by dsimp only [dats]) t, before0_1_of m _ (A_eq m c 1) (fun t => by dsimp only [dats]) t,
    before0_2_of m _ (A_eq m c 2) (fun t => by dsimp only [dats]) t, before0_3_of m _ (A_eq m c 3) (fun t => by dsimp only [dats]) t,
    before0_4_of m _ (A_eq m c 4) (fun t => by dsimp only [dats]) t, before0_5_of m _ (A_eq m c 5) (fun t => by dsimp only [dats]) t⟩

/-- Which of the two branches step `t` takes, and the block that it projects there. -/
theorem branch (c : Dev nD) (t : Fin cfg0.N) :
    (isLat (grid0.coords t) ∧ ¬ isCtx (grid0.coords t) ∧ att m c t = iblk m c 0 t)
    ∨ (¬ isLat (grid0.coords t) ∧ isCtx (grid0.coords t) ∧ att m c t = iblk m c 1 t) := by
  rw [isLat_iff, isCtx_iff]
  unfold att
  by_cases h : t.val < 128
  · exact .inl ⟨h, by omega, if_pos h⟩
  · exact .inr ⟨h, by omega, if_neg h⟩

/-- A step of the launch: from the blocks in place and whatever the outputs' buffers held, to the blocks still in place and the outputs'. -/
theorem body_step (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d))
        ∗ (∃ d, owns (c : Thread nD τ) (win0_7.stage (cfg0.slots t 7)) fullShare ((dats m 0 c).before 7 t d)))
      ⊢ wp frame (wpE (defs₀ (F := F)) Variants.none c none) Set.univ (bodyAt0 t) fun _ =>
        iprop((dats m 0 c).Φ t.succ ∗ (dats m 0 c).owesAt () t.succ
          ∗ owns (c : Thread nD τ) (win0_0.stage (cfg0.slots t 0)) fullShare ((dats m 0 c).after 0 t)
          ∗ owns (c : Thread nD τ) (win0_1.stage (cfg0.slots t 1)) fullShare ((dats m 0 c).after 1 t)
          ∗ owns (c : Thread nD τ) (win0_2.stage (cfg0.slots t 2)) fullShare ((dats m 0 c).after 2 t)
          ∗ owns (c : Thread nD τ) (win0_3.stage (cfg0.slots t 3)) fullShare ((dats m 0 c).after 3 t)
          ∗ owns (c : Thread nD τ) (win0_4.stage (cfg0.slots t 4)) fullShare ((dats m 0 c).after 4 t)
          ∗ owns (c : Thread nD τ) (win0_5.stage (cfg0.slots t 5)) fullShare ((dats m 0 c).after 5 t)
          ∗ owns (c : Thread nD τ) (win0_6.stage (cfg0.slots t 6)) fullShare ((dats m 0 c).after 6 t)
          ∗ owns (c : Thread nD τ) (win0_7.stage (cfg0.slots t 7)) fullShare ((dats m 0 c).after 7 t)) := by
  obtain ⟨b0, b1, b2, b3, b4, b5⟩ := before_in m c t
  simp only [b0, b1, b2, b3, b4, b5]
  rw [show (dats m 0 c).Φ t.succ = (dats m 0 c).Φ t.castSucc from rfl,
    show (dats m 0 c).owesAt () t.succ = (dats m 0 c).owesAt () t.castSucc from rfl]
  dsimp only [dats]
  unfold outX outT bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step c (grid0.coords t) _ _ _ _ _ _ _ _ _ _ _ _ _ _ _ _ (iblk m c 0 t) (iblk m c 1 t) (iblk m c 2 t) (iblk m c 3 t) (iblk m c 4 t) (iblk m c 5 t)
    (att m c t) (branch m c t) Set.univ _)
  unfold holds
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  iintro ⟨⟨H0, H1, H2, H3, H4, H5⟩, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A window that is written back at a point is left at what the step leaves there, whether the point touches it or not. -/
theorem left_of_flush {R : Type} [URA R] {P Q : sProp R} (b : Bool) {f : Bool} (hf : f = true) :
    Q ⊢ (match (generalizing := false) b with
      | true => match (generalizing := false) f with
        | false => P
        | true => Q
      | false => Q) := by
  subst hf
  cases b <;> exact .rfl

/-- The steps meet what the launch asks of them. -/
theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  refine triple_restated (body_step m c t) rfl .rfl fun _ => ?_
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · refine left_of_flush (cfg0.idle 6 (cfg0.grid.coords t)) (flush0_6 t)
  · refine left_of_flush (cfg0.idle 7 (cfg0.grid.coords t)) (flush0_7 t)

set_option backward.isDefEq.respectTransparency.types false in
/-- The launch ends, with every array at what the data say and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main m ρ))

/-- The launch runs without error, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main m ρ))

/-- The launch's two result arrays, and its arguments unchanged. -/
theorem results : θ_run defs (onTc (τ := τ) (main (F := F))) ⟨m, fun _ => 0, ρ⟩ fun r => ∀ c : Dev nD,
      r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1.1 c).1 6, (h.1.1 c).1 7, h.2 c⟩) (θ_run_and (run_main m ρ) (unchanged m ρ))

end Cert.ProjOutIdeal.Gen

end
-- ==== Proof.OutSpec.lean ====
/- The function that both output projection programs compute: each token's attention row is multiplied with the weights,
   gated by its modulation and added to the stream; the new stream's row, normalised and modulated, is the token's row for
   the experts. -/
module

public import proofs.«01_k».proof.Proof.InSpec

@[expose] public section

noncomputable section

namespace Cert.OutSpec

open Idealize.ShloMosaic Cert.InSpec

section
variable (O X M W : ℕ → ℕ → EReal) (G : ℕ → EReal)

/-- Row `r` of the stream: the projected attention times the gate, added to what the stream held. -/
def xo (r e : ℕ) : EReal := X r e + M (mrow r) (2048 + e) * proj (O r) W e

/-- The stream's row normalised and modulated. -/
def ho (r e : ℕ) : EReal := hid (xo O X M W r) G (fun d => M (mrow r) (4096 + d)) (fun d => M (mrow r) (3072 + d)) e
end

/-- The attention's rows: those of the latent tokens and then the context's. -/
def both (A B : ℕ → ℕ → EReal) (r : ℕ) : ℕ → EReal := if r < 32768 then A r else B (r - 32768)

end Cert.OutSpec

end
-- ==== Proof.OutBlocks.lean ====
/- What one step of the output projection computes at an index, where its blocks lie in the arrays, and what the two output
   arrays hold after the launch. -/
module

public import proofs.«01_k».proof.Proof.OutFrame
public import proofs.«01_k».proof.Proof.OutSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjOutIdeal.Gen

open Idealize.ShloMosaic Idealize.ShloMosaic.TcCoe Idealize.SL.Sem
open Idealize.ShloMosaic.Pipeline (Dat Cfg Window)
open Cert.InSpec Cert.OutSpec

/-- A window of the modulations' row at a lane. -/
theorem lanes_at (o ho) (md : Vec Ideal S1x1x6144 .f32) (d : Fin 1024) (h : o + (d : ℕ) < 6144) :
    lanes o ho md (ix3 0 0 d) = md (ix3 0 0 ⟨o + d, h⟩) := by
  unfold lanes
  show md _ = md _
  congr 1
  funext a
  fin_cases a
  · rfl
  · rfl
  · refine Fin.ext ?_
    show o + 1 * (d : ℕ) = o + d
    omega

section
variable {o : Vec Ideal S256x1024 .bf16} {w : Vec Ideal S1024x1024 .bf16} {x : Vec Ideal S256x1024 .f32} {md : Vec Ideal S1x1x6144 .f32}
  {g : Vec Ideal S1x1024 .f32} {O X M W : ℕ → ℕ → EReal} {G : ℕ → EReal} (R : ℕ) (r : Fin 256)
  (ho : ∀ d : Fin 1024, o (ix2 r d) = O R d) (hw : ∀ d e : Fin 1024, w (ix2 d e) = W d e)
  (hx : ∀ d : Fin 1024, x (ix2 r d) = X R d) (hm : ∀ d : Fin 6144, md (ix3 0 0 d) = M (mrow R) d)
  (hg : ∀ d : Fin 1024, g (ix2 0 d) = G d)

include ho hw hx hm in
/-- The stream's block at an index. -/
theorem stream_at (e : Fin 1024) : stream o w x md (ix2 r e) = xo O X M W R e := by
  pointwise [stream, k0_pay17]
  rw [lanes_at _ _ _ _ (by omega)]
  simp only [ho, hw, hx, hm]
  rfl

include ho hw hx hm hg in
/-- The normalised rows at an index. -/
theorem normed_at (e : Fin 1024) : normed o w x md g (ix2 r e) = Cert.OutSpec.ho O X M W G R e := by
  have hs := stream_at R r ho hw hx hm
  unfold stream at hs
  pointwise [normed, k0_pay18]
  simp only [hs, hg]
  rw [lanes_at _ _ _ _ (by omega), lanes_at _ _ _ _ (by omega)]
  simp only [hm]
  rfl
end

variable (m : (ℓ : Loc nD τ sig) → Buf (Elt Ideal) ℓ)

/-- The block indices of the windows at grid point `t`. -/
theorem idx : ∀ t : Fin grid0.N,
    (win0_0.index t 0 = (if t.val < 128 then t.val else 127) ∧ win0_0.index t 1 = 0)
    ∧ (win0_1.index t 0 = t.val - 128 ∧ win0_1.index t 1 = 0)
    ∧ (win0_2.index t 0 = 0 ∧ win0_2.index t 1 = 0)
    ∧ (win0_3.index t 0 = t.val ∧ win0_3.index t 1 = 0)
    ∧ (win0_4.index t 0 = (if t.val < 128 then t.val / 16 else 8) ∧ win0_4.index t 1 = 0 ∧ win0_4.index t 2 = 0)
    ∧ (win0_5.index t 0 = 0 ∧ win0_5.index t 1 = 0)
    ∧ (win0_6.index t 0 = t.val ∧ win0_6.index t 1 = 0)
    ∧ (win0_7.index t 0 = t.val ∧ win0_7.index t 1 = 0) := by
  decide +kernel

/-- The grid has 136 points. -/
theorem lt136 (t : Fin cfg0.N) : (t : ℕ) < 136 := lt_of_lt_of_eq t.isLt (by decide +kernel)

/-- The latent attention's block at an index, for a latent token's step. -/
theorem b0 (c : Dev nD) (t : Fin cfg0.N) (h : (t : ℕ) < 128) (i : Fin 256) (d : Fin 1024) : iblk m c 0 t (ix2 i d)
    = m (c, Proc.tc.devRef main_arg0) (ix2 ⟨t * 256 + i, by omega⟩ d) := by
  rw [← V_main_arg0 m c]
  blk_simp [iblk, idx t]
  congr 1
  blk_ext [idx t, h]
  rw [if_pos trivial]

/-- The context attention's block at an index. -/
theorem b1 (c : Dev nD) (t : Fin cfg0.N) (i : Fin 256) (d : Fin 1024) : iblk m c 1 t (ix2 i d)
    = m (c, Proc.tc.devRef main_arg1) (ix2 ⟨(t - 128) * 256 + i, by have := lt136 t; omega⟩ d) := by
  rw [← V_main_arg1 m c]
  blk_simp [iblk, idx t]
  congr 1
  blk_ext [idx t]

/-- The rounded weights are the weights, and their block is the array. -/
theorem b2 (c : Dev nD) (t : Fin cfg0.N) (d x : Fin 1024) : iblk m c 2 t (ix2 d x) = m (c, Proc.tc.devRef main_arg2) (ix2 d x) := by
  have e : V m c main_v0 = truncf (F := Ideal) .bf16 (m (c, Proc.tc.devRef main_arg2)) bitsLt_bf16_f32 := by
    unfold V
    rfl
  have e' : iblk m c 2 t (ix2 d x) = V m c main_v0 (ix2 d x) := by
    blk_simp [iblk, idx t]
    congr 1
    blk_ext [idx t]
  rw [e', e]
  pointwise

/-- The stream's block at an index. -/
theorem b3 (c : Dev nD) (t : Fin cfg0.N) (i : Fin 256) (d : Fin 1024) : iblk m c 3 t (ix2 i d)
    = m (c, Proc.tc.devRef main_arg3) (ix2 ⟨t * 256 + i, by have := lt136 t; omega⟩ d) := by
  rw [← V_main_arg3 m c]
  blk_simp [iblk, idx t]
  congr 1
  blk_ext [idx t]

/-- The modulations' block at an index. -/
theorem b4 (c : Dev nD) (t : Fin cfg0.N) (d : Fin 6144) : iblk m c 4 t (ix3 0 0 d)
    = m (c, Proc.tc.devRef main_arg4) (ix3 ⟨if (t : ℕ) < 128 then t / 16 else 8, by split_ifs <;> omega⟩ 0 d) := by
  rw [← V_main_arg4 m c]
  blk_simp [iblk, idx t]
  congr 1
  blk_ext [idx t]

/-- The norm weights' block is the array, written as a row. -/
theorem b5 (c : Dev nD) (t : Fin cfg0.N) (d : Fin 1024) : iblk m c 5 t (ix2 0 d) = m (c, Proc.tc.devRef main_arg5) (ix1 d) := by
  have e : V m c main_v1 = shapeCast S1x1024 (m (c, Proc.tc.devRef main_arg5)) shapeCasts_S1024_S1x1024 := by
    unfold V
    rfl
  have e' : iblk m c 5 t (ix2 0 d) = V m c main_v1 (ix2 0 d) := by
    blk_simp [iblk, idx t]
    congr 1
    blk_ext [idx t]
  rw [e', e]
  pointwise

section
variable {A B X M W : ℕ → ℕ → EReal} {G : ℕ → EReal} (c : Dev nD)
  (hA : ∀ (r : Fin 32768) (d : Fin 1024), m (c, Proc.tc.devRef main_arg0) (ix2 r d) = A r d)
  (hB : ∀ (r : Fin 2048) (d : Fin 1024), m (c, Proc.tc.devRef main_arg1) (ix2 r d) = B r d)
  (hW : ∀ d x : Fin 1024, m (c, Proc.tc.devRef main_arg2) (ix2 d x) = W d x)
  (hX : ∀ (r : Fin 34816) (d : Fin 1024), m (c, Proc.tc.devRef main_arg3) (ix2 r d) = X r d)
  (hM : ∀ (i : Fin 16) (d : Fin 6144), m (c, Proc.tc.devRef main_arg4) (ix3 i 0 d) = M i d)
  (hG : ∀ d : Fin 1024, m (c, Proc.tc.devRef main_arg5) (ix1 d) = G d)

include hA hB in
/-- The attention's row that a step projects is the token's. -/
theorem att_at (t : Fin cfg0.N) (i : Fin 256) (d : Fin 1024) : att m c t (ix2 i d) = both A B (t * 256 + i) d := by
  unfold att both
  by_cases h : (t : ℕ) < 128
  · rw [if_pos h, if_pos (by omega), b0 m c t h, hA]
  · rw [if_neg h, if_neg (by omega), b1, hB]
    exact congrArg (fun r => B r d) (by dsimp only; omega)

include hM in
/-- The modulations' block at an index, by the token's row. -/
theorem mod_at (t : Fin cfg0.N) (i : Fin 256) (d : Fin 6144) : iblk m c 4 t (ix3 0 0 d) = M (mrow (t * 256 + i)) d := by
  have ht := lt136 t
  rw [b4, hM]
  congr 1
  unfold mrow
  dsimp only
  split_ifs <;> omega

include hA hB hW hX hM in
/-- The stream's block holds the specification's values at the block's place in the array. -/
theorem outX_at (t : Fin cfg0.N) (r : Fin 256) (e : Fin 1024) : outX m c t (ix2 r e) = xo (both A B) X M W (t * 256 + r) e :=
  stream_at _ r (att_at m c hA hB t r) (fun d e => by rw [b2, hW]) (fun d => by rw [b3, hX]) (mod_at m c hM t r) e

include hA hB hW hX hM hG in
/-- So does the tokens' block, eight of its rows to a token. -/
theorem outT_at (t : Fin cfg0.N) (r : Fin 2048) (e : Fin 128) :
    outT m c t (ix2 r e) = ho (both A B) X M W G (t * 256 + (r : ℕ) / 8) ((r : ℕ) % 8 * 128 + e) :=
  normed_at _ ⟨(r : ℕ) / 8, by omega⟩ (att_at m c hA hB t _) (fun d e => by rw [b2, hW]) (fun d => by rw [b3, hX]) (mod_at m c hM t _)
    (fun d => by rw [b5, hG]) ⟨(r : ℕ) % 8 * 128 + e, by omega⟩

/-- The two output arrays of the launch. -/
def resultX (A B X M W : ℕ → ℕ → EReal) : Vec Ideal S34816x1024 .f32 := fun i => xo (both A B) X M W (i 0) (i 1)

@[inherit_doc resultX]
def resultT (A B X M W : ℕ → ℕ → EReal) (G : ℕ → EReal) : Vec Ideal S278528x128 .f32 := fun i =>
  ho (both A B) X M W G ((i 0 : ℕ) / 8) ((i 0 : ℕ) % 8 * 128 + (i 1 : ℕ))

include hA hB hW hX hM in
/-- After the launch the first output array holds the specification's stream: every index lies in the block of one step. -/
theorem finalX : (dats m 0 c).arrAt 6 cfg0.N = resultX A B X M W := by
  refine (dats m 0 c).arrAt_eq_of_covers 6 _ (by decide +kernel) fun t hf y => ?_
  blk_simp
  rw [after0_6]
  rw [eq_ix2 y]
  refine (outX_at m c hA hB hW hX hM t (y 0) (y 1)).trans ?_
  have ht := lt136 t
  have e : (win0_6.blk t).view.emb (ix2 (y 0) (y 1)) = ix2 ⟨t * 256 + (y 0 : ℕ), by idx_bounds; omega⟩
      ⟨(y 1 : ℕ), by idx_bounds; omega⟩ := by
    blk_ext [idx t]
  rw [e]
  rfl

include hA hB hW hX hM hG in
/-- The second holds the specification's tokens likewise. -/
theorem finalT : (dats m 0 c).arrAt 7 cfg0.N = resultT A B X M W G := by
  refine (dats m 0 c).arrAt_eq_of_covers 7 _ (by decide +kernel) fun t hf y => ?_
  blk_simp
  rw [after0_7]
  rw [eq_ix2 y]
  refine (outT_at m c hA hB hW hX hM hG t (y 0) (y 1)).trans ?_
  have ht := lt136 t
  have e : (win0_7.blk t).view.emb (ix2 (y 0) (y 1)) = ix2 ⟨t * 2048 + (y 0 : ℕ), by idx_bounds; omega⟩
      ⟨(y 1 : ℕ), by idx_bounds; omega⟩ := by
    blk_ext [idx t]
  have e1 : ((t : ℕ) * 2048 + (y 0 : ℕ)) / 8 = t * 256 + (y 0 : ℕ) / 8 := by omega
  have e2 : ((t : ℕ) * 2048 + (y 0 : ℕ)) % 8 = (y 0 : ℕ) % 8 := by omega
  rw [e]
  show _ = ho (both A B) X M W G (((t : ℕ) * 2048 + (y 0 : ℕ)) / 8) (((t : ℕ) * 2048 + (y 0 : ℕ)) % 8 * 128 + (y 1 : ℕ))
  rw [e1, e2]
end

end Cert.ProjOutIdeal.Gen

end
-- ==== Proof.OutRef.lean ====
/- What the output projection's reference computes, read at an index, stage by stage. -/
module

public import proofs.«01_k».proof.Proof.Gen.ProjOutRefIdeal.Run
public import proofs.«01_k».proof.Proof.OutSpec
public import Idealize.ShloMosaic.Lib.Pointwise

@[expose] public section

set_option maxRecDepth 16384

noncomputable section

namespace Cert.OutRef

open Idealize.ShloMosaic Idealize.ShloMosaic.TcCoe Idealize.SL.Sem
open Cert.ProjOutRefIdeal Cert.ProjOutRefIdeal.Gen Cert.InSpec Cert.OutSpec

/-- The latent tokens' stream, by batch: what it held and the gated projection of the attention. -/
def xlat (a0 : FVec Ideal S32768x1024 .bf16) (a2 : FVec Ideal S1024x1024 .f32) (a3 : FVec Ideal S34816x1024 .f32) (a4 : FVec Ideal S16x1x6144 .f32) :
    FVec Ideal S8x4096x1024 .f32 :=
  addf (shapeCast _ (extractStridedSlice S32768x1024 ![0, 0] a3 slices_S34816x1024_S32768x1024_0_0) shapeCasts_S32768x1024_S8x4096x1024) (mulf (broadcastInDim S8x4096x1024 ![0, 1, 2] bcast_S8x1x1024_S8x4096x1024_0_1_2 (extractStridedSlice S8x1x1024 ![0, 0, 2048] a4 slices_S16x1x6144_S8x1x1024_0_0_2048)) (Host.dotGeneral dot_S8x4096x1024_S1024x1024_S8x4096x1024_2_0_01_1_n_n none (shapeCast _ (extf .f32 a0 bitsLt_bf16_f32) shapeCasts_S32768x1024_S8x4096x1024) a2))

/-- The context's, likewise. -/
def xctx (a1 : FVec Ideal S2048x1024 .bf16) (a2 : FVec Ideal S1024x1024 .f32) (a3 : FVec Ideal S34816x1024 .f32) (a4 : FVec Ideal S16x1x6144 .f32) :
    FVec Ideal S8x256x1024 .f32 :=
  addf (shapeCast _ (extractStridedSlice S2048x1024 ![32768, 0] a3 slices_S34816x1024_S2048x1024_32768_0) shapeCasts_S2048x1024_S8x256x1024) (mulf (broadcastInDim S8x256x1024 ![0, 1, 2] bcast_S1x1x1024_S8x256x1024_0_1_2 (broadcastInDim S1x1x1024 ![2] bcast_S1024_S1x1x1024_2 (shapeCast _ (extractStridedSlice S1x1x1024 ![8, 0, 2048] a4 slices_S16x1x6144_S1x1x1024_8_0_2048) shapeCasts_S1x1x1024_S1024))) (Host.dotGeneral dot_S8x256x1024_S1024x1024_S8x256x1024_2_0_01_1_n_n none (shapeCast _ (extf .f32 a1 bitsLt_bf16_f32) shapeCasts_S2048x1024_S8x256x1024) a2))

/-- The latent tokens' stream normalised and modulated. -/
def hlat (x : FVec Ideal S8x4096x1024 .f32) (a4 : FVec Ideal S16x1x6144 .f32) (a5 : FVec Ideal S1024 .f32) : FVec Ideal S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a5))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 4096] a4 slices_S16x1x6144_S8x1x1024_0_0_4096)))) (broadcastInDim S8x4096x1024 ![0, 1, 2] bcast_S8x1x1024_S8x4096x1024_0_1_2 (extractStridedSlice S8x1x1024 ![0, 0, 3072] a4 slices_S16x1x6144_S8x1x1024_0_0_3072))

/-- The context's, likewise. -/
def hctx (x : FVec Ideal S8x256x1024 .f32) (a4 : FVec Ideal S16x1x6144 .f32) (a5 : FVec Ideal S1024 .f32) : FVec Ideal S8x256x1024 .f32 :=
  addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 a5))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![8, 0, 4096] a4 slices_S16x1x6144_S1x1x1024_8_0_4096) shapeCasts_S1x1x1024_S1024))))) (broadcastInDim S8x256x1024 ![0, 1, 2] bcast_S1x1x1024_S8x256x1024_0_1_2 (broadcastInDim S1x1x1024 ![2] bcast_S1024_S1x1x1024_2 (shapeCast _ (extractStridedSlice S1x1x1024 ![8, 0, 3072] a4 slices_S16x1x6144_S1x1x1024_8_0_3072) shapeCasts_S1x1x1024_S1024)))

/-- The latent tokens' rows and then the context's. -/
def rows (z : FVec Ideal S8x4096x1024 .f32) (zc : FVec Ideal S8x256x1024 .f32) : FVec Ideal S34816x1024 .f32 :=
  concatenate S34816x1024 0 [⟨S32768x1024, (shapeCast _ z shapeCasts_S8x4096x1024_S32768x1024)⟩, ⟨S2048x1024, (shapeCast _ zc shapeCasts_S8x256x1024_S2048x1024)⟩] concatenates_S32768x1024_S2048x1024_S34816x1024_d0

/-- Each row of 1024 lanes as eight rows of 128. -/
def eighths (z : FVec Ideal S34816x1024 .f32) : FVec Ideal S278528x128 .f32 := shapeCast _ z shapeCasts_S34816x1024_S278528x128

/-- The rows at an index, from what the latent tokens and the context hold. -/
theorem rows_at (z zc) {Y : ℕ → ℕ → EReal}
    (hz : ∀ (b : Fin 8) (i : Fin 4096) (d : Fin 1024), z (ix3 b i d) = Y (b * 4096 + i) d)
    (hc : ∀ (b : Fin 8) (i : Fin 256) (d : Fin 1024), zc (ix3 b i d) = Y (32768 + (b * 256 + i)) d)
    (r : Fin 34816) (x : Fin 1024) : rows z zc (ix2 r x) = Y r x := by
  pointwise [rows]
  by_cases h : (r : ℕ) < 32768
  · rw [dif_pos h, hz]
    exact congrArg (fun r => Y r x) (by dsimp only; omega)
  · rw [dif_neg h, hc]
    exact congrArg (fun r => Y r x) (by dsimp only; omega)

/-- An eighth of a row at an index. -/
theorem eighths_at (z) (r : Fin 278528) (x : Fin 128) :
    eighths z (ix2 r x) = z (ix2 ⟨(r : ℕ) / 8, by omega⟩ ⟨(r : ℕ) % 8 * 128 + x, by omega⟩) := by
  pointwise [eighths]

section
variable {a0 : FVec Ideal S32768x1024 .bf16} {a1 : FVec Ideal S2048x1024 .bf16} {a2 : FVec Ideal S1024x1024 .f32}
  {a3 : FVec Ideal S34816x1024 .f32} {a4 : FVec Ideal S16x1x6144 .f32} {a5 : FVec Ideal S1024 .f32}
  {A B X M W : ℕ → ℕ → EReal} {G : ℕ → EReal}
  (hA : ∀ (r : Fin 32768) (d : Fin 1024), a0 (ix2 r d) = A r d)
  (hB : ∀ (r : Fin 2048) (d : Fin 1024), a1 (ix2 r d) = B r d)
  (hW : ∀ d x : Fin 1024, a2 (ix2 d x) = W d x)
  (hX : ∀ (r : Fin 34816) (d : Fin 1024), a3 (ix2 r d) = X r d)
  (hM : ∀ (i : Fin 16) (d : Fin 6144), a4 (ix3 i 0 d) = M i d)
  (hG : ∀ d : Fin 1024, a5 (ix1 d) = G d)

/-- The modulations' row of a latent token is its batch. -/
theorem mrow_lat (b : Fin 8) (i : Fin 4096) : mrow (b * 4096 + i) = b := by
  unfold mrow
  rw [if_pos (by omega)]
  omega

/-- A context's token has the ninth. -/
theorem mrow_ctx (b : Fin 8) (i : Fin 256) : mrow (32768 + (b * 256 + i)) = 8 := by
  unfold mrow
  rw [if_neg (by omega)]

include hA hW hX hM in
/-- The stream of a latent token. -/
theorem xlat_at (b : Fin 8) (i : Fin 4096) (d : Fin 1024) :
    xlat a0 a2 a3 a4 (ix3 b i d) = xo (both A B) X M W (b * 4096 + i) d := by
  pointwise [xlat]
  unfold xo both
  rw [mrow_lat, if_pos (by omega)]
  simp only [hA, hW, hX, hM]
  rfl

include hB hW hX hM in
/-- The stream of a context's token. -/
theorem xctx_at (b : Fin 8) (i : Fin 256) (d : Fin 1024) :
    xctx a1 a2 a3 a4 (ix3 b i d) = xo (both A B) X M W (32768 + (b * 256 + i)) d := by
  pointwise [xctx]
  unfold xo both
  rw [mrow_ctx, if_neg (by omega), Nat.add_sub_cancel_left]
  simp only [hB, hW, hX, hM]
  rfl

include hM hG in
/-- A latent token's row, normalised and modulated. -/
theorem hlat_at (x) {O : ℕ → ℕ → EReal} (b : Fin 8) (i : Fin 4096) (hx : ∀ d : Fin 1024, x (ix3 b i d) = xo O X M W (b * 4096 + i) d) (d : Fin 1024) :
    hlat x a4 a5 (ix3 b i d) = ho O X M W G (b * 4096 + i) d := by
  pointwise [hlat]
  unfold ho
  rw [mrow_lat]
  simp only [hx, hM, hG]
  rfl

include hM hG in
/-- A context's token's row likewise. -/
theorem hctx_at (x) {O : ℕ → ℕ → EReal} (b : Fin 8) (i : Fin 256) (hx : ∀ d : Fin 1024, x (ix3 b i d) = xo O X M W (32768 + (b * 256 + i)) d) (d : Fin 1024) :
    hctx x a4 a5 (ix3 b i d) = ho O X M W G (32768 + (b * 256 + i)) d := by
  pointwise [hctx]
  unfold ho
  rw [mrow_ctx]
  simp only [hx, hM, hG]
  rfl

include hA hB hW hX hM in
/-- The new stream at an index. -/
theorem stream_at (r : Fin 34816) (x : Fin 1024) :
    rows (xlat a0 a2 a3 a4) (xctx a1 a2 a3 a4) (ix2 r x) = xo (both A B) X M W r x :=
  rows_at _ _ (xlat_at hA hW hX hM) (xctx_at hB hW hX hM) r x

include hA hB hW hX hM hG in
/-- The tokens' rows at an index. -/
theorem tokens_at (r : Fin 278528) (x : Fin 128) :
    eighths (rows (hlat (xlat a0 a2 a3 a4) a4 a5) (hctx (xctx a1 a2 a3 a4) a4 a5)) (ix2 r x)
      = ho (both A B) X M W G ((r : ℕ) / 8) ((r : ℕ) % 8 * 128 + x) := by
  rw [eighths_at]
  exact rows_at _ _ (fun b i => hlat_at hM hG _ b i (xlat_at hA hW hX hM b i)) (fun b i => hctx_at hM hG _ b i (xctx_at hB hW hX hM b i)) _ _
end

/-- What the reference's run leaves, by the stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = rows
        (xlat (m ((c.tc : Thread nD τ).loc main_arg0)) (m ((c.tc : Thread nD τ).loc main_arg2)) (m ((c.tc : Thread nD τ).loc main_arg3)) (m ((c.tc : Thread nD τ).loc main_arg4)))
        (xctx (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v72) = eighths (rows
        (hlat (xlat (m ((c.tc : Thread nD τ).loc main_arg0)) (m ((c.tc : Thread nD τ).loc main_arg2)) (m ((c.tc : Thread nD τ).loc main_arg3)) (m ((c.tc : Thread nD τ).loc main_arg4)))
          (m ((c.tc : Thread nD τ).loc main_arg4)) (m ((c.tc : Thread nD τ).loc main_arg5)))
        (hctx (xctx (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2⟩)
    (Cert.ProjOutRefIdeal.Value.run (F := Ideal) m ρ)
  · rfl
  · rfl

end Cert.OutRef

end
-- ==== Proof.OutClaims.lean ====
/- The claims about the output projection: the frames, the idealization, and the equation of kernel and reference. -/
module

public import proofs.«01_k».proof.Defs
public import proofs.«01_k».proof.Proof.Gen.ProjOut.Frame
public import proofs.«01_k».proof.Proof.OutBlocks
public import proofs.«01_k».proof.Proof.OutRef
public import proofs.«01_k».proof.Proof.InClaims

@[expose] public section

set_option maxRecDepth 16384

noncomputable section

namespace Cert.OutClaims

open Idealize.ShloMosaic Idealize.ShloMosaic.TcCoe Idealize.SL.Sem Cert.InSpec Cert.OutSpec
open Cert.InClaims (exists1 exists2 exists3)

/-- The kernel's two output arrays are the reference's results. -/
theorem equation (m : (ℓ : Loc Cert.ProjOutIdeal.nD Cert.ProjOutIdeal.τ Cert.ProjOutIdeal.sig) → Buf (Elt Ideal) ℓ)
    (m' : (ℓ : Loc Cert.ProjOutRefIdeal.nD Cert.ProjOutRefIdeal.τ Cert.ProjOutRefIdeal.sig) → Buf (Elt Ideal) ℓ) (c : Dev Cert.ProjOutIdeal.nD)
    (hagree : m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)
      ∧ m' ((c.tc : Thread Cert.ProjOutRefIdeal.nD Cert.ProjOutRefIdeal.τ).loc Cert.ProjOutRefIdeal.main_arg4) = m ((c.tc : Thread Cert.ProjOutIdeal.nD Cert.ProjOutIdeal.τ).loc Cert.ProjOutIdeal.main_arg4)
      ∧ m' ((c.tc : Thread Cert.ProjOutRefIdeal.nD Cert.ProjOutRefIdeal.τ).loc Cert.ProjOutRefIdeal.main_arg5) = m ((c.tc : Thread Cert.ProjOutIdeal.nD Cert.ProjOutIdeal.τ).loc Cert.ProjOutIdeal.main_arg5)) :
    Cert.OutRef.rows (Cert.OutRef.xlat (m' ((c.tc : Thread Cert.ProjOutRefIdeal.nD Cert.ProjOutRefIdeal.τ).loc Cert.ProjOutRefIdeal.main_arg0)) (m' ((c.tc : Thread Cert.ProjOutRefIdeal.nD Cert.ProjOutRefIdeal.τ).loc Cert.ProjOutRefIdeal.main_arg2))
        (m' ((c.tc : Thread Cert.ProjOutRefIdeal.nD Cert.ProjOutRefIdeal.τ).loc Cert.ProjOutRefIdeal.main_arg3)) (m' ((c.tc : Thread Cert.ProjOutRefIdeal.nD Cert.ProjOutRefIdeal.τ).loc Cert.ProjOutRefIdeal.main_arg4)))
      (Cert.OutRef.xctx (m' ((c.tc : Thread Cert.ProjOutRefIdeal.nD Cert.ProjOutRefIdeal.τ).loc Cert.ProjOutRefIdeal.main_arg1)) (m' ((c.tc : Thread Cert.ProjOutRefIdeal.nD Cert.ProjOutRefIdeal.τ).loc Cert.ProjOutRefIdeal.main_arg2))
        (m' ((c.tc : Thread Cert.ProjOutRefIdeal.nD Cert.ProjOutRefIdeal.τ).loc Cert.ProjOutRefIdeal.main_arg3)) (m' ((c.tc : Thread Cert.ProjOutRefIdeal.nD Cert.ProjOutRefIdeal.τ).loc Cert.ProjOutRefIdeal.main_arg4)))
      = (Cert.ProjOutIdeal.Gen.dats m 0 c).arrAt 6 Cert.ProjOutIdeal.cfg0.N
    ∧ Cert.OutRef.eighths (Cert.OutRef.rows
      (Cert.OutRef.hlat (Cert.OutRef.xlat (m' ((c.tc : Thread Cert.ProjOutRefIdeal.nD Cert.ProjOutRefIdeal.τ).loc Cert.ProjOutRefIdeal.main_arg0)) (m' ((c.tc : Thread Cert.ProjOutRefIdeal.nD Cert.ProjOutRefIdeal.τ).loc Cert.ProjOutRefIdeal.main_arg2))
        (m' ((c.tc : Thread Cert.ProjOutRefIdeal.nD Cert.ProjOutRefIdeal.τ).loc Cert.ProjOutRefIdeal.main_arg3)) (m' ((c.tc : Thread Cert.ProjOutRefIdeal.nD Cert.ProjOutRefIdeal.τ).loc Cert.ProjOutRefIdeal.main_arg4)))
        (m' ((c.tc : Thread Cert.ProjOutRefIdeal.nD Cert.ProjOutRefIdeal.τ).loc Cert.ProjOutRefIdeal.main_arg4)) (m' ((c.tc : Thread Cert.ProjOutRefIdeal.nD Cert.ProjOutRefIdeal.τ).loc Cert.ProjOutRefIdeal.main_arg5)))
      (Cert.OutRef.hctx (Cert.OutRef.xctx (m' ((c.tc : Thread Cert.ProjOutRefIdeal.nD Cert.ProjOutRefIdeal.τ).loc Cert.ProjOutRefIdeal.main_arg1)) (m' ((c.tc : Thread Cert.ProjOutRefIdeal.nD Cert.ProjOutRefIdeal.τ).loc Cert.ProjOutRefIdeal.main_arg2))
        (m' ((c.tc : Thread Cert.ProjOutRefIdeal.nD Cert.ProjOutRefIdeal.τ).loc Cert.ProjOutRefIdeal.main_arg3)) (m' ((c.tc : Thread Cert.ProjOutRefIdeal.nD Cert.ProjOutRefIdeal.τ).loc Cert.ProjOutRefIdeal.main_arg4)))
        (m' ((c.tc : Thread Cert.ProjOutRefIdeal.nD Cert.ProjOutRefIdeal.τ).loc Cert.ProjOutRefIdeal.main_arg4)) (m' ((c.tc : Thread Cert.ProjOutRefIdeal.nD Cert.ProjOutRefIdeal.τ).loc Cert.ProjOutRefIdeal.main_arg5))))
      = (Cert.ProjOutIdeal.Gen.dats m 0 c).arrAt 7 Cert.ProjOutIdeal.cfg0.N := by
  obtain ⟨e0, e1, e2, e3, e4, e5⟩ := hagree
  obtain ⟨A, hA⟩ := exists2 rfl (m (c, Proc.tc.devRef Cert.ProjOutIdeal.main_arg0) : FVec Ideal Cert.ProjOutIdeal.S32768x1024 .bf16)
  obtain ⟨B, hB⟩ := exists2 rfl (m (c, Proc.tc.devRef Cert.ProjOutIdeal.main_arg1) : FVec Ideal Cert.ProjOutIdeal.S2048x1024 .bf16)
  obtain ⟨W, hW⟩ := exists2 rfl (m (c, Proc.tc.devRef Cert.ProjOutIdeal.main_arg2) : FVec Ideal Cert.ProjOutIdeal.S1024x1024 .f32)
  obtain ⟨X, hX⟩ := exists2 rfl (m (c, Proc.tc.devRef Cert.ProjOutIdeal.main_arg3) : FVec Ideal Cert.ProjOutIdeal.S34816x1024 .f32)
  obtain ⟨M, hM⟩ := exists3 rfl (m (c, Proc.tc.devRef Cert.ProjOutIdeal.main_arg4) : FVec Ideal Cert.ProjOutIdeal.S16x1x6144 .f32)
  obtain ⟨G, hG⟩ := exists1 rfl (m (c, Proc.tc.devRef Cert.ProjOutIdeal.main_arg5) : FVec Ideal Cert.ProjOutIdeal.S1024 .f32)
  rw [Cert.ProjOutIdeal.Gen.finalX m c hA hB hW hX hM, Cert.ProjOutIdeal.Gen.finalT m c hA hB hW hX hM hG, e0, e1, e2, e3, e4, e5]
  refine ⟨?_, ?_⟩
  · funext i
    rw [eq_ix2 i]
    exact Cert.OutRef.stream_at hA hB hW hX hM (i 0) (i 1)
  · funext i
    rw [eq_ix2 i]
    exact Cert.OutRef.tokens_at hA hB hW hX hM hG (i 0) (i 1)

/-- The output projection with rounding arithmetic has the body of the one with exact arithmetic: no constant is named. -/
theorem body_eq {F : FTy → Type} [FloatOps F] : @Cert.ProjOut.defs₀ F _ _ = @Cert.ProjOutIdeal.defs₀ F _ _ := by
  funext p l a
  cases p with
  | tc =>
    match l, a with
    | 0, (t, s) => with_unfolding_all rfl
  | scScalar _ => with_unfolding_all rfl
  | scVector _ _ => with_unfolding_all rfl

/-- The output projection runs without error and leaves its arguments as they were: so does the same program at any arithmetic. -/
theorem frame_p : Cert.quiescent_ProjOut := by
  intro m ρ _
  have h := Cert.ProjOutIdeal.Gen.frame (F := Bits) m ρ
  have e : (θ_run (Cert.ProjOut.defs (F := Bits)) (onTc (τ := Cert.ProjOut.τ) (Cert.ProjOut.main (F := Bits))) ⟨m, fun _ => 0, ρ⟩)
     = (θ_run (Cert.ProjOutIdeal.defs (F := Bits)) (onTc (τ := Cert.ProjOutIdeal.τ) (Cert.ProjOutIdeal.main (F := Bits))) ⟨m, fun _ => 0, ρ⟩) := by
    have d : @Cert.ProjOut.defs Bits _ _ = @Cert.ProjOutIdeal.defs Bits _ _ := by
      with_unfolding_all exact congrArg (Pipeline.defs (Cert.ProjOutIdeal.pcfgs (F := Bits))) body_eq
    with_unfolding_all exact congrArg (fun D => θ_run D (onTc (τ := Cert.ProjOutIdeal.τ) (Cert.ProjOutIdeal.main (F := Bits))) ⟨m, fun _ => 0, ρ⟩) d
  rw [e]
  with_unfolding_all exact h

/-- So does the output projection with exact arithmetic. -/
theorem frame_pi : Cert.quiescent_ProjOutIdeal := fun m ρ _ => Cert.ProjOutIdeal.Gen.frame m ρ

/-- So does its reference. -/
theorem frame_ri : Cert.quiescent_ProjOutRefIdeal := fun m ρ _ =>
  (θ_run Cert.ProjOutRefIdeal.defs _ _).mono (fun r h => ⟨fun c => (h c).2.2, Idealize.ShloMosaic.sem_eq_zero_of_no_sems (by decide) r.2⟩)
    (Cert.OutRef.run m ρ)

/-- No constant of the output projection is named. -/
theorem preserves : Cert.preserves_ProjOut_ProjOutIdeal := by trivial

/-- Kernel and reference compute the same two arrays, whatever the arguments. -/
theorem algebraic : Cert.algebraic_ProjOutIdeal_ProjOutRefIdeal := by
  intro m ρ m' ρ' _ hagree
  refine ⟨_, _, Cert.ProjOutIdeal.Gen.results (F := Ideal) m ρ, ?_⟩
  exact (θ_run Cert.ProjOutRefIdeal.defs _ _).mono (fun _ h c => ⟨(h c).1.trans (equation m m' c (hagree c)).1,
      (h c).2.1.trans (equation m m' c (hagree c)).2, (h c).2.2⟩)
    (Cert.OutRef.run m' ρ')

end Cert.OutClaims

end
-- ==== Proof.SwaSpec.lean ====
/- The function that both programs of the sliding-window layer's input projection compute is the other projection's on other
   weights, each head's 64 lanes followed by 64 zeros. Here is what the padding does to each step. -/
module

public import proofs.«01_k».proof.Proof.InSpec

@[expose] public section

noncomputable section

namespace Cert.SwaSpec

open Idealize.ShloMosaic Cert.InSpec

/-- Every 64 lanes followed by 64 zeros. -/
def zpad (z : ℕ → EReal) (e : ℕ) : EReal := if e % 128 < 64 then z (e / 128 * 64 + e % 128) else 0

/-- The weights with their zeros, column by column. -/
def wpad (w : ℕ → ℕ → EReal) (d : ℕ) : ℕ → EReal := zpad (w d)

/-- The product with padded weights is the padded product. -/
theorem proj_pad (h : ℕ → EReal) (w : ℕ → ℕ → EReal) (e : ℕ) : proj h (wpad w) e = zpad (proj h w) e := by
  unfold proj
  by_cases hl : e % 128 < 64
  · have a1 : ∀ d, wpad w d e = w d (e / 128 * 64 + e % 128) := fun d => if_pos hl
    simp only [a1]
    exact (if_pos hl).symm
  · have a1 : ∀ d, wpad w d e = 0 := fun d => if_neg hl
    simp only [a1, mul_zero, Finset.sum_const_zero]
    exact (if_neg hl).symm

/-- A padded array from a head on is the array from that head on, padded. -/
theorem zpad_add (z : ℕ → EReal) (o e : ℕ) : zpad z (o * 128 + e) = zpad (fun c => z (o * 64 + c)) e := by
  have e1 : (o * 128 + e) % 128 = e % 128 := by omega
  have e2 : (o * 128 + e) / 128 * 64 + e % 128 = o * 64 + (e / 128 * 64 + e % 128) := by omega
  unfold zpad
  rw [e1, e2]

/-- The norm of padded lanes, with weights that are zero on the padding, is the padded norm. -/
theorem norm_pad (y g : ℕ → EReal) (hm : Fin 128 → Fin 128 → EReal) (l : Fin 128 → EReal) (o : ℕ)
    (hh : ∀ i j : Fin 128, hm i j = if (i : ℕ) / 64 = (j : ℕ) / 64 then ((1 / 64 : ℝ) : EReal) else 0)
    (hg : ∀ j : Fin 128, l j = if (j : ℕ) < 64 then g j else 0) (j : Fin 128) :
    zpad y (o * 128 + j) * Ideal.rsqrt (∑ x : Fin 128, zpad y (o * 128 + x) * zpad y (o * 128 + x) * hm x j
      + Ideal.ofBits .f32 0x358637BD#32) * l j = zpad (hn y g) (o * 128 + j) := by
  have e := msq_eq (zpad y) o (fun i j => if i / 64 = j / 64 then ((1 / 64 : ℝ) : EReal) else 0) j j.isLt fun _ _ _ _ => rfl
  have e1 : (o * 128 + (j : ℕ)) % 128 = j := by omega
  simp only [hh, e, hg]
  by_cases hl : (j : ℕ) < 64
  · have e2 : (o * 128 + (j : ℕ)) / 128 * 64 + j = o * 64 + j := by omega
    have e3 : (o * 64 + (j : ℕ)) % 64 = j := by omega
    have e4 : msq (zpad y) (o * 128 + j) = msq y (o * 64 + j) := by
      unfold msq
      have a1 : (o * 128 + (j : ℕ)) / 64 * 64 = o * 128 := by omega
      have a2 : (o * 64 + (j : ℕ)) / 64 * 64 = o * 64 := by omega
      have a3 : ∀ i : Fin 64, zpad y (o * 128 + i) = y (o * 64 + i) := fun i => by
        unfold zpad
        rw [if_pos (by omega)]
        exact congrArg y (by omega)
      simp only [a1, a2, a3]
    rw [e4]
    unfold zpad hn
    rw [e1, if_pos hl, if_pos hl, if_pos hl, e2, e3]
  · unfold zpad
    rw [e1, if_neg hl, if_neg hl, if_neg hl, mul_zero]

/-- The rotation of padded lanes is the padded rotation. -/
theorem rope_pad (z : ℕ → EReal) (r e : ℕ) : rope (zpad z) r e = zpad (rope z r) e := by
  unfold rope
  by_cases hl : e % 128 < 64
  · have a1 : (e / 128 * 64 + e % 128) / 16 % 2 = e / 16 % 2 := by omega
    have a2 : ∀ p, ang p (e / 128 * 64 + e % 128) = ang p e := fun p => by
      have b1 : (e / 128 * 64 + e % 128) / 32 % 2 = e / 32 % 2 := by omega
      have b2 : (e / 128 * 64 + e % 128) % 16 = e % 16 := by omega
      unfold ang
      rw [b1, b2]
    have a3 : zpad z e = z (e / 128 * 64 + e % 128) := by
      unfold zpad
      rw [if_pos hl]
    have a4 : e / 16 % 2 = 0 → zpad z (e + 16) = z (e / 128 * 64 + e % 128 + 16) := fun h => by
      unfold zpad
      rw [if_pos (by omega)]
      exact congrArg z (by omega)
    have a5 : ¬ e / 16 % 2 = 0 → zpad z (e - 16) = z (e / 128 * 64 + e % 128 - 16) := fun h => by
      unfold zpad
      rw [if_pos (by omega)]
      exact congrArg z (by omega)
    rw [a3]
    conv_rhs => unfold zpad
    rw [if_pos hl]
    unfold rot
    simp only [a1, a2, a3]
    by_cases h : e / 16 % 2 = 0
    · simp only [if_pos h, a4 h]
    · simp only [if_neg h, a5 h]
  · have a3 : zpad z e = 0 := by
      unfold zpad
      rw [if_neg hl]
    have a4 : e / 16 % 2 = 0 → zpad z (e + 16) = 0 := fun h => by
      unfold zpad
      rw [if_neg (by omega)]
    have a5 : ¬ e / 16 % 2 = 0 → zpad z (e - 16) = 0 := fun h => by
      unfold zpad
      rw [if_neg (by omega)]
    conv_rhs => unfold zpad
    rw [if_neg hl, a3]
    unfold rot
    by_cases h : e / 16 % 2 = 0
    · simp only [if_pos h, a3, a4 h, zero_mul, sub_zero, ite_self]
    · simp only [if_neg h, a3, a5 h, zero_mul, add_zero, ite_self]

end Cert.SwaSpec

end
-- ==== Proof.SwaRef.lean ====
/- What the sliding-window layer's input projection's reference computes, read at an index, stage by stage. -/
module

public import proofs.«01_k».proof.Proof.Gen.SwaInRefIdeal.Run
public import proofs.«01_k».proof.Proof.InRef
public import proofs.«01_k».proof.Proof.SwaSpec
public import Idealize.ShloMosaic.Lib.Pointwise

@[expose] public section

set_option maxRecDepth 16384

noncomputable section

namespace Cert.SwaRef

open Idealize.ShloMosaic Idealize.ShloMosaic.TcCoe Idealize.SL.Sem
open Cert.SwaInRefIdeal Cert.SwaInRefIdeal.Gen Cert.InSpec Cert.SwaSpec
open Cert.InRef (lat ctx lat_at ctx_at half0 half1 wide angs angs_at)

/-- The latent tokens, normalised, modulated and projected. -/
def plat (x : FVec Ideal S8x4096x1024 .f32) (a1 : FVec Ideal S16x1x6144 .f32) (a2 : FVec Ideal S1024 .f32) (a3 : FVec Ideal S1024x1536 .f32) : FVec Ideal S8x4096x1536 .f32 :=
  Host.dotGeneral dot_S8x4096x1024_S1024x1536_S8x4096x1536_2_0_01_1_n_n none (addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a2))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] a1 slices_S16x1x6144_S8x1x1024_0_0_1024)))) (broadcastInDim S8x4096x1024 ![0, 1, 2] bcast_S8x1x1024_S8x4096x1024_0_1_2 (extractStridedSlice S8x1x1024 ![0, 0, 0] a1 slices_S16x1x6144_S8x1x1024_0_0_0))) a3

/-- The context's tokens, likewise. -/
def pctx (x : FVec Ideal S8x256x1024 .f32) (a1 : FVec Ideal S16x1x6144 .f32) (a2 : FVec Ideal S1024 .f32) (a3 : FVec Ideal S1024x1536 .f32) : FVec Ideal S8x256x1536 .f32 :=
  Host.dotGeneral dot_S8x256x1024_S1024x1536_S8x256x1536_2_0_01_1_n_n none (addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 a2))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![8, 0, 1024] a1 slices_S16x1x6144_S1x1x1024_8_0_1024) shapeCasts_S1x1x1024_S1024))))) (broadcastInDim S8x256x1024 ![0, 1, 2] bcast_S1x1x1024_S8x256x1024_0_1_2 (broadcastInDim S1x1x1024 ![2] bcast_S1024_S1x1x1024_2 (shapeCast _ (extractStridedSlice S1x1x1024 ![8, 0, 0] a1 slices_S16x1x6144_S1x1x1024_8_0_0) shapeCasts_S1x1x1024_S1024)))) a3

/-- The queries by key head, query head of it, and lane. -/
def hlat (y : FVec Ideal S8x4096x1536 .f32) : FVec Ideal S8x4096x4x4x64 .f32 :=
  shapeCast _ (extractStridedSlice S8x4096x1024 ![0, 0, 0] y slices_S8x4096x1536_S8x4096x1024_0_0_0) shapeCasts_S8x4096x1024_S8x4096x4x4x64

/-- The context's, likewise. -/
def hctx (y : FVec Ideal S8x256x1536 .f32) : FVec Ideal S8x256x4x4x64 .f32 :=
  shapeCast _ (extractStridedSlice S8x256x1024 ![0, 0, 0] y slices_S8x256x1536_S8x256x1024_0_0_0) shapeCasts_S8x256x1024_S8x256x4x4x64

/-- Every query head normalised, times the weights. -/
def nlat (z : FVec Ideal S8x4096x4x4x64 .f32) (g : FVec Ideal S64 .f32) : FVec Ideal S8x4096x4x4x64 .f32 :=
  mulf (mulf z (broadcastInDim S8x4096x4x4x64 ![0, 1, 2, 3, 4] bcast_S8x4096x4x4x1_S8x4096x4x4x64_0_1_2_3_4 (Host.rsqrt (addf (Host.divf (broadcastInDim S8x4096x4x4x1 ![0, 1, 2, 3] bcast_S8x4096x4x4_S8x4096x4x4x1_0_1_2_3 (Host.reduceAdd (mulf z z) (constant S_ .f32 0x00000000#32) reducesTo_S8x4096x4x4x64_S8x4096x4x4_d4 h_S_)) (broadcastInDim S8x4096x4x4x1 ![] bcast_S_S8x4096x4x4x1 (constant S_ .f32 0x42800000#32))) (broadcastInDim S8x4096x4x4x1 ![] bcast_S_S8x4096x4x4x1 (constant S_ .f32 0x358637BD#32)))))) (broadcastInDim S8x4096x4x4x64 ![0, 1, 2, 3, 4] bcast_S1x1x1x1x64_S8x4096x4x4x64_0_1_2_3_4 (broadcastInDim S1x1x1x1x64 ![4] bcast_S64_S1x1x1x1x64_4 g))

/-- The context's, likewise. -/
def nctx (z : FVec Ideal S8x256x4x4x64 .f32) (g : FVec Ideal S64 .f32) : FVec Ideal S8x256x4x4x64 .f32 :=
  mulf (mulf z (broadcastInDim S8x256x4x4x64 ![0, 1, 2, 3, 4] bcast_S8x256x4x4x1_S8x256x4x4x64_0_1_2_3_4 (Host.rsqrt (addf (Host.divf (broadcastInDim S8x256x4x4x1 ![0, 1, 2, 3] bcast_S8x256x4x4_S8x256x4x4x1_0_1_2_3 (Host.reduceAdd (mulf z z) (constant S_ .f32 0x00000000#32) reducesTo_S8x256x4x4x64_S8x256x4x4_d4 h_S_)) (broadcastInDim S8x256x4x4x1 ![] bcast_S_S8x256x4x4x1 (constant S_ .f32 0x42800000#32))) (broadcastInDim S8x256x4x4x1 ![] bcast_S_S8x256x4x4x1 (constant S_ .f32 0x358637BD#32)))))) (broadcastInDim S8x256x4x4x64 ![0, 1, 2, 3, 4] bcast_S1x1x1x1x64_S8x256x4x4x64_0_1_2_3_4 (broadcastInDim S1x1x1x1x64 ![4] bcast_S64_S1x1x1x1x64_4 g))

/-- The keys or values of the projection, from column `o`, by head and lane. -/
def klat (o : ℕ) (h : S8x4096x1536.Slices ![0, 0, o] S8x4096x256) (y : FVec Ideal S8x4096x1536 .f32) : FVec Ideal S8x4096x4x64 .f32 :=
  shapeCast _ (extractStridedSlice S8x4096x256 ![0, 0, o] y h) shapeCasts_S8x4096x256_S8x4096x4x64

/-- The context's, likewise. -/
def kctx (o : ℕ) (h : S8x256x1536.Slices ![0, 0, o] S8x256x256) (y : FVec Ideal S8x256x1536 .f32) : FVec Ideal S8x256x4x64 .f32 :=
  shapeCast _ (extractStridedSlice S8x256x256 ![0, 0, o] y h) shapeCasts_S8x256x256_S8x256x4x64

/-- Every key head normalised, times the weights. -/
def mlat (z : FVec Ideal S8x4096x4x64 .f32) (g : FVec Ideal S64 .f32) : FVec Ideal S8x4096x4x64 .f32 :=
  mulf (mulf z (broadcastInDim S8x4096x4x64 ![0, 1, 2, 3] bcast_S8x4096x4x1_S8x4096x4x64_0_1_2_3 (Host.rsqrt (addf (Host.divf (broadcastInDim S8x4096x4x1 ![0, 1, 2] bcast_S8x4096x4_S8x4096x4x1_0_1_2 (Host.reduceAdd (mulf z z) (constant S_ .f32 0x00000000#32) reducesTo_S8x4096x4x64_S8x4096x4_d3 h_S_)) (broadcastInDim S8x4096x4x1 ![] bcast_S_S8x4096x4x1 (constant S_ .f32 0x42800000#32))) (broadcastInDim S8x4096x4x1 ![] bcast_S_S8x4096x4x1 (constant S_ .f32 0x358637BD#32)))))) (broadcastInDim S8x4096x4x64 ![0, 1, 2, 3] bcast_S1x1x1x64_S8x4096x4x64_0_1_2_3 (broadcastInDim S1x1x1x64 ![3] bcast_S64_S1x1x1x64_3 g))

/-- The context's, likewise. -/
def mctx (z : FVec Ideal S8x256x4x64 .f32) (g : FVec Ideal S64 .f32) : FVec Ideal S8x256x4x64 .f32 :=
  mulf (mulf z (broadcastInDim S8x256x4x64 ![0, 1, 2, 3] bcast_S8x256x4x1_S8x256x4x64_0_1_2_3 (Host.rsqrt (addf (Host.divf (broadcastInDim S8x256x4x1 ![0, 1, 2] bcast_S8x256x4_S8x256x4x1_0_1_2 (Host.reduceAdd (mulf z z) (constant S_ .f32 0x00000000#32) reducesTo_S8x256x4x64_S8x256x4_d3 h_S_)) (broadcastInDim S8x256x4x1 ![] bcast_S_S8x256x4x1 (constant S_ .f32 0x42800000#32))) (broadcastInDim S8x256x4x1 ![] bcast_S_S8x256x4x1 (constant S_ .f32 0x358637BD#32)))))) (broadcastInDim S8x256x4x64 ![0, 1, 2, 3] bcast_S1x1x1x64_S8x256x4x64_0_1_2_3 (broadcastInDim S1x1x1x64 ![3] bcast_S64_S1x1x1x64_3 g))

/-- The rotated query heads. -/
def turn (u : FVec Ideal S8x4096x16x2x2x16 .f32) : FVec Ideal S8x4096x4x4x64 .f32 :=
  shapeCast _ (concatenate S8x4096x16x2x2x16 4 [⟨S8x4096x16x2x1x16, (broadcastInDim S8x4096x16x2x1x16 ![0, 1, 2, 3, 5] bcast_S8x4096x16x2x16_S8x4096x16x2x1x16_0_1_2_3_5 (subf (mulf (half0 u) (broadcastInDim S8x4096x16x2x16 ![0, 1, 2, 3, 4] bcast_S1x4096x1x2x16_S8x4096x16x2x16_0_1_2_3_4 (wide (Host.cos angs)))) (mulf (half1 u) (broadcastInDim S8x4096x16x2x16 ![0, 1, 2, 3, 4] bcast_S1x4096x1x2x16_S8x4096x16x2x16_0_1_2_3_4 (wide (Host.sin angs))))))⟩, ⟨S8x4096x16x2x1x16, (broadcastInDim S8x4096x16x2x1x16 ![0, 1, 2, 3, 5] bcast_S8x4096x16x2x16_S8x4096x16x2x1x16_0_1_2_3_5 (addf (mulf (half1 u) (broadcastInDim S8x4096x16x2x16 ![0, 1, 2, 3, 4] bcast_S1x4096x1x2x16_S8x4096x16x2x16_0_1_2_3_4 (wide (Host.cos angs)))) (mulf (half0 u) (broadcastInDim S8x4096x16x2x16 ![0, 1, 2, 3, 4] bcast_S1x4096x1x2x16_S8x4096x16x2x16_0_1_2_3_4 (wide (Host.sin angs))))))⟩] concatenates_S8x4096x16x2x1x16_S8x4096x16x2x1x16_S8x4096x16x2x2x16_d4) shapeCasts_S8x4096x16x2x2x16_S8x4096x4x4x64

/-- The query heads by their planes. -/
def planes (z : FVec Ideal S8x4096x4x4x64 .f32) : FVec Ideal S8x4096x16x2x2x16 .f32 :=
  shapeCast _ z shapeCasts_S8x4096x4x4x64_S8x4096x16x2x2x16

/-- The first coordinates of the key heads' planes. -/
def khalf0 (u : FVec Ideal S8x4096x4x2x2x16 .f32) : FVec Ideal S8x4096x4x2x16 .f32 :=
  shapeCast _ (extractStridedSlice S8x4096x4x2x1x16 ![0, 0, 0, 0, 0, 0] u slices_S8x4096x4x2x2x16_S8x4096x4x2x1x16_0_0_0_0_0_0) shapeCasts_S8x4096x4x2x1x16_S8x4096x4x2x16

/-- The second coordinates of the key heads' planes. -/
def khalf1 (u : FVec Ideal S8x4096x4x2x2x16 .f32) : FVec Ideal S8x4096x4x2x16 .f32 :=
  shapeCast _ (extractStridedSlice S8x4096x4x2x1x16 ![0, 0, 0, 0, 1, 0] u slices_S8x4096x4x2x2x16_S8x4096x4x2x1x16_0_0_0_0_1_0) shapeCasts_S8x4096x4x2x1x16_S8x4096x4x2x16

/-- The rotated key heads. -/
def kturn (u : FVec Ideal S8x4096x4x2x2x16 .f32) : FVec Ideal S8x4096x4x64 .f32 :=
  shapeCast _ (concatenate S8x4096x4x2x2x16 4 [⟨S8x4096x4x2x1x16, (broadcastInDim S8x4096x4x2x1x16 ![0, 1, 2, 3, 5] bcast_S8x4096x4x2x16_S8x4096x4x2x1x16_0_1_2_3_5 (subf (mulf (khalf0 u) (broadcastInDim S8x4096x4x2x16 ![0, 1, 2, 3, 4] bcast_S1x4096x1x2x16_S8x4096x4x2x16_0_1_2_3_4 (wide (Host.cos angs)))) (mulf (khalf1 u) (broadcastInDim S8x4096x4x2x16 ![0, 1, 2, 3, 4] bcast_S1x4096x1x2x16_S8x4096x4x2x16_0_1_2_3_4 (wide (Host.sin angs))))))⟩, ⟨S8x4096x4x2x1x16, (broadcastInDim S8x4096x4x2x1x16 ![0, 1, 2, 3, 5] bcast_S8x4096x4x2x16_S8x4096x4x2x1x16_0_1_2_3_5 (addf (mulf (khalf1 u) (broadcastInDim S8x4096x4x2x16 ![0, 1, 2, 3, 4] bcast_S1x4096x1x2x16_S8x4096x4x2x16_0_1_2_3_4 (wide (Host.cos angs)))) (mulf (khalf0 u) (broadcastInDim S8x4096x4x2x16 ![0, 1, 2, 3, 4] bcast_S1x4096x1x2x16_S8x4096x4x2x16_0_1_2_3_4 (wide (Host.sin angs))))))⟩] concatenates_S8x4096x4x2x1x16_S8x4096x4x2x1x16_S8x4096x4x2x2x16_d4) shapeCasts_S8x4096x4x2x2x16_S8x4096x4x64

/-- The key heads by their planes. -/
def kplanes (z : FVec Ideal S8x4096x4x64 .f32) : FVec Ideal S8x4096x4x2x2x16 .f32 :=
  shapeCast _ z shapeCasts_S8x4096x4x64_S8x4096x4x2x2x16

/-- The latent tokens' rows and then the context's. -/
def rows (z : FVec Ideal S8x4096x4x4x64 .f32) (zc : FVec Ideal S8x256x4x4x64 .f32) : FVec Ideal S34816x1024 .f32 :=
  concatenate S34816x1024 0 [⟨S32768x1024, (shapeCast _ z shapeCasts_S8x4096x4x4x64_S32768x1024)⟩, ⟨S2048x1024, (shapeCast _ zc shapeCasts_S8x256x4x4x64_S2048x1024)⟩] concatenates_S32768x1024_S2048x1024_S34816x1024_d0

/-- The keys' or values' rows. -/
def krows (z : FVec Ideal S8x4096x4x64 .f32) (zc : FVec Ideal S8x256x4x64 .f32) : FVec Ideal S34816x256 .f32 :=
  concatenate S34816x256 0 [⟨S32768x256, (shapeCast _ z shapeCasts_S8x4096x4x64_S32768x256)⟩, ⟨S2048x256, (shapeCast _ zc shapeCasts_S8x256x4x64_S2048x256)⟩] concatenates_S32768x256_S2048x256_S34816x256_d0

/-- The queries scaled. -/
def scaled (z : FVec Ideal S34816x1024 .f32) : FVec Ideal S34816x1024 .f32 :=
  Host.divf (mulf z (broadcastInDim S34816x1024 ![] bcast_S_S34816x1024 (constant S_ .f32 0x3E000000#32))) (broadcastInDim S34816x1024 ![] bcast_S_S34816x1024 (Host.log (constant S_ .f32 0x40000000#32)))

/-- The queries with 64 zeros after each head's lanes, rounded. -/
def padded (z : FVec Ideal S34816x1024 .f32) : FVec Ideal S34816x2048 .bf16 :=
  truncf .bf16 (shapeCast _ (concatenate S34816x16x128 2 [⟨S34816x16x64, (shapeCast _ z shapeCasts_S34816x1024_S34816x16x64)⟩, ⟨S34816x16x64, (broadcastInDim S34816x16x64 ![] bcast_S_S34816x16x64 (constant S_ .f32 0x00000000#32))⟩] concatenates_S34816x16x64_S34816x16x64_S34816x16x128_d2) shapeCasts_S34816x16x128_S34816x2048) bitsLt_bf16_f32

/-- The keys or values likewise. -/
def kpadded (z : FVec Ideal S34816x256 .f32) : FVec Ideal S34816x512 .bf16 :=
  truncf .bf16 (shapeCast _ (concatenate S34816x4x128 2 [⟨S34816x4x64, (shapeCast _ z shapeCasts_S34816x256_S34816x4x64)⟩, ⟨S34816x4x64, (broadcastInDim S34816x4x64 ![] bcast_S_S34816x4x64 (constant S_ .f32 0x00000000#32))⟩] concatenates_S34816x4x64_S34816x4x64_S34816x4x128_d2) shapeCasts_S34816x4x128_S34816x512) bitsLt_bf16_f32

section
variable {a0 : FVec Ideal S34816x1024 .f32} {a1 : FVec Ideal S16x1x6144 .f32} {a2 : FVec Ideal S1024 .f32} {a3 : FVec Ideal S1024x1536 .f32}
  {X M W : ℕ → ℕ → EReal} {G : ℕ → EReal}
  (hX : ∀ (r : Fin 34816) (d : Fin 1024), a0 (ix2 r d) = X r d)
  (hM : ∀ (i : Fin 16) (d : Fin 6144), a1 (ix3 i 0 d) = M i d)
  (hG : ∀ d : Fin 1024, a2 (ix1 d) = G d)
  (hW : ∀ (d : Fin 1024) (x : Fin 1536), a3 (ix2 d x) = W d x)

include hX hM hG hW

/-- The projection of a latent token is its row's. -/
theorem plat_at (b : Fin 8) (i : Fin 4096) (d : Fin 1536) :
    plat (lat a0) a1 a2 a3 (ix3 b i d) = ys X M W G (b * 4096 + i) d := by
  pointwise [plat]
  have e : mrow (b * 4096 + i) = b := by unfold mrow; rw [if_pos (by omega)]; omega
  unfold ys
  rw [e]
  simp only [lat_at, hX, hM, hG, hW]
  rfl

/-- The projection of a context's token is its row's. -/
theorem pctx_at (b : Fin 8) (i : Fin 256) (d : Fin 1536) :
    pctx (ctx a0) a1 a2 a3 (ix3 b i d) = ys X M W G (32768 + (b * 256 + i)) d := by
  pointwise [pctx]
  have e : mrow (32768 + (b * 256 + i)) = 8 := by unfold mrow; rw [if_neg (by omega)]
  unfold ys
  rw [e]
  simp only [ctx_at, hX, hM, hG, hW]
  rfl
end

/-- The queries of a latent token at an index. -/
theorem hlat_at (y) {Y : ℕ → EReal} (b : Fin 8) (i : Fin 4096) (hy : ∀ d : Fin 1536, y (ix3 b i d) = Y d) (h : Fin 4) (a : Fin 4) (d : Fin 64) :
    hlat y (ix5 b i h a d) = Y (h * 256 + a * 64 + d) := by
  pointwise [hlat]
  exact hy _

/-- The context's likewise. -/
theorem hctx_at (y) {Y : ℕ → EReal} (b : Fin 8) (i : Fin 256) (hy : ∀ d : Fin 1536, y (ix3 b i d) = Y d) (h : Fin 4) (a : Fin 4) (d : Fin 64) :
    hctx y (ix5 b i h a d) = Y (h * 256 + a * 64 + d) := by
  pointwise [hctx]
  exact hy _

/-- The keys or values of a latent token at an index. -/
theorem klat_at (o s y) {Y : ℕ → EReal} (b : Fin 8) (i : Fin 4096) (hy : ∀ d : Fin 1536, y (ix3 b i d) = Y d) (h : Fin 4) (d : Fin 64) :
    klat o s y (ix4 b i h d) = Y (o + (h * 64 + d)) := by
  pointwise [klat]
  exact hy _

/-- The context's likewise. -/
theorem kctx_at (o s y) {Y : ℕ → EReal} (b : Fin 8) (i : Fin 256) (hy : ∀ d : Fin 1536, y (ix3 b i d) = Y d) (h : Fin 4) (d : Fin 64) :
    kctx o s y (ix4 b i h d) = Y (o + (h * 64 + d)) := by
  pointwise [kctx]
  exact hy _

/-- A lane's mean square, from the 64 lanes of its head, which begin at `o`. -/
theorem hn_eq {N : ℕ → EReal} (Z : ℕ → EReal) (o : ℕ) (ho : o % 64 = 0) (d : Fin 64) :
    Z (o + d) * Ideal.rsqrt (Ideal.div (∑ x : Fin 64, Z (o + x) * Z (o + x))
      (Ideal.ofBits .f32 0x42800000#32) + Ideal.ofBits .f32 0x358637BD#32) * N d = hn Z N (o + d) := by
  have e1 : (o + (d : ℕ)) / 64 * 64 = o := by omega
  have e2 : (o + (d : ℕ)) % 64 = d := by omega
  unfold hn msq
  rw [e1, e2]

/-- A normalised query head at an index. -/
theorem nlat_at (z g) {Z N : ℕ → EReal} (b : Fin 8) (i : Fin 4096) (hz : ∀ (h : Fin 4) (a : Fin 4) (d : Fin 64), z (ix5 b i h a d) = Z (h * 256 + a * 64 + d))
    (hg : ∀ d : Fin 64, g (ix1 d) = N d) (h : Fin 4) (a : Fin 4) (d : Fin 64) :
    nlat z g (ix5 b i h a d) = hn Z N (h * 256 + a * 64 + d) := by
  pointwise [nlat]
  simp only [hz, hg]
  exact hn_eq Z (h * 256 + a * 64) (by omega) d

/-- The context's likewise. -/
theorem nctx_at (z g) {Z N : ℕ → EReal} (b : Fin 8) (i : Fin 256) (hz : ∀ (h : Fin 4) (a : Fin 4) (d : Fin 64), z (ix5 b i h a d) = Z (h * 256 + a * 64 + d))
    (hg : ∀ d : Fin 64, g (ix1 d) = N d) (h : Fin 4) (a : Fin 4) (d : Fin 64) :
    nctx z g (ix5 b i h a d) = hn Z N (h * 256 + a * 64 + d) := by
  pointwise [nctx]
  simp only [hz, hg]
  exact hn_eq Z (h * 256 + a * 64) (by omega) d

/-- A normalised key head at an index. -/
theorem mlat_at (z g) {Z N : ℕ → EReal} (b : Fin 8) (i : Fin 4096) (hz : ∀ (h : Fin 4) (d : Fin 64), z (ix4 b i h d) = Z (h * 64 + d))
    (hg : ∀ d : Fin 64, g (ix1 d) = N d) (h : Fin 4) (d : Fin 64) :
    mlat z g (ix4 b i h d) = hn Z N (h * 64 + d) := by
  pointwise [mlat]
  simp only [hz, hg]
  exact hn_eq Z (h * 64) (by omega) d

/-- The context's likewise. -/
theorem mctx_at (z g) {Z N : ℕ → EReal} (b : Fin 8) (i : Fin 256) (hz : ∀ (h : Fin 4) (d : Fin 64), z (ix4 b i h d) = Z (h * 64 + d))
    (hg : ∀ d : Fin 64, g (ix1 d) = N d) (h : Fin 4) (d : Fin 64) :
    mctx z g (ix4 b i h d) = hn Z N (h * 64 + d) := by
  pointwise [mctx]
  simp only [hz, hg]
  exact hn_eq Z (h * 64) (by omega) d

/-- The rotation at lane `d` of a head whose lanes begin at `o`, from the two coordinates of the lane's plane. -/
theorem rot_eq (Z : ℕ → EReal) (p o : ℕ) (ho : o % 64 = 0) (d : Fin 64) :
    (if _h : (d : ℕ) / 16 % 2 < 1 then
      Z (o + ((d : ℕ) / 32 * 32 + d % 16)) * Ideal.cos (ang p (o + d)) - Z (o + ((d : ℕ) / 32 * 32 + 16 + d % 16)) * Ideal.sin (ang p (o + d))
      else Z (o + ((d : ℕ) / 32 * 32 + 16 + d % 16)) * Ideal.cos (ang p (o + d)) + Z (o + ((d : ℕ) / 32 * 32 + d % 16)) * Ideal.sin (ang p (o + d)))
      = rot Z p (o + d) := by
  unfold rot
  have e3 : (o + (d : ℕ)) / 16 % 2 = d / 16 % 2 := by omega
  rw [e3]
  by_cases e : (d : ℕ) / 16 % 2 < 1
  · rw [dif_pos e, if_pos (by omega), show o + ((d : ℕ) / 32 * 32 + d % 16) = o + d by omega,
      show o + ((d : ℕ) / 32 * 32 + 16 + d % 16) = o + d + 16 by omega]
  · rw [dif_neg e, if_neg (by omega), show o + ((d : ℕ) / 32 * 32 + d % 16) = o + d - 16 by omega,
      show o + ((d : ℕ) / 32 * 32 + 16 + d % 16) = o + d by omega, add_comm]

/-- A rotated query head at an index. -/
theorem turn_at (z) {Z : ℕ → EReal} (b : Fin 8) (i : Fin 4096)
    (hz : ∀ (h : Fin 4) (a : Fin 4) (d : Fin 64), z (ix5 b i h a d) = Z (h * 256 + a * 64 + d)) (h : Fin 4) (a : Fin 4) (d : Fin 64) :
    turn (planes z) (ix5 b i h a d) = rot Z i (h * 256 + a * 64 + d) := by
  pointwise [turn, wide, half0, half1, planes]
  have ha := angs_at i ((h : ℕ) * 256 + a * 64 + d) ⟨d / 32, by omega⟩ ⟨d % 16, by omega⟩ (by dsimp only; omega) (by dsimp only; omega)
  simp only [hz, ha]
  exact rot_eq Z i (h * 256 + a * 64) (by omega) d

/-- A rotated key head at an index. -/
theorem kturn_at (z) {Z : ℕ → EReal} (b : Fin 8) (i : Fin 4096)
    (hz : ∀ (h : Fin 4) (d : Fin 64), z (ix4 b i h d) = Z (h * 64 + d)) (h : Fin 4) (d : Fin 64) :
    kturn (kplanes z) (ix4 b i h d) = rot Z i (h * 64 + d) := by
  pointwise [kturn, wide, khalf0, khalf1, kplanes]
  have ha := angs_at i ((h : ℕ) * 64 + d) ⟨d / 32, by omega⟩ ⟨d % 16, by omega⟩ (by dsimp only; omega) (by dsimp only; omega)
  simp only [hz, ha]
  exact rot_eq Z i (h * 64) (by omega) d

/-- The queries' rows at an index, from what the latent tokens and the context hold. -/
theorem rows_at (z zc) {Y : ℕ → ℕ → EReal}
    (hz : ∀ (b : Fin 8) (i : Fin 4096) (h : Fin 4) (a : Fin 4) (d : Fin 64), z (ix5 b i h a d) = Y (b * 4096 + i) (h * 256 + a * 64 + d))
    (hc : ∀ (b : Fin 8) (i : Fin 256) (h : Fin 4) (a : Fin 4) (d : Fin 64), zc (ix5 b i h a d) = Y (32768 + (b * 256 + i)) (h * 256 + a * 64 + d))
    (r : Fin 34816) (x : Fin 1024) : rows z zc (ix2 r x) = Y r x := by
  pointwise [rows]
  have e : (x : ℕ) / 256 * 256 + x / 64 % 4 * 64 + x % 64 = x := by omega
  by_cases h : (r : ℕ) < 32768
  · rw [dif_pos h, hz]
    exact congrArg₂ Y (by dsimp only; omega) e
  · rw [dif_neg h, hc]
    exact congrArg₂ Y (by dsimp only; omega) e

/-- The keys' or values' rows likewise. -/
theorem krows_at (z zc) {Y : ℕ → ℕ → EReal}
    (hz : ∀ (b : Fin 8) (i : Fin 4096) (h : Fin 4) (d : Fin 64), z (ix4 b i h d) = Y (b * 4096 + i) (h * 64 + d))
    (hc : ∀ (b : Fin 8) (i : Fin 256) (h : Fin 4) (d : Fin 64), zc (ix4 b i h d) = Y (32768 + (b * 256 + i)) (h * 64 + d))
    (r : Fin 34816) (x : Fin 256) : krows z zc (ix2 r x) = Y r x := by
  pointwise [krows]
  have e : (x : ℕ) / 64 * 64 + x % 64 = x := by omega
  by_cases h : (r : ℕ) < 32768
  · rw [dif_pos h, hz]
    exact congrArg₂ Y (by dsimp only; omega) e
  · rw [dif_neg h, hc]
    exact congrArg₂ Y (by dsimp only; omega) e

/-- The scaled queries at an index. -/
theorem scaled_at (z) (r : Fin 34816) (x : Fin 1024) : scaled z (ix2 r x) = z (ix2 r x) * (((1 / 8) * (Real.log 2)⁻¹ : ℝ) : EReal) := by
  rw [scale_eq]
  pointwise [scaled]

/-- The padded queries at an index. -/
theorem padded_at (z) {Z : ℕ → EReal} (r : Fin 34816) (hz : ∀ x : Fin 1024, z (ix2 r x) = Z x) (x : Fin 2048) :
    padded z (ix2 r x) = zpad Z x := by
  pointwise [padded]
  simp only [hz]
  unfold zpad
  split_ifs <;> rfl

/-- The padded keys or values at an index. -/
theorem kpadded_at (z) {Z : ℕ → EReal} (r : Fin 34816) (hz : ∀ x : Fin 256, z (ix2 r x) = Z x) (x : Fin 512) :
    kpadded z (ix2 r x) = zpad Z x := by
  pointwise [kpadded]
  simp only [hz]
  unfold zpad
  split_ifs <;> rfl

/-- The queries, normalised, rotated, scaled and padded. -/
def queries (a0 : FVec Ideal S34816x1024 .f32) (a1 : FVec Ideal S16x1x6144 .f32) (a2 : FVec Ideal S1024 .f32) (a3 : FVec Ideal S1024x1536 .f32)
    (g : FVec Ideal S64 .f32) : FVec Ideal S34816x2048 .bf16 :=
  padded (scaled (rows (turn (planes (nlat (hlat (plat (lat a0) a1 a2 a3)) g))) (nctx (hctx (pctx (ctx a0) a1 a2 a3)) g)))

/-- The keys, normalised, rotated and padded. -/
def keys (a0 : FVec Ideal S34816x1024 .f32) (a1 : FVec Ideal S16x1x6144 .f32) (a2 : FVec Ideal S1024 .f32) (a3 : FVec Ideal S1024x1536 .f32)
    (g : FVec Ideal S64 .f32) : FVec Ideal S34816x512 .bf16 :=
  kpadded (krows (kturn (kplanes (mlat (klat 1024 slices_S8x4096x1536_S8x4096x256_0_0_1024 (plat (lat a0) a1 a2 a3)) g)))
    (mctx (kctx 1024 slices_S8x256x1536_S8x256x256_0_0_1024 (pctx (ctx a0) a1 a2 a3)) g))

/-- The values, padded. -/
def values (a0 : FVec Ideal S34816x1024 .f32) (a1 : FVec Ideal S16x1x6144 .f32) (a2 : FVec Ideal S1024 .f32)
    (a3 : FVec Ideal S1024x1536 .f32) : FVec Ideal S34816x512 .bf16 :=
  kpadded (krows (klat 1280 slices_S8x4096x1536_S8x4096x256_0_0_1280 (plat (lat a0) a1 a2 a3))
    (kctx 1280 slices_S8x256x1536_S8x256x256_0_0_1280 (pctx (ctx a0) a1 a2 a3)))

section
variable {a0 : FVec Ideal S34816x1024 .f32} {a1 : FVec Ideal S16x1x6144 .f32} {a2 : FVec Ideal S1024 .f32} {a3 : FVec Ideal S1024x1536 .f32}
  {g : FVec Ideal S64 .f32} {X M W : ℕ → ℕ → EReal} {G N : ℕ → EReal}
  (hX : ∀ (r : Fin 34816) (d : Fin 1024), a0 (ix2 r d) = X r d)
  (hM : ∀ (i : Fin 16) (d : Fin 6144), a1 (ix3 i 0 d) = M i d)
  (hG : ∀ d : Fin 1024, a2 (ix1 d) = G d)
  (hW : ∀ (d : Fin 1024) (x : Fin 1536), a3 (ix2 d x) = W d x)
  (hN : ∀ d : Fin 64, g (ix1 d) = N d)

include hX hM hG hW hN in
/-- The queries at an index are the specification's. -/
theorem queries_at (r : Fin 34816) (x : Fin 2048) :
    queries a0 a1 a2 a3 g (ix2 r x) = zpad (qs X M W G N r) x * (((1 / 8) * (Real.log 2)⁻¹ : ℝ) : EReal) := by
  refine (padded_at _ (Z := fun c => qs X M W G N r c * (((1 / 8) * (Real.log 2)⁻¹ : ℝ) : EReal)) r (fun x => ?_) x).trans ?_
  · rw [scaled_at]
    congr 1
    refine rows_at _ _ (Y := qs X M W G N) (fun b i h a d => ?_) (fun b i h a d => ?_) r x
    · rw [turn_at _ b i (nlat_at _ g b i (hlat_at _ b i (plat_at hX hM hG hW b i)) hN)]
      have e : ((b : ℕ) * 4096 + i) % 4096 = i := by omega
      unfold qs rope
      rw [if_pos (by omega), e]
    · rw [nctx_at _ g b i (hctx_at _ b i (pctx_at hX hM hG hW b i)) hN]
      unfold qs rope
      rw [if_neg (by omega)]
  · unfold zpad
    split_ifs
    · rfl
    · rw [zero_mul]

include hX hM hG hW hN in
/-- The keys at an index are the specification's. -/
theorem keys_at (r : Fin 34816) (x : Fin 512) : keys a0 a1 a2 a3 g (ix2 r x) = zpad (ks X M W G N r) x := by
  refine kpadded_at _ r (krows_at _ _ (Y := ks X M W G N) (fun b i h d => ?_) (fun b i h d => ?_) r) x
  · rw [kturn_at _ b i (mlat_at _ g (Z := fun c => ys X M W G (b * 4096 + i) (1024 + c)) b i
      (klat_at _ _ _ b i (plat_at hX hM hG hW b i)) hN)]
    have e : ((b : ℕ) * 4096 + i) % 4096 = i := by omega
    unfold ks rope
    rw [if_pos (by omega), e]
  · rw [mctx_at _ g (Z := fun c => ys X M W G (32768 + (b * 256 + i)) (1024 + c)) b i
      (kctx_at _ _ _ b i (pctx_at hX hM hG hW b i)) hN]
    unfold ks rope
    rw [if_neg (by omega)]

include hX hM hG hW in
/-- The values at an index are the specification's. -/
theorem values_at (r : Fin 34816) (x : Fin 512) : values a0 a1 a2 a3 (ix2 r x) = zpad (fun c => ys X M W G r (1280 + c)) x :=
  kpadded_at _ r (krows_at _ _ (Y := fun r c => ys X M W G r (1280 + c)) (fun b i h d => klat_at _ _ _ b i (plat_at hX hM hG hW b i) h d)
    (fun b i h d => kctx_at _ _ _ b i (pctx_at hX hM hG hW b i) h d) r) x
end

/-- What the reference's run leaves, by the stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198) = queries
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v206) = keys
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5))
      ∧ r.2.mem ((c.tc : Thread nD τ).loc main_v214) = values
        (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2⟩)
    (Cert.SwaInRefIdeal.Value.run (F := Ideal) m ρ)
  · rfl
  · rfl
  · rfl

end Cert.SwaRef

end
-- ==== Proof.SwaBody.lean ====
/- What the input projection kernel's body leaves in its three output blocks when every head has 64 lanes and 64 zeros. The scratch
   and the work on one head are the other layers'. -/
module

public import proofs.«01_k».proof.Proof.Gen.SwaInIdeal.Value
public import proofs.«01_k».proof.Proof.InBody
public import proofs.«01_k».proof.Proof.SwaSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SwaInIdeal.Gen

open Idealize.ShloMosaic Idealize.ShloMosaic.TcCoe Idealize.SL.Sem
open Idealize.ShloMosaic.Pipeline (Dat Cfg Window)
open Cert.InSpec Cert.SwaSpec Cert.InHead
open Cert.ProjInIdeal.Gen (scr scr_at kpiece_z qpiece_z)

/-- A head's key lanes when its upper half is zero, for the head whose columns of the scratch begin at `(b + o) * 128`. -/
theorem kpad {x4 : Vec Ideal S128x128 .bf16} {x5 : Vec Ideal S2x128 .f32} {x6 x7 : Vec Ideal S512x128 .f32} {N C S H : ℕ → EReal}
    {W : ℕ → ℕ → EReal} (Y : Vec Ideal S512x3072 .f32) (r : Fin 512) (e : ℕ) (a : Fin 2) (b : ℕ)
    (hY : ∀ q : Fin 3072, Y (ix2 r q) = proj H (wpad W) q)
    (hx4 : ∀ i j : Fin 128, x4 (ix2 i j) = if (i : ℕ) / 64 = (j : ℕ) / 64 then ((1 / 64 : ℝ) : EReal) else 0)
    (hx5 : ∀ e : Fin 128, x5 (ix2 a e) = if (e : ℕ) < 64 then N e else 0)
    (hx6 : ∀ e : Fin 128, x6 (ix2 r e) = C e) (hx7 : ∀ e : Fin 128, x7 (ix2 r e) = S e)
    (o q : ℕ) (hq : q = b * 128 + o * 128) (i1) (i2) (x : S512x128.Idx) (e0 : (r : ℕ) = x 0) (e1 : e = o * 128 + x 1) :
    kchunk (fun j => Y ((Rect.unit (s := S512x3072) ![0, q] ![512, 128] i1).idx j)) x4
      (View.ld x5 (Rect.unit (s := S2x128) ![(a : ℕ), 0] ![1, 128] i2)) x6 x7 x
      = krope (zpad (hn (fun c => proj H W (b * 64 + c)) N)) C S e := by
  refine kpiece_z _ Y r e a hY hx6 hx7 o q (fun j => ?_) i1 i2 x e0 e1
  have hp : ∀ j : ℕ, proj H (wpad W) (q + j) = zpad (fun c => proj H W (b * 64 + c)) (o * 128 + j) := fun j => by
    rw [proj_pad, hq, Nat.add_assoc, zpad_add]
  simp only [hp]
  exact norm_pad _ N (fun i j => x4 (ix2 i j)) (fun j => x5 (ix2 a j)) o hx4 hx5 j

/-- A head's value lanes, read from the scratch. -/
theorem vpad {H : ℕ → EReal} {W : ℕ → ℕ → EReal} (Y : Vec Ideal S512x3072 .f32) (r : Fin 512) (e : ℕ)
    (hY : ∀ q : Fin 3072, Y (ix2 r q) = proj H (wpad W) q)
    (o q : ℕ) (hq : q = 2560 + o * 128) (i1) (x : S512x128.Idx) (e0 : (r : ℕ) = x 0) (e1 : e = o * 128 + x 1) :
    k0_pay71 (F := Ideal) (fun j => Y ((Rect.unit (s := S512x3072) ![0, q] ![512, 128] i1).idx j)) x
      = zpad (fun c => proj H W (1280 + c)) e := by
  have hx : x = ix2 r (x 1) := by rw [show r = x 0 from Fin.ext e0]; exact eq_ix2 x
  have i3 : q + 128 ≤ 3072 := i1 1
  have e2 : proj H (wpad W) (q + (x 1 : ℕ)) = zpad (fun c => proj H W (1280 + c)) e := by
    rw [proj_pad, show q + (x 1 : ℕ) = 20 * 128 + e by omega, zpad_add]
  rw [← e2, hx]
  show k0_pay71 (F := Ideal) (View.ld Y (Rect.unit (s := S512x3072) ![0, q] ![512, 128] i1)) (ix2 r (x 1)) = _
  pointwise [k0_pay71]
  exact hY _

/-- The query block at row `r` and column `e`. -/
theorem out8_at {X M G N C S : ℕ → EReal} {W : ℕ → ℕ → EReal} (c : Dev nD) (i : grid0.Coords) (arg1 : Memref sig .tc .vmem S512x1024 .f32) (harg1 : arg1.IsWhole) (arg2 : Memref sig .tc .vmem S1x1x6144 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S128x128 .bf16) (harg5 : arg5.IsWhole) (arg6 : Memref sig .tc .vmem S2x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .f32) (harg12 : arg12.IsWhole) (hc0 : cond0_0 i) (hc1 : cond0_1 i)
    (x0 : Vec Ideal S512x1024 .f32) (x1 : Vec Ideal S1x1x6144 .f32) (x2 : Vec Ideal S1x1024 .f32) (x3 : Vec Ideal S1024x3072 .bf16) (x4 : Vec Ideal S128x128 .bf16) (x5 : Vec Ideal S2x128 .f32) (x6 : Vec Ideal S512x128 .f32) (x7 : Vec Ideal S512x128 .f32) (r : Fin 512) (e : Fin 2048)
    (hx0 : ∀ d : Fin 1024, x0 (ix2 r d) = X d) (hx1 : ∀ d : Fin 6144, x1 (ix3 0 0 d) = M d)
    (hx2 : ∀ d : Fin 1024, x2 (ix2 0 d) = G d) (hx3 : ∀ (d : Fin 1024) (c : Fin 3072), x3 (ix2 d c) = wpad W d c)
    (hx4 : ∀ i j : Fin 128, x4 (ix2 i j) = if (i : ℕ) / 64 = (j : ℕ) / 64 then ((1 / 64 : ℝ) : EReal) else 0)
    (hx5 : ∀ e : Fin 128, x5 (ix2 0 e) = if (e : ℕ) < 64 then N e else 0) (hx6 : ∀ e : Fin 128, x6 (ix2 r e) = C e) (hx7 : ∀ e : Fin 128, x7 (ix2 r e) = S e) :
    out0_A_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r e)
      = krope (zpad (hn (proj (hid X G (fun d => M (1024 + d)) M) W) N)) C S e * (((1 / 8) * (Real.log 2)⁻¹ : ℝ) : EReal) := by
  have hs : (fun c => proj (hid X G (fun d => M (1024 + d)) M) W (0 * 64 + c)) = proj (hid X G (fun d => M (1024 + d)) M) W := by
    funext c
    rw [Nat.zero_mul, Nat.zero_add]
  rw [← hs]
  unfold out0_A_8
  frame_open
  frame_out
  have hY := fun q => scr_at r q hx0 hx1 hx2 hx3
  canon_tiles x h
  all_goals try simp only [View.readCov_eq_canon']
  · exact qpiece_z (kpad (scr x0 x1 x2 x3) r e 0 0 hY hx4 hx5 hx6 hx7 15 1920 (by norm_num) _ _ x h0 h1)
  · exact qpiece_z (kpad (scr x0 x1 x2 x3) r e 0 0 hY hx4 hx5 hx6 hx7 14 1792 (by norm_num) _ _ x h0 h1)
  · exact qpiece_z (kpad (scr x0 x1 x2 x3) r e 0 0 hY hx4 hx5 hx6 hx7 13 1664 (by norm_num) _ _ x h0 h1)
  · exact qpiece_z (kpad (scr x0 x1 x2 x3) r e 0 0 hY hx4 hx5 hx6 hx7 12 1536 (by norm_num) _ _ x h0 h1)
  · exact qpiece_z (kpad (scr x0 x1 x2 x3) r e 0 0 hY hx4 hx5 hx6 hx7 11 1408 (by norm_num) _ _ x h0 h1)
  · exact qpiece_z (kpad (scr x0 x1 x2 x3) r e 0 0 hY hx4 hx5 hx6 hx7 10 1280 (by norm_num) _ _ x h0 h1)
  · exact qpiece_z (kpad (scr x0 x1 x2 x3) r e 0 0 hY hx4 hx5 hx6 hx7 9 1152 (by norm_num) _ _ x h0 h1)
  · exact qpiece_z (kpad (scr x0 x1 x2 x3) r e 0 0 hY hx4 hx5 hx6 hx7 8 1024 (by norm_num) _ _ x h0 h1)
  · exact qpiece_z (kpad (scr x0 x1 x2 x3) r e 0 0 hY hx4 hx5 hx6 hx7 7 896 (by norm_num) _ _ x h0 h1)
  · exact qpiece_z (kpad (scr x0 x1 x2 x3) r e 0 0 hY hx4 hx5 hx6 hx7 6 768 (by norm_num) _ _ x h0 h1)
  · exact qpiece_z (kpad (scr x0 x1 x2 x3) r e 0 0 hY hx4 hx5 hx6 hx7 5 640 (by norm_num) _ _ x h0 h1)
  · exact qpiece_z (kpad (scr x0 x1 x2 x3) r e 0 0 hY hx4 hx5 hx6 hx7 4 512 (by norm_num) _ _ x h0 h1)
  · exact qpiece_z (kpad (scr x0 x1 x2 x3) r e 0 0 hY hx4 hx5 hx6 hx7 3 384 (by norm_num) _ _ x h0 h1)
  · exact qpiece_z (kpad (scr x0 x1 x2 x3) r e 0 0 hY hx4 hx5 hx6 hx7 2 256 (by norm_num) _ _ x h0 h1)
  · exact qpiece_z (kpad (scr x0 x1 x2 x3) r e 0 0 hY hx4 hx5 hx6 hx7 1 128 (by norm_num) _ _ x h0 h1)
  · exact qpiece_z (kpad (scr x0 x1 x2 x3) r e 0 0 hY hx4 hx5 hx6 hx7 0 0 (by norm_num) _ _ x h0 (h1.trans (Nat.zero_add _).symm))

/-- The key block at row `r` and column `e`. -/
theorem out9_at {X M G N C S : ℕ → EReal} {W : ℕ → ℕ → EReal} (c : Dev nD) (i : grid0.Coords) (arg1 : Memref sig .tc .vmem S512x1024 .f32) (harg1 : arg1.IsWhole) (arg2 : Memref sig .tc .vmem S1x1x6144 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S128x128 .bf16) (harg5 : arg5.IsWhole) (arg6 : Memref sig .tc .vmem S2x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .f32) (harg12 : arg12.IsWhole) (hc0 : cond0_0 i) (hc1 : cond0_1 i)
    (x0 : Vec Ideal S512x1024 .f32) (x1 : Vec Ideal S1x1x6144 .f32) (x2 : Vec Ideal S1x1024 .f32) (x3 : Vec Ideal S1024x3072 .bf16) (x4 : Vec Ideal S128x128 .bf16) (x5 : Vec Ideal S2x128 .f32) (x6 : Vec Ideal S512x128 .f32) (x7 : Vec Ideal S512x128 .f32) (r : Fin 512) (e : Fin 512)
    (hx0 : ∀ d : Fin 1024, x0 (ix2 r d) = X d) (hx1 : ∀ d : Fin 6144, x1 (ix3 0 0 d) = M d)
    (hx2 : ∀ d : Fin 1024, x2 (ix2 0 d) = G d) (hx3 : ∀ (d : Fin 1024) (c : Fin 3072), x3 (ix2 d c) = wpad W d c)
    (hx4 : ∀ i j : Fin 128, x4 (ix2 i j) = if (i : ℕ) / 64 = (j : ℕ) / 64 then ((1 / 64 : ℝ) : EReal) else 0)
    (hx5 : ∀ e : Fin 128, x5 (ix2 1 e) = if (e : ℕ) < 64 then N e else 0) (hx6 : ∀ e : Fin 128, x6 (ix2 r e) = C e) (hx7 : ∀ e : Fin 128, x7 (ix2 r e) = S e) :
    out0_A_9 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r e)
      = krope (zpad (hn (fun c => proj (hid X G (fun d => M (1024 + d)) M) W (1024 + c)) N)) C S e := by
  unfold out0_A_9
  frame_open
  frame_out
  have hY := fun q => scr_at r q hx0 hx1 hx2 hx3
  canon_tiles x h
  all_goals try simp only [View.readCov_eq_canon']
  · exact kpad (scr x0 x1 x2 x3) r e 1 16 hY hx4 hx5 hx6 hx7 3 2432 (by norm_num) _ _ x h0 h1
  · exact kpad (scr x0 x1 x2 x3) r e 1 16 hY hx4 hx5 hx6 hx7 2 2304 (by norm_num) _ _ x h0 h1
  · exact kpad (scr x0 x1 x2 x3) r e 1 16 hY hx4 hx5 hx6 hx7 1 2176 (by norm_num) _ _ x h0 h1
  · exact kpad (scr x0 x1 x2 x3) r e 1 16 hY hx4 hx5 hx6 hx7 0 2048 (by norm_num) _ _ x h0 (h1.trans (Nat.zero_add _).symm)

/-- The value block at row `r` and column `e`. -/
theorem out10_at {X M G : ℕ → EReal} {W : ℕ → ℕ → EReal} (c : Dev nD) (i : grid0.Coords) (arg1 : Memref sig .tc .vmem S512x1024 .f32) (harg1 : arg1.IsWhole) (arg2 : Memref sig .tc .vmem S1x1x6144 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S128x128 .bf16) (harg5 : arg5.IsWhole) (arg6 : Memref sig .tc .vmem S2x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .f32) (harg12 : arg12.IsWhole) (hc0 : cond0_0 i) (hc1 : cond0_1 i)
    (x0 : Vec Ideal S512x1024 .f32) (x1 : Vec Ideal S1x1x6144 .f32) (x2 : Vec Ideal S1x1024 .f32) (x3 : Vec Ideal S1024x3072 .bf16) (x4 : Vec Ideal S128x128 .bf16) (x5 : Vec Ideal S2x128 .f32) (x6 : Vec Ideal S512x128 .f32) (x7 : Vec Ideal S512x128 .f32) (r : Fin 512) (e : Fin 512)
    (hx0 : ∀ d : Fin 1024, x0 (ix2 r d) = X d) (hx1 : ∀ d : Fin 6144, x1 (ix3 0 0 d) = M d)
    (hx2 : ∀ d : Fin 1024, x2 (ix2 0 d) = G d) (hx3 : ∀ (d : Fin 1024) (c : Fin 3072), x3 (ix2 d c) = wpad W d c) :
    out0_A_10 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r e)
      = zpad (fun c => proj (hid X G (fun d => M (1024 + d)) M) W (1280 + c)) e := by
  unfold out0_A_10
  frame_open
  frame_out
  have hY := fun q => scr_at r q hx0 hx1 hx2 hx3
  canon_tiles x h
  all_goals try simp only [View.readCov_eq_canon']
  · exact vpad (scr x0 x1 x2 x3) r e hY 3 2944 (by norm_num) _ x h0 h1
  · exact vpad (scr x0 x1 x2 x3) r e hY 2 2816 (by norm_num) _ x h0 h1
  · exact vpad (scr x0 x1 x2 x3) r e hY 1 2688 (by norm_num) _ x h0 h1
  · exact vpad (scr x0 x1 x2 x3) r e hY 0 2560 (by norm_num) _ x h0 (h1.trans (Nat.zero_add _).symm)

end Cert.SwaInIdeal.Gen

end
-- ==== Proof.SwaBlocks.lean ====
/- What the sliding-window layer's input projection's host code prepares, where the kernel's blocks lie in its arrays, and what the
   three output arrays hold after the launch. -/
module

public import proofs.«01_k».proof.Proof.Gen.SwaInIdeal.Value
public import proofs.«01_k».proof.Proof.SwaBody
public import proofs.«01_k».proof.Proof.InBlocks
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SwaInIdeal.Gen

open Idealize.ShloMosaic Idealize.ShloMosaic.TcCoe Idealize.SL.Sem
open Idealize.ShloMosaic.Pipeline (Dat Cfg Window)
open Cert.InSpec Cert.SwaSpec
open Cert.ProjInIdeal.Gen (rows lanes angR angC means means_at cosv sinv krope_tab costab_at sintab_at)

variable (m : (ℓ : Loc nD τ sig) → Buf (Elt Ideal) ℓ)

/-- The cosines' array is the other layers'. -/
theorem V37 (c : Dev nD) : V m c main_v37 = rows (lanes (Host.cos angR) (Host.cos angR) (Host.cos angC) (Host.cos angC)) 0x3F800000#32 := by
  unfold V
  rfl

/-- The signed sines' array likewise. -/
theorem V42 (c : Dev nD) : V m c main_v42
    = rows (lanes (Host.negf (Host.sin angR)) (Host.sin angR) (Host.negf (Host.sin angC)) (Host.sin angC)) 0x00000000#32 := by
  unfold V
  rfl

/-- The matrix of the means likewise. -/
theorem V76 (c : Dev nD) : V m c main_v76 = means := by
  unfold V
  rfl

/-- The projection's norm weights as a row. -/
theorem V66 (c : Dev nD) (d : Fin 1024) : V m c main_v66 (ix2 0 d) = m (c, Proc.tc.devRef main_arg2) (ix1 d) := by
  have e : V m c main_v66 = shapeCast S1x1024 (m (c, Proc.tc.devRef main_arg2)) shapeCasts_S1024_S1x1024 := by
    unfold V
    rfl
  rw [e]
  pointwise

/-- The queries' weights with 64 zeros after each head's columns. -/
def padQ (w : FVec Ideal S1024x1536 .f32) : FVec Ideal S1024x2048 .f32 :=
  shapeCast S1024x2048 (concatenate S1024x16x128 2 [
    ⟨S1024x16x64, shapeCast S1024x16x64 (extractStridedSlice S1024x1024 ![0, 0] w slices_S1024x1536_S1024x1024_0_0) shapeCasts_S1024x1024_S1024x16x64⟩,
    ⟨S1024x16x64, broadcastInDim S1024x16x64 ![] bcast_S_S1024x16x64 (constant S_ .f32 0x00000000#32)⟩]
    concatenates_S1024x16x64_S1024x16x64_S1024x16x128_d2) shapeCasts_S1024x16x128_S1024x2048

/-- The keys' or values' weights, from column `o`, likewise. -/
def padK (o : ℕ) (h : S1024x1536.Slices ![0, o] S1024x256) (w : FVec Ideal S1024x1536 .f32) : FVec Ideal S1024x512 .f32 :=
  shapeCast S1024x512 (concatenate S1024x4x128 2 [
    ⟨S1024x4x64, shapeCast S1024x4x64 (extractStridedSlice S1024x256 ![0, o] w h) shapeCasts_S1024x256_S1024x4x64⟩,
    ⟨S1024x4x64, broadcastInDim S1024x4x64 ![] bcast_S_S1024x4x64 (constant S_ .f32 0x00000000#32)⟩]
    concatenates_S1024x4x64_S1024x4x64_S1024x4x128_d2) shapeCasts_S1024x4x128_S1024x512

/-- The three padded parts side by side, rounded. -/
def padW (w : FVec Ideal S1024x1536 .f32) : FVec Ideal S1024x3072 .bf16 :=
  truncf .bf16 (concatenate S1024x3072 1 [⟨S1024x2048, padQ w⟩, ⟨S1024x512, padK 1024 slices_S1024x1536_S1024x256_0_1024 w⟩,
    ⟨S1024x512, padK 1280 slices_S1024x1536_S1024x256_0_1280 w⟩] concatenates_S1024x2048_S1024x512_S1024x512_S1024x3072_d1) bitsLt_bf16_f32

/-- The queries' padded weights at an index. -/
theorem padQ_at (w) {W : ℕ → EReal} (d : Fin 1024) (hW : ∀ x : Fin 1536, w (ix2 d x) = W x) (x : Fin 2048) :
    padQ w (ix2 d x) = zpad W x := by
  pointwise [padQ]
  simp only [hW]
  unfold zpad
  split_ifs <;> rfl

/-- The keys' or values' padded weights at an index. -/
theorem padK_at (o h w) {W : ℕ → EReal} (d : Fin 1024) (hW : ∀ x : Fin 1536, w (ix2 d x) = W x) (x : Fin 512) :
    padK o h w (ix2 d x) = zpad (fun c => W (o + c)) x := by
  pointwise [padK]
  simp only [hW]
  unfold zpad
  split_ifs <;> rfl

/-- The padded weights at an index. -/
theorem padW_at (w) {W : ℕ → EReal} (d : Fin 1024) (hW : ∀ x : Fin 1536, w (ix2 d x) = W x) (x : Fin 3072) :
    padW w (ix2 d x) = zpad W x := by
  pointwise [padW]
  by_cases h1 : (x : ℕ) < 2048
  · rw [dif_pos h1, padQ_at w d hW]
  · rw [dif_neg h1]
    by_cases h2 : (x : ℕ) - 2048 < 512
    · rw [dif_pos h2, padK_at _ _ w d hW]
      refine (zpad_add W 16 _).symm.trans (congrArg (zpad W) ?_)
      dsimp only
      omega
    · rw [dif_neg h2, padK_at _ _ w d hW]
      refine (zpad_add W 20 _).symm.trans (congrArg (zpad W) ?_)
      dsimp only
      omega

/-- The weights that the kernel reads are the weights with every head's columns padded. -/
theorem V59 {W : ℕ → ℕ → EReal} (c : Dev nD)
    (hW : ∀ (d : Fin 1024) (x : Fin 1536), m (c, Proc.tc.devRef main_arg3) (ix2 d x) = W d x) (d : Fin 1024) (x : Fin 3072) :
    V m c main_v59 (ix2 d x) = wpad W d x := by
  have e : V m c main_v59 = padW (m (c, Proc.tc.devRef main_arg3)) := by
    unfold V
    rfl
  rw [e]
  exact padW_at _ d (hW d) x

/-- 64 weights and 64 zeros, as a row. -/
def padN (a : FVec Ideal S64 .f32) : FVec Ideal S1x128 .f32 :=
  broadcastInDim S1x128 ![1] bcast_S128_S1x128_1 (concatenate S128 0 [⟨S64, a⟩,
    ⟨S64, broadcastInDim S64 ![] bcast_S_S64 (constant S_ .f32 0x00000000#32)⟩] concatenates_S64_S64_S128_d0)

/-- The two heads' norm weights, each followed by zeros. -/
theorem V65 {Q K : ℕ → EReal} (c : Dev nD) (hQ : ∀ d : Fin 64, m (c, Proc.tc.devRef main_arg4) (ix1 d) = Q d)
    (hK : ∀ d : Fin 64, m (c, Proc.tc.devRef main_arg5) (ix1 d) = K d) (i : Fin 2) (d : Fin 128) : V m c main_v65 (ix2 i d)
    = if (d : ℕ) < 64 then (if (i : ℕ) = 0 then Q d else K d) else 0 := by
  have e : V m c main_v65 = concatenate S2x128 0 [⟨S1x128, padN (m (c, Proc.tc.devRef main_arg4))⟩,
      ⟨S1x128, padN (m (c, Proc.tc.devRef main_arg5))⟩] concatenates_S1x128_S1x128_S2x128_d0 := by
    unfold V
    rfl
  rw [e]
  pointwise [padN]
  simp only [hQ, hK]
  by_cases h1 : (i : ℕ) = 0 <;> by_cases h2 : (d : ℕ) < 64 <;> simp [h1, h2]

/-- The block indices of the windows at grid point `t`. -/
theorem idx : ∀ t : Fin grid0.N,
    (win0_0.index t 0 = t.val ∧ win0_0.index t 1 = 0)
    ∧ (win0_1.index t 0 = (if t.val < 64 then t.val / 8 else 8) ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = (if t.val < 64 then t.val % 8 else 8) ∧ win0_6.index t 1 = 0)
    ∧ (win0_7.index t 0 = (if t.val < 64 then t.val % 8 else 8) ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0) := by
  decide +kernel

/-- The grid has 68 points. -/
theorem lt68 (t : Fin cfg0.N) : (t : ℕ) < 68 := lt_of_lt_of_eq t.isLt (by decide +kernel)

/-- The rows' block at an index. -/
theorem b0 (c : Dev nD) (t : Fin cfg0.N) (i : Fin 512) (d : Fin 1024) : iblk m c 0 t (ix2 i d)
    = m (c, Proc.tc.devRef main_arg0) (ix2 ⟨t * 512 + i, by have := lt68 t; omega⟩ d) := by
  rw [← V_main_arg0 m c]
  blk_simp [iblk, idx t]
  congr 1
  blk_ext [idx t]

/-- The modulations' block at an index. -/
theorem b1 (c : Dev nD) (t : Fin cfg0.N) (d : Fin 6144) : iblk m c 1 t (ix3 0 0 d)
    = m (c, Proc.tc.devRef main_arg1) (ix3 ⟨if (t : ℕ) < 64 then t / 8 else 8, by split_ifs <;> omega⟩ 0 d) := by
  rw [← V_main_arg1 m c]
  blk_simp [iblk, idx t]
  congr 1
  blk_ext [idx t]

/-- The norm weights' block is the array. -/
theorem b2 (c : Dev nD) (t : Fin cfg0.N) (d : Fin 1024) : iblk m c 2 t (ix2 0 d) = V m c main_v66 (ix2 0 d) := by
  blk_simp [iblk, idx t]
  congr 1
  blk_ext [idx t]

/-- The weights' block is the array. -/
theorem b3 (c : Dev nD) (t : Fin cfg0.N) (d : Fin 1024) (x : Fin 3072) : iblk m c 3 t (ix2 d x) = V m c main_v59 (ix2 d x) := by
  blk_simp [iblk, idx t]
  congr 1
  blk_ext [idx t]

/-- The means' block is the array. -/
theorem b4 (c : Dev nD) (t : Fin cfg0.N) (i j : Fin 128) : iblk m c 4 t (ix2 i j) = V m c main_v76 (ix2 i j) := by
  blk_simp [iblk, idx t]
  congr 1
  blk_ext [idx t]

/-- The heads' norm weights' block is the array. -/
theorem b5 (c : Dev nD) (t : Fin cfg0.N) (i : Fin 2) (d : Fin 128) : iblk m c 5 t (ix2 i d) = V m c main_v65 (ix2 i d) := by
  blk_simp [iblk, idx t]
  congr 1
  blk_ext [idx t]

/-- The cosines' block at an index. -/
theorem b6 (c : Dev nD) (t : Fin cfg0.N) (i : Fin 512) (d : Fin 128) : iblk m c 6 t (ix2 i d)
    = V m c main_v37 (ix2 ⟨(if (t : ℕ) < 64 then (t : ℕ) % 8 else 8) * 512 + i, by split_ifs <;> omega⟩ d) := by
  blk_simp [iblk, idx t]
  congr 1
  blk_ext [idx t]

/-- The sines' block at an index. -/
theorem b7 (c : Dev nD) (t : Fin cfg0.N) (i : Fin 512) (d : Fin 128) : iblk m c 7 t (ix2 i d)
    = V m c main_v42 (ix2 ⟨(if (t : ℕ) < 64 then (t : ℕ) % 8 else 8) * 512 + i, by split_ifs <;> omega⟩ d) := by
  blk_simp [iblk, idx t]
  congr 1
  blk_ext [idx t]

section
variable {X M W : ℕ → ℕ → EReal} {G Q K : ℕ → EReal} (c : Dev nD)
  (hX : ∀ (r : Fin 34816) (d : Fin 1024), m (c, Proc.tc.devRef main_arg0) (ix2 r d) = X r d)
  (hM : ∀ (i : Fin 16) (d : Fin 6144), m (c, Proc.tc.devRef main_arg1) (ix3 i 0 d) = M i d)
  (hG : ∀ d : Fin 1024, m (c, Proc.tc.devRef main_arg2) (ix1 d) = G d)
  (hW : ∀ (d : Fin 1024) (x : Fin 1536), m (c, Proc.tc.devRef main_arg3) (ix2 d x) = W d x)
  (hQ : ∀ d : Fin 64, m (c, Proc.tc.devRef main_arg4) (ix1 d) = Q d)
  (hK : ∀ d : Fin 64, m (c, Proc.tc.devRef main_arg5) (ix1 d) = K d)

/-- The cosines' block at an index. -/
theorem cos_at (t : Fin cfg0.N) (i : Fin 512) (e : Fin 128) : iblk m c 6 t (ix2 i e) = cosv (t * 512 + i) e := by
  rw [b6, V37]
  exact costab_at t (lt68 t) i e _

/-- The sines' block at an index. -/
theorem sin_at (t : Fin cfg0.N) (i : Fin 512) (e : Fin 128) : iblk m c 7 t (ix2 i e) = sinv (t * 512 + i) e := by
  rw [b7, V42]
  exact sintab_at t (lt68 t) i e _

include hM in
/-- The modulations' block at an index, by the token row. -/
theorem mod_at (t : Fin cfg0.N) (i : Fin 512) (d : Fin 6144) : iblk m c 1 t (ix3 0 0 d) = M (mrow (t * 512 + i)) d := by
  have ht := lt68 t
  rw [b1, hM]
  congr 1
  unfold mrow
  dsimp only
  split_ifs <;> omega

include hX hM hG hW hQ hK in
/-- The query block's entry is the specification's at the block's place in the array, scaled. -/
theorem q_at (t : Fin cfg0.N) (r : Fin 512) (e : Fin 2048) :
    (outsAt0 m c t).1 (ix2 r e) = zpad (qs X M W G Q (t * 512 + r)) e * (((1 / 8) * (Real.log 2)⁻¹ : ℝ) : EReal) := by
  unfold outsAt0
  dsimp only
  refine (out8_at (X := X (t * 512 + r)) (M := M (mrow (t * 512 + r))) (G := G) (N := Q) (C := cosv (t * 512 + r)) (S := sinv (t * 512 + r)) (W := W)
    (hx0 := fun d => ?_) (hx1 := fun d => ?_) (hx2 := fun d => ?_) (hx3 := fun d x => ?_) (hx4 := fun i j => ?_) (hx5 := fun e => ?_)
    (hx6 := fun e => ?_) (hx7 := fun e => ?_) ..).trans ?_
  · rw [b0, hX]
  · exact mod_at m c hM t r d
  · rw [b2, V66, hG]
  · rw [b3]
    exact V59 m c hW d x
  · rw [b4, V76, means_at]
  · rw [b5]
    exact V65 m c hQ hK 0 e
  · exact cos_at m c t r e
  · exact sin_at m c t r e
  · rw [krope_tab, rope_pad]
    rfl

include hX hM hG hW hQ hK in
/-- The key block's entry is the specification's at the block's place in the array. -/
theorem k_at (t : Fin cfg0.N) (r : Fin 512) (e : Fin 512) :
    (outsAt0 m c t).2.1 (ix2 r e) = zpad (ks X M W G K (t * 512 + r)) e := by
  unfold outsAt0
  dsimp only
  refine (out9_at (X := X (t * 512 + r)) (M := M (mrow (t * 512 + r))) (G := G) (N := K) (C := cosv (t * 512 + r)) (S := sinv (t * 512 + r)) (W := W)
    (hx0 := fun d => ?_) (hx1 := fun d => ?_) (hx2 := fun d => ?_) (hx3 := fun d x => ?_) (hx4 := fun i j => ?_) (hx5 := fun e => ?_)
    (hx6 := fun e => ?_) (hx7 := fun e => ?_) ..).trans ?_
  · rw [b0, hX]
  · exact mod_at m c hM t r d
  · rw [b2, V66, hG]
  · rw [b3]
    exact V59 m c hW d x
  · rw [b4, V76, means_at]
  · rw [b5]
    exact V65 m c hQ hK 1 e
  · exact cos_at m c t r e
  · exact sin_at m c t r e
  · rw [krope_tab, rope_pad]
    rfl

include hX hM hG hW in
/-- The value block's entry is the specification's at the block's place in the array. -/
theorem v_at (t : Fin cfg0.N) (r : Fin 512) (e : Fin 512) :
    (outsAt0 m c t).2.2 (ix2 r e) = zpad (fun c => ys X M W G (t * 512 + r) (1280 + c)) e := by
  unfold outsAt0
  dsimp only
  refine (out10_at (X := X (t * 512 + r)) (M := M (mrow (t * 512 + r))) (G := G) (W := W)
    (hx0 := fun d => ?_) (hx1 := fun d => ?_) (hx2 := fun d => ?_) (hx3 := fun d x => ?_) ..).trans ?_
  · rw [b0, hX]
  · exact mod_at m c hM t r d
  · rw [b2, V66, hG]
  · rw [b3]
    exact V59 m c hW d x
  · rfl

/-- The three output arrays of the launch. -/
def resultQ (X M W : ℕ → ℕ → EReal) (G Q : ℕ → EReal) : Vec Ideal S34816x2048 .bf16 := fun i =>
  zpad (qs X M W G Q (i 0)) (i 1) * (((1 / 8) * (Real.log 2)⁻¹ : ℝ) : EReal)

@[inherit_doc resultQ]
def resultK (X M W : ℕ → ℕ → EReal) (G K : ℕ → EReal) : Vec Ideal S34816x512 .bf16 := fun i => zpad (ks X M W G K (i 0)) (i 1)

@[inherit_doc resultQ]
def resultV (X M W : ℕ → ℕ → EReal) (G : ℕ → EReal) : Vec Ideal S34816x512 .bf16 := fun i =>
  zpad (fun c => ys X M W G (i 0) (1280 + c)) (i 1)

include hX hM hG hW hQ hK in
/-- After the launch the output array 8 holds the specification's values: every index lies in the block of one grid point. -/
theorem finalQ : (dats m 0 c).arrAt 8 cfg0.N = resultQ X M W G Q := by
  refine (dats m 0 c).arrAt_eq_of_covers 8 _ (by decide +kernel) fun t hf y => ?_
  blk_simp
  rw [after0_8]
  rw [eq_ix2 y]
  refine (q_at m c hX hM hG hW hQ hK t (y 0) (y 1)).trans ?_
  have ht := lt68 t
  have e : (win0_8.blk t).view.emb (ix2 (y 0) (y 1)) = ix2 ⟨t * 512 + (y 0 : ℕ), by idx_bounds; omega⟩
      ⟨(y 1 : ℕ), by idx_bounds; omega⟩ := by
    blk_ext [idx t]
  rw [e]
  rfl

include hX hM hG hW hQ hK in
/-- After the launch the output array 9 holds the specification's values: every index lies in the block of one grid point. -/
theorem finalK : (dats m 0 c).arrAt 9 cfg0.N = resultK X M W G K := by
  refine (dats m 0 c).arrAt_eq_of_covers 9 _ (by decide +kernel) fun t hf y => ?_
  blk_simp
  rw [after0_9]
  rw [eq_ix2 y]
  refine (k_at m c hX hM hG hW hQ hK t (y 0) (y 1)).trans ?_
  have ht := lt68 t
  have e : (win0_9.blk t).view.emb (ix2 (y 0) (y 1)) = ix2 ⟨t * 512 + (y 0 : ℕ), by idx_bounds; omega⟩
      ⟨(y 1 : ℕ), by idx_bounds; omega⟩ := by
    blk_ext [idx t]
  rw [e]
  rfl

include hX hM hG hW in
/-- After the launch the output array 10 holds the specification's values: every index lies in the block of one grid point. -/
theorem finalV : (dats m 0 c).arrAt 10 cfg0.N = resultV X M W G := by
  refine (dats m 0 c).arrAt_eq_of_covers 10 _ (by decide +kernel) fun t hf y => ?_
  blk_simp
  rw [after0_10]
  rw [eq_ix2 y]
  refine (v_at m c hX hM hG hW t (y 0) (y 1)).trans ?_
  have ht := lt68 t
  have e : (win0_10.blk t).view.emb (ix2 (y 0) (y 1)) = ix2 ⟨t * 512 + (y 0 : ℕ), by idx_bounds; omega⟩
      ⟨(y 1 : ℕ), by idx_bounds; omega⟩ := by
    blk_ext [idx t]
  rw [e]
  rfl

end

end Cert.SwaInIdeal.Gen

end
-- ==== Proof.SwaClaims.lean ====
/- The claims about the sliding-window layer's input projection: the frames, the named constant, and the equation of kernel and
   reference. -/
module

public import proofs.«01_k».proof.Defs
public import proofs.«01_k».proof.Proof.Gen.SwaIn.Frame
public import proofs.«01_k».proof.Proof.Gen.SwaInIdeal.Value
public import proofs.«01_k».proof.Proof.InClaims
public import proofs.«01_k».proof.Proof.SwaRef
public import proofs.«01_k».proof.Proof.SwaBlocks
public import Idealize.ShloMosaic.Lib.Quiescent

@[expose] public section

set_option maxRecDepth 16384

noncomputable section

namespace Cert.SwaClaims

open Idealize.ShloMosaic Idealize.ShloMosaic.TcCoe Idealize.SL.Sem Cert.InSpec
open Cert.InClaims (exists1 exists2 exists3)

/-- The kernel's three output arrays are the reference's results. -/
theorem equation (m : (ℓ : Loc Cert.SwaInIdeal.nD Cert.SwaInIdeal.τ Cert.SwaInIdeal.sig) → Buf (Elt Ideal) ℓ)
    (m' : (ℓ : Loc Cert.SwaInRefIdeal.nD Cert.SwaInRefIdeal.τ Cert.SwaInRefIdeal.sig) → Buf (Elt Ideal) ℓ) (c : Dev Cert.SwaInIdeal.nD)
    (hagree : m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)
      ∧ m' ((c.tc : Thread Cert.SwaInRefIdeal.nD Cert.SwaInRefIdeal.τ).loc Cert.SwaInRefIdeal.main_arg3) = m ((c.tc : Thread Cert.SwaInIdeal.nD Cert.SwaInIdeal.τ).loc Cert.SwaInIdeal.main_arg3)
      ∧ m' ((c.tc : Thread Cert.SwaInRefIdeal.nD Cert.SwaInRefIdeal.τ).loc Cert.SwaInRefIdeal.main_arg4) = m ((c.tc : Thread Cert.SwaInIdeal.nD Cert.SwaInIdeal.τ).loc Cert.SwaInIdeal.main_arg4)
      ∧ m' ((c.tc : Thread Cert.SwaInRefIdeal.nD Cert.SwaInRefIdeal.τ).loc Cert.SwaInRefIdeal.main_arg5) = m ((c.tc : Thread Cert.SwaInIdeal.nD Cert.SwaInIdeal.τ).loc Cert.SwaInIdeal.main_arg5)) :
    Cert.SwaRef.queries (m' ((c.tc : Thread Cert.SwaInRefIdeal.nD Cert.SwaInRefIdeal.τ).loc Cert.SwaInRefIdeal.main_arg0)) (m' ((c.tc : Thread Cert.SwaInRefIdeal.nD Cert.SwaInRefIdeal.τ).loc Cert.SwaInRefIdeal.main_arg1)) (m' ((c.tc : Thread Cert.SwaInRefIdeal.nD Cert.SwaInRefIdeal.τ).loc Cert.SwaInRefIdeal.main_arg2)) (m' ((c.tc : Thread Cert.SwaInRefIdeal.nD Cert.SwaInRefIdeal.τ).loc Cert.SwaInRefIdeal.main_arg3)) (m' ((c.tc : Thread Cert.SwaInRefIdeal.nD Cert.SwaInRefIdeal.τ).loc Cert.SwaInRefIdeal.main_arg4))
      = (Cert.SwaInIdeal.Gen.dats m 0 c).arrAt 8 Cert.SwaInIdeal.cfg0.N
    ∧ Cert.SwaRef.keys (m' ((c.tc : Thread Cert.SwaInRefIdeal.nD Cert.SwaInRefIdeal.τ).loc Cert.SwaInRefIdeal.main_arg0)) (m' ((c.tc : Thread Cert.SwaInRefIdeal.nD Cert.SwaInRefIdeal.τ).loc Cert.SwaInRefIdeal.main_arg1)) (m' ((c.tc : Thread Cert.SwaInRefIdeal.nD Cert.SwaInRefIdeal.τ).loc Cert.SwaInRefIdeal.main_arg2)) (m' ((c.tc : Thread Cert.SwaInRefIdeal.nD Cert.SwaInRefIdeal.τ).loc Cert.SwaInRefIdeal.main_arg3)) (m' ((c.tc : Thread Cert.SwaInRefIdeal.nD Cert.SwaInRefIdeal.τ).loc Cert.SwaInRefIdeal.main_arg5))
      = (Cert.SwaInIdeal.Gen.dats m 0 c).arrAt 9 Cert.SwaInIdeal.cfg0.N
    ∧ Cert.SwaRef.values (m' ((c.tc : Thread Cert.SwaInRefIdeal.nD Cert.SwaInRefIdeal.τ).loc Cert.SwaInRefIdeal.main_arg0)) (m' ((c.tc : Thread Cert.SwaInRefIdeal.nD Cert.SwaInRefIdeal.τ).loc Cert.SwaInRefIdeal.main_arg1)) (m' ((c.tc : Thread Cert.SwaInRefIdeal.nD Cert.SwaInRefIdeal.τ).loc Cert.SwaInRefIdeal.main_arg2)) (m' ((c.tc : Thread Cert.SwaInRefIdeal.nD Cert.SwaInRefIdeal.τ).loc Cert.SwaInRefIdeal.main_arg3))
      = (Cert.SwaInIdeal.Gen.dats m 0 c).arrAt 10 Cert.SwaInIdeal.cfg0.N := by
  obtain ⟨e0, e1, e2, e3, e4, e5⟩ := hagree
  obtain ⟨X, hX⟩ := exists2 rfl (m (c, Proc.tc.devRef Cert.SwaInIdeal.main_arg0) : FVec Ideal Cert.SwaInIdeal.S34816x1024 .f32)
  obtain ⟨M, hM⟩ := exists3 rfl (m (c, Proc.tc.devRef Cert.SwaInIdeal.main_arg1) : FVec Ideal Cert.SwaInIdeal.S16x1x6144 .f32)
  obtain ⟨G, hG⟩ := exists1 rfl (m (c, Proc.tc.devRef Cert.SwaInIdeal.main_arg2) : FVec Ideal Cert.SwaInIdeal.S1024 .f32)
  obtain ⟨W, hW⟩ := exists2 rfl (m (c, Proc.tc.devRef Cert.SwaInIdeal.main_arg3) : FVec Ideal Cert.SwaInIdeal.S1024x1536 .f32)
  obtain ⟨Q, hQ⟩ := exists1 rfl (m (c, Proc.tc.devRef Cert.SwaInIdeal.main_arg4) : FVec Ideal Cert.SwaInIdeal.S64 .f32)
  obtain ⟨K, hK⟩ := exists1 rfl (m (c, Proc.tc.devRef Cert.SwaInIdeal.main_arg5) : FVec Ideal Cert.SwaInIdeal.S64 .f32)
  rw [Cert.SwaInIdeal.Gen.finalQ m c hX hM hG hW hQ hK, Cert.SwaInIdeal.Gen.finalK m c hX hM hG hW hQ hK, Cert.SwaInIdeal.Gen.finalV m c hX hM hG hW,
    e0, e1, e2, e3, e4, e5]
  refine ⟨?_, ?_, ?_⟩
  · funext i
    rw [eq_ix2 i]
    exact Cert.SwaRef.queries_at hX hM hG hW hQ (i 0) (i 1)
  · funext i
    rw [eq_ix2 i]
    exact Cert.SwaRef.keys_at hX hM hG hW hK (i 0) (i 1)
  · funext i
    rw [eq_ix2 i]
    exact Cert.SwaRef.values_at hX hM hG hW (i 0) (i 1)

/-- The sliding-window layer's input projection runs without error and leaves its arguments as they were. -/
theorem frame_p : Cert.quiescent_SwaIn := fun m ρ _ => Cert.SwaIn.Gen.frame m ρ

/-- So does it with exact arithmetic. -/
theorem frame_pi : Cert.quiescent_SwaInIdeal := fun m ρ _ => Cert.SwaInIdeal.Gen.frame m ρ

/-- So does its reference. -/
theorem frame_ri : Cert.quiescent_SwaInRefIdeal := fun m ρ _ =>
  (θ_run Cert.SwaInRefIdeal.defs _ _).mono (fun r h => ⟨fun c => (h c).2.2.2,
      Idealize.ShloMosaic.sem_eq_zero_of_no_sems (by decide) r.2⟩)
    (Cert.SwaInRefIdeal.Value.run (F := Ideal) m ρ)

/-- The scale's constant is named by `log2(e) / 8`. -/
theorem preserves : Cert.preserves_SwaIn_SwaInIdeal :=
  IdealRules.named_const.statement Cert.SwaInIdeal.κ "q_scale" .f32 0x3E38AA3B#32 (((1 / 8) * (Real.log 2)⁻¹ : ℝ) : EReal) rfl

/-- Kernel and reference compute the same three arrays, whatever the arguments. -/
theorem algebraic : Cert.algebraic_SwaInIdeal_SwaInRefIdeal := by
  intro m ρ m' ρ' _ hagree
  refine ⟨_, _, _, Cert.SwaInIdeal.Value.run_blocks (F := Ideal) m ρ, ?_⟩
  exact (θ_run Cert.SwaInRefIdeal.defs _ _).mono (fun _ h c => ⟨(h c).1.trans (equation m m' c (hagree c)).1,
      (h c).2.1.trans (equation m m' c (hagree c)).2.1, (h c).2.2.1.trans (equation m m' c (hagree c)).2.2, (h c).2.2.2⟩)
    (Cert.SwaRef.run m' ρ')

end Cert.SwaClaims

end
-- ==== Proof.FouRun.lean ====
/- What one step of the Fourier layer's output projection leaves in its two output blocks, and its launch. Its blocks have the
   shapes of the other output projection's; two windows read one array, so each holds a share of it. -/
module

public import proofs.«01_k».proof.Proof.OutFrame
public import proofs.«01_k».proof.Proof.Gen.FouOutIdeal.Frame
public import proofs.«01_k».proof.Proof.Gen.FouOutIdeal.Skeleton
public import proofs.«01_k».proof.Proof.Gen.FouOutIdeal.Points
public import Idealize.ShloMosaic.Lib.Pipeline.ValueKit
public import Idealize.ShloMosaic.Lib.Pointwise

@[expose] public section

set_option maxRecDepth 16384

noncomputable section

namespace Cert.FouOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ProjOutIdeal.Gen (stream normed split read_slices load_whole write_whole isLat isCtx isLat_iff isCtx_iff left_of_flush)

variable {F : FTy → Type} [FloatOps F]

/-- The resources that a program's run is stated over. -/
abbrev World (F : FTy → Type) [FloatOps F] : Type _ := MT nD τ sig Unit (Elt F) ℕ (UR sig nD τ) ℕ

section
variable (c : Dev nD) (i : grid0.Coords) (a1 : Memref sig .tc .vmem S256x1024 .bf16) (h1 : a1.IsWhole) (a2 : Memref sig .tc .vmem S256x1024 .bf16) (h2 : a2.IsWhole)
  (a3 : Memref sig .tc .vmem S1024x1024 .bf16) (h3 : a3.IsWhole) (a4 : Memref sig .tc .vmem S256x1024 .f32) (h4 : a4.IsWhole)
  (a5 : Memref sig .tc .vmem S1x1x6144 .f32) (h5 : a5.IsWhole) (a6 : Memref sig .tc .vmem S1x1024 .f32) (h6 : a6.IsWhole)
  (a7 : Memref sig .tc .vmem S256x1024 .f32) (h7 : a7.IsWhole) (a8 : Memref sig .tc .vmem S2048x128 .f32) (h8 : a8.IsWhole)
  (ol oc : Vec F S256x1024 .bf16) (w : Vec F S1024x1024 .bf16) (x : Vec F S256x1024 .f32) (md : Vec F S1x1x6144 .f32) (g : Vec F S1x1024 .f32)

/-- The blocks that a step reads, as the core holds them. -/
def holds : sProp (World F) :=
  iprop(owns (c : Thread nD τ) a1 fullShare ol ∗ owns (c : Thread nD τ) a2 fullShare oc ∗ owns (c : Thread nD τ) a3 fullShare w ∗ owns (c : Thread nD τ) a4 fullShare x ∗ owns (c : Thread nD τ) a5 fullShare md ∗ owns (c : Thread nD τ) a6 fullShare g)

set_option maxHeartbeats 4000000 in
/-- A step leaves the blocks that it reads. Its outputs hold the stream and the split norm of the block `o` that its branch takes. -/
theorem step (o : Vec F S256x1024 .bf16) (ho : (isLat i ∧ ¬ isCtx i ∧ o = ol) ∨ (¬ isLat i ∧ isCtx i ∧ o = oc)) (E : Set ℕ) (K : PUnit → sProp (World F)) :
    iprop(holds c a1 a2 a3 a4 a5 a6 ol oc w x md g ∗ (∃ d, owns (c : Thread nD τ) a7 fullShare d) ∗ (∃ d, owns (c : Thread nD τ) a8 fullShare d)
        ∗ (iprop(holds c a1 a2 a3 a4 a5 a6 ol oc w x md g ∗ owns (c : Thread nD τ) a7 fullShare (stream o w x md)
            ∗ owns (c : Thread nD τ) a8 fullShare (split (normed o w x md g))) -∗ K ⟨⟩))
      ⊢ wp frame (wpE (defs₀ (F := F)) Variants.none c none) E (cc0_proj_out i a1 h1 a2 h2 a3 h3 a4 h4 a5 h5 a6 h6 a7 h7 a8 h8) K := by
  simp only [cc0_proj_out_eq_skeleton]; unfold cc0_proj_out_skel
  simp only [k0_part1_eq_skeleton, k0_part2_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, Hk⟩
  rcases ho with ⟨hl, hc, rfl⟩ | ⟨hl, hc, rfl⟩
  all_goals
    sl_exec (disch := first | sl_exact hl | sl_exact hc)
    sl_step
    iapply Hk
    isplitl [H0 H1 H2 H3 H4 H5]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      iexists _; isplitr; · ipureintro; exact hf5
      iexact H5
    subst hf0 hf1 hf2 hf3 hf4 hf5
    isplitl [H6]
    · iexists _; isplitr; swap; · iexact H6
      ipureintro
      refine (write_whole a7.view _ _ _).trans ?_
      unfold stream
      rw [← load_whole a3.view _ inb_S1024x1024_S1024x1024_0_0, ← load_whole a4.view _ inb_S256x1024_S256x1024_0_0]
      first
        | rw [← load_whole a1.view _ inb_S256x1024_S256x1024_0_0]; rfl
        | rw [← load_whole a2.view _ inb_S256x1024_S256x1024_0_0]; rfl
    · iexists _; isplitr; swap; · iexact H7
      ipureintro
      refine (read_slices a8.view _ _).trans (congrArg split ?_)
      unfold normed
      rw [← load_whole a3.view _ inb_S1024x1024_S1024x1024_0_0, ← load_whole a4.view _ inb_S256x1024_S256x1024_0_0,
        ← load_whole a6.view _ inb_S1x1024_S1x1024_0_0]
      first
        | rw [← load_whole a1.view _ inb_S256x1024_S256x1024_0_0]; rfl
        | rw [← load_whole a2.view _ inb_S256x1024_S256x1024_0_0]; rfl

end

variable (m : (ℓ : Loc nD τ sig) → Buf (Elt F) ℓ) (ρ : Dev nD → PrngReg)

/-- The mixing's block that step `t` projects: the latent tokens' for the first 128 steps, then the context's. -/
def att (c : Dev nD) (t : Fin cfg0.N) : Vec F S256x1024 .bf16 :=
  if t.val < 128 then iblk m c 0 t else iblk m c 1 t

/-- What step `t` leaves in the stream's block. -/
def outX (c : Dev nD) (t : Fin cfg0.N) : Vec F S256x1024 .f32 := stream (att m c t) (iblk m c 2 t) (iblk m c 3 t) (iblk m c 4 t)

/-- What step `t` leaves in the tokens' block. -/
def outT (c : Dev nD) (t : Fin cfg0.N) : Vec F S2048x128 .f32 :=
  split (normed (att m c t) (iblk m c 2 t) (iblk m c 3 t) (iblk m c 4 t) (iblk m c 5 t))

/-- The launch's data: the arrays as it finds them, each input's block left in place, the two outputs' blocks as the steps leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outX m c t
    | ⟨7, _⟩ => outT m c t
  Φ _ := Pipeline.ΦA spec0 c
  q w := Pipeline.shareOf spec0 w
  owed _ := 0

/-- The data's arrays are those that the launch finds. -/
theorem A_eq (c : Dev nD) (w : Fin cfg0.W) : (dats m 0 c).A w = V m c (Pipeline.arrRef spec0 w) := by dsimp only [dats]

/-- The first output's block after step `t`. -/
theorem after0_6 (c : Dev nD) (t : Fin cfg0.N) : (dats m 0 c).after 6 t = outX m c t := by dsimp only [dats]

/-- The second output's block after step `t`. -/
theorem after0_7 (c : Dev nD) (t : Fin cfg0.N) : (dats m 0 c).after 7 t = outT m c t := by dsimp only [dats]

/-- The six inputs' blocks are in place before each step. -/
theorem before_in (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t) :=
  ⟨before0_0_of m _ (A_eq m c 0) (fun t => by dsimp only [dats]) t, before0_1_of m _ (A_eq m c 1) (fun t => by dsimp only [dats]) t,
    before0_2_of m _ (A_eq m c 2) (fun t => by dsimp only [dats]) t, before0_3_of m _ (A_eq m c 3) (fun t => by dsimp only [dats]) t,
    before0_4_of m _ (A_eq m c 4) (fun t => by dsimp only [dats]) t, before0_5_of m _ (A_eq m c 5) (fun t => by dsimp only [dats]) t⟩

/-- Which of the two branches step `t` takes, and the block that it projects there. -/
theorem branch (c : Dev nD) (t : Fin cfg0.N) :
    (isLat (grid0.coords t) ∧ ¬ isCtx (grid0.coords t) ∧ att m c t = iblk m c 0 t)
    ∨ (¬ isLat (grid0.coords t) ∧ isCtx (grid0.coords t) ∧ att m c t = iblk m c 1 t) := by
  rw [isLat_iff, isCtx_iff]
  unfold att
  by_cases h : t.val < 128
  · exact .inl ⟨h, by omega, if_pos h⟩
  · exact .inr ⟨h, by omega, if_neg h⟩

/-- A step of the launch: from the blocks in place and whatever the outputs' buffers held, to the blocks still in place and the outputs'. -/
theorem body_step (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d))
        ∗ (∃ d, owns (c : Thread nD τ) (win0_7.stage (cfg0.slots t 7)) fullShare ((dats m 0 c).before 7 t d)))
      ⊢ wp frame (wpE (defs₀ (F := F)) Variants.none c none) Set.univ (bodyAt0 t) fun _ =>
        iprop((dats m 0 c).Φ t.succ ∗ (dats m 0 c).owesAt () t.succ
          ∗ owns (c : Thread nD τ) (win0_0.stage (cfg0.slots t 0)) fullShare ((dats m 0 c).after 0 t)
          ∗ owns (c : Thread nD τ) (win0_1.stage (cfg0.slots t 1)) fullShare ((dats m 0 c).after 1 t)
          ∗ owns (c : Thread nD τ) (win0_2.stage (cfg0.slots t 2)) fullShare ((dats m 0 c).after 2 t)
          ∗ owns (c : Thread nD τ) (win0_3.stage (cfg0.slots t 3)) fullShare ((dats m 0 c).after 3 t)
          ∗ owns (c : Thread nD τ) (win0_4.stage (cfg0.slots t 4)) fullShare ((dats m 0 c).after 4 t)
          ∗ owns (c : Thread nD τ) (win0_5.stage (cfg0.slots t 5)) fullShare ((dats m 0 c).after 5 t)
          ∗ owns (c : Thread nD τ) (win0_6.stage (cfg0.slots t 6)) fullShare ((dats m 0 c).after 6 t)
          ∗ owns (c : Thread nD τ) (win0_7.stage (cfg0.slots t 7)) fullShare ((dats m 0 c).after 7 t)) := by
  obtain ⟨b0, b1, b2, b3, b4, b5⟩ := before_in m c t
  simp only [b0, b1, b2, b3, b4, b5]
  rw [show (dats m 0 c).Φ t.succ = (dats m 0 c).Φ t.castSucc from rfl,
    show (dats m 0 c).owesAt () t.succ = (dats m 0 c).owesAt () t.castSucc from rfl]
  dsimp only [dats]
  unfold outX outT bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step c (grid0.coords t) _ _ _ _ _ _ _ _ _ _ _ _ _ _ _ _ (iblk m c 0 t) (iblk m c 1 t) (iblk m c 2 t) (iblk m c 3 t) (iblk m c 4 t) (iblk m c 5 t)
    (att m c t) (branch m c t) Set.univ _)
  unfold holds
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  iintro ⟨⟨H0, H1, H2, H3, H4, H5⟩, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The steps meet what the launch asks of them. -/
theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  refine triple_restated (body_step m c t) rfl .rfl fun _ => ?_
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · refine left_of_flush (cfg0.idle 6 (cfg0.grid.coords t)) (flush0_6 t)
  · refine left_of_flush (cfg0.idle 7 (cfg0.grid.coords t)) (flush0_7 t)

set_option backward.isDefEq.respectTransparency.types false in
/-- The launch ends, with every array at what the data say and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- The launch runs without error, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

/-- The launch's two result arrays, and its arguments unchanged. -/
theorem results : θ_run defs (onTc (τ := τ) (main (F := F))) ⟨m, fun _ => 0, ρ⟩ fun r => ∀ c : Dev nD,
      r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1.1 c).1 6, (h.1.1 c).1 7, h.2 c⟩) (θ_run_and (run_main m ρ) (unchanged m ρ))

end Cert.FouOutIdeal.Gen

end
-- ==== Proof.FouBlocks.lean ====
/- Where the blocks of the Fourier layer's output projection lie in its arrays, and what its two output arrays hold after the launch. -/
module

public import proofs.«01_k».proof.Proof.FouRun
public import proofs.«01_k».proof.Proof.OutBlocks
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FouOutIdeal.Gen

open Idealize.ShloMosaic Idealize.ShloMosaic.TcCoe Idealize.SL.Sem
open Idealize.ShloMosaic.Pipeline (Dat Cfg Window)
open Cert.InSpec Cert.OutSpec
open Cert.ProjOutIdeal.Gen (stream_at normed_at lanes_at)

variable (m : (ℓ : Loc nD τ sig) → Buf (Elt Ideal) ℓ)

/-- The block indices of the windows at grid point `t`. -/
theorem idx : ∀ t : Fin grid0.N,
    (win0_0.index t 0 = (if t.val < 128 then t.val else 127) ∧ win0_0.index t 1 = 0)
    ∧ (win0_1.index t 0 = (if t.val < 128 then 128 else t.val) ∧ win0_1.index t 1 = 0)
    ∧ (win0_2.index t 0 = 0 ∧ win0_2.index t 1 = 0)
    ∧ (win0_3.index t 0 = t.val ∧ win0_3.index t 1 = 0)
    ∧ (win0_4.index t 0 = (if t.val < 128 then t.val / 16 else 8) ∧ win0_4.index t 1 = 0 ∧ win0_4.index t 2 = 0)
    ∧ (win0_5.index t 0 = 0 ∧ win0_5.index t 1 = 0)
    ∧ (win0_6.index t 0 = t.val ∧ win0_6.index t 1 = 0)
    ∧ (win0_7.index t 0 = t.val ∧ win0_7.index t 1 = 0) := by
  decide +kernel

/-- The grid has 136 points. -/
theorem lt136 (t : Fin cfg0.N) : (t : ℕ) < 136 := lt_of_lt_of_eq t.isLt (by decide +kernel)

/-- The first window's block at an index, for a latent token's step. -/
theorem b0 (c : Dev nD) (t : Fin cfg0.N) (h : (t : ℕ) < 128) (i : Fin 256) (d : Fin 1024) : iblk m c 0 t (ix2 i d)
    = m (c, Proc.tc.devRef main_arg0) (ix2 ⟨t * 256 + i, by omega⟩ d) := by
  rw [← V_main_arg0 m c]
  blk_simp [iblk, idx t]
  congr 1
  blk_ext [idx t, h]
  rw [if_pos trivial]

/-- The second window's block at an index, for a context token's step. -/
theorem b1 (c : Dev nD) (t : Fin cfg0.N) (h : ¬ (t : ℕ) < 128) (i : Fin 256) (d : Fin 1024) : iblk m c 1 t (ix2 i d)
    = m (c, Proc.tc.devRef main_arg0) (ix2 ⟨t * 256 + i, by have := lt136 t; omega⟩ d) := by
  rw [← V_main_arg0 m c]
  blk_simp [iblk, idx t]
  congr 1
  blk_ext [idx t, h]
  rw [if_neg not_false]

/-- The rounded weights are the weights, and their block is the array. -/
theorem b2 (c : Dev nD) (t : Fin cfg0.N) (d x : Fin 1024) : iblk m c 2 t (ix2 d x) = m (c, Proc.tc.devRef main_arg1) (ix2 d x) := by
  have e : V m c main_v0 = truncf (F := Ideal) .bf16 (m (c, Proc.tc.devRef main_arg1)) bitsLt_bf16_f32 := by
    unfold V
    rfl
  have e' : iblk m c 2 t (ix2 d x) = V m c main_v0 (ix2 d x) := by
    blk_simp [iblk, idx t]
    congr 1
    blk_ext [idx t]
  rw [e', e]
  pointwise

/-- The stream's block at an index. -/
theorem b3 (c : Dev nD) (t : Fin cfg0.N) (i : Fin 256) (d : Fin 1024) : iblk m c 3 t (ix2 i d)
    = m (c, Proc.tc.devRef main_arg2) (ix2 ⟨t * 256 + i, by have := lt136 t; omega⟩ d) := by
  rw [← V_main_arg2 m c]
  blk_simp [iblk, idx t]
  congr 1
  blk_ext [idx t]

/-- The modulations' block at an index. -/
theorem b4 (c : Dev nD) (t : Fin cfg0.N) (d : Fin 6144) : iblk m c 4 t (ix3 0 0 d)
    = m (c, Proc.tc.devRef main_arg3) (ix3 ⟨if (t : ℕ) < 128 then t / 16 else 8, by split_ifs <;> omega⟩ 0 d) := by
  rw [← V_main_arg3 m c]
  blk_simp [iblk, idx t]
  congr 1
  blk_ext [idx t]

/-- The norm weights' block is the array, written as a row. -/
theorem b5 (c : Dev nD) (t : Fin cfg0.N) (d : Fin 1024) : iblk m c 5 t (ix2 0 d) = m (c, Proc.tc.devRef main_arg4) (ix1 d) := by
  have e : V m c main_v1 = shapeCast S1x1024 (m (c, Proc.tc.devRef main_arg4)) shapeCasts_S1024_S1x1024 := by
    unfold V
    rfl
  have e' : iblk m c 5 t (ix2 0 d) = V m c main_v1 (ix2 0 d) := by
    blk_simp [iblk, idx t]
    congr 1
    blk_ext [idx t]
  rw [e', e]
  pointwise

section
variable {O X M W : ℕ → ℕ → EReal} {G : ℕ → EReal} (c : Dev nD)
  (hO : ∀ (r : Fin 34816) (d : Fin 1024), m (c, Proc.tc.devRef main_arg0) (ix2 r d) = O r d)
  (hW : ∀ d x : Fin 1024, m (c, Proc.tc.devRef main_arg1) (ix2 d x) = W d x)
  (hX : ∀ (r : Fin 34816) (d : Fin 1024), m (c, Proc.tc.devRef main_arg2) (ix2 r d) = X r d)
  (hM : ∀ (i : Fin 16) (d : Fin 6144), m (c, Proc.tc.devRef main_arg3) (ix3 i 0 d) = M i d)
  (hG : ∀ d : Fin 1024, m (c, Proc.tc.devRef main_arg4) (ix1 d) = G d)

include hO in
/-- The mixing's row that a step projects is the token's, whichever window it comes through. -/
theorem att_at (t : Fin cfg0.N) (i : Fin 256) (d : Fin 1024) : att m c t (ix2 i d) = O (t * 256 + i) d := by
  unfold att
  by_cases h : (t : ℕ) < 128
  · rw [if_pos h, b0 m c t h, hO]
  · rw [if_neg h, b1 m c t h, hO]

include hM in
/-- The modulations' block at an index, by the token's row. -/
theorem mod_at (t : Fin cfg0.N) (i : Fin 256) (d : Fin 6144) : iblk m c 4 t (ix3 0 0 d) = M (mrow (t * 256 + i)) d := by
  have ht := lt136 t
  rw [b4, hM]
  congr 1
  unfold mrow
  dsimp only
  split_ifs <;> omega

include hO hW hX hM in
/-- The stream's block holds the specification's values at the block's place in the array. -/
theorem outX_at (t : Fin cfg0.N) (r : Fin 256) (e : Fin 1024) : outX m c t (ix2 r e) = xo O X M W (t * 256 + r) e :=
  stream_at _ r (att_at m c hO t r) (fun d e => by rw [b2, hW]) (fun d => by rw [b3, hX]) (mod_at m c hM t r) e

include hO hW hX hM hG in
/-- So does the tokens' block, eight of its rows to a token. -/
theorem outT_at (t : Fin cfg0.N) (r : Fin 2048) (e : Fin 128) :
    outT m c t (ix2 r e) = ho O X M W G (t * 256 + (r : ℕ) / 8) ((r : ℕ) % 8 * 128 + e) :=
  normed_at _ ⟨(r : ℕ) / 8, by omega⟩ (att_at m c hO t _) (fun d e => by rw [b2, hW]) (fun d => by rw [b3, hX]) (mod_at m c hM t _)
    (fun d => by rw [b5, hG]) ⟨(r : ℕ) % 8 * 128 + e, by omega⟩

/-- The two output arrays of the launch. -/
def resultX (O X M W : ℕ → ℕ → EReal) : Vec Ideal S34816x1024 .f32 := fun i => xo O X M W (i 0) (i 1)

@[inherit_doc resultX]
def resultT (O X M W : ℕ → ℕ → EReal) (G : ℕ → EReal) : Vec Ideal S278528x128 .f32 := fun i =>
  ho O X M W G ((i 0 : ℕ) / 8) ((i 0 : ℕ) % 8 * 128 + (i 1 : ℕ))

include hO hW hX hM in
/-- After the launch the first output array holds the specification's stream: every index lies in the block of one step. -/
theorem finalX : (dats m 0 c).arrAt 6 cfg0.N = resultX O X M W := by
  refine (dats m 0 c).arrAt_eq_of_covers 6 _ (by decide +kernel) fun t hf y => ?_
  blk_simp
  rw [after0_6]
  rw [eq_ix2 y]
  refine (outX_at m c hO hW hX hM t (y 0) (y 1)).trans ?_
  have ht := lt136 t
  have e : (win0_6.blk t).view.emb (ix2 (y 0) (y 1)) = ix2 ⟨t * 256 + (y 0 : ℕ), by idx_bounds; omega⟩
      ⟨(y 1 : ℕ), by idx_bounds; omega⟩ := by
    blk_ext [idx t]
  rw [e]
  rfl

include hO hW hX hM hG in
/-- The second holds the specification's tokens likewise. -/
theorem finalT : (dats m 0 c).arrAt 7 cfg0.N = resultT O X M W G := by
  refine (dats m 0 c).arrAt_eq_of_covers 7 _ (by decide +kernel) fun t hf y => ?_
  blk_simp
  rw [after0_7]
  rw [eq_ix2 y]
  refine (outT_at m c hO hW hX hM hG t (y 0) (y 1)).trans ?_
  have ht := lt136 t
  have e : (win0_7.blk t).view.emb (ix2 (y 0) (y 1)) = ix2 ⟨t * 2048 + (y 0 : ℕ), by idx_bounds; omega⟩
      ⟨(y 1 : ℕ), by idx_bounds; omega⟩ := by
    blk_ext [idx t]
  have e1 : ((t : ℕ) * 2048 + (y 0 : ℕ)) / 8 = t * 256 + (y 0 : ℕ) / 8 := by omega
  have e2 : ((t : ℕ) * 2048 + (y 0 : ℕ)) % 8 = (y 0 : ℕ) % 8 := by omega
  rw [e]
  show _ = ho O X M W G (((t : ℕ) * 2048 + (y 0 : ℕ)) / 8) (((t : ℕ) * 2048 + (y 0 : ℕ)) % 8 * 128 + (y 1 : ℕ))
  rw [e1, e2]
end

end Cert.FouOutIdeal.Gen

end
-- ==== Proof.FouRef.lean ====
/- What the reference of the Fourier layer's output projection computes: the other output projection's stages, of the latent
   tokens' rows of the mixing and of the context's. -/
module

public import proofs.«01_k».proof.Proof.Gen.FouOutRefIdeal.Run
public import proofs.«01_k».proof.Proof.OutRef

@[expose] public section

set_option maxRecDepth 16384

noncomputable section

namespace Cert.FouRef

open Idealize.ShloMosaic Idealize.ShloMosaic.TcCoe Idealize.SL.Sem
open Cert.FouOutRefIdeal Cert.FouOutRefIdeal.Gen Cert.InSpec Cert.OutSpec
open Cert.OutRef (xlat xctx hlat hctx rows eighths)

/-- The latent tokens' rows of the mixing. -/
def olat (a0 : FVec Ideal S34816x1024 .bf16) : FVec Ideal S32768x1024 .bf16 := extractStridedSlice S32768x1024 ![0, 0] a0 slices_S34816x1024_S32768x1024_0_0

/-- The context's. -/
def octx (a0 : FVec Ideal S34816x1024 .bf16) : FVec Ideal S2048x1024 .bf16 := extractStridedSlice S2048x1024 ![32768, 0] a0 slices_S34816x1024_S2048x1024_32768_0

/-- The new stream. -/
def stream (a0 : FVec Ideal S34816x1024 .bf16) (a1 : FVec Ideal S1024x1024 .f32) (a2 : FVec Ideal S34816x1024 .f32) (a3 : FVec Ideal S16x1x6144 .f32) :
    FVec Ideal S34816x1024 .f32 :=
  rows (xlat (olat a0) a1 a2 a3) (xctx (octx a0) a1 a2 a3)

/-- The tokens' rows. -/
def tokens (a0 : FVec Ideal S34816x1024 .bf16) (a1 : FVec Ideal S1024x1024 .f32) (a2 : FVec Ideal S34816x1024 .f32) (a3 : FVec Ideal S16x1x6144 .f32)
    (a4 : FVec Ideal S1024 .f32) : FVec Ideal S278528x128 .f32 :=
  eighths (rows (hlat (xlat (olat a0) a1 a2 a3) a3 a4) (hctx (xctx (octx a0) a1 a2 a3) a3 a4))

/-- The rows of one array are its first 32768 and then the others. -/
theorem both_self (O : ℕ → ℕ → EReal) : both O (fun r => O (32768 + r)) = O := by
  funext r
  unfold both
  split_ifs with h
  · rfl
  · exact congrArg O (by omega)

section
variable {a0 : FVec Ideal S34816x1024 .bf16} {a1 : FVec Ideal S1024x1024 .f32}
  {a2 : FVec Ideal S34816x1024 .f32} {a3 : FVec Ideal S16x1x6144 .f32} {a4 : FVec Ideal S1024 .f32}
  {O X M W : ℕ → ℕ → EReal} {G : ℕ → EReal}
  (hO : ∀ (r : Fin 34816) (d : Fin 1024), a0 (ix2 r d) = O r d)
  (hW : ∀ d x : Fin 1024, a1 (ix2 d x) = W d x)
  (hX : ∀ (r : Fin 34816) (d : Fin 1024), a2 (ix2 r d) = X r d)
  (hM : ∀ (i : Fin 16) (d : Fin 6144), a3 (ix3 i 0 d) = M i d)
  (hG : ∀ d : Fin 1024, a4 (ix1 d) = G d)

include hO in
/-- The latent tokens' rows at an index. -/
theorem olat_at (r : Fin 32768) (d : Fin 1024) : olat a0 (ix2 r d) = O r d := by
  pointwise [olat]
  rw [hO]

include hO in
/-- The context's rows at an index. -/
theorem octx_at (r : Fin 2048) (d : Fin 1024) : octx a0 (ix2 r d) = O (32768 + r) d := by
  pointwise [octx]
  rw [hO]

include hO hW hX hM in
/-- The new stream at an index. -/
theorem stream_at (r : Fin 34816) (x : Fin 1024) : stream a0 a1 a2 a3 (ix2 r x) = xo O X M W r x :=
  (Cert.OutRef.stream_at (olat_at hO) (octx_at hO (O := O)) hW hX hM r x).trans (by rw [both_self])

include hO hW hX hM hG in
/-- The tokens' rows at an index. -/
theorem tokens_at (r : Fin 278528) (x : Fin 128) : tokens a0 a1 a2 a3 a4 (ix2 r x) = ho O X M W G ((r : ℕ) / 8) ((r : ℕ) % 8 * 128 + x) :=
  (Cert.OutRef.tokens_at (olat_at hO) (octx_at hO (O := O)) hW hX hM hG r x).trans (by rw [both_self])
end

/-- What the reference's run leaves, by the stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73) = stream (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v74) = tokens (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩)
    (Cert.FouOutRefIdeal.Value.run (F := Ideal) m ρ)
  · rfl
  · rfl

end Cert.FouRef

end
-- ==== Proof.FouClaims.lean ====
/- The claims about the Fourier layer's output projection: the frames, the idealization, and the equation of kernel and reference. -/
module

public import proofs.«01_k».proof.Defs
public import proofs.«01_k».proof.Proof.Gen.FouOut.Frame
public import proofs.«01_k».proof.Proof.FouBlocks
public import proofs.«01_k».proof.Proof.FouRef
public import proofs.«01_k».proof.Proof.InClaims

@[expose] public section

set_option maxRecDepth 16384

noncomputable section

namespace Cert.FouClaims

open Idealize.ShloMosaic Idealize.ShloMosaic.TcCoe Idealize.SL.Sem Cert.InSpec Cert.OutSpec Cert.FouOutIdeal
open Cert.InClaims (exists1 exists2 exists3)

/-- The reference's results of the kernel's arguments are the kernel's two output arrays. -/
theorem equation (m : (ℓ : Loc nD τ sig) → Buf (Elt Ideal) ℓ) (c : Dev nD) :
    Cert.FouRef.stream (m ((c.tc : Thread nD τ).loc main_arg0)) (m ((c.tc : Thread nD τ).loc main_arg1)) (m ((c.tc : Thread nD τ).loc main_arg2))
        (m ((c.tc : Thread nD τ).loc main_arg3)) = (Gen.dats m 0 c).arrAt 6 cfg0.N
    ∧ Cert.FouRef.tokens (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) = (Gen.dats m 0 c).arrAt 7 cfg0.N := by
  obtain ⟨O, hO⟩ := exists2 rfl (m (c, Proc.tc.devRef main_arg0) : FVec Ideal S34816x1024 .bf16)
  obtain ⟨W, hW⟩ := exists2 rfl (m (c, Proc.tc.devRef main_arg1) : FVec Ideal S1024x1024 .f32)
  obtain ⟨X, hX⟩ := exists2 rfl (m (c, Proc.tc.devRef main_arg2) : FVec Ideal S34816x1024 .f32)
  obtain ⟨M, hM⟩ := exists3 rfl (m (c, Proc.tc.devRef main_arg3) : FVec Ideal S16x1x6144 .f32)
  obtain ⟨G, hG⟩ := exists1 rfl (m (c, Proc.tc.devRef main_arg4) : FVec Ideal S1024 .f32)
  rw [Gen.finalX m c hO hW hX hM, Gen.finalT m c hO hW hX hM hG]
  refine ⟨?_, ?_⟩
  · funext i
    rw [eq_ix2 i]
    exact Cert.FouRef.stream_at hO hW hX hM (i 0) (i 1)
  · funext i
    rw [eq_ix2 i]
    exact Cert.FouRef.tokens_at hO hW hX hM hG (i 0) (i 1)

/-- The body with rounding arithmetic is the one with exact arithmetic: no constant is named. -/
theorem body_eq {F : FTy → Type} [FloatOps F] : @Cert.FouOut.defs₀ F _ _ = @defs₀ F _ _ := by
  funext p l a
  cases p with
  | tc =>
    match l, a with
    | 0, (t, s) => with_unfolding_all rfl
  | scScalar _ => with_unfolding_all rfl
  | scVector _ _ => with_unfolding_all rfl

/-- The call runs without error and leaves its arguments as they were: so does the same program at any arithmetic. -/
theorem frame_p : Cert.quiescent_FouOut := by
  intro m ρ _
  have h := Gen.frame (F := Bits) m ρ
  have e : (θ_run (Cert.FouOut.defs (F := Bits)) (onTc (τ := Cert.FouOut.τ) (Cert.FouOut.main (F := Bits))) ⟨m, fun _ => 0, ρ⟩)
     = (θ_run (defs (F := Bits)) (onTc (τ := τ) (main (F := Bits))) ⟨m, fun _ => 0, ρ⟩) := by
    have d : @Cert.FouOut.defs Bits _ _ = @defs Bits _ _ := by
      with_unfolding_all exact congrArg (Pipeline.defs (pcfgs (F := Bits))) body_eq
    with_unfolding_all exact congrArg (fun D => θ_run D (onTc (τ := τ) (main (F := Bits))) ⟨m, fun _ => 0, ρ⟩) d
  rw [e]
  with_unfolding_all exact h

/-- So does the call with exact arithmetic. -/
theorem frame_pi : Cert.quiescent_FouOutIdeal := fun m ρ _ => Gen.frame m ρ

/-- So does its reference. -/
theorem frame_ri : Cert.quiescent_FouOutRefIdeal := fun m ρ _ =>
  (θ_run Cert.FouOutRefIdeal.defs _ _).mono (fun r h => ⟨fun c => (h c).2.2, Idealize.ShloMosaic.sem_eq_zero_of_no_sems (by decide) r.2⟩)
    (Cert.FouRef.run m ρ)

/-- No constant of the call is named. -/
theorem preserves : Cert.preserves_FouOut_FouOutIdeal := by trivial

/-- Kernel and reference compute the same two arrays, whatever the arguments. -/
theorem algebraic : Cert.algebraic_FouOutIdeal_FouOutRefIdeal := by
  intro m ρ m' ρ' _ hagree
  refine ⟨_, _, Gen.results (F := Ideal) m ρ, (θ_run Cert.FouOutRefIdeal.defs _ _).mono (fun _ h c => ?_) (Cert.FouRef.run m' ρ')⟩
  obtain ⟨e0, e1, e2, e3, e4⟩ := hagree c
  have q := equation m c
  rw [← e0, ← e1, ← e2, ← e3, ← e4] at q
  exact ⟨(h c).1.trans q.1, (h c).2.1.trans q.2, (h c).2.2⟩

end Cert.FouClaims

end
-- ==== Proof.SwoRun.lean ====
/- What one step of the sliding-window layer's output projection leaves in its two output blocks, and its launch. The attention
   has 2048 lanes, and two windows read its one array. -/
module

public import proofs.«01_k».proof.Proof.OutFrame
public import proofs.«01_k».proof.Proof.Gen.SwaOutIdeal.Frame
public import proofs.«01_k».proof.Proof.Gen.SwaOutIdeal.Skeleton
public import proofs.«01_k».proof.Proof.Gen.SwaOutIdeal.Points
public import Idealize.ShloMosaic.Lib.Pipeline.ValueKit
public import Idealize.ShloMosaic.Lib.Pointwise

@[expose] public section

set_option maxRecDepth 16384

noncomputable section

namespace Cert.SwaOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ProjOutIdeal.Gen (lanes split read_slices load_whole write_whole isLat isCtx isLat_iff isCtx_iff left_of_flush)

variable {F : FTy → Type} [FloatOps F]

/-- The tokens' rows after the projection, gated and added. -/
def stream (o : Vec F S256x2048 .bf16) (w : Vec F S2048x1024 .bf16) (x : Vec F S256x1024 .f32) (md : Vec F S1x1x6144 .f32) : Vec F S256x1024 .f32 :=
  k0_pay17 o w x (lanes 2048 inb_S1x1x6144_S1x1x1024_0_0_2048 md)

/-- Their norm, modulated. -/
def normed (o : Vec F S256x2048 .bf16) (w : Vec F S2048x1024 .bf16) (x : Vec F S256x1024 .f32) (md : Vec F S1x1x6144 .f32) (g : Vec F S1x1024 .f32) : Vec F S256x1024 .f32 :=
  k0_pay18 o w x (lanes 2048 inb_S1x1x6144_S1x1x1024_0_0_2048 md) g (lanes 4096 inb_S1x1x6144_S1x1x1024_0_0_4096 md)
    (lanes 3072 inb_S1x1x6144_S1x1x1024_0_0_3072 md)

/-- The resources that a program's run is stated over. -/
abbrev World (F : FTy → Type) [FloatOps F] : Type _ := MT nD τ sig Unit (Elt F) ℕ (UR sig nD τ) ℕ

section
variable (c : Dev nD) (i : grid0.Coords) (a1 : Memref sig .tc .vmem S256x2048 .bf16) (h1 : a1.IsWhole) (a2 : Memref sig .tc .vmem S256x2048 .bf16) (h2 : a2.IsWhole)
  (a3 : Memref sig .tc .vmem S2048x1024 .bf16) (h3 : a3.IsWhole) (a4 : Memref sig .tc .vmem S256x1024 .f32) (h4 : a4.IsWhole)
  (a5 : Memref sig .tc .vmem S1x1x6144 .f32) (h5 : a5.IsWhole) (a6 : Memref sig .tc .vmem S1x1024 .f32) (h6 : a6.IsWhole)
  (a7 : Memref sig .tc .vmem S256x1024 .f32) (h7 : a7.IsWhole) (a8 : Memref sig .tc .vmem S2048x128 .f32) (h8 : a8.IsWhole)
  (ol oc : Vec F S256x2048 .bf16) (w : Vec F S2048x1024 .bf16) (x : Vec F S256x1024 .f32) (md : Vec F S1x1x6144 .f32) (g : Vec F S1x1024 .f32)

/-- The blocks that a step reads, as the core holds them. -/
def holds : sProp (World F) :=
  iprop(owns (c : Thread nD τ) a1 fullShare ol ∗ owns (c : Thread nD τ) a2 fullShare oc ∗ owns (c : Thread nD τ) a3 fullShare w ∗ owns (c : Thread nD τ) a4 fullShare x ∗ owns (c : Thread nD τ) a5 fullShare md ∗ owns (c : Thread nD τ) a6 fullShare g)

set_option maxHeartbeats 4000000 in
/-- A step leaves the blocks that it reads. Its outputs hold the stream and the split norm of the block `o` that its branch takes. -/
theorem step (o : Vec F S256x2048 .bf16) (ho : (isLat i ∧ ¬ isCtx i ∧ o = ol) ∨ (¬ isLat i ∧ isCtx i ∧ o = oc)) (E : Set ℕ) (K : PUnit → sProp (World F)) :
    iprop(holds c a1 a2 a3 a4 a5 a6 ol oc w x md g ∗ (∃ d, owns (c : Thread nD τ) a7 fullShare d) ∗ (∃ d, owns (c : Thread nD τ) a8 fullShare d)
        ∗ (iprop(holds c a1 a2 a3 a4 a5 a6 ol oc w x md g ∗ owns (c : Thread nD τ) a7 fullShare (stream o w x md)
            ∗ owns (c : Thread nD τ) a8 fullShare (split (normed o w x md g))) -∗ K ⟨⟩))
      ⊢ wp frame (wpE (defs₀ (F := F)) Variants.none c none) E (cc0_proj_out i a1 h1 a2 h2 a3 h3 a4 h4 a5 h5 a6 h6 a7 h7 a8 h8) K := by
  simp only [cc0_proj_out_eq_skeleton]; unfold cc0_proj_out_skel
  simp only [k0_part1_eq_skeleton, k0_part2_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, Hk⟩
  rcases ho with ⟨hl, hc, rfl⟩ | ⟨hl, hc, rfl⟩
  all_goals
    sl_exec (disch := first | sl_exact hl | sl_exact hc)
    sl_step
    iapply Hk
    isplitl [H0 H1 H2 H3 H4 H5]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      iexists _; isplitr; · ipureintro; exact hf5
      iexact H5
    subst hf0 hf1 hf2 hf3 hf4 hf5
    isplitl [H6]
    · iexists _; isplitr; swap; · iexact H6
      ipureintro
      refine (write_whole a7.view _ _ _).trans ?_
      unfold stream
      rw [← load_whole a3.view _ inb_S2048x1024_S2048x1024_0_0, ← load_whole a4.view _ inb_S256x1024_S256x1024_0_0]
      first
        | rw [← load_whole a1.view _ inb_S256x2048_S256x2048_0_0]; rfl
        | rw [← load_whole a2.view _ inb_S256x2048_S256x2048_0_0]; rfl
    · iexists _; isplitr; swap; · iexact H7
      ipureintro
      refine (read_slices a8.view _ _).trans (congrArg split ?_)
      unfold normed
      rw [← load_whole a3.view _ inb_S2048x1024_S2048x1024_0_0, ← load_whole a4.view _ inb_S256x1024_S256x1024_0_0,
        ← load_whole a6.view _ inb_S1x1024_S1x1024_0_0]
      first
        | rw [← load_whole a1.view _ inb_S256x2048_S256x2048_0_0]; rfl
        | rw [← load_whole a2.view _ inb_S256x2048_S256x2048_0_0]; rfl

end

variable (m : (ℓ : Loc nD τ sig) → Buf (Elt F) ℓ) (ρ : Dev nD → PrngReg)

/-- The attention's block that step `t` projects: the latent tokens' for the first 128 steps, then the context's. -/
def att (c : Dev nD) (t : Fin cfg0.N) : Vec F S256x2048 .bf16 :=
  if t.val < 128 then iblk m c 0 t else iblk m c 1 t

/-- What step `t` leaves in the stream's block. -/
def outX (c : Dev nD) (t : Fin cfg0.N) : Vec F S256x1024 .f32 := stream (att m c t) (iblk m c 2 t) (iblk m c 3 t) (iblk m c 4 t)

/-- What step `t` leaves in the tokens' block. -/
def outT (c : Dev nD) (t : Fin cfg0.N) : Vec F S2048x128 .f32 :=
  split (normed (att m c t) (iblk m c 2 t) (iblk m c 3 t) (iblk m c 4 t) (iblk m c 5 t))

/-- The launch's data: the arrays as it finds them, each input's block left in place, the two outputs' blocks as the steps leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outX m c t
    | ⟨7, _⟩ => outT m c t
  Φ _ := Pipeline.ΦA spec0 c
  q w := Pipeline.shareOf spec0 w
  owed _ := 0

/-- The data's arrays are those that the launch finds. -/
theorem A_eq (c : Dev nD) (w : Fin cfg0.W) : (dats m 0 c).A w = V m c (Pipeline.arrRef spec0 w) := by dsimp only [dats]

/-- The first output's block after step `t`. -/
theorem after0_6 (c : Dev nD) (t : Fin cfg0.N) : (dats m 0 c).after 6 t = outX m c t := by dsimp only [dats]

/-- The second output's block after step `t`. -/
theorem after0_7 (c : Dev nD) (t : Fin cfg0.N) : (dats m 0 c).after 7 t = outT m c t := by dsimp only [dats]

/-- The six inputs' blocks are in place before each step. -/
theorem before_in (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t) :=
  ⟨before0_0_of m _ (A_eq m c 0) (fun t => by dsimp only [dats]) t, before0_1_of m _ (A_eq m c 1) (fun t => by dsimp only [dats]) t,
    before0_2_of m _ (A_eq m c 2) (fun t => by dsimp only [dats]) t, before0_3_of m _ (A_eq m c 3) (fun t => by dsimp only [dats]) t,
    before0_4_of m _ (A_eq m c 4) (fun t => by dsimp only [dats]) t, before0_5_of m _ (A_eq m c 5) (fun t => by dsimp only [dats]) t⟩

/-- Which of the two branches step `t` takes, and the block that it projects there. -/
theorem branch (c : Dev nD) (t : Fin cfg0.N) :
    (isLat (grid0.coords t) ∧ ¬ isCtx (grid0.coords t) ∧ att m c t = iblk m c 0 t)
    ∨ (¬ isLat (grid0.coords t) ∧ isCtx (grid0.coords t) ∧ att m c t = iblk m c 1 t) := by
  rw [isLat_iff, isCtx_iff]
  unfold att
  by_cases h : t.val < 128
  · exact .inl ⟨h, by omega, if_pos h⟩
  · exact .inr ⟨h, by omega, if_neg h⟩

/-- A step of the launch: from the blocks in place and whatever the outputs' buffers held, to the blocks still in place and the outputs'. -/
theorem body_step (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d))
        ∗ (∃ d, owns (c : Thread nD τ) (win0_7.stage (cfg0.slots t 7)) fullShare ((dats m 0 c).before 7 t d)))
      ⊢ wp frame (wpE (defs₀ (F := F)) Variants.none c none) Set.univ (bodyAt0 t) fun _ =>
        iprop((dats m 0 c).Φ t.succ ∗ (dats m 0 c).owesAt () t.succ
          ∗ owns (c : Thread nD τ) (win0_0.stage (cfg0.slots t 0)) fullShare ((dats m 0 c).after 0 t)
          ∗ owns (c : Thread nD τ) (win0_1.stage (cfg0.slots t 1)) fullShare ((dats m 0 c).after 1 t)
          ∗ owns (c : Thread nD τ) (win0_2.stage (cfg0.slots t 2)) fullShare ((dats m 0 c).after 2 t)
          ∗ owns (c : Thread nD τ) (win0_3.stage (cfg0.slots t 3)) fullShare ((dats m 0 c).after 3 t)
          ∗ owns (c : Thread nD τ) (win0_4.stage (cfg0.slots t 4)) fullShare ((dats m 0 c).after 4 t)
          ∗ owns (c : Thread nD τ) (win0_5.stage (cfg0.slots t 5)) fullShare ((dats m 0 c).after 5 t)
          ∗ owns (c : Thread nD τ) (win0_6.stage (cfg0.slots t 6)) fullShare ((dats m 0 c).after 6 t)
          ∗ owns (c : Thread nD τ) (win0_7.stage (cfg0.slots t 7)) fullShare ((dats m 0 c).after 7 t)) := by
  obtain ⟨b0, b1, b2, b3, b4, b5⟩ := before_in m c t
  simp only [b0, b1, b2, b3, b4, b5]
  rw [show (dats m 0 c).Φ t.succ = (dats m 0 c).Φ t.castSucc from rfl,
    show (dats m 0 c).owesAt () t.succ = (dats m 0 c).owesAt () t.castSucc from rfl]
  dsimp only [dats]
  unfold outX outT bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step c (grid0.coords t) _ _ _ _ _ _ _ _ _ _ _ _ _ _ _ _ (iblk m c 0 t) (iblk m c 1 t) (iblk m c 2 t) (iblk m c 3 t) (iblk m c 4 t) (iblk m c 5 t)
    (att m c t) (branch m c t) Set.univ _)
  unfold holds
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  iintro ⟨⟨H0, H1, H2, H3, H4, H5⟩, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The steps meet what the launch asks of them. -/
theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  refine triple_restated (body_step m c t) rfl .rfl fun _ => ?_
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · refine left_of_flush (cfg0.idle 6 (cfg0.grid.coords t)) (flush0_6 t)
  · refine left_of_flush (cfg0.idle 7 (cfg0.grid.coords t)) (flush0_7 t)

set_option backward.isDefEq.respectTransparency.types false in
/-- The launch ends, with every array at what the data say and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- The launch runs without error, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

/-- The launch's two result arrays, and its arguments unchanged. -/
theorem results : θ_run defs (onTc (τ := τ) (main (F := F))) ⟨m, fun _ => 0, ρ⟩ fun r => ∀ c : Dev nD,
      r.2.mem ((c.tc : Thread nD τ).loc main_v6_0) = (dats m 0 c).arrAt 6 cfg0.N
      ∧ r.2.mem ((c.tc : Thread nD τ).loc main_v6_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1.1 c).1 6, (h.1.1 c).1 7, h.2 c⟩) (θ_run_and (run_main m ρ) (unchanged m ρ))

end Cert.SwaOutIdeal.Gen

end
-- ==== Proof.SwoBlocks.lean ====
/- Where the blocks of the sliding-window layer's output projection lie in its arrays, and what its two output arrays hold after the launch. -/
module

public import proofs.«01_k».proof.Proof.SwoRun
public import proofs.«01_k».proof.Proof.OutBlocks
public import proofs.«01_k».proof.Proof.SwaSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SwaOutIdeal.Gen

open Idealize.ShloMosaic Idealize.ShloMosaic.TcCoe Idealize.SL.Sem
open Idealize.ShloMosaic.Pipeline (Dat Cfg Window)
open Cert.InSpec Cert.OutSpec Cert.SwaSpec
open Cert.ProjOutIdeal.Gen (lanes_at)

/-- The 1024 lanes of a row's sixteen heads, without the 64 more of each. -/
def used (o : ℕ → EReal) (k : ℕ) : EReal := o (k / 64 * 128 + k % 64)

/-- A product over padded heads with weights padded by zeros is the product over the heads' lanes. -/
theorem padded_sum (o w : ℕ → EReal) : ∑ d : Fin 2048, o d * zpad w d = ∑ k : Fin 1024, used o k * w k := by
  rw [← Fin.sum_mul_add_fin 16 128 (fun d : Fin 2048 => o d * zpad w d), ← Fin.sum_mul_add_fin 16 64 (fun k : Fin 1024 => used o k * w k)]
  refine Finset.sum_congr rfl fun s _ => ?_
  refine (Fin.sum_univ_add (a := 64) (b := 64) fun k : Fin (64 + 64) => o ((s : ℕ) * 128 + k) * zpad w ((s : ℕ) * 128 + k)).trans ?_
  have z : ∀ k : Fin 64, zpad w ((s : ℕ) * 128 + (64 + (k : ℕ))) = 0 := fun k => if_neg (by omega)
  simp only [Fin.val_castAdd, Fin.val_natAdd, z, mul_zero, Finset.sum_const_zero, add_zero]
  refine Finset.sum_congr rfl fun k _ => ?_
  have e1 : zpad w ((s : ℕ) * 128 + (k : ℕ)) = w ((s : ℕ) * 64 + k) := (if_pos (by omega)).trans (congrArg w (by omega))
  have e2 : used o ((s : ℕ) * 64 + k) = o ((s : ℕ) * 128 + k) := congrArg o (by omega)
  rw [e1, e2]

section
variable {o : Vec Ideal S256x2048 .bf16} {w : Vec Ideal S2048x1024 .bf16} {x : Vec Ideal S256x1024 .f32} {md : Vec Ideal S1x1x6144 .f32}
  {g : Vec Ideal S1x1024 .f32} {O X M W : ℕ → ℕ → EReal} {G : ℕ → EReal} (R : ℕ) (r : Fin 256)
  (ho : ∀ d : Fin 2048, o (ix2 r d) = O R d) (hw : ∀ (d : Fin 2048) (e : Fin 1024), w (ix2 d e) = zpad (fun k => W k e) d)
  (hx : ∀ d : Fin 1024, x (ix2 r d) = X R d) (hm : ∀ d : Fin 6144, md (ix3 0 0 d) = M (mrow R) d)
  (hg : ∀ d : Fin 1024, g (ix2 0 d) = G d)

include ho hw hx hm in
/-- The stream's block at an index. -/
theorem stream_at (e : Fin 1024) : stream o w x md (ix2 r e) = xo (fun r => used (O r)) X M W R e := by
  pointwise [stream, k0_pay17]
  rw [lanes_at _ _ _ _ (by omega)]
  simp only [ho, hw, hx, hm]
  rw [padded_sum]
  rfl

include ho hw hx hm hg in
/-- The normalised rows at an index. -/
theorem normed_at (e : Fin 1024) : normed o w x md g (ix2 r e) = Cert.OutSpec.ho (fun r => used (O r)) X M W G R e := by
  have hs := stream_at R r ho hw hx hm
  unfold stream at hs
  pointwise [normed, k0_pay18]
  simp only [hs, hg]
  rw [lanes_at _ _ _ _ (by omega), lanes_at _ _ _ _ (by omega)]
  simp only [hm]
  rfl
end

variable (m : (ℓ : Loc nD τ sig) → Buf (Elt Ideal) ℓ)

/-- The block indices of the windows at grid point `t`. -/
theorem idx : ∀ t : Fin grid0.N,
    (win0_0.index t 0 = (if t.val < 128 then t.val else 127) ∧ win0_0.index t 1 = 0)
    ∧ (win0_1.index t 0 = (if t.val < 128 then 128 else t.val) ∧ win0_1.index t 1 = 0)
    ∧ (win0_2.index t 0 = 0 ∧ win0_2.index t 1 = 0)
    ∧ (win0_3.index t 0 = t.val ∧ win0_3.index t 1 = 0)
    ∧ (win0_4.index t 0 = (if t.val < 128 then t.val / 16 else 8) ∧ win0_4.index t 1 = 0 ∧ win0_4.index t 2 = 0)
    ∧ (win0_5.index t 0 = 0 ∧ win0_5.index t 1 = 0)
    ∧ (win0_6.index t 0 = t.val ∧ win0_6.index t 1 = 0)
    ∧ (win0_7.index t 0 = t.val ∧ win0_7.index t 1 = 0) := by
  decide +kernel

/-- The grid has 136 points. -/
theorem lt136 (t : Fin cfg0.N) : (t : ℕ) < 136 := lt_of_lt_of_eq t.isLt (by decide +kernel)

/-- The first window's block at an index, for a latent token's step. -/
theorem b0 (c : Dev nD) (t : Fin cfg0.N) (h : (t : ℕ) < 128) (i : Fin 256) (d : Fin 2048) : iblk m c 0 t (ix2 i d)
    = m (c, Proc.tc.devRef main_arg0) (ix2 ⟨t * 256 + i, by omega⟩ d) := by
  rw [← V_main_arg0 m c]
  blk_simp [iblk, idx t]
  congr 1
  blk_ext [idx t, h]
  rw [if_pos trivial]

/-- The second window's block at an index, for a context token's step. -/
theorem b1 (c : Dev nD) (t : Fin cfg0.N) (h : ¬ (t : ℕ) < 128) (i : Fin 256) (d : Fin 2048) : iblk m c 1 t (ix2 i d)
    = m (c, Proc.tc.devRef main_arg0) (ix2 ⟨t * 256 + i, by have := lt136 t; omega⟩ d) := by
  rw [← V_main_arg0 m c]
  blk_simp [iblk, idx t]
  congr 1
  blk_ext [idx t, h]
  rw [if_neg not_false]

/-- The weights with 64 rows of zeros after each head's 64, rounded. -/
def padW (w : FVec Ideal S1024x1024 .f32) : FVec Ideal S2048x1024 .bf16 :=
  truncf .bf16 (shapeCast S2048x1024 (concatenate S16x128x1024 1 [⟨S16x64x1024, shapeCast S16x64x1024 w shapeCasts_S1024x1024_S16x64x1024⟩,
    ⟨S16x64x1024, broadcastInDim S16x64x1024 ![] bcast_S_S16x64x1024 (constant S_ .f32 0x00000000#32)⟩]
    concatenates_S16x64x1024_S16x64x1024_S16x128x1024_d1) shapeCasts_S16x128x1024_S2048x1024) bitsLt_bf16_f32

/-- The padded weights at an index. -/
theorem padW_at (w) {W : ℕ → ℕ → EReal} (hW : ∀ d x : Fin 1024, w (ix2 d x) = W d x) (d : Fin 2048) (x : Fin 1024) :
    padW w (ix2 d x) = zpad (fun k => W k x) d := by
  pointwise [padW]
  simp only [hW]
  unfold zpad
  split_ifs <;> rfl

/-- The weights' block is the padded weights. -/
theorem b2 (c : Dev nD) (t : Fin cfg0.N) {W : ℕ → ℕ → EReal} (hW : ∀ d x : Fin 1024, m (c, Proc.tc.devRef main_arg1) (ix2 d x) = W d x)
    (d : Fin 2048) (x : Fin 1024) : iblk m c 2 t (ix2 d x) = zpad (fun k => W k x) d := by
  have e : V m c main_v4 = padW (m (c, Proc.tc.devRef main_arg1)) := by
    unfold V
    rfl
  have e' : iblk m c 2 t (ix2 d x) = V m c main_v4 (ix2 d x) := by
    blk_simp [iblk, idx t]
    congr 1
    blk_ext [idx t]
  rw [e', e]
  exact padW_at _ hW d x

/-- The stream's block at an index. -/
theorem b3 (c : Dev nD) (t : Fin cfg0.N) (i : Fin 256) (d : Fin 1024) : iblk m c 3 t (ix2 i d)
    = m (c, Proc.tc.devRef main_arg2) (ix2 ⟨t * 256 + i, by have := lt136 t; omega⟩ d) := by
  rw [← V_main_arg2 m c]
  blk_simp [iblk, idx t]
  congr 1
  blk_ext [idx t]

/-- The modulations' block at an index. -/
theorem b4 (c : Dev nD) (t : Fin cfg0.N) (d : Fin 6144) : iblk m c 4 t (ix3 0 0 d)
    = m (c, Proc.tc.devRef main_arg3) (ix3 ⟨if (t : ℕ) < 128 then t / 16 else 8, by split_ifs <;> omega⟩ 0 d) := by
  rw [← V_main_arg3 m c]
  blk_simp [iblk, idx t]
  congr 1
  blk_ext [idx t]

/-- The norm weights' block is the array, written as a row. -/
theorem b5 (c : Dev nD) (t : Fin cfg0.N) (d : Fin 1024) : iblk m c 5 t (ix2 0 d) = m (c, Proc.tc.devRef main_arg4) (ix1 d) := by
  have e : V m c main_v5 = shapeCast S1x1024 (m (c, Proc.tc.devRef main_arg4)) shapeCasts_S1024_S1x1024 := by
    unfold V
    rfl
  have e' : iblk m c 5 t (ix2 0 d) = V m c main_v5 (ix2 0 d) := by
    blk_simp [iblk, idx t]
    congr 1
    blk_ext [idx t]
  rw [e', e]
  pointwise

section
variable {O X M W : ℕ → ℕ → EReal} {G : ℕ → EReal} (c : Dev nD)
  (hO : ∀ (r : Fin 34816) (d : Fin 2048), m (c, Proc.tc.devRef main_arg0) (ix2 r d) = O r d)
  (hW : ∀ d x : Fin 1024, m (c, Proc.tc.devRef main_arg1) (ix2 d x) = W d x)
  (hX : ∀ (r : Fin 34816) (d : Fin 1024), m (c, Proc.tc.devRef main_arg2) (ix2 r d) = X r d)
  (hM : ∀ (i : Fin 16) (d : Fin 6144), m (c, Proc.tc.devRef main_arg3) (ix3 i 0 d) = M i d)
  (hG : ∀ d : Fin 1024, m (c, Proc.tc.devRef main_arg4) (ix1 d) = G d)

include hO in
/-- The attention's row that a step projects is the token's, whichever window it comes through. -/
theorem att_at (t : Fin cfg0.N) (i : Fin 256) (d : Fin 2048) : att m c t (ix2 i d) = O (t * 256 + i) d := by
  unfold att
  by_cases h : (t : ℕ) < 128
  · rw [if_pos h, b0 m c t h, hO]
  · rw [if_neg h, b1 m c t h, hO]

include hM in
/-- The modulations' block at an index, by the token's row. -/
theorem mod_at (t : Fin cfg0.N) (i : Fin 256) (d : Fin 6144) : iblk m c 4 t (ix3 0 0 d) = M (mrow (t * 256 + i)) d := by
  have ht := lt136 t
  rw [b4, hM]
  congr 1
  unfold mrow
  dsimp only
  split_ifs <;> omega

include hO hW hX hM in
/-- The stream's block holds the specification's values at the block's place in the array. -/
theorem outX_at (t : Fin cfg0.N) (r : Fin 256) (e : Fin 1024) : outX m c t (ix2 r e) = xo (fun r => used (O r)) X M W (t * 256 + r) e :=
  stream_at _ r (att_at m c hO t r) (b2 m c t hW) (fun d => by rw [b3, hX]) (mod_at m c hM t r) e

include hO hW hX hM hG in
/-- So does the tokens' block, eight of its rows to a token. -/
theorem outT_at (t : Fin cfg0.N) (r : Fin 2048) (e : Fin 128) :
    outT m c t (ix2 r e) = ho (fun r => used (O r)) X M W G (t * 256 + (r : ℕ) / 8) ((r : ℕ) % 8 * 128 + e) :=
  normed_at _ ⟨(r : ℕ) / 8, by omega⟩ (att_at m c hO t _) (b2 m c t hW) (fun d => by rw [b3, hX]) (mod_at m c hM t _)
    (fun d => by rw [b5, hG]) ⟨(r : ℕ) % 8 * 128 + e, by omega⟩

/-- The two output arrays of the launch. -/
def resultX (O X M W : ℕ → ℕ → EReal) : Vec Ideal S34816x1024 .f32 := fun i => xo (fun r => used (O r)) X M W (i 0) (i 1)

@[inherit_doc resultX]
def resultT (O X M W : ℕ → ℕ → EReal) (G : ℕ → EReal) : Vec Ideal S278528x128 .f32 := fun i =>
  ho (fun r => used (O r)) X M W G ((i 0 : ℕ) / 8) ((i 0 : ℕ) % 8 * 128 + (i 1 : ℕ))

include hO hW hX hM in
/-- After the launch the first output array holds the specification's stream: every index lies in the block of one step. -/
theorem finalX : (dats m 0 c).arrAt 6 cfg0.N = resultX O X M W := by
  refine (dats m 0 c).arrAt_eq_of_covers 6 _ (by decide +kernel) fun t hf y => ?_
  blk_simp
  rw [after0_6]
  rw [eq_ix2 y]
  refine (outX_at m c hO hW hX hM t (y 0) (y 1)).trans ?_
  have ht := lt136 t
  have e : (win0_6.blk t).view.emb (ix2 (y 0) (y 1)) = ix2 ⟨t * 256 + (y 0 : ℕ), by idx_bounds; omega⟩
      ⟨(y 1 : ℕ), by idx_bounds; omega⟩ := by
    blk_ext [idx t]
  rw [e]
  rfl

include hO hW hX hM hG in
/-- The second holds the specification's tokens likewise. -/
theorem finalT : (dats m 0 c).arrAt 7 cfg0.N = resultT O X M W G := by
  refine (dats m 0 c).arrAt_eq_of_covers 7 _ (by decide +kernel) fun t hf y => ?_
  blk_simp
  rw [after0_7]
  rw [eq_ix2 y]
  refine (outT_at m c hO hW hX hM hG t (y 0) (y 1)).trans ?_
  have ht := lt136 t
  have e : (win0_7.blk t).view.emb (ix2 (y 0) (y 1)) = ix2 ⟨t * 2048 + (y 0 : ℕ), by idx_bounds; omega⟩
      ⟨(y 1 : ℕ), by idx_bounds; omega⟩ := by
    blk_ext [idx t]
  have e1 : ((t : ℕ) * 2048 + (y 0 : ℕ)) / 8 = t * 256 + (y 0 : ℕ) / 8 := by omega
  have e2 : ((t : ℕ) * 2048 + (y 0 : ℕ)) % 8 = (y 0 : ℕ) % 8 := by omega
  rw [e]
  show _ = ho (fun r => used (O r)) X M W G (((t : ℕ) * 2048 + (y 0 : ℕ)) / 8) (((t : ℕ) * 2048 + (y 0 : ℕ)) % 8 * 128 + (y 1 : ℕ))
  rw [e1, e2]
end

end Cert.SwaOutIdeal.Gen

end
-- ==== Proof.SwoRef.lean ====
/- What the reference of the sliding-window layer's output projection computes: the Fourier layer's stages, of the lanes that each
   head has without its padding. -/
module

public import proofs.«01_k».proof.Proof.Gen.SwaOutRefIdeal.Run
public import proofs.«01_k».proof.Proof.FouRef
public import proofs.«01_k».proof.Proof.SwoBlocks

@[expose] public section

set_option maxRecDepth 16384

noncomputable section

namespace Cert.SwoRef

open Idealize.ShloMosaic Idealize.ShloMosaic.TcCoe Idealize.SL.Sem
open Cert.SwaOutRefIdeal Cert.SwaOutRefIdeal.Gen Cert.InSpec Cert.OutSpec
open Cert.SwaOutIdeal.Gen (used)

/-- The heads' lanes without their padding. -/
def heads (a0 : FVec Ideal S34816x2048 .bf16) : FVec Ideal S34816x1024 .bf16 :=
  shapeCast _ (extractStridedSlice S34816x16x64 ![0, 0, 0] (shapeCast _ a0 shapeCasts_S34816x2048_S34816x16x128) slices_S34816x16x128_S34816x16x64_0_0_0) shapeCasts_S34816x16x64_S34816x1024

/-- The heads' lanes at an index. -/
theorem heads_at {a0 : FVec Ideal S34816x2048 .bf16} {O : ℕ → ℕ → EReal} (hO : ∀ (r : Fin 34816) (d : Fin 2048), a0 (ix2 r d) = O r d)
    (r : Fin 34816) (d : Fin 1024) : heads a0 (ix2 r d) = (fun r => used (O r)) (r : ℕ) (d : ℕ) := by
  pointwise [heads]
  rw [hO]
  rfl

/-- What the reference's run leaves, by the stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = Cert.FouRef.stream (heads (m ((c.tc : Thread nD τ).loc main_arg0))) (m ((c.tc : Thread nD τ).loc main_arg1))
        (m ((c.tc : Thread nD τ).loc main_arg2)) (m ((c.tc : Thread nD τ).loc main_arg3))
      ∧ r.2.mem ((c.tc : Thread nD τ).loc main_v77) = Cert.FouRef.tokens (heads (m ((c.tc : Thread nD τ).loc main_arg0))) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩)
    (Cert.SwaOutRefIdeal.Value.run (F := Ideal) m ρ)
  · rfl
  · rfl

end Cert.SwoRef

end
-- ==== Proof.SwoClaims.lean ====
/- The claims about the Swarier layer's output projection: the frames, the idealization, and the equation of kernel and reference. -/
module

public import proofs.«01_k».proof.Defs
public import proofs.«01_k».proof.Proof.Gen.SwaOut.Frame
public import proofs.«01_k».proof.Proof.SwoBlocks
public import proofs.«01_k».proof.Proof.SwoRef
public import proofs.«01_k».proof.Proof.InClaims

@[expose] public section

set_option maxRecDepth 16384

noncomputable section

namespace Cert.SwoClaims

open Idealize.ShloMosaic Idealize.ShloMosaic.TcCoe Idealize.SL.Sem Cert.InSpec Cert.OutSpec Cert.SwaOutIdeal
open Cert.InClaims (exists1 exists2 exists3)

/-- The reference's results of the kernel's arguments are the kernel's two output arrays. -/
theorem equation (m : (ℓ : Loc nD τ sig) → Buf (Elt Ideal) ℓ) (c : Dev nD) :
    Cert.FouRef.stream (Cert.SwoRef.heads (m ((c.tc : Thread nD τ).loc main_arg0))) (m ((c.tc : Thread nD τ).loc main_arg1)) (m ((c.tc : Thread nD τ).loc main_arg2))
        (m ((c.tc : Thread nD τ).loc main_arg3)) = (Gen.dats m 0 c).arrAt 6 cfg0.N
    ∧ Cert.FouRef.tokens (Cert.SwoRef.heads (m ((c.tc : Thread nD τ).loc main_arg0))) (m ((c.tc : Thread nD τ).loc main_arg1)) (m ((c.tc : Thread nD τ).loc main_arg2))
        (m ((c.tc : Thread nD τ).loc main_arg3)) (m ((c.tc : Thread nD τ).loc main_arg4)) = (Gen.dats m 0 c).arrAt 7 cfg0.N := by
  obtain ⟨O, hO⟩ := exists2 rfl (m (c, Proc.tc.devRef main_arg0) : FVec Ideal S34816x2048 .bf16)
  obtain ⟨W, hW⟩ := exists2 rfl (m (c, Proc.tc.devRef main_arg1) : FVec Ideal S1024x1024 .f32)
  obtain ⟨X, hX⟩ := exists2 rfl (m (c, Proc.tc.devRef main_arg2) : FVec Ideal S34816x1024 .f32)
  obtain ⟨M, hM⟩ := exists3 rfl (m (c, Proc.tc.devRef main_arg3) : FVec Ideal S16x1x6144 .f32)
  obtain ⟨G, hG⟩ := exists1 rfl (m (c, Proc.tc.devRef main_arg4) : FVec Ideal S1024 .f32)
  rw [Gen.finalX m c hO hW hX hM, Gen.finalT m c hO hW hX hM hG]
  refine ⟨?_, ?_⟩
  · funext i
    rw [eq_ix2 i]
    exact Cert.FouRef.stream_at (Cert.SwoRef.heads_at hO) hW hX hM (i 0) (i 1)
  · funext i
    rw [eq_ix2 i]
    exact Cert.FouRef.tokens_at (Cert.SwoRef.heads_at hO) hW hX hM hG (i 0) (i 1)

/-- The body with rounding arithmetic is the one with exact arithmetic: no constant is named. -/
theorem body_eq {F : FTy → Type} [FloatOps F] : @Cert.SwaOut.defs₀ F _ _ = @defs₀ F _ _ := by
  funext p l a
  cases p with
  | tc =>
    match l, a with
    | 0, (t, s) => with_unfolding_all rfl
  | scScalar _ => with_unfolding_all rfl
  | scVector _ _ => with_unfolding_all rfl

/-- The call runs without error and leaves its arguments as they were: so does the same program at any arithmetic. -/
theorem frame_p : Cert.quiescent_SwaOut := by
  intro m ρ _
  have h := Gen.frame (F := Bits) m ρ
  have e : (θ_run (Cert.SwaOut.defs (F := Bits)) (onTc (τ := Cert.SwaOut.τ) (Cert.SwaOut.main (F := Bits))) ⟨m, fun _ => 0, ρ⟩)
     = (θ_run (defs (F := Bits)) (onTc (τ := τ) (main (F := Bits))) ⟨m, fun _ => 0, ρ⟩) := by
    have d : @Cert.SwaOut.defs Bits _ _ = @defs Bits _ _ := by
      with_unfolding_all exact congrArg (Pipeline.defs (pcfgs (F := Bits))) body_eq
    with_unfolding_all exact congrArg (fun D => θ_run D (onTc (τ := τ) (main (F := Bits))) ⟨m, fun _ => 0, ρ⟩) d
  rw [e]
  with_unfolding_all exact h

/-- So does the call with exact arithmetic. -/
theorem frame_pi : Cert.quiescent_SwaOutIdeal := fun m ρ _ => Gen.frame m ρ

/-- So does its reference. -/
theorem frame_ri : Cert.quiescent_SwaOutRefIdeal := fun m ρ _ =>
  (θ_run Cert.SwaOutRefIdeal.defs _ _).mono (fun r h => ⟨fun c => (h c).2.2, Idealize.ShloMosaic.sem_eq_zero_of_no_sems (by decide) r.2⟩)
    (Cert.SwoRef.run m ρ)

/-- No constant of the call is named. -/
theorem preserves : Cert.preserves_SwaOut_SwaOutIdeal := by trivial

/-- Kernel and reference compute the same two arrays, whatever the arguments. -/
theorem algebraic : Cert.algebraic_SwaOutIdeal_SwaOutRefIdeal := by
  intro m ρ m' ρ' _ hagree
  refine ⟨_, _, Gen.results (F := Ideal) m ρ, (θ_run Cert.SwaOutRefIdeal.defs _ _).mono (fun _ h c => ?_) (Cert.SwoRef.run m' ρ')⟩
  obtain ⟨e0, e1, e2, e3, e4⟩ := hagree c
  have q := equation m c
  rw [← e0, ← e1, ← e2, ← e3, ← e4] at q
  exact ⟨(h c).1.trans q.1, (h c).2.1.trans q.2, (h c).2.2⟩

end Cert.SwoClaims

end
-- ==== Proof.SwtSpec.lean ====
/- The sliding-window attention on real numbers: an average of values with a sink in the weights' sum, where scores outside the
   window are minus infinity, and the laws that both programs use of it. -/
module

public import proofs.«01_k».proof.Proof.Reals
public import proofs.«01_k».proof.Proof.Spec

@[expose] public section

noncomputable section

namespace Cert.Swt

open Idealize.ShloMosaic Cert.Reals

/-- A score that counts, or minus infinity. -/
def ms (b : Bool) (s : ℝ) : EReal := if b then (s : EReal) else ⊥

/-- The weight of a score: its exponential, or nothing. -/
def we (b : Bool) (s : ℝ) : ℝ := if b then Real.exp s else 0

theorem we_nonneg (b : Bool) (s : ℝ) : 0 ≤ we b s := by
  unfold we; split
  · exact (Real.exp_pos _).le
  · exact le_rfl

theorem ms_ne_top (b : Bool) (s : ℝ) : ms b s ≠ ⊤ := by
  unfold ms; split
  · exact EReal.coe_ne_top _
  · exact bot_ne_top

/-- A weight in base 2 of a score scaled by `1 / log 2` and shifted. -/
theorem exp2_ms (b : Bool) (s M : ℝ) :
    FloatOps.exp2 (F := Ideal) (φ := .f32) (ms b ((Real.log 2)⁻¹ * s) - (M : EReal)) = (((2 : ℝ) ^ (-M) * we b s : ℝ) : EReal) := by
  have h2 : Real.log 2 ≠ 0 := (Real.log_pos one_lt_two).ne'
  cases b
  · simp only [ms, we, Bool.false_eq_true, if_false, mul_zero, EReal.bot_sub]
    rfl
  · simp only [ms, we, if_true]
    rw [← EReal.coe_sub]
    show (((2 : ℝ) ^ ((Real.log 2)⁻¹ * s - M) : ℝ) : EReal) = _
    congr 1
    rw [sub_eq_add_neg, Real.rpow_add two_pos, mul_comm]
    congr 1
    rw [Real.rpow_def_of_pos two_pos, ← mul_assoc, mul_inv_cancel₀ h2, one_mul]

/-- A weight of a shifted score. -/
theorem exp_ms (b : Bool) (s M : ℝ) :
    Ideal.exp (ms b s - (M : EReal)) = ((Real.exp (-M) * we b s : ℝ) : EReal) := by
  cases b
  · simp only [ms, we, Bool.false_eq_true, if_false, mul_zero, EReal.bot_sub]
    rfl
  · simp only [ms, we, if_true]
    rw [← EReal.coe_sub, ← Real.exp_add, neg_add_eq_sub]
    rfl

/-- A maximum of scores below plus infinity is below it. -/
theorem fold_ne_top {ι : Type} (s : Finset ι) (f : ι → EReal) (hf : ∀ i, f i ≠ ⊤) : s.fold max ⊥ f ≠ ⊤ := by
  classical
  induction s using Finset.induction_on with
  | empty => simp
  | insert a s ha ih =>
    rw [Finset.fold_insert ha]
    rcases max_choice (f a) (s.fold max ⊥ f) with h | h <;> rw [h]
    · exact hf a
    · exact ih

/-- The larger of a number below plus infinity and a real one is real. -/
theorem real_max {x : EReal} (hx : x ≠ ⊤) (z : ℝ) : IsReal (max x (z : EReal)) := by
  induction x with
  | bot => exact ⟨z, max_eq_right bot_le⟩
  | top => exact absurd rfl hx
  | coe r => exact IsReal.max ⟨r, rfl⟩ ⟨z, rfl⟩

theorem ne_top_max {x y : EReal} (hx : x ≠ ⊤) (hy : y ≠ ⊤) : max x y ≠ ⊤ := by
  rcases max_choice x y with h | h <;> rw [h] <;> assumption

/-- The maximum of scores below plus infinity, one of which is real, is real. -/
theorem fold_real {ι : Type} (s : Finset ι) (f : ι → EReal) (hf : ∀ i, f i ≠ ⊤) {i : ι} (hi : i ∈ s) {z : ℝ} (hz : f i = z) :
    IsReal (s.fold max ⊥ f) := by
  classical
  rw [← Finset.insert_erase hi, Finset.fold_insert (Finset.notMem_erase _ _), hz, max_comm]
  exact real_max (fold_ne_top _ _ hf) z

/-- The average of `v` with the weights that `w` lets count, the sink's added to their sum. -/
def savg (w : ℕ → Bool) (s v : ℕ → ℝ) (z : ℝ) : ℝ :=
  (∑ j : Fin 4352, we (w j) (s j) * v j) / ((∑ j : Fin 4352, we (w j) (s j)) + Real.exp z)

/-- A sum over all keys whose latent terms vanish outside a window of 512: the window's and the context's. -/
theorem sum_window (f : ℕ → ℝ) (a : ℕ) (ha : a ≤ 3584) (h0 : ∀ j, j < 4096 → (j < a ∨ a + 512 ≤ j) → f j = 0) :
    (∑ j : Fin 4352, f j) = (∑ j : Fin 512, f (a + j)) + ∑ j : Fin 256, f (4096 + j) := by
  obtain ⟨n, hn⟩ : ∃ n, a + 512 + n = 4096 := ⟨4096 - (a + 512), by omega⟩
  simp only [Fin.sum_univ_eq_sum_range (fun j => f j), Fin.sum_univ_eq_sum_range (fun j => f (a + j)), Fin.sum_univ_eq_sum_range (fun j => f (4096 + j))]
  rw [show 4352 = 4096 + 256 from rfl, Finset.sum_range_add, ← hn, Finset.sum_range_add, Finset.sum_range_add]
  rw [Finset.sum_eq_zero fun j hj => h0 j (by have := Finset.mem_range.1 hj; omega) (.inl (Finset.mem_range.1 hj)),
    Finset.sum_eq_zero fun j hj => h0 (a + 512 + j) (by have := Finset.mem_range.1 hj; omega) (.inr (by omega)), zero_add, add_zero]

/-- The same when no latent key counts. -/
theorem sum_ctx (f : ℕ → ℝ) (h0 : ∀ j, j < 4096 → f j = 0) : (∑ j : Fin 4352, f j) = ∑ j : Fin 256, f (4096 + j) := by
  rw [sum_window f 0 (by norm_num) fun j hj _ => h0 j hj, Finset.sum_eq_zero fun j _ => h0 _ (by omega), zero_add]

/-- A common factor of the weights leaves the average as it is. -/
theorem savg_scale {k : ℝ} (hk : k ≠ 0) (w : ℕ → Bool) (s v : ℕ → ℝ) (z : ℝ) :
    (∑ j : Fin 4352, k * we (w j) (s j) * v j) * (1 / ((∑ j : Fin 4352, k * we (w j) (s j)) + k * Real.exp z)) = savg w s v z := by
  have h : (∑ j : Fin 4352, we (w j) (s j)) + Real.exp z ≠ 0 :=
    (add_pos_of_nonneg_of_pos (Finset.sum_nonneg fun _ _ => we_nonneg _ _) (Real.exp_pos _)).ne'
  simp only [mul_assoc, ← Finset.mul_sum, ← mul_add, savg]
  field_simp

/-- The row of a token: its batch. -/
def bat (r : ℕ) : ℕ := if r < 32768 then r / 4096 else (r - 32768) / 256

/-- Which of a batch's keys count for token `r`: the latent ones at most 128 away from a latent token, and the context's. -/
def win (r j : ℕ) : Bool := if j < 4096 then decide (r < 32768 ∧ j ≤ r % 4096 + 128 ∧ r % 4096 ≤ j + 128) else true

/-- The scaled product of token `r`'s query of head `h` and a key. -/
def sscore (Q K : ℕ → ℕ → ℝ) (r h j : ℕ) : ℝ :=
  (∑ d : Fin 128, Q r (h * 128 + d) * K (Cert.Spec.tok (bat r) j) (h / 4 * 128 + d)) * (1 / 8)

/-- The attention of token `r`, head `h`, lane `e`. -/
def swt (Q K V : ℕ → ℕ → ℝ) (Z : ℕ → ℝ) (r h e : ℕ) : ℝ :=
  savg (win r) (sscore Q K r h) (fun j => V (Cert.Spec.tok (bat r) j) (h / 4 * 128 + e)) (Z h)

end Cert.Swt

end
-- ==== Proof.SwtBand.lean ====
/- The window's test on token numbers as words: a distance of at most 128. -/
module

public import Idealize.ShloMosaic.Lib.Pointwise

@[expose] public section

set_option maxRecDepth 16384

noncomputable section

namespace Cert.Swt

open Idealize.ShloMosaic

/-- The test of a distance forwards. -/
theorem band_fwd : ∀ n : Fin 4608, IntOp.cmpi .sle (IntOp.absi (BitVec.ofNat 32 n)) 128#32 = if (n : ℕ) ≤ 128 then 1#1 else 0#1 := by
  decide +kernel

/-- The test of a distance backwards. -/
theorem band_bwd : ∀ n : Fin 4608, IntOp.cmpi .sle (IntOp.absi (-BitVec.ofNat 32 n)) 128#32 = if (n : ℕ) ≤ 128 then 1#1 else 0#1 := by
  decide +kernel

/-- The test on two token numbers. -/
theorem band {i j : ℕ} (hi : i < 4608) (hj : j < 4608) :
    IntOp.cmpi .sle (IntOp.absi (BitVec.ofNat 32 j - BitVec.ofNat 32 i)) 128#32 = if j ≤ i + 128 ∧ i ≤ j + 128 then 1#1 else 0#1 := by
  rcases le_total i j with h | h
  · obtain ⟨n, rfl⟩ := Nat.exists_eq_add_of_le h
    have e : BitVec.ofNat 32 (i + n) - BitVec.ofNat 32 i = BitVec.ofNat 32 n := by
      rw [BitVec.ofNat_add]; bv_omega
    rw [e, band_fwd ⟨n, by omega⟩]
    exact if_congr (by simp only []; omega) rfl rfl
  · obtain ⟨n, rfl⟩ := Nat.exists_eq_add_of_le h
    have e : BitVec.ofNat 32 j - BitVec.ofNat 32 (j + n) = -BitVec.ofNat 32 n := by
      rw [BitVec.ofNat_add]; bv_omega
    rw [e, band_bwd ⟨n, by omega⟩]
    exact if_congr (by simp only []; omega) rfl rfl

end Cert.Swt

end
-- ==== Proof.SwtRef.lean ====
/- What the reference of the sliding-window attention computes, read at an index, stage by stage. -/
module

public import proofs.«01_k».proof.Proof.Gen.SwaAttRefIdeal.Run
public import proofs.«01_k».proof.Proof.SwtSpec
public import proofs.«01_k».proof.Proof.SwtBand
public import proofs.«01_k».proof.Proof.Finite
public import proofs.«01_k».proof.Proof.Ref
public import Idealize.ShloMosaic.Lib.Pointwise

@[expose] public section

set_option maxRecDepth 16384

noncomputable section

namespace Cert.SwtRef

open Idealize.ShloMosaic Idealize.ShloMosaic.TcCoe Idealize.SL.Sem
open Cert.SwaAttRefIdeal Cert.SwaAttRefIdeal.Gen Cert.Reals Cert.Swt

/-- The latent tokens' keys or values. -/
def kl (a : FVec Ideal S34816x512 .bf16) : FVec Ideal S8x4096x4x128 .f32 :=
  shapeCast _ (extf .f32 (extractStridedSlice S32768x512 ![0, 0] a slices_S34816x512_S32768x512_0_0) bitsLt_bf16_f32) shapeCasts_S32768x512_S8x4096x4x128
/-- The context tokens' keys or values. -/
def kc (a : FVec Ideal S34816x512 .bf16) : FVec Ideal S8x256x4x128 .f32 :=
  shapeCast _ (extf .f32 (extractStridedSlice S2048x512 ![32768, 0] a slices_S34816x512_S2048x512_32768_0) bitsLt_bf16_f32) shapeCasts_S2048x512_S8x256x4x128
/-- The latent tokens' queries. -/
def ql (a : FVec Ideal S34816x2048 .f32) : FVec Ideal S8x4096x4x4x128 .f32 :=
  shapeCast _ (extractStridedSlice S32768x2048 ![0, 0] a slices_S34816x2048_S32768x2048_0_0) shapeCasts_S32768x2048_S8x4096x4x4x128
/-- The context tokens' queries. -/
def qc (a : FVec Ideal S34816x2048 .f32) : FVec Ideal S8x256x4x4x128 .f32 :=
  shapeCast _ (extractStridedSlice S2048x2048 ![32768, 0] a slices_S34816x2048_S2048x2048_32768_0) shapeCasts_S2048x2048_S8x256x4x4x128

/-- The band of the window. -/
def bd : IVec S4096x4096 1 :=
  cmpi .sle (absi (subi (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (broadcastInDim S4096x4096 ![] bcast_S_S4096x4096 (constantI S_ 32 128#32))

/-- The latent queries' scores against the latent keys, masked. -/
def sl (q : FVec Ideal S8x4096x4x4x128 .f32) (k : FVec Ideal S8x4096x4x128 .f32) : FVec Ideal S8x4x4x4096x4096 .f32 :=
  select (broadcastInDim S8x4x4x4096x4096 ![3, 4] bcast_S4096x4096_S8x4x4x4096x4096_3_4 bd) (mulf (transpose S8x4x4x4096x4096 [0, 1, 4, 3, 2] (Host.dotGeneral dot_S8x4096x4x128_S8x4096x4x4x128_S8x4x4096x4096x4_3_4_1_13_02_02 none k q) transposes_S8x4x4096x4096x4_S8x4x4x4096x4096_0_1_4_3_2) (broadcastInDim S8x4x4x4096x4096 ![] bcast_S_S8x4x4x4096x4096 (constant S_ .f32 0x3E000000#32))) (broadcastInDim S8x4x4x4096x4096 ![] bcast_S_S8x4x4x4096x4096 (id (constant S_ .f32 0xFF800000#32)))
/-- The latent queries' scores against the context's keys. -/
def sc (q : FVec Ideal S8x4096x4x4x128 .f32) (k : FVec Ideal S8x256x4x128 .f32) : FVec Ideal S8x4x4x4096x256 .f32 :=
  mulf (transpose S8x4x4x4096x256 [0, 1, 4, 3, 2] (Host.dotGeneral dot_S8x256x4x128_S8x4096x4x4x128_S8x4x256x4096x4_3_4_1_13_02_02 none k q) transposes_S8x4x256x4096x4_S8x4x4x4096x256_0_1_4_3_2) (broadcastInDim S8x4x4x4096x256 ![] bcast_S_S8x4x4x4096x256 (constant S_ .f32 0x3E000000#32))
/-- The context queries' scores. -/
def cc (q : FVec Ideal S8x256x4x4x128 .f32) (k : FVec Ideal S8x256x4x128 .f32) : FVec Ideal S8x4x4x256x256 .f32 :=
  mulf (transpose S8x4x4x256x256 [0, 1, 4, 3, 2] (Host.dotGeneral dot_S8x256x4x128_S8x256x4x4x128_S8x4x256x256x4_3_4_1_13_02_02 none k q) transposes_S8x4x256x256x4_S8x4x4x256x256_0_1_4_3_2) (broadcastInDim S8x4x4x256x256 ![] bcast_S_S8x4x4x256x256 (constant S_ .f32 0x3E000000#32))

/-- The sinks by head. -/
def sk (z : FVec Ideal S16 .f32) : FVec Ideal S1x4x4x1x1 .f32 :=
  broadcastInDim S1x4x4x1x1 ![1, 2] bcast_S4x4_S1x4x4x1x1_1_2 (shapeCast _ z shapeCasts_S16_S4x4)

/-- A latent query's scores, the sink last. -/
def al (s : FVec Ideal S8x4x4x4096x4096 .f32) (t : FVec Ideal S8x4x4x4096x256 .f32) (z : FVec Ideal S1x4x4x1x1 .f32) : FVec Ideal S8x4x4x4096x4353 .f32 :=
  concatenate S8x4x4x4096x4353 4 [⟨S8x4x4x4096x4352, (concatenate S8x4x4x4096x4352 4 [⟨S8x4x4x4096x4096, s⟩, ⟨S8x4x4x4096x256, t⟩] concatenates_S8x4x4x4096x4096_S8x4x4x4096x256_S8x4x4x4096x4352_d4)⟩, ⟨S8x4x4x4096x1, (broadcastInDim S8x4x4x4096x1 ![0, 1, 2, 3, 4] bcast_S1x4x4x1x1_S8x4x4x4096x1_0_1_2_3_4 z)⟩] concatenates_S8x4x4x4096x4352_S8x4x4x4096x1_S8x4x4x4096x4353_d4
/-- A context query's scores, the sink last. -/
def ac (s : FVec Ideal S8x4x4x256x256 .f32) (z : FVec Ideal S1x4x4x1x1 .f32) : FVec Ideal S8x4x4x256x257 .f32 :=
  concatenate S8x4x4x256x257 4 [⟨S8x4x4x256x256, s⟩, ⟨S8x4x4x256x1, (broadcastInDim S8x4x4x256x1 ![0, 1, 2, 3, 4] bcast_S1x4x4x1x1_S8x4x4x256x1_0_1_2_3_4 z)⟩] concatenates_S8x4x4x256x256_S8x4x4x256x1_S8x4x4x256x257_d4

/-- The latent queries' largest scores. -/
def mxl (s : FVec Ideal S8x4x4x4096x4353 .f32) : FVec Ideal S8x4x4x4096 .f32 :=
  maximumf (broadcastInDim S8x4x4x4096 ![] bcast_S_S8x4x4x4096 (constant S_ .f32 0xFF800000#32)) (Host.reduce FloatOps.maximumf s (constant S_ .f32 0xFF800000#32) reducesTo_S8x4x4x4096x4353_S8x4x4x4096_d4 h_S_)
/-- The context queries' largest scores. -/
def mxc (s : FVec Ideal S8x4x4x256x257 .f32) : FVec Ideal S8x4x4x256 .f32 :=
  maximumf (broadcastInDim S8x4x4x256 ![] bcast_S_S8x4x4x256 (constant S_ .f32 0xFF800000#32)) (Host.reduce FloatOps.maximumf s (constant S_ .f32 0xFF800000#32) reducesTo_S8x4x4x256x257_S8x4x4x256_d4 h_S_)

/-- The exponentials of the latent queries' shifted scores. -/
def esl (s : FVec Ideal S8x4x4x4096x4353 .f32) : FVec Ideal S8x4x4x4096x4353 .f32 :=
  Host.exp (subf s (broadcastInDim S8x4x4x4096x4353 ![0, 1, 2, 3, 4] bcast_S8x4x4x4096x1_S8x4x4x4096x4353_0_1_2_3_4 (broadcastInDim S8x4x4x4096x1 ![0, 1, 2, 3] bcast_S8x4x4x4096_S8x4x4x4096x1_0_1_2_3 (mxl s))))
/-- The exponentials of the context queries' shifted scores. -/
def esc (s : FVec Ideal S8x4x4x256x257 .f32) : FVec Ideal S8x4x4x256x257 .f32 :=
  Host.exp (subf s (broadcastInDim S8x4x4x256x257 ![0, 1, 2, 3, 4] bcast_S8x4x4x256x1_S8x4x4x256x257_0_1_2_3_4 (broadcastInDim S8x4x4x256x1 ![0, 1, 2, 3] bcast_S8x4x4x256_S8x4x4x256x1_0_1_2_3 (mxc s))))

/-- The latent queries' weights, the sink's left out. -/
def pl (e : FVec Ideal S8x4x4x4096x4353 .f32) : FVec Ideal S8x4x4x4096x4352 .f32 :=
  extractStridedSlice S8x4x4x4096x4352 ![0, 0, 0, 0, 0] (Host.divf e (broadcastInDim S8x4x4x4096x4353 ![0, 1, 2, 3, 4] bcast_S8x4x4x4096x1_S8x4x4x4096x4353_0_1_2_3_4 (broadcastInDim S8x4x4x4096x1 ![0, 1, 2, 3] bcast_S8x4x4x4096_S8x4x4x4096x1_0_1_2_3 (Host.reduceAdd e (constant S_ .f32 0x00000000#32) reducesTo_S8x4x4x4096x4353_S8x4x4x4096_d4 h_S_)))) slices_S8x4x4x4096x4353_S8x4x4x4096x4352_0_0_0_0_0
/-- The context queries' weights, the sink's left out. -/
def pc (e : FVec Ideal S8x4x4x256x257 .f32) : FVec Ideal S8x4x4x256x256 .f32 :=
  extractStridedSlice S8x4x4x256x256 ![0, 0, 0, 0, 0] (Host.divf e (broadcastInDim S8x4x4x256x257 ![0, 1, 2, 3, 4] bcast_S8x4x4x256x1_S8x4x4x256x257_0_1_2_3_4 (broadcastInDim S8x4x4x256x1 ![0, 1, 2, 3] bcast_S8x4x4x256_S8x4x4x256x1_0_1_2_3 (Host.reduceAdd e (constant S_ .f32 0x00000000#32) reducesTo_S8x4x4x256x257_S8x4x4x256_d4 h_S_)))) slices_S8x4x4x256x257_S8x4x4x256x256_0_0_0_0_0

/-- The latent queries' weighted values. -/
def ol (v : FVec Ideal S8x4096x4x128 .f32) (u : FVec Ideal S8x256x4x128 .f32) (p : FVec Ideal S8x4x4x4096x4352 .f32) : FVec Ideal S8x4096x4x4x128 .f32 :=
  addf (transpose S8x4096x4x4x128 [0, 4, 1, 3, 2] (Host.dotGeneral dot_S8x4096x4x128_S8x4x4x4096x4096_S8x4x128x4x4096_1_4_3_23_02_01 none v (extractStridedSlice S8x4x4x4096x4096 ![0, 0, 0, 0, 0] p slices_S8x4x4x4096x4352_S8x4x4x4096x4096_0_0_0_0_0)) transposes_S8x4x128x4x4096_S8x4096x4x4x128_0_4_1_3_2)
    (transpose S8x4096x4x4x128 [0, 4, 1, 3, 2] (Host.dotGeneral dot_S8x256x4x128_S8x4x4x4096x256_S8x4x128x4x4096_1_4_3_23_02_01 none u (extractStridedSlice S8x4x4x4096x256 ![0, 0, 0, 0, 4096] p slices_S8x4x4x4096x4352_S8x4x4x4096x256_0_0_0_0_4096)) transposes_S8x4x128x4x4096_S8x4096x4x4x128_0_4_1_3_2)
/-- The context queries' weighted values. -/
def oc (u : FVec Ideal S8x256x4x128 .f32) (p : FVec Ideal S8x4x4x256x256 .f32) : FVec Ideal S8x256x4x4x128 .f32 :=
  transpose S8x256x4x4x128 [0, 4, 1, 3, 2] (Host.dotGeneral dot_S8x256x4x128_S8x4x4x256x256_S8x4x128x4x256_1_4_3_23_02_01 none u p) transposes_S8x4x128x4x256_S8x256x4x4x128_0_4_1_3_2

/-- The tokens' results, the latent ones and then the context's. -/
def fin (o : FVec Ideal S8x4096x4x4x128 .f32) (o' : FVec Ideal S8x256x4x4x128 .f32) : FVec Ideal S34816x2048 .bf16 :=
  truncf .bf16 (concatenate S34816x2048 0 [⟨S32768x2048, (shapeCast _ o shapeCasts_S8x4096x4x4x128_S32768x2048)⟩, ⟨S2048x2048, (shapeCast _ o' shapeCasts_S8x256x4x4x128_S2048x2048)⟩] concatenates_S32768x2048_S2048x2048_S34816x2048_d0) bitsLt_bf16_f32

/-- The whole reference. -/
def res (q : FVec Ideal S34816x2048 .f32) (k v : FVec Ideal S34816x512 .bf16) (z : FVec Ideal S16 .f32) : FVec Ideal S34816x2048 .bf16 :=
  fin (ol (kl v) (kc v) (pl (esl (al (sl (ql q) (kl k)) (sc (ql q) (kc k)) (sk z))))) (oc (kc v) (pc (esc (ac (cc (qc q) (kc k)) (sk z)))))

/-- The reference's composed term is the stages' composition. -/
theorem res_eq (m : (ℓ : Loc nD τ sig) → Buf (Elt Ideal) ℓ) (c : Dev nD) :
    Cert.SwaAttRefIdeal.Value.res_main_v81 m c
      = res (m ((c.tc : Thread nD τ).loc main_arg0)) (m ((c.tc : Thread nD τ).loc main_arg1)) (m ((c.tc : Thread nD τ).loc main_arg2)) (m ((c.tc : Thread nD τ).loc main_arg3)) := by
  unfold Cert.SwaAttRefIdeal.Value.res_main_v81 res fin ol oc pl pc esl esc mxl mxc al ac sk sl sc cc bd ql qc kl kc
  rfl

section
variable {q : FVec Ideal S34816x2048 .f32} {k : FVec Ideal S34816x512 .bf16} {z : FVec Ideal S16 .f32} {Q K : ℕ → ℕ → ℝ} {Z : ℕ → ℝ}

theorem ql_at (hq : ∀ (r : Fin 34816) (c : Fin 2048), q (ix2 r c) = (Q r c : EReal)) (b : Fin 8) (i : Fin 4096) (h g : Fin 4) (d : Fin 128) :
    ql q (ix5 b i h g d) = (Q (b * 4096 + i) ((h * 4 + g) * 128 + d) : EReal) := by
  pointwise [ql]
  rw [hq]
  congr 2 <;> simp only [] <;> omega

theorem qc_at (hq : ∀ (r : Fin 34816) (c : Fin 2048), q (ix2 r c) = (Q r c : EReal)) (b : Fin 8) (i : Fin 256) (h g : Fin 4) (d : Fin 128) :
    qc q (ix5 b i h g d) = (Q (32768 + b * 256 + i) ((h * 4 + g) * 128 + d) : EReal) := by
  pointwise [qc]
  rw [hq]
  congr 2 <;> simp only [] <;> omega

theorem kl_at (hk : ∀ (r : Fin 34816) (c : Fin 512), k (ix2 r c) = (K r c : EReal)) (b : Fin 8) (j : Fin 4096) (h : Fin 4) (d : Fin 128) :
    kl k (ix4 b j h d) = (K (b * 4096 + j) (h * 128 + d) : EReal) := by
  pointwise [kl]
  rw [hk]

theorem kc_at (hk : ∀ (r : Fin 34816) (c : Fin 512), k (ix2 r c) = (K r c : EReal)) (b : Fin 8) (j : Fin 256) (h : Fin 4) (d : Fin 128) :
    kc k (ix4 b j h d) = (K (32768 + b * 256 + j) (h * 128 + d) : EReal) := by
  pointwise [kc]
  rw [hk]
  congr 2 <;> simp only [] <;> omega

theorem sk_at (hz : ∀ i : Fin 16, z (ix1 i) = (Z i : EReal)) (h g : Fin 4) : sk z (ix5 0 h g 0 0) = (Z (h * 4 + g) : EReal) := by
  pointwise [sk]
  rw [hz]
end

theorem bd_at (i j : Fin 4096) : bd (ix2 i j) = if (j : ℕ) ≤ i + 128 ∧ (i : ℕ) ≤ j + 128 then 1#1 else 0#1 := by
  rw [← band (by omega) (by omega)]
  pointwise [bd]
  rfl

theorem al_at (s t z) (b : Fin 8) (h g : Fin 4) (i : Fin 4096) (j : Fin 4353) : al s t z (ix5 b h g i j)
    = if hj : (j : ℕ) < 4352 then if hl : (j : ℕ) < 4096 then s (ix5 b h g i ⟨j, hl⟩) else t (ix5 b h g i ⟨j - 4096, by omega⟩) else z (ix5 0 h g 0 0) := by
  pointwise [al]

theorem ac_at (s z) (b : Fin 8) (h g : Fin 4) (i : Fin 256) (j : Fin 257) : ac s z (ix5 b h g i j)
    = if hj : (j : ℕ) < 256 then s (ix5 b h g i ⟨j, hj⟩) else z (ix5 0 h g 0 0) := by
  pointwise [ac]

theorem sl_at (q k) (b : Fin 8) (h g : Fin 4) (i j : Fin 4096) : sl q k (ix5 b h g i j)
    = if bd (ix2 i j) = 1#1 then (∑ d : Fin 128, k (ix4 b j h d) * q (ix5 b i h g d)) * Ideal.ofBits .f32 0x3E000000#32 else Ideal.ofBits .f32 0xFF800000#32 := by
  pointwise [sl]
  rfl

theorem sc_at (q k) (b : Fin 8) (h g : Fin 4) (i : Fin 4096) (j : Fin 256) : sc q k (ix5 b h g i j)
    = (∑ d : Fin 128, k (ix4 b j h d) * q (ix5 b i h g d)) * Ideal.ofBits .f32 0x3E000000#32 := by
  pointwise [sc]

theorem cc_at (q k) (b : Fin 8) (h g : Fin 4) (i : Fin 256) (j : Fin 256) : cc q k (ix5 b h g i j)
    = (∑ d : Fin 128, k (ix4 b j h d) * q (ix5 b i h g d)) * Ideal.ofBits .f32 0x3E000000#32 := by
  pointwise [cc]

theorem esl_at (s) (b : Fin 8) (h g : Fin 4) (i : Fin 4096) (j : Fin 4353) : esl s (ix5 b h g i j) = Ideal.exp (s (ix5 b h g i j) - mxl s (ix4 b h g i)) := by
  pointwise [esl]
theorem esc_at (s) (b : Fin 8) (h g : Fin 4) (i : Fin 256) (j : Fin 257) : esc s (ix5 b h g i j) = Ideal.exp (s (ix5 b h g i j) - mxc s (ix4 b h g i)) := by
  pointwise [esc]

theorem pl_at (e) (b : Fin 8) (h g : Fin 4) (i : Fin 4096) (j : Fin 4352) : pl e (ix5 b h g i j)
    = Ideal.div (e (ix5 b h g i ⟨j, by omega⟩)) (∑ x : Fin 4353, e (ix5 b h g i x)) := by
  pointwise [pl]
theorem pc_at (e) (b : Fin 8) (h g : Fin 4) (i : Fin 256) (j : Fin 256) : pc e (ix5 b h g i j)
    = Ideal.div (e (ix5 b h g i ⟨j, by omega⟩)) (∑ x : Fin 257, e (ix5 b h g i x)) := by
  pointwise [pc]

theorem ol_at (v u p) (b : Fin 8) (i : Fin 4096) (h g : Fin 4) (e : Fin 128) : ol v u p (ix5 b i h g e)
    = (∑ x : Fin 4096, v (ix4 b x h e) * p (ix5 b h g i ⟨x, by omega⟩)) + ∑ x : Fin 256, u (ix4 b x h e) * p (ix5 b h g i ⟨4096 + x, by omega⟩) := by
  pointwise [ol]
theorem oc_at (u p) (b : Fin 8) (i : Fin 256) (h g : Fin 4) (e : Fin 128) : oc u p (ix5 b i h g e)
    = ∑ x : Fin 256, u (ix4 b x h e) * p (ix5 b h g i x) := by
  pointwise [oc]

theorem fin_at (o o') (r : Fin 34816) (c : Fin 2048) : fin o o' (ix2 r c)
    = if hr : (r : ℕ) < 32768 then o (ix5 ⟨r / 4096, by omega⟩ ⟨r % 4096, by omega⟩ ⟨c / 512, by omega⟩ ⟨c / 128 % 4, by omega⟩ ⟨c % 128, by omega⟩)
      else o' (ix5 ⟨(r - 32768) / 256, by omega⟩ ⟨(r - 32768) % 256, by omega⟩ ⟨c / 512, by omega⟩ ⟨c / 128 % 4, by omega⟩ ⟨c % 128, by omega⟩) := by
  pointwise [fin]

/-- A softmax with a real last score, the largest score subtracted: the weight over the weights' sum. -/
theorem soft {n : ℕ} (t : Fin (n + 1) → EReal) (b : ℕ → Bool) (s : ℕ → ℝ) (z M : ℝ) (ht : ∀ j : Fin n, t j.castSucc = ms (b j) (s j))
    (hz : t (Fin.last n) = (z : EReal)) (j : Fin n) :
    Ideal.div (Ideal.exp (t j.castSucc - (M : EReal))) (∑ x, Ideal.exp (t x - (M : EReal)))
      = ((we (b j) (s j) / ((∑ x : Fin n, we (b x) (s x)) + Real.exp z) : ℝ) : EReal) := by
  have hz' : Ideal.exp ((z : EReal) - (M : EReal)) = ((Real.exp (-M) * Real.exp z : ℝ) : EReal) := exp_ms true z M
  have hd : 0 < (∑ x : Fin n, we (b x) (s x)) + Real.exp z := add_pos_of_nonneg_of_pos (Finset.sum_nonneg fun _ _ => we_nonneg _ _) (Real.exp_pos _)
  rw [Fin.sum_univ_castSucc]
  simp only [ht, hz, exp_ms, hz', ← coe_sum, ← EReal.coe_add, ← Finset.mul_sum, ← mul_add]
  rw [Ideal.div_coe (mul_pos (Real.exp_pos _) hd).ne', ← EReal.coe_mul]
  congr 1
  have := Real.exp_pos (-M)
  field_simp

/-- A reduction by maximum from minus infinity, of numbers below plus infinity, one of those it takes being real. -/
theorem reduce_real {s t u : Shape} {axes : List (Fin s.rank)} (x : FVec Ideal s .f32) (y : FVec Ideal u .f32)
    (h : s.ReducesTo axes t) (hu : 0 < u.numel) (hy : ∀ i, y i = (⊥ : EReal)) (hs : ∀ i, x i ≠ (⊤ : EReal)) (j : t.Idx) (i : s.Idx)
    (hi : h.drop i = j) {r : ℝ} (hr : x i = (r : EReal)) (z : FVec Ideal t .f32) (hz : z j = (⊥ : EReal)) :
    IsReal (maximumf z (Host.reduce (FloatOps.maximumf (F := Ideal) (φ := .f32)) x y h hu) j) := by
  have e : maximumf z (Host.reduce (FloatOps.maximumf (F := Ideal) (φ := .f32)) x y h hu) j
    = max (z j) (Host.reduce (FloatOps.maximumf (F := Ideal) (φ := .f32)) x y h hu j) := rfl
  rw [e, Host.reduce_eq_fold (FloatOps.maximumf (F := Ideal) (φ := .f32)) x y h hu j, hy, hz, max_eq_right bot_le]
  exact fold_real _ _ hs (Finset.mem_filter.2 ⟨Finset.mem_univ _, hi⟩) hr

theorem mxl_real {s : FVec Ideal S8x4x4x4096x4353 .f32} (hs : ∀ i, s i ≠ (⊤ : EReal)) (b : Fin 8) (h g : Fin 4) (i : Fin 4096) {z : ℝ}
    (hz : s (ix5 b h g i (Fin.last 4352)) = (z : EReal)) : IsReal (mxl s (ix4 b h g i)) :=
  reduce_real s _ _ _ (fun _ => Finite.ofBits_neg_inf) hs _ (ix5 b h g i (Fin.last 4352))
    (funext fun k => Fin.ext (by rw [Shape.ReducesTo.drop_apply_val]; fin_cases k <;> rfl)) hz _ Finite.ofBits_neg_inf

theorem mxc_real {s : FVec Ideal S8x4x4x256x257 .f32} (hs : ∀ i, s i ≠ (⊤ : EReal)) (b : Fin 8) (h g : Fin 4) (i : Fin 256) {z : ℝ}
    (hz : s (ix5 b h g i (Fin.last 256)) = (z : EReal)) : IsReal (mxc s (ix4 b h g i)) :=
  reduce_real s _ _ _ (fun _ => Finite.ofBits_neg_inf) hs _ (ix5 b h g i (Fin.last 256))
    (funext fun k => Fin.ext (by rw [Shape.ReducesTo.drop_apply_val]; fin_cases k <;> rfl)) hz _ Finite.ofBits_neg_inf

/-- The latent queries' weights when the scores are real numbers or minus infinity. -/
theorem wl_at {s : FVec Ideal S8x4x4x4096x4353 .f32} {t : ℕ → ℕ → ℕ → ℝ} {w : ℕ → ℕ → Bool} {Z : ℕ → ℝ}
    (hs : ∀ (b : Fin 8) (h g : Fin 4) (i : Fin 4096) (j : Fin 4352), s (ix5 b h g i j.castSucc) = ms (w (b * 4096 + i) j) (t (b * 4096 + i) (h * 4 + g) j))
    (hz : ∀ (b : Fin 8) (h g : Fin 4) (i : Fin 4096), s (ix5 b h g i (Fin.last 4352)) = (Z (h * 4 + g) : EReal))
    (b : Fin 8) (h g : Fin 4) (i : Fin 4096) (j : Fin 4352) :
    pl (esl s) (ix5 b h g i j) = ((we (w (b * 4096 + i) j) (t (b * 4096 + i) (h * 4 + g) j)
      / ((∑ x : Fin 4352, we (w (b * 4096 + i) x) (t (b * 4096 + i) (h * 4 + g) x)) + Real.exp (Z (h * 4 + g))) : ℝ) : EReal) := by
  have hn : ∀ i, s i ≠ (⊤ : EReal) := fun y => by
    rw [eq_ix5 y]
    exact Fin.lastCases (motive := fun j : Fin 4353 => s (ix5 (y 0) (y 1) (y 2) (y 3) j) ≠ ⊤) ((hz _ _ _ _).trans_ne (EReal.coe_ne_top _))
      (fun j => (hs _ _ _ _ j).trans_ne (ms_ne_top _ _)) (y 4)
  obtain ⟨M, hM⟩ := mxl_real hn b h g i (hz b h g i)
  rw [pl_at]
  simp only [esl_at, hM]
  exact soft (fun x => s (ix5 b h g i x)) _ _ _ M (hs b h g i) (hz b h g i) j

/-- The context queries' weights when the scores are real numbers. -/
theorem wc_at {s : FVec Ideal S8x4x4x256x257 .f32} {t : ℕ → ℕ → ℕ → ℝ} {Z : ℕ → ℝ}
    (hs : ∀ (b : Fin 8) (h g : Fin 4) (i : Fin 256) (j : Fin 256), s (ix5 b h g i j.castSucc) = ms true (t (32768 + b * 256 + i) (h * 4 + g) (4096 + j)))
    (hz : ∀ (b : Fin 8) (h g : Fin 4) (i : Fin 256), s (ix5 b h g i (Fin.last 256)) = (Z (h * 4 + g) : EReal))
    (b : Fin 8) (h g : Fin 4) (i : Fin 256) (j : Fin 256) :
    pc (esc s) (ix5 b h g i j) = ((we true (t (32768 + b * 256 + i) (h * 4 + g) (4096 + j))
      / ((∑ x : Fin 256, we true (t (32768 + b * 256 + i) (h * 4 + g) (4096 + x))) + Real.exp (Z (h * 4 + g))) : ℝ) : EReal) := by
  have hn : ∀ i, s i ≠ (⊤ : EReal) := fun y => by
    rw [eq_ix5 y]
    exact Fin.lastCases (motive := fun j : Fin 257 => s (ix5 (y 0) (y 1) (y 2) (y 3) j) ≠ ⊤) ((hz _ _ _ _).trans_ne (EReal.coe_ne_top _))
      (fun j => (hs _ _ _ _ j).trans_ne (ms_ne_top _ _)) (y 4)
  obtain ⟨M, hM⟩ := mxc_real hn b h g i (hz b h g i)
  rw [pc_at]
  simp only [esc_at, hM]
  exact soft (fun x => s (ix5 b h g i x)) (fun _ => true) (fun x => t (32768 + b * 256 + i) (h * 4 + g) (4096 + x)) _ M (hs b h g i) (hz b h g i) j

section
variable {q : FVec Ideal S34816x2048 .f32} {k v : FVec Ideal S34816x512 .bf16} {z : FVec Ideal S16 .f32} {Q K V : ℕ → ℕ → ℝ} {Z : ℕ → ℝ}
  (hq : ∀ (r : Fin 34816) (c : Fin 2048), q (ix2 r c) = (Q r c : EReal)) (hk : ∀ (r : Fin 34816) (c : Fin 512), k (ix2 r c) = (K r c : EReal))
  (hv : ∀ (r : Fin 34816) (c : Fin 512), v (ix2 r c) = (V r c : EReal)) (hz : ∀ i : Fin 16, z (ix1 i) = (Z i : EReal))

/-- The product of two rows' lanes times an eighth is the score. -/
theorem score_eq (r h g t j : ℕ) (hg : g < 4) (ht : t = Cert.Spec.tok (bat r) j) :
    (∑ d : Fin 128, (K t (h * 128 + d) : EReal) * (Q r ((h * 4 + g) * 128 + d) : EReal)) * Ideal.ofBits .f32 0x3E000000#32 = (sscore Q K r (h * 4 + g) j : EReal) := by
  subst ht
  have e : (h * 4 + g) / 4 = h := by omega
  rw [Cert.Ref.ofBits_eighth]
  simp only [← EReal.coe_mul, ← coe_sum, sscore, e]
  congr 2
  exact Finset.sum_congr rfl fun d _ => mul_comm _ _

theorem bat_lat (b i : ℕ) (hb : b < 8) (hi : i < 4096) : bat (b * 4096 + i) = b := by unfold bat; split <;> omega
theorem bat_ctx (b i : ℕ) (hi : i < 256) : bat (32768 + b * 256 + i) = b := by unfold bat; split <;> omega
theorem tok_lat (b j : ℕ) (hj : j < 4096) : Cert.Spec.tok b j = b * 4096 + j := if_pos hj
theorem tok_ctx (b j : ℕ) : Cert.Spec.tok b (4096 + j) = 32768 + b * 256 + j := by unfold Cert.Spec.tok; split <;> omega

include hq hk in
theorem sl_val (b : Fin 8) (h g : Fin 4) (i j : Fin 4096) :
    sl (ql q) (kl k) (ix5 b h g i j) = ms (win (b * 4096 + i) j) (sscore Q K (b * 4096 + i) (h * 4 + g) j) := by
  rw [sl_at, bd_at]
  simp only [ql_at hq, kl_at hk]
  rw [score_eq _ _ _ _ j (by omega) (by rw [bat_lat _ _ b.isLt i.isLt, tok_lat _ _ j.isLt]), Finite.ofBits_neg_inf]
  have e : ((b : ℕ) * 4096 + i) % 4096 = i := by omega
  have e' : ((b : ℕ) * 4096 + i) < 32768 := by omega
  rw [win, if_pos j.isLt, e]
  by_cases hw : (j : ℕ) ≤ i + 128 ∧ (i : ℕ) ≤ j + 128 <;> simp [hw, ms, e']

include hq hk in
theorem sc_val (b : Fin 8) (h g : Fin 4) (i : Fin 4096) (j : Fin 256) :
    sc (ql q) (kc k) (ix5 b h g i j) = ms (win (b * 4096 + i) (4096 + j)) (sscore Q K (b * 4096 + i) (h * 4 + g) (4096 + j)) := by
  rw [sc_at]
  simp only [ql_at hq, kc_at hk]
  rw [score_eq _ _ _ _ (4096 + j) (by omega) (by rw [bat_lat _ _ b.isLt i.isLt, tok_ctx]), win, if_neg (by omega)]
  rfl

include hq hk in
theorem cc_val (b : Fin 8) (h g : Fin 4) (i : Fin 256) (j : Fin 256) :
    cc (qc q) (kc k) (ix5 b h g i j) = ms true (sscore Q K (32768 + b * 256 + i) (h * 4 + g) (4096 + j)) := by
  rw [cc_at]
  simp only [qc_at hq, kc_at hk]
  rw [score_eq _ _ _ _ (4096 + j) (by omega) (by rw [bat_ctx _ _ i.isLt, tok_ctx])]
  rfl

include hq hk hv hz in
/-- A latent token's result. -/
theorem lat_val (b : Fin 8) (i : Fin 4096) (h g : Fin 4) (e : Fin 128) :
    ol (kl v) (kc v) (pl (esl (al (sl (ql q) (kl k)) (sc (ql q) (kc k)) (sk z)))) (ix5 b i h g e) = (swt Q K V Z (b * 4096 + i) (h * 4 + g) e : EReal) := by
  have hw := wl_at (s := al (sl (ql q) (kl k)) (sc (ql q) (kc k)) (sk z)) (t := sscore Q K) (w := win) (Z := Z) (fun b h g i j => by
      rw [al_at, dif_pos (show (j.castSucc : ℕ) < 4352 from j.isLt)]
      split
      · exact sl_val hq hk b h g i ⟨j, _⟩
      · rename_i hj
        have e : 4096 + ((j : ℕ) - 4096) = j := by simp only [Fin.val_castSucc] at hj; omega
        have := sc_val hq hk b h g i ⟨(j : ℕ) - 4096, by omega⟩
        simp only [e] at this
        exact this)
    (fun b h g i => by rw [al_at, dif_neg (by simp), sk_at hz]) b h g i
  have e4 : ((h : ℕ) * 4 + g) / 4 = h := by omega
  rw [ol_at]
  simp only [hw, kl_at hv, kc_at hv, ← EReal.coe_mul, ← coe_sum, ← EReal.coe_add]
  rw [swt, savg, bat_lat _ _ b.isLt i.isLt, e4, Finset.sum_div, Fin.sum_univ_eq_sum_range (fun j => we (win (b * 4096 + i) j) (sscore Q K (b * 4096 + i) (h * 4 + g) j) * V (Cert.Spec.tok b j) (h * 128 + e)
    / ((∑ x : Fin 4352, we (win (b * 4096 + i) x) (sscore Q K (b * 4096 + i) (h * 4 + g) x)) + Real.exp (Z (h * 4 + g)))), show 4352 = 4096 + 256 from rfl,
    Finset.sum_range_add, ← Fin.sum_univ_eq_sum_range, ← Fin.sum_univ_eq_sum_range (fun j => we (win (b * 4096 + i) (4096 + j)) _ * V (Cert.Spec.tok b (4096 + j)) _ / _)]
  congr 2
  · refine Finset.sum_congr rfl fun j _ => ?_
    rw [tok_lat _ _ j.isLt]
    ring
  · refine Finset.sum_congr rfl fun j _ => ?_
    rw [tok_ctx]
    ring

include hq hk hv hz in
/-- A context token's result. -/
theorem ctx_val (b : Fin 8) (i : Fin 256) (h g : Fin 4) (e : Fin 128) :
    oc (kc v) (pc (esc (ac (cc (qc q) (kc k)) (sk z)))) (ix5 b i h g e) = (swt Q K V Z (32768 + b * 256 + i) (h * 4 + g) e : EReal) := by
  have hw := wc_at (s := ac (cc (qc q) (kc k)) (sk z)) (t := sscore Q K) (Z := Z) (fun b h g i j => by
      rw [ac_at, dif_pos (show (j.castSucc : ℕ) < 256 from j.isLt)]
      exact cc_val hq hk b h g i j)
    (fun b h g i => by rw [ac_at, dif_neg (by simp), sk_at hz]) b h g i
  have e4 : ((h : ℕ) * 4 + g) / 4 = h := by omega
  have hwin : ∀ j, j < 4096 → win (32768 + b * 256 + i) j = false := fun j hj => by
    rw [win, if_pos hj, decide_eq_false_iff_not]; omega
  have hwin' : ∀ j, win (32768 + b * 256 + i) (4096 + j) = true := fun j => if_neg (by omega)
  rw [oc_at]
  simp only [hw, kc_at hv, ← EReal.coe_mul, ← coe_sum]
  rw [swt, savg, bat_ctx _ _ i.isLt, e4, sum_ctx (fun j => we (win (32768 + b * 256 + i) j) (sscore Q K (32768 + b * 256 + i) (h * 4 + g) j) * V (Cert.Spec.tok b j) (h * 128 + e))
    (fun j hj => by rw [hwin j hj]; simp [we]), sum_ctx (fun j => we (win (32768 + b * 256 + i) j) (sscore Q K (32768 + b * 256 + i) (h * 4 + g) j)) (fun j hj => by rw [hwin j hj]; simp [we]), Finset.sum_div]
  simp only [hwin', tok_ctx]
  congr 1
  exact Finset.sum_congr rfl fun j _ => by ring

include hq hk hv hz in
/-- The reference at row `r` and column `c`. -/
theorem res_at (r : Fin 34816) (c : Fin 2048) : res q k v z (ix2 r c) = (swt Q K V Z r (c / 128) (c % 128) : EReal) := by
  have h1 : (c : ℕ) / 512 * 4 + c / 128 % 4 = c / 128 := by omega
  rw [res, fin_at]
  split
  · rw [lat_val hq hk hv hz]
    simp only [h1, show (r : ℕ) / 4096 * 4096 + r % 4096 = r by omega]
  · rw [ctx_val hq hk hv hz]
    simp only [h1, show 32768 + ((r : ℕ) - 32768) / 256 * 256 + (r - 32768) % 256 = r by omega]
end

end Cert.SwtRef

end
-- ==== Proof.SwtHead.lean ====
/- One head of one block of the sliding-window attention: the kernel's computation as a composition of a few array functions, and
   what each of them computes at an index. -/
module

public import proofs.«01_k».proof.Proof.Gen.SwaAttIdeal.Skeleton
public import proofs.«01_k».proof.Proof.SwtSpec
public import proofs.«01_k».proof.Proof.Finite
public import Idealize.ShloMosaic.Lib.Pointwise

@[expose] public section

set_option maxRecDepth 16384

noncomputable section

namespace Cert.SwtHead

open Idealize.ShloMosaic Idealize.ShloMosaic.TcCoe Idealize.SL.Sem
open Cert.SwaAttIdeal Cert.SwaAttIdeal.Gen Cert.Reals Cert.Swt

/-- The scores against the window's keys, the mask added. -/
def sw (b : FVec Ideal S256x512 .f32) (k : Vec Ideal S512x128 .bf16) (x : Vec Ideal S256x128 .f32) : FVec Ideal S256x512 .f32 := k0_pay8 b k x
/-- The scores against the context's keys. -/
def sc (k : Vec Ideal S256x128 .bf16) (x : Vec Ideal S256x128 .f32) : FVec Ideal S256x256 .f32 := k0_pay9 k x

/-- Each row's largest score, the sink among them. -/
def mx (s : FVec Ideal S256x512 .f32) (t : FVec Ideal S256x256 .f32) (z : Ideal .f32) : FVec Ideal S256x1 .f32 :=
  maximumf (maximumf (shapeCast S256x1 (multiReduction .maximumf [1] S256 s 0xFF800000#32 reduces_S256x512_S256 (.inl rfl) rfl) shapeCasts_S256_S256x1)
    (shapeCast S256x1 (multiReduction .maximumf [1] S256 t 0xFF800000#32 reduces_S256x256_S256 (.inl rfl) rfl) shapeCasts_S256_S256x1)) (broadcast S256x1 z)

/-- The window's weights. -/
def ew (s : FVec Ideal S256x512 .f32) (m : FVec Ideal S256x1 .f32) : FVec Ideal S256x512 .f32 :=
  exp2 (subf s (broadcastTo S256x512 m broadcasts_S256x1_S256x512))
/-- The context's weights. -/
def ec (t : FVec Ideal S256x256 .f32) (m : FVec Ideal S256x1 .f32) : FVec Ideal S256x256 .f32 :=
  exp2 (subf t (broadcastTo S256x256 m broadcasts_S256x1_S256x256))

/-- The weights' sum, the sink's among them. -/
def dn (p : FVec Ideal S256x512 .f32) (q : FVec Ideal S256x256 .f32) (z : Ideal .f32) (m : FVec Ideal S256x1 .f32) : FVec Ideal S256x1 .f32 :=
  addf (addf (shapeCast S256x1 (multiReduction .add [1] S256 p 0x00000000#32 reduces_S256x512_S256 (.inl rfl) rfl) shapeCasts_S256_S256x1)
    (shapeCast S256x1 (multiReduction .add [1] S256 q 0x00000000#32 reduces_S256x256_S256 (.inl rfl) rfl) shapeCasts_S256_S256x1)) (exp2 (subf (broadcast S256x1 z) m))

/-- The weighted values over the weights' sum. -/
def qt (p : FVec Ideal S256x512 .f32) (q : FVec Ideal S256x256 .f32) (v : Vec Ideal S512x128 .bf16) (u : Vec Ideal S256x128 .bf16) (d : FVec Ideal S256x1 .f32) :
    FVec Ideal S256x128 .bf16 :=
  truncf .bf16 (mulf (addf (matmul (φ₂ := .bf16) dot_S256x512_S512x128_S256x128_1_0_0_1_n_n none (truncf .bf16 p bitsLt_bf16_f32) (v : FVec Ideal S512x128 .bf16) (constant S256x128 .f32 0x00000000#32))
      (matmul (φ₂ := .bf16) dot_S256x256_S256x128_S256x128_1_0_0_1_n_n none (truncf .bf16 q bitsLt_bf16_f32) (u : FVec Ideal S256x128 .bf16) (constant S256x128 .f32 0x00000000#32)))
    (broadcastTo S256x128 (divf (broadcast S256x1 (Scalar.ofBits (F := Ideal) .f32 0x3F800000#32)) d) broadcasts_S256x1_S256x128)) bitsLt_bf16_f32

/-- One head. -/
def head (b : FVec Ideal S256x512 .f32) (k : Vec Ideal S512x128 .bf16) (v : Vec Ideal S512x128 .bf16) (k' u : Vec Ideal S256x128 .bf16) (x : Vec Ideal S256x128 .f32) (z : Ideal .f32) :
    FVec Ideal S256x128 .bf16 :=
  k0_pay6 v u (sw b k x) (sc k' x) z (Named.named κ "log2_e" 0x3FB8AA3B#32)

/-- The sink scaled. -/
def zs (z : Ideal .f32) : Ideal .f32 := Scalar.mulf z (Named.named κ "log2_e" 0x3FB8AA3B#32)

theorem head_eq (b k v k' u x z) : head b k v k' u x z
    = qt (ew (sw b k x) (mx (sw b k x) (sc k' x) (zs z))) (ec (sc k' x) (mx (sw b k x) (sc k' x) (zs z))) v u
      (dn (ew (sw b k x) (mx (sw b k x) (sc k' x) (zs z))) (ec (sc k' x) (mx (sw b k x) (sc k' x) (zs z))) (zs z) (mx (sw b k x) (sc k' x) (zs z))) := rfl

theorem scale_eq : Named.named (F := Ideal) (φ := .f32) κ "q_scale" 0x3E38AA3B#32 = (((1 / 8) * (Real.log 2)⁻¹ : ℝ) : EReal) := rfl
theorem log2_eq : Named.named (F := Ideal) (φ := .f32) κ "log2_e" 0x3FB8AA3B#32 = (((Real.log 2)⁻¹ : ℝ) : EReal) := rfl

theorem zs_at (z : ℝ) : zs (z : EReal) = ((Real.log 2)⁻¹ * z : ℝ) := by
  unfold zs
  rw [log2_eq, mul_comm, EReal.coe_mul]
  rfl

/-- The scaled product of real lanes. -/
theorem lanes_sum (X Y : ℕ → ℝ) :
    (∑ d : Fin 128, ((X d : EReal) * (((1 / 8) * (Real.log 2)⁻¹ : ℝ) : EReal)) * (Y d : EReal)) = (((Real.log 2)⁻¹ * ((∑ d : Fin 128, X d * Y d) * (1 / 8)) : ℝ) : EReal) := by
  simp only [← EReal.coe_mul, ← coe_sum]
  congr 1
  rw [Finset.sum_mul, Finset.mul_sum]
  exact Finset.sum_congr rfl fun d _ => by ring

section
variable {b : FVec Ideal S256x512 .f32} {k v : Vec Ideal S512x128 .bf16} {k' u : Vec Ideal S256x128 .bf16} {x : Vec Ideal S256x128 .f32}
  {X : ℕ → ℝ} {K K' : ℕ → ℕ → ℝ} {w : ℕ → Bool}

/-- A window score at an index. -/
theorem sw_at (r : Fin 256) (hb : ∀ j : Fin 512, b (ix2 r j) = if w j then 0 else ⊥) (hx : ∀ d : Fin 128, x (ix2 r d) = (X d : EReal))
    (hk : ∀ (j : Fin 512) (d : Fin 128), k (ix2 j d) = (K j d : EReal)) (j : Fin 512) :
    sw b k x (ix2 r j) = ms (w j) ((Real.log 2)⁻¹ * ((∑ d : Fin 128, X d * K j d) * (1 / 8))) := by
  pointwise [sw, k0_pay8, k0_pay7]
  simp only [hx, hk, hb, scale_eq]
  rw [lanes_sum]
  cases w j
  · simp [ms]
  · simp [ms]

/-- A context score at an index. -/
theorem sc_at (r : Fin 256) (hx : ∀ d : Fin 128, x (ix2 r d) = (X d : EReal))
    (hk : ∀ (j : Fin 256) (d : Fin 128), k' (ix2 j d) = (K' j d : EReal)) (j : Fin 256) :
    sc k' x (ix2 r j) = ms true ((Real.log 2)⁻¹ * ((∑ d : Fin 128, X d * K' j d) * (1 / 8))) := by
  pointwise [sc, k0_pay9, k0_pay7]
  simp only [hx, hk, scale_eq]
  rw [lanes_sum]
  rfl
end

/-- The largest score is real. -/
theorem mx_real {s t} {z : ℝ} (r : Fin 256) (hs : ∀ j : Fin 512, s (ix2 r j) ≠ (⊤ : EReal)) (ht : ∀ j : Fin 256, t (ix2 r j) ≠ (⊤ : EReal)) :
    IsReal (mx s t (z : EReal) (ix2 r 0)) := by
  have e : mx s t (z : EReal) (ix2 r 0) = max (max (Finset.fold max (Ideal.ofBits FTy.f32 0xFF800000#32) (fun x : Fin 512 => s (ix2 r x)) Finset.univ)
      (Finset.fold max (Ideal.ofBits FTy.f32 0xFF800000#32) (fun x : Fin 256 => t (ix2 r x)) Finset.univ)) (z : EReal) := by
    pointwise [mx]
  rw [e, Finite.ofBits_neg_inf]
  exact real_max (ne_top_max (fold_ne_top _ _ hs) (fold_ne_top _ _ ht)) z

theorem ew_at (s m) (r : Fin 256) (j : Fin 512) : ew s m (ix2 r j) = FloatOps.exp2 (F := Ideal) (φ := .f32) (s (ix2 r j) - m (ix2 r 0) : EReal) := by
  pointwise [ew]

theorem ec_at (s m) (r : Fin 256) (j : Fin 256) : ec s m (ix2 r j) = FloatOps.exp2 (F := Ideal) (φ := .f32) (s (ix2 r j) - m (ix2 r 0) : EReal) := by
  pointwise [ec]

theorem dn_at (p q z m) (r : Fin 256) : dn p q z m (ix2 r 0)
    = (∑ j : Fin 512, p (ix2 r j)) + (∑ j : Fin 256, q (ix2 r j)) + FloatOps.exp2 (F := Ideal) (φ := .f32) (z - m (ix2 r 0) : EReal) := by
  pointwise [dn]

theorem qt_at (p q v u d) (r : Fin 256) (e : Fin 128) : qt p q v u d (ix2 r e)
    = ((∑ j : Fin 512, p (ix2 r j) * v (ix2 j e)) + ∑ j : Fin 256, q (ix2 r j) * u (ix2 j e)) * Ideal.div 1 (d (ix2 r 0)) := by
  pointwise [qt]

/-- One head's result at row `r` and lane `e`: the average with the sink over all keys, of which only the window's latent ones
    count. -/
theorem head_at {b : FVec Ideal S256x512 .f32} {k v : Vec Ideal S512x128 .bf16} {k' u : Vec Ideal S256x128 .bf16} {x : Vec Ideal S256x128 .f32}
    {X : ℕ → ℝ} {K V : ℕ → ℕ → ℝ} {w : ℕ → Bool} {z : ℝ} {a : ℕ} (ha : a ≤ 3584) (hw : ∀ j, j < 4096 → (j < a ∨ a + 512 ≤ j) → w j = false)
    (hc : ∀ j, w (4096 + j) = true) (r : Fin 256) (hb : ∀ j : Fin 512, b (ix2 r j) = if w (a + j) then 0 else ⊥)
    (hx : ∀ d : Fin 128, x (ix2 r d) = (X d : EReal))
    (hk : ∀ (j : Fin 512) (d : Fin 128), k (ix2 j d) = (K (a + j) d : EReal)) (hv : ∀ (j : Fin 512) (d : Fin 128), v (ix2 j d) = (V (a + j) d : EReal))
    (hk' : ∀ (j : Fin 256) (d : Fin 128), k' (ix2 j d) = (K (4096 + j) d : EReal)) (hu : ∀ (j : Fin 256) (d : Fin 128), u (ix2 j d) = (V (4096 + j) d : EReal))
    (e : Fin 128) :
    head b k v k' u x (z : EReal) (ix2 r e) = (savg w (fun j => (∑ d : Fin 128, X d * K j d) * (1 / 8)) (fun j => V j e) z : EReal) := by
  have h0 := sw_at (w := fun j => w (a + j)) (K := fun j => K (a + j)) r hb hx hk
  have h1 := sc_at (K' := fun j => K (4096 + j)) r hx hk'
  obtain ⟨M, hM⟩ := mx_real (z := (Real.log 2)⁻¹ * z) (s := sw b k x) (t := sc k' x) r (fun j => by rw [h0]; exact ms_ne_top _ _) (fun j => by rw [h1]; exact ms_ne_top _ _)
  rw [head_eq, zs_at, qt_at, dn_at]
  have hz : FloatOps.exp2 (F := Ideal) (φ := .f32) ((((Real.log 2)⁻¹ * z : ℝ) : EReal) - (M : EReal)) = (((2 : ℝ) ^ (-M) * Real.exp z : ℝ) : EReal) := exp2_ms true z M
  simp only [ew_at, ec_at, hM, h0, h1, exp2_ms, hz, hv, hu, ← EReal.coe_mul, ← coe_sum, ← EReal.coe_add]
  have hk0 : (2 : ℝ) ^ (-M) ≠ 0 := (Real.rpow_pos_of_pos two_pos _).ne'
  rw [← savg_scale hk0, sum_window (fun j => (2 : ℝ) ^ (-M) * we (w j) ((∑ d : Fin 128, X d * K j d) * (1 / 8)) * V j e) a ha
      (fun j hj hj' => by rw [hw j hj hj']; simp [we]),
    sum_window (fun j => (2 : ℝ) ^ (-M) * we (w j) ((∑ d : Fin 128, X d * K j d) * (1 / 8))) a ha (fun j hj hj' => by rw [hw j hj hj']; simp [we])]
  simp only [hc]
  rw [Ideal.div_coe, one_mul, ← EReal.coe_mul]
  refine ne_of_gt (add_pos_of_nonneg_of_pos (add_nonneg ?_ ?_) (mul_pos (Real.rpow_pos_of_pos two_pos _) (Real.exp_pos _))) <;>
    exact Finset.sum_nonneg fun _ _ => mul_nonneg (Real.rpow_pos_of_pos two_pos _).le (we_nonneg _ _)

end Cert.SwtHead

end
-- ==== Proof.SwtBody.lean ====
/- What the sliding-window attention kernel's body leaves in its output block, at an index, from what its input blocks hold. -/
module

public import proofs.«01_k».proof.Proof.Gen.SwaAttIdeal.Value
public import proofs.«01_k».proof.Proof.SwtHead
public import proofs.«01_k».proof.Proof.SwtBand
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SwaAttIdeal.Gen

open Idealize.ShloMosaic Idealize.ShloMosaic.TcCoe Idealize.SL.Sem
open Idealize.ShloMosaic.Pipeline (Dat Cfg Window)
open Cert.Reals Cert.Swt

/-- The first latent key of a tile's window. -/
def st (n : ℕ) : ℕ := min 3584 (n * 256 - 128)

/-- Which keys count for row `r` of tile `n`; the last tile is the context's. -/
def wk (n r j : ℕ) : Bool := if j < 4096 then decide (n < 16 ∧ j ≤ n * 256 + r + 128 ∧ n * 256 + r ≤ j + 128) else true

theorem st_word : ∀ n : Fin 17, Scalar.minsi 3584#32 (Scalar.maxsi 0#32 (Scalar.subi (Scalar.muli (BitVec.ofNat 32 n) 256#32) 128#32)) = BitVec.ofNat 32 (st n) := by
  decide +kernel

theorem tile_word : ∀ n : Fin 17, Scalar.muli (BitVec.ofNat 32 n) 256#32 = BitVec.ofNat 32 (n * 256) := by
  decide +kernel

theorem last_word : ∀ n : Fin 17, Scalar.cmpi .slt (BitVec.ofNat 32 n) 16#32 = if (n : ℕ) < 16 then 1#1 else 0#1 := by
  decide +kernel

theorem st_le (n : ℕ) : st n ≤ 3584 := min_le_left _ _

theorem wk_out {n r : ℕ} (hr : r < 256) (j : ℕ) (hj : j < 4096) (h : j < st n ∨ st n + 512 ≤ j) : wk n r j = false := by
  rw [wk, if_pos hj, decide_eq_false_iff_not]
  unfold st at h
  omega

theorem wk_ctx (n r j : ℕ) : wk n r (4096 + j) = true := if_neg (by omega)

theorem off1 (i : grid0.Coords) : k0_off1 i = ![st (i 1), 0] := by
  have h : ∀ n : Fin 17, (BitVec.ofNat 32 (st n)).toNat = st n := by decide +kernel
  exact congrArg (fun n => ![n, 0]) ((congrArg BitVec.toNat (st_word (i 1))).trans (h (i 1)))

theorem off2 (i : grid0.Coords) : k0_off2 i = ![st (i 1), 128] := congrArg (fun n => ![n, 128]) (congrFun (off1 i) 0)
theorem off3 (i : grid0.Coords) : k0_off3 i = ![st (i 1), 256] := congrArg (fun n => ![n, 256]) (congrFun (off1 i) 0)
theorem off4 (i : grid0.Coords) : k0_off4 i = ![st (i 1), 384] := congrArg (fun n => ![n, 384]) (congrFun (off1 i) 0)

/-- The mask's word at a row and a key of tile `n`. -/
theorem bias_word (n : Fin 17) (r : Fin 256) (j : Fin 512) :
    Scalar.select (IntOp.andi (IntOp.cmpi .sle (IntOp.absi (IntOp.subi
        (IntOp.addi (Scalar.minsi 3584#32 (Scalar.maxsi 0#32 (Scalar.subi (Scalar.muli (BitVec.ofNat 32 n) 256#32) 128#32))) (BitVec.ofNat 32 j))
        (IntOp.addi (Scalar.muli (BitVec.ofNat 32 n) 256#32) (BitVec.ofNat 32 r)))) 128#32) (Scalar.cmpi .slt (BitVec.ofNat 32 n) 16#32)) (0 : EReal) ⊥
      = if wk n r (st n + j) then (0 : EReal) else ⊥ := by
  have hs := st_le n
  have e : IntOp.subi (IntOp.addi (BitVec.ofNat 32 (st n)) (BitVec.ofNat 32 j)) (IntOp.addi (BitVec.ofNat 32 (n * 256)) (BitVec.ofNat 32 r))
      = BitVec.ofNat 32 (st n + j) - BitVec.ofNat 32 (n * 256 + r) := by
    rw [BitVec.ofNat_add, BitVec.ofNat_add]
    rfl
  rw [st_word, tile_word, last_word, e, band (by omega) (by omega), wk, if_pos (show st n + (j : ℕ) < 4096 by omega)]
  by_cases h1 : (n : ℕ) < 16 <;> by_cases h2 : st n + j ≤ (n : ℕ) * 256 + r + 128 ∧ (n : ℕ) * 256 + r ≤ st n + j + 128 <;>
    simp only [h1, h2, if_true, if_false, and_true, and_false, true_and, false_and, decide_true, decide_false, Bool.false_eq_true] <;> rfl

/-- The mask of a tile's window. -/
theorem bias_at (i : grid0.Coords) (r : Fin 256) (j : Fin 512) :
    k0_pay2 (F := Ideal) i (ix2 r j) = if wk (i 1) r (st (i 1) + j) then (0 : EReal) else ⊥ := by
  pointwise [k0_pay2]
  exact bias_word (i 1) r j

/-- One head's part of the block: head `h` with its key and value head's columns beginning at `p` and its own at `q`. -/
theorem piece {X : ℕ → ℝ} {K V : ℕ → ℕ → ℝ} {Z : ℕ → ℝ} (i : grid0.Coords) (r : Fin 256) (e : ℕ)
    {x0 : Vec Ideal S16 .f32} {x1 : Vec Ideal S256x2048 .f32} {x2 : Vec Ideal S4096x512 .bf16} {x3 : Vec Ideal S256x512 .bf16} {x4 : Vec Ideal S4096x512 .bf16} {x5 : Vec Ideal S256x512 .bf16}
    (hx0 : ∀ h : Fin 16, x0 (ix1 h) = (Z h : EReal)) (hx1 : ∀ d : Fin 2048, x1 (ix2 r d) = (X d : EReal))
    (hx2 : ∀ (j : Fin 4096) (d : Fin 512), x2 (ix2 j d) = (K j d : EReal)) (hx3 : ∀ (j : Fin 256) (d : Fin 512), x3 (ix2 j d) = (K (4096 + j) d : EReal))
    (hx4 : ∀ (j : Fin 4096) (d : Fin 512), x4 (ix2 j d) = (V j d : EReal)) (hx5 : ∀ (j : Fin 256) (d : Fin 512), x5 (ix2 j d) = (V (4096 + j) d : EReal))
    (h q p : ℕ) (hh : h < 16) (hq : q = h * 128) (hp : p = h / 4 * 128) (o : Fin 2 → ℕ) (ho : o = ![st (i 1), p]) (i0) (i1) (i2) (i3) (y) (x : S256x128.Idx)
    (e0 : (r : ℕ) = x 0) (e1 : e = q + x 1) :
    Cert.SwtHead.head (k0_pay2 i) (View.ld x2 (Rect.unit (s := S4096x512) o ![512, 128] i2)) (View.ld x4 (Rect.unit (s := S4096x512) o ![512, 128] i2))
        (View.ld x3 (Rect.unit (s := S256x512) ![0, p] ![256, 128] i3)) (View.ld x5 (Rect.unit (s := S256x512) ![0, p] ![256, 128] i3))
        (View.ld x1 (Rect.unit (s := S256x2048) ![0, q] ![256, 128] i1)) (View.ld x0 (Rect.unit (s := S16) ![h] ![1] i0) y) x
      = (savg (wk (i 1) r) (fun j => (∑ d : Fin 128, X (e / 128 * 128 + d) * K j (e / 128 / 4 * 128 + d)) * (1 / 8)) (fun j => V j (e / 128 / 4 * 128 + e % 128)) (Z (e / 128)) : EReal) := by
  have hx : x = ix2 r (x 1) := by rw [show r = x 0 from Fin.ext e0]; exact eq_ix2 x
  have hl : (x 1 : ℕ) < 128 := (x 1).isLt
  have hs := st_le (i 1)
  have h1 : e / 128 = h := by omega
  have h2 : e % 128 = (x 1 : ℕ) := by omega
  have hz : View.ld x0 (Rect.unit (s := S16) ![h] ![1] i0) y = (Z h : EReal) := by
    rw [← hx0 ⟨h, hh⟩]
    refine congrArg x0 (funext fun a => ?_)
    have hy : (y 0 : ℕ) = 0 := Nat.lt_one_iff.1 (y 0).isLt
    fin_cases a
    exact Fin.ext (by show h + 1 * (y 0 : ℕ) = h; omega)
  rw [hz, h1, h2, hx]
  subst hq hp ho
  refine Cert.SwtHead.head_at (X := fun d => X (h * 128 + d)) (K := fun j d => K j (h / 4 * 128 + d)) (V := fun j d => V j (h / 4 * 128 + d)) hs
    (fun j hj hj' => wk_out r.isLt j hj hj') (wk_ctx _ _) r (bias_at i r) ?_ ?_ ?_ ?_ ?_ (x 1)
  · intro d; pointwise; exact hx1 _
  · intro j d; pointwise; exact hx2 _ _
  · intro j d; pointwise; exact hx4 _ _
  · intro j d; pointwise; exact hx3 _ _
  · intro j d; pointwise; exact hx5 _ _

/-- The output block at row `r` and column `e`: head `e / 128`, lane `e % 128`. -/
theorem out_at {X : ℕ → ℝ} {K V : ℕ → ℕ → ℝ} {Z : ℕ → ℝ} (c : Dev nD) (i : grid0.Coords) (arg2 : Memref sig .tc .smem S16 .f32) (harg2 : arg2.IsWhole) (arg3 : Memref sig .tc .vmem S256x2048 .f32) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S4096x512 .bf16) (harg6 : arg6.IsWhole) (arg7 : Memref sig .tc .vmem S256x512 .bf16) (harg7 : arg7.IsWhole) (arg8 : Memref sig .tc .vmem S256x2048 .bf16) (harg8 : arg8.IsWhole)
    (x0 : Vec Ideal S16 .f32) (x1 : Vec Ideal S256x2048 .f32) (x2 : Vec Ideal S4096x512 .bf16) (x3 : Vec Ideal S256x512 .bf16) (x4 : Vec Ideal S4096x512 .bf16) (x5 : Vec Ideal S256x512 .bf16) (r : Fin 256) (e : Fin 2048)
    (hx0 : ∀ h : Fin 16, x0 (ix1 h) = (Z h : EReal)) (hx1 : ∀ d : Fin 2048, x1 (ix2 r d) = (X d : EReal))
    (hx2 : ∀ (j : Fin 4096) (d : Fin 512), x2 (ix2 j d) = (K j d : EReal)) (hx3 : ∀ (j : Fin 256) (d : Fin 512), x3 (ix2 j d) = (K (4096 + j) d : EReal))
    (hx4 : ∀ (j : Fin 4096) (d : Fin 512), x4 (ix2 j d) = (V j d : EReal)) (hx5 : ∀ (j : Fin 256) (d : Fin 512), x5 (ix2 j d) = (V (4096 + j) d : EReal)) :
    out0_A_6 (F := Ideal) c i arg2 harg2 arg3 harg3 arg4 harg4 arg5 harg5 arg6 harg6 arg7 harg7 arg8 harg8 x0 x1 x2 x3 x4 x5 (ix2 r e)
      = (savg (wk (i 1) r) (fun j => (∑ d : Fin 128, X (e / 128 * 128 + d) * K j (e / 128 / 4 * 128 + d)) * (1 / 8)) (fun j => V j (e / 128 / 4 * 128 + e % 128)) (Z (e / 128)) : EReal) := by
  unfold out0_A_6
  frame_open
  frame_out
  canon_tiles x h
  all_goals try simp only [View.readCov_eq_canon']
  · exact piece i r e hx0 hx1 hx2 hx3 hx4 hx5 15 1920 384 (by norm_num) (by norm_num) (by norm_num) _ (off4 i) _ _ _ _ _ x h0 h1
  · exact piece i r e hx0 hx1 hx2 hx3 hx4 hx5 14 1792 384 (by norm_num) (by norm_num) (by norm_num) _ (off4 i) _ _ _ _ _ x h0 h1
  · exact piece i r e hx0 hx1 hx2 hx3 hx4 hx5 13 1664 384 (by norm_num) (by norm_num) (by norm_num) _ (off4 i) _ _ _ _ _ x h0 h1
  · exact piece i r e hx0 hx1 hx2 hx3 hx4 hx5 12 1536 384 (by norm_num) (by norm_num) (by norm_num) _ (off4 i) _ _ _ _ _ x h0 h1
  · exact piece i r e hx0 hx1 hx2 hx3 hx4 hx5 11 1408 256 (by norm_num) (by norm_num) (by norm_num) _ (off3 i) _ _ _ _ _ x h0 h1
  · exact piece i r e hx0 hx1 hx2 hx3 hx4 hx5 10 1280 256 (by norm_num) (by norm_num) (by norm_num) _ (off3 i) _ _ _ _ _ x h0 h1
  · exact piece i r e hx0 hx1 hx2 hx3 hx4 hx5 9 1152 256 (by norm_num) (by norm_num) (by norm_num) _ (off3 i) _ _ _ _ _ x h0 h1
  · exact piece i r e hx0 hx1 hx2 hx3 hx4 hx5 8 1024 256 (by norm_num) (by norm_num) (by norm_num) _ (off3 i) _ _ _ _ _ x h0 h1
  · exact piece i r e hx0 hx1 hx2 hx3 hx4 hx5 7 896 128 (by norm_num) (by norm_num) (by norm_num) _ (off2 i) _ _ _ _ _ x h0 h1
  · exact piece i r e hx0 hx1 hx2 hx3 hx4 hx5 6 768 128 (by norm_num) (by norm_num) (by norm_num) _ (off2 i) _ _ _ _ _ x h0 h1
  · exact piece i r e hx0 hx1 hx2 hx3 hx4 hx5 5 640 128 (by norm_num) (by norm_num) (by norm_num) _ (off2 i) _ _ _ _ _ x h0 h1
  · exact piece i r e hx0 hx1 hx2 hx3 hx4 hx5 4 512 128 (by norm_num) (by norm_num) (by norm_num) _ (off2 i) _ _ _ _ _ x h0 h1
  · exact piece i r e hx0 hx1 hx2 hx3 hx4 hx5 3 384 0 (by norm_num) (by norm_num) (by norm_num) _ (off1 i) _ _ _ _ _ x h0 h1
  · exact piece i r e hx0 hx1 hx2 hx3 hx4 hx5 2 256 0 (by norm_num) (by norm_num) (by norm_num) _ (off1 i) _ _ _ _ _ x h0 h1
  · exact piece i r e hx0 hx1 hx2 hx3 hx4 hx5 1 128 0 (by norm_num) (by norm_num) (by norm_num) _ (off1 i) _ _ _ _ _ x h0 h1
  · exact piece i r e hx0 hx1 hx2 hx3 hx4 hx5 0 0 0 (by norm_num) (by norm_num) (by norm_num) _ (off1 i) _ _ _ _ _ x h0 (h1.trans (Nat.zero_add _).symm)

end Cert.SwaAttIdeal.Gen

end
-- ==== Proof.SwtBlocks.lean ====
/- Where the sliding-window attention's blocks lie in the arrays, and what the output array holds after the launch. -/
module

public import proofs.«01_k».proof.Proof.Gen.SwaAttIdeal.Value
public import proofs.«01_k».proof.Proof.SwtBody
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SwaAttIdeal.Gen

open Idealize.ShloMosaic Idealize.ShloMosaic.TcCoe Idealize.SL.Sem
open Idealize.ShloMosaic.Pipeline (Dat Cfg Window)
open Cert.Reals Cert.Spec Cert.Swt

/-- The tile of rows that grid point `t` works on: one of its batch's sixteen latent tiles, or its context. -/
def tile (t : ℕ) : ℕ := if t % 17 < 16 then t / 17 * 16 + t % 17 else 128 + t / 17

/-- The block indices of the windows at grid point `t`. -/
theorem idx : ∀ t : Fin grid0.N,
    (win0_0.index t 0 = 0)
    ∧ (win0_1.index t 0 = tile t ∧ win0_1.index t 1 = 0)
    ∧ (win0_2.index t 0 = t.val / 17 ∧ win0_2.index t 1 = 0)
    ∧ (win0_3.index t 0 = 128 + t.val / 17 ∧ win0_3.index t 1 = 0)
    ∧ (win0_4.index t 0 = t.val / 17 ∧ win0_4.index t 1 = 0)
    ∧ (win0_5.index t 0 = 128 + t.val / 17 ∧ win0_5.index t 1 = 0)
    ∧ (win0_6.index t 0 = tile t ∧ win0_6.index t 1 = 0)
    ∧ (grid0.coords t 1 : ℕ) = t.val % 17 := by
  decide +kernel

/-- The grid has 136 points. -/
theorem lt136 (t : Fin cfg0.N) : (t : ℕ) < 136 := lt_of_lt_of_eq t.isLt (by decide +kernel)

theorem tile_lt (t : Fin cfg0.N) : tile t < 136 := by
  have := lt136 t
  unfold tile
  split <;> omega

variable (m : (ℓ : Loc nD τ sig) → Buf (Elt Ideal) ℓ)

/-- The sinks' block is the array. -/
theorem b0 (c : Dev nD) (t : Fin cfg0.N) (h : Fin 16) : iblk m c 0 t (ix1 h) = m (c, Proc.tc.devRef main_arg3) (ix1 h) := by
  rw [← V_main_arg3 m c]
  blk_simp [iblk, idx t]
  congr 1
  blk_ext [idx t]

/-- The query block at an index. -/
theorem b1 (c : Dev nD) (t : Fin cfg0.N) (i : Fin 256) (d : Fin 2048) : iblk m c 1 t (ix2 i d)
    = m (c, Proc.tc.devRef main_arg0) (ix2 ⟨tile t * 256 + i, by have := tile_lt t; omega⟩ d) := by
  rw [← V_main_arg0 m c]
  blk_simp [iblk, idx t]
  congr 1
  blk_ext [idx t]

/-- The latent keys' block at an index. -/
theorem b2 (c : Dev nD) (t : Fin cfg0.N) (j : Fin 4096) (d : Fin 512) : X0_2 m c t (ix2 j d)
    = m (c, Proc.tc.devRef main_arg1) (ix2 ⟨t / 17 * 4096 + j, by have := lt136 t; omega⟩ d) := by
  rw [← V_main_arg1 m c]
  unfold X0_2 Pipeline.Window.fill
  rw [dif_pos (moved0_2 t _)]
  blk_simp [iblk, idx t]
  congr 1
  blk_ext [idx t]

/-- The context keys' block at an index. -/
theorem b3 (c : Dev nD) (t : Fin cfg0.N) (j : Fin 256) (d : Fin 512) : iblk m c 3 t (ix2 j d)
    = m (c, Proc.tc.devRef main_arg1) (ix2 ⟨(128 + t / 17) * 256 + j, by have := lt136 t; omega⟩ d) := by
  rw [← V_main_arg1 m c]
  blk_simp [iblk, idx t]
  congr 1
  blk_ext [idx t]

/-- The latent values' block at an index. -/
theorem b4 (c : Dev nD) (t : Fin cfg0.N) (j : Fin 4096) (d : Fin 512) : X0_4 m c t (ix2 j d)
    = m (c, Proc.tc.devRef main_arg2) (ix2 ⟨t / 17 * 4096 + j, by have := lt136 t; omega⟩ d) := by
  rw [← V_main_arg2 m c]
  unfold X0_4 Pipeline.Window.fill
  rw [dif_pos (moved0_4 t _)]
  blk_simp [iblk, idx t]
  congr 1
  blk_ext [idx t]

/-- The context values' block at an index. -/
theorem b5 (c : Dev nD) (t : Fin cfg0.N) (j : Fin 256) (d : Fin 512) : iblk m c 5 t (ix2 j d)
    = m (c, Proc.tc.devRef main_arg2) (ix2 ⟨(128 + t / 17) * 256 + j, by have := lt136 t; omega⟩ d) := by
  rw [← V_main_arg2 m c]
  blk_simp [iblk, idx t]
  congr 1
  blk_ext [idx t]

/-- A tile's rows lie in its batch. -/
theorem tile_bat {t : ℕ} (ht : t < 136) {r : ℕ} (hr : r < 256) : bat (tile t * 256 + r) = t / 17 := by
  unfold bat tile
  split <;> split <;> omega

/-- The keys that count for a tile's row are those of its token. -/
theorem tile_win {t : ℕ} (ht : t < 136) {r : ℕ} (hr : r < 256) : wk (t % 17) r = win (tile t * 256 + r) := by
  funext j
  unfold wk win
  split
  · refine decide_eq_decide.2 ?_
    unfold tile
    split <;> omega
  · rfl

section
variable {Q K V' : ℕ → ℕ → ℝ} {Z : ℕ → ℝ} (c : Dev nD)

/-- The output block's entry is the specification's at the block's place in the array. -/
theorem block_at (hq : ∀ (r : Fin 34816) (x : Fin 2048), m (c, Proc.tc.devRef main_arg0) (ix2 r x) = (Q r x : EReal))
    (hk : ∀ (r : Fin 34816) (x : Fin 512), m (c, Proc.tc.devRef main_arg1) (ix2 r x) = (K r x : EReal))
    (hv : ∀ (r : Fin 34816) (x : Fin 512), m (c, Proc.tc.devRef main_arg2) (ix2 r x) = (V' r x : EReal))
    (hz : ∀ h : Fin 16, m (c, Proc.tc.devRef main_arg3) (ix1 h) = (Z h : EReal)) (t : Fin cfg0.N) (r : Fin 256) (e : Fin 2048) :
    outsAt0 m c t (ix2 r e) = (swt Q K V' Z (tile t * 256 + r) (e / 128) (e % 128) : EReal) := by
  have ht := lt136 t
  unfold outsAt0
  refine (out_at (X := fun d => Q (tile t * 256 + r) d) (K := fun j d => K (tok (t / 17) j) d) (V := fun j d => V' (tok (t / 17) j) d) (Z := Z)
    (hx0 := fun h => ?_) (hx1 := fun d => ?_) (hx2 := fun j d => ?_) (hx3 := fun j d => ?_) (hx4 := fun j d => ?_) (hx5 := fun j d => ?_) ..).trans ?_
  · rw [b0, hz]
  · rw [b1, hq]
  · rw [b2, hk]
    simp only [tok, j.isLt, if_true]
  · rw [b3, hk]
    have e : (128 + (t : ℕ) / 17) * 256 + j = 32768 + t / 17 * 256 + (4096 + j - 4096) := by omega
    simp only [tok, e, if_neg (show ¬ 4096 + (j : ℕ) < 4096 by omega)]
  · rw [b4, hv]
    simp only [tok, j.isLt, if_true]
  · rw [b5, hv]
    have e : (128 + (t : ℕ) / 17) * 256 + j = 32768 + t / 17 * 256 + (4096 + j - 4096) := by omega
    simp only [tok, e, if_neg (show ¬ 4096 + (j : ℕ) < 4096 by omega)]
  · rw [(idx t).2.2.2.2.2.2.2, tile_win ht r.isLt]
    unfold swt sscore
    rw [tile_bat ht r.isLt]

/-- The output array of the launch. -/
def result (Q K V' : ℕ → ℕ → ℝ) (Z : ℕ → ℝ) : Vec Ideal S34816x2048 .bf16 := fun i => (swt Q K V' Z (i 0) ((i 1 : ℕ) / 128) ((i 1 : ℕ) % 128) : EReal)

/-- The output array read at row `r` and column `x`. -/
theorem result_at (r : Fin 34816) (x : Fin 2048) : result Q K V' Z (ix2 r x) = (swt Q K V' Z r ((x : ℕ) / 128) ((x : ℕ) % 128) : EReal) := rfl

/-- After the launch the output array holds the specification's values: every index lies in the block of one grid point. -/
theorem final (hq : ∀ (r : Fin 34816) (x : Fin 2048), m (c, Proc.tc.devRef main_arg0) (ix2 r x) = (Q r x : EReal))
    (hk : ∀ (r : Fin 34816) (x : Fin 512), m (c, Proc.tc.devRef main_arg1) (ix2 r x) = (K r x : EReal))
    (hv : ∀ (r : Fin 34816) (x : Fin 512), m (c, Proc.tc.devRef main_arg2) (ix2 r x) = (V' r x : EReal))
    (hz : ∀ h : Fin 16, m (c, Proc.tc.devRef main_arg3) (ix1 h) = (Z h : EReal)) :
    (dats m 0 c).arrAt 6 cfg0.N = result Q K V' Z := by
  refine (dats m 0 c).arrAt_eq_of_covers 6 _ (by decide +kernel) fun t hf y => ?_
  blk_simp
  rw [after0_6]
  rw [eq_ix2 y]
  refine (block_at m c hq hk hv hz t (y 0) (y 1)).trans ?_
  have ht := tile_lt t
  have e : (win0_6.blk t).view.emb (ix2 (y 0) (y 1)) = ix2 ⟨tile t * 256 + (y 0 : ℕ), by idx_bounds; omega⟩
      ⟨(y 1 : ℕ), by idx_bounds; omega⟩ := by
    blk_ext [idx t]
  rw [e, result_at]
end

end Cert.SwaAttIdeal.Gen

end
-- ==== Proof.SwtClaims.lean ====
/- The claims about the sliding-window attention: the frames, the named constants, and the equation of kernel and reference. -/
module

public import proofs.«01_k».proof.Defs
public import proofs.«01_k».proof.Proof.Gen.SwaAtt.Frame
public import proofs.«01_k».proof.Proof.Gen.SwaAttIdeal.Value
public import proofs.«01_k».proof.Proof.Gen.SwaAttRefIdeal.Run
public import proofs.«01_k».proof.Proof.Gen.Pre_swa_finite
public import proofs.«01_k».proof.Proof.Claims
public import proofs.«01_k».proof.Proof.SwtRef
public import proofs.«01_k».proof.Proof.SwtBlocks
public import Idealize.ShloMosaic.Lib.Quiescent

@[expose] public section

set_option maxRecDepth 16384

noncomputable section

namespace Cert.SwtClaims

open Idealize.ShloMosaic Idealize.ShloMosaic.TcCoe Idealize.SL.Sem Cert.Reals Cert.Claims

/-- The precondition read off its printed function: every entry is real. -/
theorem of_fn (q : FVec Ideal Cert.Pre_swa_finite.S34816x2048 .f32) (k v : FVec Ideal Cert.Pre_swa_finite.S34816x512 .bf16) (z : FVec Ideal Cert.Pre_swa_finite.S16 .f32)
    (h : Cert.Pre_swa_finite.fn (F := Ideal) q k v z = fun _ => 1#1) :
    (∀ i, IsReal (q i)) ∧ (∀ i, IsReal (k i)) ∧ (∀ i, IsReal (v i)) ∧ ∀ i, IsReal (z i) := by
  have h0 := congrFun h (fun a => a.elim0)
  simp only [Cert.Pre_swa_finite.fn, Cert.Pre_swa_finite.fn_part1] at h0
  obtain ⟨h0, e3⟩ := Cert.Finite.and_split h0
  obtain ⟨h0, e2⟩ := Cert.Finite.and_split h0
  obtain ⟨e0, e1⟩ := Cert.Finite.and_split h0
  exact ⟨Cert.Finite.isReal_of_all q _ (fun _ => Cert.Finite.ofBits_inf) _ _ e0, Cert.Finite.isReal_of_all (extf .f32 k _) _ (fun _ => Cert.Finite.ofBits_inf) _ _ e1,
    Cert.Finite.isReal_of_all (extf .f32 v _) _ (fun _ => Cert.Finite.ofBits_inf) _ _ e2, Cert.Finite.isReal_of_all z _ (fun _ => Cert.Finite.ofBits_inf) _ _ e3⟩

/-- On real arguments the kernel's output array is the reference's result. -/
theorem equation (m : (ℓ : Loc Cert.SwaAttIdeal.nD Cert.SwaAttIdeal.τ Cert.SwaAttIdeal.sig) → Buf (Elt Ideal) ℓ)
    (m' : (ℓ : Loc Cert.SwaAttRefIdeal.nD Cert.SwaAttRefIdeal.τ Cert.SwaAttRefIdeal.sig) → Buf (Elt Ideal) ℓ)
    (hpre : Cert.Pre_SwaAttIdeal_swa_finite m) (c : Dev Cert.SwaAttIdeal.nD)
    (hagree : m' ((c.tc : Thread Cert.SwaAttRefIdeal.nD Cert.SwaAttRefIdeal.τ).loc Cert.SwaAttRefIdeal.main_arg0) = m ((c.tc : Thread Cert.SwaAttIdeal.nD Cert.SwaAttIdeal.τ).loc Cert.SwaAttIdeal.main_arg0)
      ∧ m' ((c.tc : Thread Cert.SwaAttRefIdeal.nD Cert.SwaAttRefIdeal.τ).loc Cert.SwaAttRefIdeal.main_arg1) = m ((c.tc : Thread Cert.SwaAttIdeal.nD Cert.SwaAttIdeal.τ).loc Cert.SwaAttIdeal.main_arg1)
      ∧ m' ((c.tc : Thread Cert.SwaAttRefIdeal.nD Cert.SwaAttRefIdeal.τ).loc Cert.SwaAttRefIdeal.main_arg2) = m ((c.tc : Thread Cert.SwaAttIdeal.nD Cert.SwaAttIdeal.τ).loc Cert.SwaAttIdeal.main_arg2)
      ∧ m' ((c.tc : Thread Cert.SwaAttRefIdeal.nD Cert.SwaAttRefIdeal.τ).loc Cert.SwaAttRefIdeal.main_arg3) = m ((c.tc : Thread Cert.SwaAttIdeal.nD Cert.SwaAttIdeal.τ).loc Cert.SwaAttIdeal.main_arg3)) :
    Cert.SwaAttRefIdeal.Value.res_main_v81 m' c = (Cert.SwaAttIdeal.Gen.dats m 0 c).arrAt 6 Cert.SwaAttIdeal.cfg0.N := by
  obtain ⟨e0, e1, e2, e3⟩ := hagree
  obtain ⟨r0, r1, r2, r3⟩ := of_fn _ _ _ _ (hpre c)
  obtain ⟨Q, hq⟩ := exists_fun2 rfl _ r0
  obtain ⟨K, hk⟩ := exists_fun2 (S := Cert.Pre_swa_finite.S34816x512) rfl (m ((c.tc : Thread Cert.SwaAttIdeal.nD Cert.SwaAttIdeal.τ).loc Cert.SwaAttIdeal.main_arg1)) r1
  obtain ⟨V, hv⟩ := exists_fun2 (S := Cert.Pre_swa_finite.S34816x512) rfl (m ((c.tc : Thread Cert.SwaAttIdeal.nD Cert.SwaAttIdeal.τ).loc Cert.SwaAttIdeal.main_arg2)) r2
  obtain ⟨Z, hz⟩ := exists_fun1 rfl _ r3
  rw [Cert.SwaAttIdeal.Gen.final m c hq hk hv hz, Cert.SwtRef.res_eq, e0, e1, e2, e3]
  funext i
  rw [eq_ix2 i]
  exact Cert.SwtRef.res_at hq hk hv hz (i 0) (i 1)

/-- The kernel runs without error and leaves its arguments as they were. -/
theorem frame_p : Cert.quiescent_SwaAtt := fun m ρ _ => Cert.SwaAtt.Gen.frame m ρ

/-- So does the kernel with exact arithmetic. -/
theorem frame_pi : Cert.quiescent_SwaAttIdeal := fun m ρ _ => Cert.SwaAttIdeal.Gen.frame m ρ

/-- So does it under the precondition. -/
theorem frame_pi_finite : Cert.quiescent_SwaAttIdeal_pre_swa_finite := fun m ρ _ => Cert.SwaAttIdeal.Gen.frame m ρ

/-- So does the reference. -/
theorem frame_ri : Cert.quiescent_SwaAttRefIdeal := fun m ρ _ =>
  (θ_run Cert.SwaAttRefIdeal.defs _ _).mono (fun r h => ⟨fun c => (h c).2,
      Idealize.ShloMosaic.sem_eq_zero_of_no_sems (by decide) r.2⟩)
    (Cert.SwaAttRefIdeal.Value.run (F := Ideal) m ρ)

/-- And the reference under the precondition. -/
theorem frame_ri_finite : Cert.quiescent_SwaAttRefIdeal_pre_swa_finite := fun m ρ _ => frame_ri m ρ trivial

/-- The mask is named by minus infinity, the scales by `log2(e) / 8` and `log2(e)`. -/
theorem preserves : Cert.preserves_SwaAtt_SwaAttIdeal :=
  ⟨IdealRules.named_const.statement Cert.SwaAttIdeal.κ "mask" .f32 0xF149F2CA#32 ⊥ rfl,
    IdealRules.named_const.statement Cert.SwaAttIdeal.κ "q_scale" .f32 0x3E38AA3B#32 (((1 / 8) * (Real.log 2)⁻¹ : ℝ) : EReal) rfl,
    IdealRules.named_const.statement Cert.SwaAttIdeal.κ "log2_e" .f32 0x3FB8AA3B#32 (((Real.log 2)⁻¹ : ℝ) : EReal) rfl⟩

/-- On arguments that are real numbers, kernel and reference compute the same array. -/
theorem algebraic : Cert.algebraic_SwaAttIdeal_SwaAttRefIdeal_pre_swa_finite := by
  intro m ρ m' ρ' hpre hagree
  refine ⟨_, Cert.SwaAttIdeal.Value.run_blocks (F := Ideal) m ρ, ?_⟩
  exact (θ_run Cert.SwaAttRefIdeal.defs _ _).mono (fun _ h c => ⟨(h c).1.trans (equation m m' hpre c (hagree c)), (h c).2⟩)
    (Cert.SwaAttRefIdeal.Value.run (F := Ideal) m' ρ')

end Cert.SwtClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_swa_finite
public import proofs.«01_k».proof.Proof.Gen.KernelIdeal.Value
public import proofs.«01_k».proof.Proof.Gen.ReferenceIdeal.Run
public import proofs.«01_k».proof.Proof.Claims
public import proofs.«01_k».proof.Proof.InClaims
public import proofs.«01_k».proof.Proof.OutClaims
public import proofs.«01_k».proof.Proof.SwaClaims
public import proofs.«01_k».proof.Proof.FouClaims
public import proofs.«01_k».proof.Proof.SwoClaims
public import proofs.«01_k».proof.Proof.SwtClaims
public import proofs.«01_k».proof.Proof.Gen.ProjOut
public import proofs.«01_k».proof.Proof.Gen.ProjOut.Frame
public import proofs.«01_k».proof.Proof.Gen.ProjOut.Skeleton
public import proofs.«01_k».proof.Proof.Gen.ProjOut.Launch
public import proofs.«01_k».proof.Proof.Gen.ProjOut.Points
public import proofs.«01_k».proof.Proof.Gen.ProjOutIdeal
public import proofs.«01_k».proof.Proof.Gen.ProjOutIdeal.Frame
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutRefIdeal
public import proofs.«01_k».proof.Proof.Gen.ProjOutRefIdeal.Run
public import proofs.«01_k».proof.Proof.Gen.SwaAtt
public import proofs.«01_k».proof.Proof.Gen.SwaAtt.Frame
public import proofs.«01_k».proof.Proof.Gen.SwaAtt.Skeleton
public import proofs.«01_k».proof.Proof.Gen.SwaAtt.Launch
public import proofs.«01_k».proof.Proof.Gen.SwaAtt.Points
public import proofs.«01_k».proof.Proof.Gen.SwaAttIdeal
public import proofs.«01_k».proof.Proof.Gen.SwaAttIdeal.Frame
public import proofs.«01_k».proof.Proof.Gen.SwaAttIdeal.Skeleton
public import proofs.«01_k».proof.Proof.Gen.SwaAttIdeal.Launch
public import proofs.«01_k».proof.Proof.Gen.SwaAttIdeal.Points
public import proofs.«01_k».proof.Proof.Gen.SwaAttIdeal.Value
public import proofs.«01_k».proof.Proof.Gen.SwaAttRefIdeal
public import proofs.«01_k».proof.Proof.Gen.SwaAttRefIdeal.Run
public import proofs.«01_k».proof.Proof.Gen.FouOut
public import proofs.«01_k».proof.Proof.Gen.FouOut.Frame
public import proofs.«01_k».proof.Proof.Gen.FouOut.Skeleton
public import proofs.«01_k».proof.Proof.Gen.FouOut.Launch
public import proofs.«01_k».proof.Proof.Gen.FouOut.Points
public import proofs.«01_k».proof.Proof.Gen.FouOutIdeal
public import proofs.«01_k».proof.Proof.Gen.FouOutIdeal.Frame
public import proofs.«01_k».proof.Proof.Gen.FouOutIdeal.Skeleton
public import proofs.«01_k».proof.Proof.Gen.FouOutIdeal.Launch
public import proofs.«01_k».proof.Proof.Gen.FouOutIdeal.Points
public import proofs.«01_k».proof.Proof.Gen.FouOutRefIdeal
public import proofs.«01_k».proof.Proof.Gen.FouOutRefIdeal.Run
public import proofs.«01_k».proof.Proof.Gen.SwaOut
public import proofs.«01_k».proof.Proof.Gen.SwaOut.Frame
public import proofs.«01_k».proof.Proof.Gen.SwaOut.Skeleton
public import proofs.«01_k».proof.Proof.Gen.SwaOut.Launch
public import proofs.«01_k».proof.Proof.Gen.SwaOut.Points
public import proofs.«01_k».proof.Proof.Gen.SwaOutIdeal
public import proofs.«01_k».proof.Proof.Gen.SwaOutIdeal.Frame
public import proofs.«01_k».proof.Proof.Gen.SwaOutIdeal.Skeleton
public import proofs.«01_k».proof.Proof.Gen.SwaOutIdeal.Launch
public import proofs.«01_k».proof.Proof.Gen.SwaOutIdeal.Points
public import proofs.«01_k».proof.Proof.Gen.SwaOutRefIdeal
public import proofs.«01_k».proof.Proof.Gen.SwaOutRefIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.ProjIn.Gen.facts,
    Cert.ProjInIdeal.Gen.facts, Cert.ProjInRefIdeal.Gen.facts, Cert.ProjOut.Gen.facts, Cert.ProjOutIdeal.Gen.facts,
    Cert.ProjOutRefIdeal.Gen.facts, Cert.SwaIn.Gen.facts, Cert.SwaInIdeal.Gen.facts, Cert.SwaInRefIdeal.Gen.facts, Cert.FouOut.Gen.facts,
    Cert.FouOutIdeal.Gen.facts, Cert.FouOutRefIdeal.Gen.facts, Cert.SwaOut.Gen.facts, Cert.SwaOutIdeal.Gen.facts, Cert.SwaOutRefIdeal.Gen.facts,
    Cert.SwaAtt.Gen.facts, Cert.SwaAttIdeal.Gen.facts, Cert.SwaAttRefIdeal.Gen.facts, Cert.Pre_finite.Gen.facts, Cert.Pre_swa_finite.Gen.facts,
    Cert.Claims.frame_p, Cert.Claims.frame_pi, Cert.Claims.frame_pi_finite, Cert.Claims.frame_ri, Cert.Claims.frame_ri_finite,
    Cert.InClaims.frame_p, Cert.InClaims.frame_pi, Cert.InClaims.frame_ri,
    Cert.OutClaims.frame_p, Cert.OutClaims.frame_pi, Cert.OutClaims.frame_ri,
    Cert.SwaClaims.frame_p, Cert.SwaClaims.frame_pi, Cert.SwaClaims.frame_ri,
    Cert.FouClaims.frame_p, Cert.FouClaims.frame_pi, Cert.FouClaims.frame_ri,
    Cert.SwoClaims.frame_p, Cert.SwoClaims.frame_pi, Cert.SwoClaims.frame_ri,
    Cert.SwtClaims.frame_p, Cert.SwtClaims.frame_pi, Cert.SwtClaims.frame_pi_finite, Cert.SwtClaims.frame_ri, Cert.SwtClaims.frame_ri_finite,
    Cert.Claims.preserves, Cert.Claims.algebraic, Cert.InClaims.preserves, Cert.InClaims.algebraic,
    Cert.OutClaims.preserves, Cert.OutClaims.algebraic, Cert.SwaClaims.preserves, Cert.SwaClaims.algebraic,
    Cert.FouClaims.preserves, Cert.FouClaims.algebraic, Cert.SwoClaims.preserves, Cert.SwoClaims.algebraic,
    Cert.SwtClaims.preserves, Cert.SwtClaims.algebraic⟩

end Cert.Proof

end
